-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "softmax_scale_log2e" .f32 0x3E0293EE#32 (((Real.sqrt 128)⁻¹ * (Real.log 2)⁻¹ : ℝ) : EReal)
  ∧ IdealRules.named_const.Statement Cert.KernelIdeal.κ "softmax_scale" .f32 0x3DB504F3#32 (((Real.sqrt 128)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_v78) = v1 c
          ∧ r.2.mem ((c.tc : Thread Cert.ReferenceIdeal.nD Cert.ReferenceIdeal.τ).loc Cert.ReferenceIdeal.main_v86) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S24x1024x28x128 : Shape := ⟨4, ![24, 1024, 28, 128]⟩
abbrev S24x1024x28x4 : Shape := ⟨4, ![24, 1024, 28, 4]⟩
abbrev S4x28672x128 : Shape := ⟨3, ![4, 28672, 128]⟩
abbrev S4x128x28672 : Shape := ⟨3, ![4, 128, 28672]⟩
abbrev S4x24576x128 : Shape := ⟨3, ![4, 24576, 128]⟩
abbrev S4x128x24576 : Shape := ⟨3, ![4, 128, 24576]⟩
abbrev S24x1024x4x28 : Shape := ⟨4, ![24, 1024, 4, 28]⟩
abbrev S4x24x1024x28 : Shape := ⟨4, ![4, 24, 1024, 28]⟩
abbrev S24x1024x3584 : Shape := ⟨3, ![24, 1024, 3584]⟩
abbrev S24x4x7x1024 : Shape := ⟨4, ![24, 4, 7, 1024]⟩
abbrev S1x512x896 : Shape := ⟨3, ![1, 512, 896]⟩
abbrev S1x1x512x28 : Shape := ⟨4, ![1, 1, 512, 28]⟩
abbrev S1x28672x128 : Shape := ⟨3, ![1, 28672, 128]⟩
abbrev S1x128x28672 : Shape := ⟨3, ![1, 128, 28672]⟩
abbrev S1x1024x128 : Shape := ⟨3, ![1, 1024, 128]⟩
abbrev S1x128x1024 : Shape := ⟨3, ![1, 128, 1024]⟩
abbrev S1x1x7x512 : Shape := ⟨4, ![1, 1, 7, 512]⟩
abbrev S7x128x512 : Shape := ⟨3, ![7, 128, 512]⟩
abbrev S8x512 : Shape := ⟨2, ![8, 512]⟩
abbrev S128x512 : Shape := ⟨2, ![128, 512]⟩
abbrev S512x896 : Shape := ⟨2, ![512, 896]⟩
abbrev S512x28 : Shape := ⟨2, ![512, 28]⟩
abbrev S28x896 : Shape := ⟨2, ![28, 896]⟩
abbrev S512x128 : Shape := ⟨2, ![512, 128]⟩
abbrev S1x128x512 : Shape := ⟨3, ![1, 128, 512]⟩
abbrev S1024x128 : Shape := ⟨2, ![1024, 128]⟩
abbrev S1024x512 : Shape := ⟨2, ![1024, 512]⟩
abbrev S512 : Shape := ⟨1, ![512]⟩
abbrev S1x512 : Shape := ⟨2, ![1, 512]⟩
abbrev S1x512x128 : Shape := ⟨3, ![1, 512, 128]⟩
abbrev S512x512 : Shape := ⟨2, ![512, 512]⟩
abbrev S128x1024 : Shape := ⟨2, ![128, 1024]⟩
abbrev S128x8x512 : Shape := ⟨3, ![128, 8, 512]⟩
abbrev S64x8x512 : Shape := ⟨3, ![64, 8, 512]⟩
abbrev S1x1x1x512 : Shape := ⟨4, ![1, 1, 1, 512]⟩
abbrev S1x1x512 : Shape := ⟨3, ![1, 1, 512]⟩
abbrev S1 : Shape := ⟨1, ![1]⟩
abbrev S1x1x1 : Shape := ⟨3, ![1, 1, 1]⟩

abbrev nBuf : Space → Nat
  | .hbm => 12
  | .vmem => 23
  | .smem => 0
  | _ => 0

abbrev bufTy : (tb : Table) → Fin (tcTables nBuf tb) → BufTy
  | .hbm, ⟨0, _⟩ => ⟨S24x1024x28x128, .fp8e4m3⟩
  | .hbm, ⟨1, _⟩ => ⟨S24x1024x28x4, .i8⟩
  | .hbm, ⟨2, _⟩ => ⟨S4x28672x128, .bf16⟩
  | .hbm, ⟨3, _⟩ => ⟨S4x128x28672, .bf16⟩
  | .hbm, ⟨4, _⟩ => ⟨S4x24576x128, .bf16⟩
  | .hbm, ⟨5, _⟩ => ⟨S4x128x24576, .bf16⟩
  | .hbm, ⟨6, _⟩ => ⟨S24x1024x4x28, .i8⟩
  | .hbm, ⟨7, _⟩ => ⟨S4x24x1024x28, .i8⟩
  | .hbm, ⟨8, _⟩ => ⟨S24x1024x3584, .fp8e4m3⟩
  | .hbm, ⟨9, _⟩ => ⟨S24x1024x3584, .bf16⟩
  | .hbm, ⟨10, _⟩ => ⟨S24x4x7x1024, .f32⟩
  | .hbm, ⟨11, _⟩ => ⟨S24x4x7x1024, .f32⟩
  | .local _ .vmem, ⟨0, _⟩ => ⟨S1x512x896, .fp8e4m3⟩
  | .local _ .vmem, ⟨1, _⟩ => ⟨S1x512x896, .fp8e4m3⟩
  | .local _ .vmem, ⟨2, _⟩ => ⟨S1x1x512x28, .i8⟩
  | .local _ .vmem, ⟨3, _⟩ => ⟨S1x1x512x28, .i8⟩
  | .local _ .vmem, ⟨4, _⟩ => ⟨S1x28672x128, .bf16⟩
  | .local _ .vmem, ⟨5, _⟩ => ⟨S1x28672x128, .bf16⟩
  | .local _ .vmem, ⟨6, _⟩ => ⟨S1x128x28672, .bf16⟩
  | .local _ .vmem, ⟨7, _⟩ => ⟨S1x128x28672, .bf16⟩
  | .local _ .vmem, ⟨8, _⟩ => ⟨S1x1024x128, .bf16⟩
  | .local _ .vmem, ⟨9, _⟩ => ⟨S1x1024x128, .bf16⟩
  | .local _ .vmem, ⟨10, _⟩ => ⟨S1x128x1024, .bf16⟩
  | .local _ .vmem, ⟨11, _⟩ => ⟨S1x128x1024, .bf16⟩
  | .local _ .vmem, ⟨12, _⟩ => ⟨S1x512x896, .bf16⟩
  | .local _ .vmem, ⟨13, _⟩ => ⟨S1x512x896, .bf16⟩
  | .local _ .vmem, ⟨14, _⟩ => ⟨S1x1x7x512, .f32⟩
  | .local _ .vmem, ⟨15, _⟩ => ⟨S1x1x7x512, .f32⟩
  | .local _ .vmem, ⟨16, _⟩ => ⟨S1x1x7x512, .f32⟩
  | .local _ .vmem, ⟨17, _⟩ => ⟨S1x1x7x512, .f32⟩
  | .local _ .vmem, ⟨18, _⟩ => ⟨S7x128x512, .bf16⟩
  | .local _ .vmem, ⟨19, _⟩ => ⟨S8x512, .f32⟩
  | .local _ .vmem, ⟨20, _⟩ => ⟨S8x512, .f32⟩
  | .local _ .vmem, ⟨21, _⟩ => ⟨S128x512, .f32⟩
  | .local _ .vmem, ⟨22, _⟩ => ⟨S128x512, .f32⟩
  | _, _ => ⟨S24x1024x28x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![4, 24, 2], ![false, false, false]⟩

@[reducible] def k0_t1_loop (arg17 : BitVec 32) : Scf.Loop 32 :=
  let c1_i32_71 : BitVec 32 := 1#32
  let c0_i32_61 : BitVec 32 := 0#32
  let v127 : BitVec 1 := Scalar.cmpi .eq arg17 c0_i32_61
  let c1_i32_62 : BitVec 32 := 1#32
  let c28_i32 : BitVec 32 := 28#32
  let v128 : BitVec 32 := Scalar.select v127 c1_i32_62 c28_i32
  let v136 : BitVec 32 := Scalar.subi v128 c1_i32_71
  let c1_i32_72 : BitVec 32 := 1#32
  let v138 : BitVec 32 := Scalar.divsi v136 c1_i32_72
  let v139 : BitVec 32 := Scalar.muli v138 c1_i32_72
  let v140 : BitVec 32 := Scalar.addi c1_i32_71 v139
  let c1_i32_73 : BitVec 32 := 1#32
  ⟨c1_i32_71, v140, c1_i32_73⟩

def k0_off1 (arg17 : BitVec 32) (k0_t1 : Fin (k0_t1_loop arg17).trips) : Fin 3 → Nat :=
  let c0_139 : Index := 0#32
  let c1_i32_71 : BitVec 32 := 1#32
  let c1_i32_73 : BitVec 32 := 1#32
  let arg18 : BitVec 32 := Scf.iv c1_i32_71 c1_i32_73 k0_t1
  let c1024_i32 : BitVec 32 := 1024#32
  let v259 : BitVec 32 := Scalar.muli arg18 c1024_i32
  let v260 : Index := Scalar.indexCast v259
  let c0_140 : Index := 0#32
  ![0, v260.toNat, 0]
@[reducible] def k0_t2_loop (arg17 : BitVec 32) : Scf.Loop 32 :=
  let c1_i32_71 : BitVec 32 := 1#32
  let c0_i32_61 : BitVec 32 := 0#32
  let v127 : BitVec 1 := Scalar.cmpi .eq arg17 c0_i32_61
  let c1_i32_62 : BitVec 32 := 1#32
  let c28_i32 : BitVec 32 := 28#32
  let v128 : BitVec 32 := Scalar.select v127 c1_i32_62 c28_i32
  let v136 : BitVec 32 := Scalar.subi v128 c1_i32_71
  let c1_i32_72 : BitVec 32 := 1#32
  let v138 : BitVec 32 := Scalar.divsi v136 c1_i32_72
  let v139 : BitVec 32 := Scalar.muli v138 c1_i32_72
  let v140 : BitVec 32 := Scalar.addi c1_i32_71 v139
  let v137 : BitVec 32 := Scalar.addi c1_i32_71 v136
  let c1_i32_74 : BitVec 32 := 1#32
  ⟨v140, v137, c1_i32_74⟩
def k0_off2 (arg17 : BitVec 32) (k0_t2 : Fin (k0_t2_loop arg17).trips) : Fin 3 → Nat :=
  let c0_139 : Index := 0#32
  let c1_i32_71 : BitVec 32 := 1#32
  let c0_i32_61 : BitVec 32 := 0#32
  let v127 : BitVec 1 := Scalar.cmpi .eq arg17 c0_i32_61
  let c1_i32_62 : BitVec 32 := 1#32
  let c28_i32 : BitVec 32 := 28#32
  let v128 : BitVec 32 := Scalar.select v127 c1_i32_62 c28_i32
  let v136 : BitVec 32 := Scalar.subi v128 c1_i32_71
  let c1_i32_72 : BitVec 32 := 1#32
  let v138 : BitVec 32 := Scalar.divsi v136 c1_i32_72
  let v139 : BitVec 32 := Scalar.muli v138 c1_i32_72
  let v140 : BitVec 32 := Scalar.addi c1_i32_71 v139
  let c1_i32_74 : BitVec 32 := 1#32
  let arg18 : BitVec 32 := Scf.iv v140 c1_i32_74 k0_t2
  let c1024_i32 : BitVec 32 := 1024#32
  let v259 : BitVec 32 := Scalar.muli arg18 c1024_i32
  let v260 : Index := Scalar.indexCast v259
  let c0_140 : Index := 0#32
  ![0, v260.toNat, 0]
@[reducible] def k0_t3_loop (i : grid0.Coords) (arg17 : BitVec 32) : Scf.Loop 32 :=
  let c0_i32_78 : BitVec 32 := 0#32
  let c0_i32_61 : BitVec 32 := 0#32
  let v127 : BitVec 1 := Scalar.cmpi .eq arg17 c0_i32_61
  let c0_i32_76 : BitVec 32 := 0#32
  let arg2 : BitVec 32 := BitVec.ofNat 32 (i 2).val
  let c1_i32_75 : BitVec 32 := 1#32
  let v143 : BitVec 32 := Scalar.addi arg2 c1_i32_75
  let v144 : BitVec 32 := Scalar.select v127 c0_i32_76 v143
  let v146 : BitVec 32 := Scalar.subi v144 c0_i32_78
  let c1_i32_79 : BitVec 32 := 1#32
  let v148 : BitVec 32 := Scalar.divsi v146 c1_i32_79
  let v149 : BitVec 32 := Scalar.muli v148 c1_i32_79
  let v150 : BitVec 32 := Scalar.addi c0_i32_78 v149
  let c1_i32_80 : BitVec 32 := 1#32
  ⟨c0_i32_78, v150, c1_i32_80⟩
def k0_off3 (i : grid0.Coords) (arg17 : BitVec 32) (k0_t3 : Fin (k0_t3_loop i arg17).trips) : Fin 3 → Nat :=
  let c0_140 : Index := 0#32
  let c0_i32_78 : BitVec 32 := 0#32
  let c1_i32_80 : BitVec 32 := 1#32
  let arg18 : BitVec 32 := Scf.iv c0_i32_78 c1_i32_80 k0_t3
  let c512_i32_139 : BitVec 32 := 512#32
  let v259 : BitVec 32 := Scalar.muli arg18 c512_i32_139
  let v260 : Index := Scalar.indexCast v259
  let c0_141 : Index := 0#32
  ![0, v260.toNat, 0]
@[reducible] def k0_t4_loop (i : grid0.Coords) (arg17 : BitVec 32) : Scf.Loop 32 :=
  let c0_i32_78 : BitVec 32 := 0#32
  let c0_i32_61 : BitVec 32 := 0#32
  let v127 : BitVec 1 := Scalar.cmpi .eq arg17 c0_i32_61
  let c0_i32_76 : BitVec 32 := 0#32
  let arg2 : BitVec 32 := BitVec.ofNat 32 (i 2).val
  let c1_i32_75 : BitVec 32 := 1#32
  let v143 : BitVec 32 := Scalar.addi arg2 c1_i32_75
  let v144 : BitVec 32 := Scalar.select v127 c0_i32_76 v143
  let v146 : BitVec 32 := Scalar.subi v144 c0_i32_78
  let c1_i32_79 : BitVec 32 := 1#32
  let v148 : BitVec 32 := Scalar.divsi v146 c1_i32_79
  let v149 : BitVec 32 := Scalar.muli v148 c1_i32_79
  let v150 : BitVec 32 := Scalar.addi c0_i32_78 v149
  let v147 : BitVec 32 := Scalar.addi c0_i32_78 v146
  let c1_i32_81 : BitVec 32 := 1#32
  ⟨v150, v147, c1_i32_81⟩
def k0_off4 (i : grid0.Coords) (arg17 : BitVec 32) (k0_t4 : Fin (k0_t4_loop i arg17).trips) : Fin 3 → Nat :=
  let c0_140 : Index := 0#32
  let c0_i32_78 : BitVec 32 := 0#32
  let c0_i32_61 : BitVec 32 := 0#32
  let v127 : BitVec 1 := Scalar.cmpi .eq arg17 c0_i32_61
  let c0_i32_76 : BitVec 32 := 0#32
  let arg2 : BitVec 32 := BitVec.ofNat 32 (i 2).val
  let c1_i32_75 : BitVec 32 := 1#32
  let v143 : BitVec 32 := Scalar.addi arg2 c1_i32_75
  let v144 : BitVec 32 := Scalar.select v127 c0_i32_76 v143
  let v146 : BitVec 32 := Scalar.subi v144 c0_i32_78
  let c1_i32_79 : BitVec 32 := 1#32
  let v148 : BitVec 32 := Scalar.divsi v146 c1_i32_79
  let v149 : BitVec 32 := Scalar.muli v148 c1_i32_79
  let v150 : BitVec 32 := Scalar.addi c0_i32_78 v149
  let c1_i32_81 : BitVec 32 := 1#32
  let arg18 : BitVec 32 := Scf.iv v150 c1_i32_81 k0_t4
  let c512_i32_139 : BitVec 32 := 512#32
  let v259 : BitVec 32 := Scalar.muli arg18 c512_i32_139
  let v260 : Index := Scalar.indexCast v259
  let c0_141 : Index := 0#32
  ![0, v260.toNat, 0]

def k0_chk1 (i : grid0.Coords) (arg17 : BitVec 32) : Prop :=
  ((k0_t1_loop arg17).OK) ∧
  (∀ k0_t1 : Fin (k0_t1_loop arg17).trips, ∀ a, (k0_off1 arg17 k0_t1) a + S1x1024x128.size a ≤ S1x28672x128.size a) ∧
  ((k0_t2_loop arg17).OK) ∧
  (∀ k0_t2 : Fin (k0_t2_loop arg17).trips, ∀ a, (k0_off2 arg17 k0_t2) a + S1x1024x128.size a ≤ S1x28672x128.size a) ∧
  ((k0_t3_loop i arg17).OK) ∧
  (∀ k0_t3 : Fin (k0_t3_loop i arg17).trips, ∀ a, (k0_off3 i arg17 k0_t3) a + S1x512x128.size a ≤ S1x1024x128.size a) ∧
  ((k0_t4_loop i arg17).OK) ∧
  (∀ k0_t4 : Fin (k0_t4_loop i arg17).trips, ∀ a, (k0_off4 i arg17 k0_t4) a + S1x512x128.size a ≤ S1x1024x128.size a)
theorem k0_t1_ok : ∀ (i : grid0.Coords) (arg17 : BitVec 32) (k0_hw1 : k0_chk1 i arg17), (k0_t1_loop arg17).OK := fun i arg17 k0_hw1 => k0_hw1.1
theorem k0_off1_inb : ∀ (i : grid0.Coords) (arg17 : BitVec 32) (k0_hw1 : k0_chk1 i arg17) (k0_t1 : Fin (k0_t1_loop arg17).trips), ∀ a, (k0_off1 arg17 k0_t1) a + S1x1024x128.size a ≤ S1x28672x128.size a := fun i arg17 k0_hw1 k0_t1 => k0_hw1.2.1 k0_t1
theorem k0_t2_ok : ∀ (i : grid0.Coords) (arg17 : BitVec 32) (k0_hw1 : k0_chk1 i arg17), (k0_t2_loop arg17).OK := fun i arg17 k0_hw1 => k0_hw1.2.2.1
theorem k0_off2_inb : ∀ (i : grid0.Coords) (arg17 : BitVec 32) (k0_hw1 : k0_chk1 i arg17) (k0_t2 : Fin (k0_t2_loop arg17).trips), ∀ a, (k0_off2 arg17 k0_t2) a + S1x1024x128.size a ≤ S1x28672x128.size a := fun i arg17 k0_hw1 k0_t2 => k0_hw1.2.2.2.1 k0_t2
theorem k0_t3_ok : ∀ (i : grid0.Coords) (arg17 : BitVec 32) (k0_hw1 : k0_chk1 i arg17), (k0_t3_loop i arg17).OK := fun i arg17 k0_hw1 => k0_hw1.2.2.2.2.1
theorem k0_off3_inb : ∀ (i : grid0.Coords) (arg17 : BitVec 32) (k0_hw1 : k0_chk1 i arg17) (k0_t3 : Fin (k0_t3_loop i arg17).trips), ∀ a, (k0_off3 i arg17 k0_t3) a + S1x512x128.size a ≤ S1x1024x128.size a := fun i arg17 k0_hw1 k0_t3 => k0_hw1.2.2.2.2.2.1 k0_t3
theorem k0_t4_ok : ∀ (i : grid0.Coords) (arg17 : BitVec 32) (k0_hw1 : k0_chk1 i arg17), (k0_t4_loop i arg17).OK := fun i arg17 k0_hw1 => k0_hw1.2.2.2.2.2.2.1
theorem k0_off4_inb : ∀ (i : grid0.Coords) (arg17 : BitVec 32) (k0_hw1 : k0_chk1 i arg17) (k0_t4 : Fin (k0_t4_loop i arg17).trips), ∀ a, (k0_off4 i arg17 k0_t4) a + S1x512x128.size a ≤ S1x1024x128.size a := fun i arg17 k0_hw1 k0_t4 => k0_hw1.2.2.2.2.2.2.2 k0_t4

@[reducible] def k0_t5_loop : Scf.Loop 32 :=
  let c0_i32_95 : BitVec 32 := 0#32
  let c28_i32_96 : BitVec 32 := 28#32
  let v170 : BitVec 32 := Scalar.addi c0_i32_95 c28_i32_96
  let c1_i32_97 : BitVec 32 := 1#32
  ⟨c0_i32_95, v170, c1_i32_97⟩
def k0_off5 (k0_t5 : Fin k0_t5_loop.trips) : Fin 3 → Nat :=
  let c0_139 : Index := 0#32
  let c0_i32_95 : BitVec 32 := 0#32
  let c1_i32_97 : BitVec 32 := 1#32
  let arg18 : BitVec 32 := Scf.iv c0_i32_95 c1_i32_97 k0_t5
  let c1024_i32 : BitVec 32 := 1024#32
  let v259 : BitVec 32 := Scalar.muli arg18 c1024_i32
  let v260 : Index := Scalar.indexCast v259
  let c0_140 : Index := 0#32
  ![0, v260.toNat, 0]
def k0_off6 (k0_t5 : Fin k0_t5_loop.trips) : Fin 3 → Nat :=
  let c0_146 : Index := 0#32
  let c0_147 : Index := 0#32
  let c0_i32_95 : BitVec 32 := 0#32
  let c1_i32_97 : BitVec 32 := 1#32
  let arg18 : BitVec 32 := Scf.iv c0_i32_95 c1_i32_97 k0_t5
  let c1024_i32_145 : BitVec 32 := 1024#32
  let v266 : BitVec 32 := Scalar.muli arg18 c1024_i32_145
  let v267 : Index := Scalar.indexCast v266
  ![0, 0, v267.toNat]
@[reducible] def k0_t6_loop (i : grid0.Coords) : Scf.Loop 32 :=
  let c0_i32_100 : BitVec 32 := 0#32
  let arg2 : BitVec 32 := BitVec.ofNat 32 (i 2).val
  let c1_i32_99 : BitVec 32 := 1#32
  let v172 : BitVec 32 := Scalar.addi arg2 c1_i32_99
  let v173 : BitVec 32 := Scalar.subi v172 c0_i32_100
  let c1_i32_102 : BitVec 32 := 1#32
  let v175 : BitVec 32 := Scalar.divsi v173 c1_i32_102
  let v176 : BitVec 32 := Scalar.muli v175 c1_i32_102
  let v177 : BitVec 32 := Scalar.addi c0_i32_100 v176
  let c1_i32_103 : BitVec 32 := 1#32
  ⟨c0_i32_100, v177, c1_i32_103⟩
def k0_off7 (i : grid0.Coords) (k0_t6 : Fin (k0_t6_loop i).trips) : Fin 3 → Nat :=
  let c0_140 : Index := 0#32
  let c0_i32_100 : BitVec 32 := 0#32
  let c1_i32_103 : BitVec 32 := 1#32
  let arg18 : BitVec 32 := Scf.iv c0_i32_100 c1_i32_103 k0_t6
  let c512_i32_139 : BitVec 32 := 512#32
  let v259 : BitVec 32 := Scalar.muli arg18 c512_i32_139
  let v260 : Index := Scalar.indexCast v259
  let c0_141 : Index := 0#32
  ![0, v260.toNat, 0]
def k0_off8 (i : grid0.Coords) (k0_t6 : Fin (k0_t6_loop i).trips) : Fin 3 → Nat :=
  let c0_150 : Index := 0#32
  let c0_151 : Index := 0#32
  let c0_i32_100 : BitVec 32 := 0#32
  let c1_i32_103 : BitVec 32 := 1#32
  let arg18 : BitVec 32 := Scf.iv c0_i32_100 c1_i32_103 k0_t6
  let c512_i32_149 : BitVec 32 := 512#32
  let v277 : BitVec 32 := Scalar.muli arg18 c512_i32_149
  let v278 : Index := Scalar.indexCast v277
  ![0, 0, v278.toNat]
@[reducible] def k0_t7_loop (i : grid0.Coords) : Scf.Loop 32 :=
  let c0_i32_100 : BitVec 32 := 0#32
  let arg2 : BitVec 32 := BitVec.ofNat 32 (i 2).val
  let c1_i32_99 : BitVec 32 := 1#32
  let v172 : BitVec 32 := Scalar.addi arg2 c1_i32_99
  let v173 : BitVec 32 := Scalar.subi v172 c0_i32_100
  let c1_i32_102 : BitVec 32 := 1#32
  let v175 : BitVec 32 := Scalar.divsi v173 c1_i32_102
  let v176 : BitVec 32 := Scalar.muli v175 c1_i32_102
  let v177 : BitVec 32 := Scalar.addi c0_i32_100 v176
  let v174 : BitVec 32 := Scalar.addi c0_i32_100 v173
  let c1_i32_104 : BitVec 32 := 1#32
  ⟨v177, v174, c1_i32_104⟩
def k0_off9 (i : grid0.Coords) (k0_t7 : Fin (k0_t7_loop i).trips) : Fin 3 → Nat :=
  let c0_140 : Index := 0#32
  let c0_i32_100 : BitVec 32 := 0#32
  let arg2 : BitVec 32 := BitVec.ofNat 32 (i 2).val
  let c1_i32_99 : BitVec 32 := 1#32
  let v172 : BitVec 32 := Scalar.addi arg2 c1_i32_99
  let v173 : BitVec 32 := Scalar.subi v172 c0_i32_100
  let c1_i32_102 : BitVec 32 := 1#32
  let v175 : BitVec 32 := Scalar.divsi v173 c1_i32_102
  let v176 : BitVec 32 := Scalar.muli v175 c1_i32_102
  let v177 : BitVec 32 := Scalar.addi c0_i32_100 v176
  let c1_i32_104 : BitVec 32 := 1#32
  let arg18 : BitVec 32 := Scf.iv v177 c1_i32_104 k0_t7
  let c512_i32_139 : BitVec 32 := 512#32
  let v259 : BitVec 32 := Scalar.muli arg18 c512_i32_139
  let v260 : Index := Scalar.indexCast v259
  let c0_141 : Index := 0#32
  ![0, v260.toNat, 0]
def k0_off10 (i : grid0.Coords) (k0_t7 : Fin (k0_t7_loop i).trips) : Fin 3 → Nat :=
  let c0_150 : Index := 0#32
  let c0_151 : Index := 0#32
  let c0_i32_100 : BitVec 32 := 0#32
  let arg2 : BitVec 32 := BitVec.ofNat 32 (i 2).val
  let c1_i32_99 : BitVec 32 := 1#32
  let v172 : BitVec 32 := Scalar.addi arg2 c1_i32_99
  let v173 : BitVec 32 := Scalar.subi v172 c0_i32_100
  let c1_i32_102 : BitVec 32 := 1#32
  let v175 : BitVec 32 := Scalar.divsi v173 c1_i32_102
  let v176 : BitVec 32 := Scalar.muli v175 c1_i32_102
  let v177 : BitVec 32 := Scalar.addi c0_i32_100 v176
  let c1_i32_104 : BitVec 32 := 1#32
  let arg18 : BitVec 32 := Scf.iv v177 c1_i32_104 k0_t7
  let c512_i32_149 : BitVec 32 := 512#32
  let v277 : BitVec 32 := Scalar.muli arg18 c512_i32_149
  let v278 : Index := Scalar.indexCast v277
  ![0, 0, v278.toNat]
@[reducible] def k0_t8_loop (arg17 : BitVec 32) : Scf.Loop 32 :=
  let c1_i32_71 : BitVec 32 := 1#32
  let c0_i32_61 : BitVec 32 := 0#32
  let v127 : BitVec 1 := Scalar.cmpi .eq arg17 c0_i32_61
  let c1_i32_62 : BitVec 32 := 1#32
  let c28_i32 : BitVec 32 := 28#32
  let v128 : BitVec 32 := Scalar.select v127 c1_i32_62 c28_i32
  let v136 : BitVec 32 := Scalar.subi v128 c1_i32_71
  let c1_i32_72 : BitVec 32 := 1#32
  let v138 : BitVec 32 := Scalar.divsi v136 c1_i32_72
  let v139 : BitVec 32 := Scalar.muli v138 c1_i32_72
  let v140 : BitVec 32 := Scalar.addi c1_i32_71 v139
  let c1_i32_73 : BitVec 32 := 1#32
  ⟨c1_i32_71, v140, c1_i32_73⟩

def k0_off11 (arg17 : BitVec 32) (k0_t8 : Fin (k0_t8_loop arg17).trips) : Fin 3 → Nat :=
  let c0_139 : Index := 0#32
  let c1_i32_71 : BitVec 32 := 1#32
  let c1_i32_73 : BitVec 32 := 1#32
  let arg18 : BitVec 32 := Scf.iv c1_i32_71 c1_i32_73 k0_t8
  let c1024_i32 : BitVec 32 := 1024#32
  let v259 : BitVec 32 := Scalar.muli arg18 c1024_i32
  let v260 : Index := Scalar.indexCast v259
  let c0_140 : Index := 0#32
  ![0, v260.toNat, 0]
@[reducible] def k0_t9_loop (arg17 : BitVec 32) : Scf.Loop 32 :=
  let c1_i32_71 : BitVec 32 := 1#32
  let c0_i32_61 : BitVec 32 := 0#32
  let v127 : BitVec 1 := Scalar.cmpi .eq arg17 c0_i32_61
  let c1_i32_62 : BitVec 32 := 1#32
  let c28_i32 : BitVec 32 := 28#32
  let v128 : BitVec 32 := Scalar.select v127 c1_i32_62 c28_i32
  let v136 : BitVec 32 := Scalar.subi v128 c1_i32_71
  let c1_i32_72 : BitVec 32 := 1#32
  let v138 : BitVec 32 := Scalar.divsi v136 c1_i32_72
  let v139 : BitVec 32 := Scalar.muli v138 c1_i32_72
  let v140 : BitVec 32 := Scalar.addi c1_i32_71 v139
  let v137 : BitVec 32 := Scalar.addi c1_i32_71 v136
  let c1_i32_74 : BitVec 32 := 1#32
  ⟨v140, v137, c1_i32_74⟩
def k0_off12 (arg17 : BitVec 32) (k0_t9 : Fin (k0_t9_loop arg17).trips) : Fin 3 → Nat :=
  let c0_139 : Index := 0#32
  let c1_i32_71 : BitVec 32 := 1#32
  let c0_i32_61 : BitVec 32 := 0#32
  let v127 : BitVec 1 := Scalar.cmpi .eq arg17 c0_i32_61
  let c1_i32_62 : BitVec 32 := 1#32
  let c28_i32 : BitVec 32 := 28#32
  let v128 : BitVec 32 := Scalar.select v127 c1_i32_62 c28_i32
  let v136 : BitVec 32 := Scalar.subi v128 c1_i32_71
  let c1_i32_72 : BitVec 32 := 1#32
  let v138 : BitVec 32 := Scalar.divsi v136 c1_i32_72
  let v139 : BitVec 32 := Scalar.muli v138 c1_i32_72
  let v140 : BitVec 32 := Scalar.addi c1_i32_71 v139
  let c1_i32_74 : BitVec 32 := 1#32
  let arg18 : BitVec 32 := Scf.iv v140 c1_i32_74 k0_t9
  let c1024_i32 : BitVec 32 := 1024#32
  let v259 : BitVec 32 := Scalar.muli arg18 c1024_i32
  let v260 : Index := Scalar.indexCast v259
  let c0_140 : Index := 0#32
  ![0, v260.toNat, 0]
@[reducible] def k0_t10_loop (i : grid0.Coords) (arg17 : BitVec 32) : Scf.Loop 32 :=
  let c0_i32_78 : BitVec 32 := 0#32
  let c0_i32_61 : BitVec 32 := 0#32
  let v127 : BitVec 1 := Scalar.cmpi .eq arg17 c0_i32_61
  let c0_i32_76 : BitVec 32 := 0#32
  let arg2 : BitVec 32 := BitVec.ofNat 32 (i 2).val
  let c1_i32_75 : BitVec 32 := 1#32
  let v143 : BitVec 32 := Scalar.addi arg2 c1_i32_75
  let v144 : BitVec 32 := Scalar.select v127 c0_i32_76 v143
  let v146 : BitVec 32 := Scalar.subi v144 c0_i32_78
  let c1_i32_79 : BitVec 32 := 1#32
  let v148 : BitVec 32 := Scalar.divsi v146 c1_i32_79
  let v149 : BitVec 32 := Scalar.muli v148 c1_i32_79
  let v150 : BitVec 32 := Scalar.addi c0_i32_78 v149
  let c1_i32_80 : BitVec 32 := 1#32
  ⟨c0_i32_78, v150, c1_i32_80⟩
def k0_off13 (i : grid0.Coords) (arg17 : BitVec 32) (k0_t10 : Fin (k0_t10_loop i arg17).trips) : Fin 3 → Nat :=
  let c0_140 : Index := 0#32
  let c0_i32_78 : BitVec 32 := 0#32
  let c1_i32_80 : BitVec 32 := 1#32
  let arg18 : BitVec 32 := Scf.iv c0_i32_78 c1_i32_80 k0_t10
  let c512_i32_139 : BitVec 32 := 512#32
  let v259 : BitVec 32 := Scalar.muli arg18 c512_i32_139
  let v260 : Index := Scalar.indexCast v259
  let c0_141 : Index := 0#32
  ![0, v260.toNat, 0]
@[reducible] def k0_t11_loop (i : grid0.Coords) (arg17 : BitVec 32) : Scf.Loop 32 :=
  let c0_i32_78 : BitVec 32 := 0#32
  let c0_i32_61 : BitVec 32 := 0#32
  let v127 : BitVec 1 := Scalar.cmpi .eq arg17 c0_i32_61
  let c0_i32_76 : BitVec 32 := 0#32
  let arg2 : BitVec 32 := BitVec.ofNat 32 (i 2).val
  let c1_i32_75 : BitVec 32 := 1#32
  let v143 : BitVec 32 := Scalar.addi arg2 c1_i32_75
  let v144 : BitVec 32 := Scalar.select v127 c0_i32_76 v143
  let v146 : BitVec 32 := Scalar.subi v144 c0_i32_78
  let c1_i32_79 : BitVec 32 := 1#32
  let v148 : BitVec 32 := Scalar.divsi v146 c1_i32_79
  let v149 : BitVec 32 := Scalar.muli v148 c1_i32_79
  let v150 : BitVec 32 := Scalar.addi c0_i32_78 v149
  let v147 : BitVec 32 := Scalar.addi c0_i32_78 v146
  let c1_i32_81 : BitVec 32 := 1#32
  ⟨v150, v147, c1_i32_81⟩
def k0_off14 (i : grid0.Coords) (arg17 : BitVec 32) (k0_t11 : Fin (k0_t11_loop i arg17).trips) : Fin 3 → Nat :=
  let c0_140 : Index := 0#32
  let c0_i32_78 : BitVec 32 := 0#32
  let c0_i32_61 : BitVec 32 := 0#32
  let v127 : BitVec 1 := Scalar.cmpi .eq arg17 c0_i32_61
  let c0_i32_76 : BitVec 32 := 0#32
  let arg2 : BitVec 32 := BitVec.ofNat 32 (i 2).val
  let c1_i32_75 : BitVec 32 := 1#32
  let v143 : BitVec 32 := Scalar.addi arg2 c1_i32_75
  let v144 : BitVec 32 := Scalar.select v127 c0_i32_76 v143
  let v146 : BitVec 32 := Scalar.subi v144 c0_i32_78
  let c1_i32_79 : BitVec 32 := 1#32
  let v148 : BitVec 32 := Scalar.divsi v146 c1_i32_79
  let v149 : BitVec 32 := Scalar.muli v148 c1_i32_79
  let v150 : BitVec 32 := Scalar.addi c0_i32_78 v149
  let c1_i32_81 : BitVec 32 := 1#32
  let arg18 : BitVec 32 := Scf.iv v150 c1_i32_81 k0_t11
  let c512_i32_139 : BitVec 32 := 512#32
  let v259 : BitVec 32 := Scalar.muli arg18 c512_i32_139
  let v260 : Index := Scalar.indexCast v259
  let c0_141 : Index := 0#32
  ![0, v260.toNat, 0]

def k0_chk2 (i : grid0.Coords) (arg17 : BitVec 32) : Prop :=
  ((k0_t8_loop arg17).OK) ∧
  (∀ k0_t8 : Fin (k0_t8_loop arg17).trips, ∀ a, (k0_off11 arg17 k0_t8) a + S1x1024x128.size a ≤ S1x28672x128.size a) ∧
  ((k0_t9_loop arg17).OK) ∧
  (∀ k0_t9 : Fin (k0_t9_loop arg17).trips, ∀ a, (k0_off12 arg17 k0_t9) a + S1x1024x128.size a ≤ S1x28672x128.size a) ∧
  ((k0_t10_loop i arg17).OK) ∧
  (∀ k0_t10 : Fin (k0_t10_loop i arg17).trips, ∀ a, (k0_off13 i arg17 k0_t10) a + S1x512x128.size a ≤ S1x1024x128.size a) ∧
  ((k0_t11_loop i arg17).OK) ∧
  (∀ k0_t11 : Fin (k0_t11_loop i arg17).trips, ∀ a, (k0_off14 i arg17 k0_t11) a + S1x512x128.size a ≤ S1x1024x128.size a)
theorem k0_t8_ok : ∀ (i : grid0.Coords) (arg17 : BitVec 32) (k0_hw2 : k0_chk2 i arg17), (k0_t8_loop arg17).OK := fun i arg17 k0_hw2 => k0_hw2.1
theorem k0_off11_inb : ∀ (i : grid0.Coords) (arg17 : BitVec 32) (k0_hw2 : k0_chk2 i arg17) (k0_t8 : Fin (k0_t8_loop arg17).trips), ∀ a, (k0_off11 arg17 k0_t8) a + S1x1024x128.size a ≤ S1x28672x128.size a := fun i arg17 k0_hw2 k0_t8 => k0_hw2.2.1 k0_t8
theorem k0_t9_ok : ∀ (i : grid0.Coords) (arg17 : BitVec 32) (k0_hw2 : k0_chk2 i arg17), (k0_t9_loop arg17).OK := fun i arg17 k0_hw2 => k0_hw2.2.2.1
theorem k0_off12_inb : ∀ (i : grid0.Coords) (arg17 : BitVec 32) (k0_hw2 : k0_chk2 i arg17) (k0_t9 : Fin (k0_t9_loop arg17).trips), ∀ a, (k0_off12 arg17 k0_t9) a + S1x1024x128.size a ≤ S1x28672x128.size a := fun i arg17 k0_hw2 k0_t9 => k0_hw2.2.2.2.1 k0_t9
theorem k0_t10_ok : ∀ (i : grid0.Coords) (arg17 : BitVec 32) (k0_hw2 : k0_chk2 i arg17), (k0_t10_loop i arg17).OK := fun i arg17 k0_hw2 => k0_hw2.2.2.2.2.1
theorem k0_off13_inb : ∀ (i : grid0.Coords) (arg17 : BitVec 32) (k0_hw2 : k0_chk2 i arg17) (k0_t10 : Fin (k0_t10_loop i arg17).trips), ∀ a, (k0_off13 i arg17 k0_t10) a + S1x512x128.size a ≤ S1x1024x128.size a := fun i arg17 k0_hw2 k0_t10 => k0_hw2.2.2.2.2.2.1 k0_t10
theorem k0_t11_ok : ∀ (i : grid0.Coords) (arg17 : BitVec 32) (k0_hw2 : k0_chk2 i arg17), (k0_t11_loop i arg17).OK := fun i arg17 k0_hw2 => k0_hw2.2.2.2.2.2.2.1
theorem k0_off14_inb : ∀ (i : grid0.Coords) (arg17 : BitVec 32) (k0_hw2 : k0_chk2 i arg17) (k0_t11 : Fin (k0_t11_loop i arg17).trips), ∀ a, (k0_off14 i arg17 k0_t11) a + S1x512x128.size a ≤ S1x1024x128.size a := fun i arg17 k0_hw2 k0_t11 => k0_hw2.2.2.2.2.2.2.2 k0_t11

@[reducible] def k0_t12_loop : Scf.Loop 32 :=
  let c0_i32_95 : BitVec 32 := 0#32
  let c28_i32_96 : BitVec 32 := 28#32
  let v170 : BitVec 32 := Scalar.addi c0_i32_95 c28_i32_96
  let c1_i32_97 : BitVec 32 := 1#32
  ⟨c0_i32_95, v170, c1_i32_97⟩
def k0_off15 (k0_t12 : Fin k0_t12_loop.trips) : Fin 3 → Nat :=
  let c0_139 : Index := 0#32
  let c0_i32_95 : BitVec 32 := 0#32
  let c1_i32_97 : BitVec 32 := 1#32
  let arg18 : BitVec 32 := Scf.iv c0_i32_95 c1_i32_97 k0_t12
  let c1024_i32 : BitVec 32 := 1024#32
  let v259 : BitVec 32 := Scalar.muli arg18 c1024_i32
  let v260 : Index := Scalar.indexCast v259
  let c0_140 : Index := 0#32
  ![0, v260.toNat, 0]
def k0_off16 (k0_t12 : Fin k0_t12_loop.trips) : Fin 3 → Nat :=
  let c0_146 : Index := 0#32
  let c0_147 : Index := 0#32
  let c0_i32_95 : BitVec 32 := 0#32
  let c1_i32_97 : BitVec 32 := 1#32
  let arg18 : BitVec 32 := Scf.iv c0_i32_95 c1_i32_97 k0_t12
  let c1024_i32_145 : BitVec 32 := 1024#32
  let v266 : BitVec 32 := Scalar.muli arg18 c1024_i32_145
  let v267 : Index := Scalar.indexCast v266
  ![0, 0, v267.toNat]
@[reducible] def k0_t13_loop (i : grid0.Coords) : Scf.Loop 32 :=
  let c0_i32_100 : BitVec 32 := 0#32
  let arg2 : BitVec 32 := BitVec.ofNat 32 (i 2).val
  let c1_i32_99 : BitVec 32 := 1#32
  let v172 : BitVec 32 := Scalar.addi arg2 c1_i32_99
  let v173 : BitVec 32 := Scalar.subi v172 c0_i32_100
  let c1_i32_102 : BitVec 32 := 1#32
  let v175 : BitVec 32 := Scalar.divsi v173 c1_i32_102
  let v176 : BitVec 32 := Scalar.muli v175 c1_i32_102
  let v177 : BitVec 32 := Scalar.addi c0_i32_100 v176
  let c1_i32_103 : BitVec 32 := 1#32
  ⟨c0_i32_100, v177, c1_i32_103⟩
def k0_off17 (i : grid0.Coords) (k0_t13 : Fin (k0_t13_loop i).trips) : Fin 3 → Nat :=
  let c0_140 : Index := 0#32
  let c0_i32_100 : BitVec 32 := 0#32
  let c1_i32_103 : BitVec 32 := 1#32
  let arg18 : BitVec 32 := Scf.iv c0_i32_100 c1_i32_103 k0_t13
  let c512_i32_139 : BitVec 32 := 512#32
  let v259 : BitVec 32 := Scalar.muli arg18 c512_i32_139
  let v260 : Index := Scalar.indexCast v259
  let c0_141 : Index := 0#32
  ![0, v260.toNat, 0]
def k0_off18 (i : grid0.Coords) (k0_t13 : Fin (k0_t13_loop i).trips) : Fin 3 → Nat :=
  let c0_150 : Index := 0#32
  let c0_151 : Index := 0#32
  let c0_i32_100 : BitVec 32 := 0#32
  let c1_i32_103 : BitVec 32 := 1#32
  let arg18 : BitVec 32 := Scf.iv c0_i32_100 c1_i32_103 k0_t13
  let c512_i32_149 : BitVec 32 := 512#32
  let v277 : BitVec 32 := Scalar.muli arg18 c512_i32_149
  let v278 : Index := Scalar.indexCast v277
  ![0, 0, v278.toNat]
@[reducible] def k0_t14_loop (i : grid0.Coords) : Scf.Loop 32 :=
  let c0_i32_100 : BitVec 32 := 0#32
  let arg2 : BitVec 32 := BitVec.ofNat 32 (i 2).val
  let c1_i32_99 : BitVec 32 := 1#32
  let v172 : BitVec 32 := Scalar.addi arg2 c1_i32_99
  let v173 : BitVec 32 := Scalar.subi v172 c0_i32_100
  let c1_i32_102 : BitVec 32 := 1#32
  let v175 : BitVec 32 := Scalar.divsi v173 c1_i32_102
  let v176 : BitVec 32 := Scalar.muli v175 c1_i32_102
  let v177 : BitVec 32 := Scalar.addi c0_i32_100 v176
  let v174 : BitVec 32 := Scalar.addi c0_i32_100 v173
  let c1_i32_104 : BitVec 32 := 1#32
  ⟨v177, v174, c1_i32_104⟩
def k0_off19 (i : grid0.Coords) (k0_t14 : Fin (k0_t14_loop i).trips) : Fin 3 → Nat :=
  let c0_140 : Index := 0#32
  let c0_i32_100 : BitVec 32 := 0#32
  let arg2 : BitVec 32 := BitVec.ofNat 32 (i 2).val
  let c1_i32_99 : BitVec 32 := 1#32
  let v172 : BitVec 32 := Scalar.addi arg2 c1_i32_99
  let v173 : BitVec 32 := Scalar.subi v172 c0_i32_100
  let c1_i32_102 : BitVec 32 := 1#32
  let v175 : BitVec 32 := Scalar.divsi v173 c1_i32_102
  let v176 : BitVec 32 := Scalar.muli v175 c1_i32_102
  let v177 : BitVec 32 := Scalar.addi c0_i32_100 v176
  let c1_i32_104 : BitVec 32 := 1#32
  let arg18 : BitVec 32 := Scf.iv v177 c1_i32_104 k0_t14
  let c512_i32_139 : BitVec 32 := 512#32
  let v259 : BitVec 32 := Scalar.muli arg18 c512_i32_139
  let v260 : Index := Scalar.indexCast v259
  let c0_141 : Index := 0#32
  ![0, v260.toNat, 0]
def k0_off20 (i : grid0.Coords) (k0_t14 : Fin (k0_t14_loop i).trips) : Fin 3 → Nat :=
  let c0_150 : Index := 0#32
  let c0_151 : Index := 0#32
  let c0_i32_100 : BitVec 32 := 0#32
  let arg2 : BitVec 32 := BitVec.ofNat 32 (i 2).val
  let c1_i32_99 : BitVec 32 := 1#32
  let v172 : BitVec 32 := Scalar.addi arg2 c1_i32_99
  let v173 : BitVec 32 := Scalar.subi v172 c0_i32_100
  let c1_i32_102 : BitVec 32 := 1#32
  let v175 : BitVec 32 := Scalar.divsi v173 c1_i32_102
  let v176 : BitVec 32 := Scalar.muli v175 c1_i32_102
  let v177 : BitVec 32 := Scalar.addi c0_i32_100 v176
  let c1_i32_104 : BitVec 32 := 1#32
  let arg18 : BitVec 32 := Scf.iv v177 c1_i32_104 k0_t14
  let c512_i32_149 : BitVec 32 := 512#32
  let v277 : BitVec 32 := Scalar.muli arg18 c512_i32_149
  let v278 : Index := Scalar.indexCast v277
  ![0, 0, v278.toNat]
@[reducible] def k0_t15_loop (arg17 : BitVec 32) : Scf.Loop 32 :=
  let c1_i32_71 : BitVec 32 := 1#32
  let c0_i32_61 : BitVec 32 := 0#32
  let v127 : BitVec 1 := Scalar.cmpi .eq arg17 c0_i32_61
  let c1_i32_62 : BitVec 32 := 1#32
  let c28_i32 : BitVec 32 := 28#32
  let v128 : BitVec 32 := Scalar.select v127 c1_i32_62 c28_i32
  let v136 : BitVec 32 := Scalar.subi v128 c1_i32_71
  let c1_i32_72 : BitVec 32 := 1#32
  let v138 : BitVec 32 := Scalar.divsi v136 c1_i32_72
  let v139 : BitVec 32 := Scalar.muli v138 c1_i32_72
  let v140 : BitVec 32 := Scalar.addi c1_i32_71 v139
  let c1_i32_73 : BitVec 32 := 1#32
  ⟨c1_i32_71, v140, c1_i32_73⟩

def k0_off21 (arg17 : BitVec 32) (k0_t15 : Fin (k0_t15_loop arg17).trips) : Fin 3 → Nat :=
  let c0_139 : Index := 0#32
  let c1_i32_71 : BitVec 32 := 1#32
  let c1_i32_73 : BitVec 32 := 1#32
  let arg18 : BitVec 32 := Scf.iv c1_i32_71 c1_i32_73 k0_t15
  let c1024_i32 : BitVec 32 := 1024#32
  let v259 : BitVec 32 := Scalar.muli arg18 c1024_i32
  let v260 : Index := Scalar.indexCast v259
  let c0_140 : Index := 0#32
  ![0, v260.toNat, 0]
@[reducible] def k0_t16_loop (arg17 : BitVec 32) : Scf.Loop 32 :=
  let c1_i32_71 : BitVec 32 := 1#32
  let c0_i32_61 : BitVec 32 := 0#32
  let v127 : BitVec 1 := Scalar.cmpi .eq arg17 c0_i32_61
  let c1_i32_62 : BitVec 32 := 1#32
  let c28_i32 : BitVec 32 := 28#32
  let v128 : BitVec 32 := Scalar.select v127 c1_i32_62 c28_i32
  let v136 : BitVec 32 := Scalar.subi v128 c1_i32_71
  let c1_i32_72 : BitVec 32 := 1#32
  let v138 : BitVec 32 := Scalar.divsi v136 c1_i32_72
  let v139 : BitVec 32 := Scalar.muli v138 c1_i32_72
  let v140 : BitVec 32 := Scalar.addi c1_i32_71 v139
  let v137 : BitVec 32 := Scalar.addi c1_i32_71 v136
  let c1_i32_74 : BitVec 32 := 1#32
  ⟨v140, v137, c1_i32_74⟩
def k0_off22 (arg17 : BitVec 32) (k0_t16 : Fin (k0_t16_loop arg17).trips) : Fin 3 → Nat :=
  let c0_139 : Index := 0#32
  let c1_i32_71 : BitVec 32 := 1#32
  let c0_i32_61 : BitVec 32 := 0#32
  let v127 : BitVec 1 := Scalar.cmpi .eq arg17 c0_i32_61
  let c1_i32_62 : BitVec 32 := 1#32
  let c28_i32 : BitVec 32 := 28#32
  let v128 : BitVec 32 := Scalar.select v127 c1_i32_62 c28_i32
  let v136 : BitVec 32 := Scalar.subi v128 c1_i32_71
  let c1_i32_72 : BitVec 32 := 1#32
  let v138 : BitVec 32 := Scalar.divsi v136 c1_i32_72
  let v139 : BitVec 32 := Scalar.muli v138 c1_i32_72
  let v140 : BitVec 32 := Scalar.addi c1_i32_71 v139
  let c1_i32_74 : BitVec 32 := 1#32
  let arg18 : BitVec 32 := Scf.iv v140 c1_i32_74 k0_t16
  let c1024_i32 : BitVec 32 := 1024#32
  let v259 : BitVec 32 := Scalar.muli arg18 c1024_i32
  let v260 : Index := Scalar.indexCast v259
  let c0_140 : Index := 0#32
  ![0, v260.toNat, 0]
@[reducible] def k0_t17_loop (i : grid0.Coords) (arg17 : BitVec 32) : Scf.Loop 32 :=
  let c0_i32_78 : BitVec 32 := 0#32
  let c0_i32_61 : BitVec 32 := 0#32
  let v127 : BitVec 1 := Scalar.cmpi .eq arg17 c0_i32_61
  let c0_i32_76 : BitVec 32 := 0#32
  let arg2 : BitVec 32 := BitVec.ofNat 32 (i 2).val
  let c1_i32_75 : BitVec 32 := 1#32
  let v143 : BitVec 32 := Scalar.addi arg2 c1_i32_75
  let v144 : BitVec 32 := Scalar.select v127 c0_i32_76 v143
  let v146 : BitVec 32 := Scalar.subi v144 c0_i32_78
  let c1_i32_79 : BitVec 32 := 1#32
  let v148 : BitVec 32 := Scalar.divsi v146 c1_i32_79
  let v149 : BitVec 32 := Scalar.muli v148 c1_i32_79
  let v150 : BitVec 32 := Scalar.addi c0_i32_78 v149
  let c1_i32_80 : BitVec 32 := 1#32
  ⟨c0_i32_78, v150, c1_i32_80⟩
def k0_off23 (i : grid0.Coords) (arg17 : BitVec 32) (k0_t17 : Fin (k0_t17_loop i arg17).trips) : Fin 3 → Nat :=
  let c0_140 : Index := 0#32
  let c0_i32_78 : BitVec 32 := 0#32
  let c1_i32_80 : BitVec 32 := 1#32
  let arg18 : BitVec 32 := Scf.iv c0_i32_78 c1_i32_80 k0_t17
  let c512_i32_139 : BitVec 32 := 512#32
  let v259 : BitVec 32 := Scalar.muli arg18 c512_i32_139
  let v260 : Index := Scalar.indexCast v259
  let c0_141 : Index := 0#32
  ![0, v260.toNat, 0]
@[reducible] def k0_t18_loop (i : grid0.Coords) (arg17 : BitVec 32) : Scf.Loop 32 :=
  let c0_i32_78 : BitVec 32 := 0#32
  let c0_i32_61 : BitVec 32 := 0#32
  let v127 : BitVec 1 := Scalar.cmpi .eq arg17 c0_i32_61
  let c0_i32_76 : BitVec 32 := 0#32
  let arg2 : BitVec 32 := BitVec.ofNat 32 (i 2).val
  let c1_i32_75 : BitVec 32 := 1#32
  let v143 : BitVec 32 := Scalar.addi arg2 c1_i32_75
  let v144 : BitVec 32 := Scalar.select v127 c0_i32_76 v143
  let v146 : BitVec 32 := Scalar.subi v144 c0_i32_78
  let c1_i32_79 : BitVec 32 := 1#32
  let v148 : BitVec 32 := Scalar.divsi v146 c1_i32_79
  let v149 : BitVec 32 := Scalar.muli v148 c1_i32_79
  let v150 : BitVec 32 := Scalar.addi c0_i32_78 v149
  let v147 : BitVec 32 := Scalar.addi c0_i32_78 v146
  let c1_i32_81 : BitVec 32 := 1#32
  ⟨v150, v147, c1_i32_81⟩
def k0_off24 (i : grid0.Coords) (arg17 : BitVec 32) (k0_t18 : Fin (k0_t18_loop i arg17).trips) : Fin 3 → Nat :=
  let c0_140 : Index := 0#32
  let c0_i32_78 : BitVec 32 := 0#32
  let c0_i32_61 : BitVec 32 := 0#32
  let v127 : BitVec 1 := Scalar.cmpi .eq arg17 c0_i32_61
  let c0_i32_76 : BitVec 32 := 0#32
  let arg2 : BitVec 32 := BitVec.ofNat 32 (i 2).val
  let c1_i32_75 : BitVec 32 := 1#32
  let v143 : BitVec 32 := Scalar.addi arg2 c1_i32_75
  let v144 : BitVec 32 := Scalar.select v127 c0_i32_76 v143
  let v146 : BitVec 32 := Scalar.subi v144 c0_i32_78
  let c1_i32_79 : BitVec 32 := 1#32
  let v148 : BitVec 32 := Scalar.divsi v146 c1_i32_79
  let v149 : BitVec 32 := Scalar.muli v148 c1_i32_79
  let v150 : BitVec 32 := Scalar.addi c0_i32_78 v149
  let c1_i32_81 : BitVec 32 := 1#32
  let arg18 : BitVec 32 := Scf.iv v150 c1_i32_81 k0_t18
  let c512_i32_139 : BitVec 32 := 512#32
  let v259 : BitVec 32 := Scalar.muli arg18 c512_i32_139
  let v260 : Index := Scalar.indexCast v259
  let c0_141 : Index := 0#32
  ![0, v260.toNat, 0]

def k0_chk3 (i : grid0.Coords) (arg17 : BitVec 32) : Prop :=
  ((k0_t15_loop arg17).OK) ∧
  (∀ k0_t15 : Fin (k0_t15_loop arg17).trips, ∀ a, (k0_off21 arg17 k0_t15) a + S1x1024x128.size a ≤ S1x28672x128.size a) ∧
  ((k0_t16_loop arg17).OK) ∧
  (∀ k0_t16 : Fin (k0_t16_loop arg17).trips, ∀ a, (k0_off22 arg17 k0_t16) a + S1x1024x128.size a ≤ S1x28672x128.size a) ∧
  ((k0_t17_loop i arg17).OK) ∧
  (∀ k0_t17 : Fin (k0_t17_loop i arg17).trips, ∀ a, (k0_off23 i arg17 k0_t17) a + S1x512x128.size a ≤ S1x1024x128.size a) ∧
  ((k0_t18_loop i arg17).OK) ∧
  (∀ k0_t18 : Fin (k0_t18_loop i arg17).trips, ∀ a, (k0_off24 i arg17 k0_t18) a + S1x512x128.size a ≤ S1x1024x128.size a)
theorem k0_t15_ok : ∀ (i : grid0.Coords) (arg17 : BitVec 32) (k0_hw3 : k0_chk3 i arg17), (k0_t15_loop arg17).OK := fun i arg17 k0_hw3 => k0_hw3.1
theorem k0_off21_inb : ∀ (i : grid0.Coords) (arg17 : BitVec 32) (k0_hw3 : k0_chk3 i arg17) (k0_t15 : Fin (k0_t15_loop arg17).trips), ∀ a, (k0_off21 arg17 k0_t15) a + S1x1024x128.size a ≤ S1x28672x128.size a := fun i arg17 k0_hw3 k0_t15 => k0_hw3.2.1 k0_t15
theorem k0_t16_ok : ∀ (i : grid0.Coords) (arg17 : BitVec 32) (k0_hw3 : k0_chk3 i arg17), (k0_t16_loop arg17).OK := fun i arg17 k0_hw3 => k0_hw3.2.2.1
theorem k0_off22_inb : ∀ (i : grid0.Coords) (arg17 : BitVec 32) (k0_hw3 : k0_chk3 i arg17) (k0_t16 : Fin (k0_t16_loop arg17).trips), ∀ a, (k0_off22 arg17 k0_t16) a + S1x1024x128.size a ≤ S1x28672x128.size a := fun i arg17 k0_hw3 k0_t16 => k0_hw3.2.2.2.1 k0_t16
theorem k0_t17_ok : ∀ (i : grid0.Coords) (arg17 : BitVec 32) (k0_hw3 : k0_chk3 i arg17), (k0_t17_loop i arg17).OK := fun i arg17 k0_hw3 => k0_hw3.2.2.2.2.1
theorem k0_off23_inb : ∀ (i : grid0.Coords) (arg17 : BitVec 32) (k0_hw3 : k0_chk3 i arg17) (k0_t17 : Fin (k0_t17_loop i arg17).trips), ∀ a, (k0_off23 i arg17 k0_t17) a + S1x512x128.size a ≤ S1x1024x128.size a := fun i arg17 k0_hw3 k0_t17 => k0_hw3.2.2.2.2.2.1 k0_t17
theorem k0_t18_ok : ∀ (i : grid0.Coords) (arg17 : BitVec 32) (k0_hw3 : k0_chk3 i arg17), (k0_t18_loop i arg17).OK := fun i arg17 k0_hw3 => k0_hw3.2.2.2.2.2.2.1
theorem k0_off24_inb : ∀ (i : grid0.Coords) (arg17 : BitVec 32) (k0_hw3 : k0_chk3 i arg17) (k0_t18 : Fin (k0_t18_loop i arg17).trips), ∀ a, (k0_off24 i arg17 k0_t18) a + S1x512x128.size a ≤ S1x1024x128.size a := fun i arg17 k0_hw3 k0_t18 => k0_hw3.2.2.2.2.2.2.2 k0_t18

@[reducible] def k0_t19_loop : Scf.Loop 32 :=
  let c0_i32_95 : BitVec 32 := 0#32
  let c28_i32_96 : BitVec 32 := 28#32
  let v170 : BitVec 32 := Scalar.addi c0_i32_95 c28_i32_96
  let c1_i32_97 : BitVec 32 := 1#32
  ⟨c0_i32_95, v170, c1_i32_97⟩
def k0_off25 (k0_t19 : Fin k0_t19_loop.trips) : Fin 3 → Nat :=
  let c0_139 : Index := 0#32
  let c0_i32_95 : BitVec 32 := 0#32
  let c1_i32_97 : BitVec 32 := 1#32
  let arg18 : BitVec 32 := Scf.iv c0_i32_95 c1_i32_97 k0_t19
  let c1024_i32 : BitVec 32 := 1024#32
  let v259 : BitVec 32 := Scalar.muli arg18 c1024_i32
  let v260 : Index := Scalar.indexCast v259
  let c0_140 : Index := 0#32
  ![0, v260.toNat, 0]
def k0_off26 (k0_t19 : Fin k0_t19_loop.trips) : Fin 3 → Nat :=
  let c0_146 : Index := 0#32
  let c0_147 : Index := 0#32
  let c0_i32_95 : BitVec 32 := 0#32
  let c1_i32_97 : BitVec 32 := 1#32
  let arg18 : BitVec 32 := Scf.iv c0_i32_95 c1_i32_97 k0_t19
  let c1024_i32_145 : BitVec 32 := 1024#32
  let v266 : BitVec 32 := Scalar.muli arg18 c1024_i32_145
  let v267 : Index := Scalar.indexCast v266
  ![0, 0, v267.toNat]
@[reducible] def k0_t20_loop (i : grid0.Coords) : Scf.Loop 32 :=
  let c0_i32_100 : BitVec 32 := 0#32
  let arg2 : BitVec 32 := BitVec.ofNat 32 (i 2).val
  let c1_i32_99 : BitVec 32 := 1#32
  let v172 : BitVec 32 := Scalar.addi arg2 c1_i32_99
  let v173 : BitVec 32 := Scalar.subi v172 c0_i32_100
  let c1_i32_102 : BitVec 32 := 1#32
  let v175 : BitVec 32 := Scalar.divsi v173 c1_i32_102
  let v176 : BitVec 32 := Scalar.muli v175 c1_i32_102
  let v177 : BitVec 32 := Scalar.addi c0_i32_100 v176
  let c1_i32_103 : BitVec 32 := 1#32
  ⟨c0_i32_100, v177, c1_i32_103⟩
def k0_off27 (i : grid0.Coords) (k0_t20 : Fin (k0_t20_loop i).trips) : Fin 3 → Nat :=
  let c0_140 : Index := 0#32
  let c0_i32_100 : BitVec 32 := 0#32
  let c1_i32_103 : BitVec 32 := 1#32
  let arg18 : BitVec 32 := Scf.iv c0_i32_100 c1_i32_103 k0_t20
  let c512_i32_139 : BitVec 32 := 512#32
  let v259 : BitVec 32 := Scalar.muli arg18 c512_i32_139
  let v260 : Index := Scalar.indexCast v259
  let c0_141 : Index := 0#32
  ![0, v260.toNat, 0]
def k0_off28 (i : grid0.Coords) (k0_t20 : Fin (k0_t20_loop i).trips) : Fin 3 → Nat :=
  let c0_150 : Index := 0#32
  let c0_151 : Index := 0#32
  let c0_i32_100 : BitVec 32 := 0#32
  let c1_i32_103 : BitVec 32 := 1#32
  let arg18 : BitVec 32 := Scf.iv c0_i32_100 c1_i32_103 k0_t20
  let c512_i32_149 : BitVec 32 := 512#32
  let v277 : BitVec 32 := Scalar.muli arg18 c512_i32_149
  let v278 : Index := Scalar.indexCast v277
  ![0, 0, v278.toNat]
@[reducible] def k0_t21_loop (i : grid0.Coords) : Scf.Loop 32 :=
  let c0_i32_100 : BitVec 32 := 0#32
  let arg2 : BitVec 32 := BitVec.ofNat 32 (i 2).val
  let c1_i32_99 : BitVec 32 := 1#32
  let v172 : BitVec 32 := Scalar.addi arg2 c1_i32_99
  let v173 : BitVec 32 := Scalar.subi v172 c0_i32_100
  let c1_i32_102 : BitVec 32 := 1#32
  let v175 : BitVec 32 := Scalar.divsi v173 c1_i32_102
  let v176 : BitVec 32 := Scalar.muli v175 c1_i32_102
  let v177 : BitVec 32 := Scalar.addi c0_i32_100 v176
  let v174 : BitVec 32 := Scalar.addi c0_i32_100 v173
  let c1_i32_104 : BitVec 32 := 1#32
  ⟨v177, v174, c1_i32_104⟩
def k0_off29 (i : grid0.Coords) (k0_t21 : Fin (k0_t21_loop i).trips) : Fin 3 → Nat :=
  let c0_140 : Index := 0#32
  let c0_i32_100 : BitVec 32 := 0#32
  let arg2 : BitVec 32 := BitVec.ofNat 32 (i 2).val
  let c1_i32_99 : BitVec 32 := 1#32
  let v172 : BitVec 32 := Scalar.addi arg2 c1_i32_99
  let v173 : BitVec 32 := Scalar.subi v172 c0_i32_100
  let c1_i32_102 : BitVec 32 := 1#32
  let v175 : BitVec 32 := Scalar.divsi v173 c1_i32_102
  let v176 : BitVec 32 := Scalar.muli v175 c1_i32_102
  let v177 : BitVec 32 := Scalar.addi c0_i32_100 v176
  let c1_i32_104 : BitVec 32 := 1#32
  let arg18 : BitVec 32 := Scf.iv v177 c1_i32_104 k0_t21
  let c512_i32_139 : BitVec 32 := 512#32
  let v259 : BitVec 32 := Scalar.muli arg18 c512_i32_139
  let v260 : Index := Scalar.indexCast v259
  let c0_141 : Index := 0#32
  ![0, v260.toNat, 0]
def k0_off30 (i : grid0.Coords) (k0_t21 : Fin (k0_t21_loop i).trips) : Fin 3 → Nat :=
  let c0_150 : Index := 0#32
  let c0_151 : Index := 0#32
  let c0_i32_100 : BitVec 32 := 0#32
  let arg2 : BitVec 32 := BitVec.ofNat 32 (i 2).val
  let c1_i32_99 : BitVec 32 := 1#32
  let v172 : BitVec 32 := Scalar.addi arg2 c1_i32_99
  let v173 : BitVec 32 := Scalar.subi v172 c0_i32_100
  let c1_i32_102 : BitVec 32 := 1#32
  let v175 : BitVec 32 := Scalar.divsi v173 c1_i32_102
  let v176 : BitVec 32 := Scalar.muli v175 c1_i32_102
  let v177 : BitVec 32 := Scalar.addi c0_i32_100 v176
  let c1_i32_104 : BitVec 32 := 1#32
  let arg18 : BitVec 32 := Scf.iv v177 c1_i32_104 k0_t21
  let c512_i32_149 : BitVec 32 := 512#32
  let v277 : BitVec 32 := Scalar.muli arg18 c512_i32_149
  let v278 : Index := Scalar.indexCast v277
  ![0, 0, v278.toNat]
@[reducible] def k0_t22_loop (arg17 : BitVec 32) : Scf.Loop 32 :=
  let c1_i32_71 : BitVec 32 := 1#32
  let c0_i32_61 : BitVec 32 := 0#32
  let v127 : BitVec 1 := Scalar.cmpi .eq arg17 c0_i32_61
  let c1_i32_62 : BitVec 32 := 1#32
  let c28_i32 : BitVec 32 := 28#32
  let v128 : BitVec 32 := Scalar.select v127 c1_i32_62 c28_i32
  let v136 : BitVec 32 := Scalar.subi v128 c1_i32_71
  let c1_i32_72 : BitVec 32 := 1#32
  let v138 : BitVec 32 := Scalar.divsi v136 c1_i32_72
  let v139 : BitVec 32 := Scalar.muli v138 c1_i32_72
  let v140 : BitVec 32 := Scalar.addi c1_i32_71 v139
  let c1_i32_73 : BitVec 32 := 1#32
  ⟨c1_i32_71, v140, c1_i32_73⟩

def k0_off31 (arg17 : BitVec 32) (k0_t22 : Fin (k0_t22_loop arg17).trips) : Fin 3 → Nat :=
  let c0_139 : Index := 0#32
  let c1_i32_71 : BitVec 32 := 1#32
  let c1_i32_73 : BitVec 32 := 1#32
  let arg18 : BitVec 32 := Scf.iv c1_i32_71 c1_i32_73 k0_t22
  let c1024_i32 : BitVec 32 := 1024#32
  let v259 : BitVec 32 := Scalar.muli arg18 c1024_i32
  let v260 : Index := Scalar.indexCast v259
  let c0_140 : Index := 0#32
  ![0, v260.toNat, 0]
@[reducible] def k0_t23_loop (arg17 : BitVec 32) : Scf.Loop 32 :=
  let c1_i32_71 : BitVec 32 := 1#32
  let c0_i32_61 : BitVec 32 := 0#32
  let v127 : BitVec 1 := Scalar.cmpi .eq arg17 c0_i32_61
  let c1_i32_62 : BitVec 32 := 1#32
  let c28_i32 : BitVec 32 := 28#32
  let v128 : BitVec 32 := Scalar.select v127 c1_i32_62 c28_i32
  let v136 : BitVec 32 := Scalar.subi v128 c1_i32_71
  let c1_i32_72 : BitVec 32 := 1#32
  let v138 : BitVec 32 := Scalar.divsi v136 c1_i32_72
  let v139 : BitVec 32 := Scalar.muli v138 c1_i32_72
  let v140 : BitVec 32 := Scalar.addi c1_i32_71 v139
  let v137 : BitVec 32 := Scalar.addi c1_i32_71 v136
  let c1_i32_74 : BitVec 32 := 1#32
  ⟨v140, v137, c1_i32_74⟩
def k0_off32 (arg17 : BitVec 32) (k0_t23 : Fin (k0_t23_loop arg17).trips) : Fin 3 → Nat :=
  let c0_139 : Index := 0#32
  let c1_i32_71 : BitVec 32 := 1#32
  let c0_i32_61 : BitVec 32 := 0#32
  let v127 : BitVec 1 := Scalar.cmpi .eq arg17 c0_i32_61
  let c1_i32_62 : BitVec 32 := 1#32
  let c28_i32 : BitVec 32 := 28#32
  let v128 : BitVec 32 := Scalar.select v127 c1_i32_62 c28_i32
  let v136 : BitVec 32 := Scalar.subi v128 c1_i32_71
  let c1_i32_72 : BitVec 32 := 1#32
  let v138 : BitVec 32 := Scalar.divsi v136 c1_i32_72
  let v139 : BitVec 32 := Scalar.muli v138 c1_i32_72
  let v140 : BitVec 32 := Scalar.addi c1_i32_71 v139
  let c1_i32_74 : BitVec 32 := 1#32
  let arg18 : BitVec 32 := Scf.iv v140 c1_i32_74 k0_t23
  let c1024_i32 : BitVec 32 := 1024#32
  let v259 : BitVec 32 := Scalar.muli arg18 c1024_i32
  let v260 : Index := Scalar.indexCast v259
  let c0_140 : Index := 0#32
  ![0, v260.toNat, 0]
@[reducible] def k0_t24_loop (i : grid0.Coords) (arg17 : BitVec 32) : Scf.Loop 32 :=
  let c0_i32_78 : BitVec 32 := 0#32
  let c0_i32_61 : BitVec 32 := 0#32
  let v127 : BitVec 1 := Scalar.cmpi .eq arg17 c0_i32_61
  let c0_i32_76 : BitVec 32 := 0#32
  let arg2 : BitVec 32 := BitVec.ofNat 32 (i 2).val
  let c1_i32_75 : BitVec 32 := 1#32
  let v143 : BitVec 32 := Scalar.addi arg2 c1_i32_75
  let v144 : BitVec 32 := Scalar.select v127 c0_i32_76 v143
  let v146 : BitVec 32 := Scalar.subi v144 c0_i32_78
  let c1_i32_79 : BitVec 32 := 1#32
  let v148 : BitVec 32 := Scalar.divsi v146 c1_i32_79
  let v149 : BitVec 32 := Scalar.muli v148 c1_i32_79
  let v150 : BitVec 32 := Scalar.addi c0_i32_78 v149
  let c1_i32_80 : BitVec 32 := 1#32
  ⟨c0_i32_78, v150, c1_i32_80⟩
def k0_off33 (i : grid0.Coords) (arg17 : BitVec 32) (k0_t24 : Fin (k0_t24_loop i arg17).trips) : Fin 3 → Nat :=
  let c0_140 : Index := 0#32
  let c0_i32_78 : BitVec 32 := 0#32
  let c1_i32_80 : BitVec 32 := 1#32
  let arg18 : BitVec 32 := Scf.iv c0_i32_78 c1_i32_80 k0_t24
  let c512_i32_139 : BitVec 32 := 512#32
  let v259 : BitVec 32 := Scalar.muli arg18 c512_i32_139
  let v260 : Index := Scalar.indexCast v259
  let c0_141 : Index := 0#32
  ![0, v260.toNat, 0]
@[reducible] def k0_t25_loop (i : grid0.Coords) (arg17 : BitVec 32) : Scf.Loop 32 :=
  let c0_i32_78 : BitVec 32 := 0#32
  let c0_i32_61 : BitVec 32 := 0#32
  let v127 : BitVec 1 := Scalar.cmpi .eq arg17 c0_i32_61
  let c0_i32_76 : BitVec 32 := 0#32
  let arg2 : BitVec 32 := BitVec.ofNat 32 (i 2).val
  let c1_i32_75 : BitVec 32 := 1#32
  let v143 : BitVec 32 := Scalar.addi arg2 c1_i32_75
  let v144 : BitVec 32 := Scalar.select v127 c0_i32_76 v143
  let v146 : BitVec 32 := Scalar.subi v144 c0_i32_78
  let c1_i32_79 : BitVec 32 := 1#32
  let v148 : BitVec 32 := Scalar.divsi v146 c1_i32_79
  let v149 : BitVec 32 := Scalar.muli v148 c1_i32_79
  let v150 : BitVec 32 := Scalar.addi c0_i32_78 v149
  let v147 : BitVec 32 := Scalar.addi c0_i32_78 v146
  let c1_i32_81 : BitVec 32 := 1#32
  ⟨v150, v147, c1_i32_81⟩
def k0_off34 (i : grid0.Coords) (arg17 : BitVec 32) (k0_t25 : Fin (k0_t25_loop i arg17).trips) : Fin 3 → Nat :=
  let c0_140 : Index := 0#32
  let c0_i32_78 : BitVec 32 := 0#32
  let c0_i32_61 : BitVec 32 := 0#32
  let v127 : BitVec 1 := Scalar.cmpi .eq arg17 c0_i32_61
  let c0_i32_76 : BitVec 32 := 0#32
  let arg2 : BitVec 32 := BitVec.ofNat 32 (i 2).val
  let c1_i32_75 : BitVec 32 := 1#32
  let v143 : BitVec 32 := Scalar.addi arg2 c1_i32_75
  let v144 : BitVec 32 := Scalar.select v127 c0_i32_76 v143
  let v146 : BitVec 32 := Scalar.subi v144 c0_i32_78
  let c1_i32_79 : BitVec 32 := 1#32
  let v148 : BitVec 32 := Scalar.divsi v146 c1_i32_79
  let v149 : BitVec 32 := Scalar.muli v148 c1_i32_79
  let v150 : BitVec 32 := Scalar.addi c0_i32_78 v149
  let c1_i32_81 : BitVec 32 := 1#32
  let arg18 : BitVec 32 := Scf.iv v150 c1_i32_81 k0_t25
  let c512_i32_139 : BitVec 32 := 512#32
  let v259 : BitVec 32 := Scalar.muli arg18 c512_i32_139
  let v260 : Index := Scalar.indexCast v259
  let c0_141 : Index := 0#32
  ![0, v260.toNat, 0]

def k0_chk4 (i : grid0.Coords) (arg17 : BitVec 32) : Prop :=
  ((k0_t22_loop arg17).OK) ∧
  (∀ k0_t22 : Fin (k0_t22_loop arg17).trips, ∀ a, (k0_off31 arg17 k0_t22) a + S1x1024x128.size a ≤ S1x28672x128.size a) ∧
  ((k0_t23_loop arg17).OK) ∧
  (∀ k0_t23 : Fin (k0_t23_loop arg17).trips, ∀ a, (k0_off32 arg17 k0_t23) a + S1x1024x128.size a ≤ S1x28672x128.size a) ∧
  ((k0_t24_loop i arg17).OK) ∧
  (∀ k0_t24 : Fin (k0_t24_loop i arg17).trips, ∀ a, (k0_off33 i arg17 k0_t24) a + S1x512x128.size a ≤ S1x1024x128.size a) ∧
  ((k0_t25_loop i arg17).OK) ∧
  (∀ k0_t25 : Fin (k0_t25_loop i arg17).trips, ∀ a, (k0_off34 i arg17 k0_t25) a + S1x512x128.size a ≤ S1x1024x128.size a)
theorem k0_t22_ok : ∀ (i : grid0.Coords) (arg17 : BitVec 32) (k0_hw4 : k0_chk4 i arg17), (k0_t22_loop arg17).OK := fun i arg17 k0_hw4 => k0_hw4.1
theorem k0_off31_inb : ∀ (i : grid0.Coords) (arg17 : BitVec 32) (k0_hw4 : k0_chk4 i arg17) (k0_t22 : Fin (k0_t22_loop arg17).trips), ∀ a, (k0_off31 arg17 k0_t22) a + S1x1024x128.size a ≤ S1x28672x128.size a := fun i arg17 k0_hw4 k0_t22 => k0_hw4.2.1 k0_t22
theorem k0_t23_ok : ∀ (i : grid0.Coords) (arg17 : BitVec 32) (k0_hw4 : k0_chk4 i arg17), (k0_t23_loop arg17).OK := fun i arg17 k0_hw4 => k0_hw4.2.2.1
theorem k0_off32_inb : ∀ (i : grid0.Coords) (arg17 : BitVec 32) (k0_hw4 : k0_chk4 i arg17) (k0_t23 : Fin (k0_t23_loop arg17).trips), ∀ a, (k0_off32 arg17 k0_t23) a + S1x1024x128.size a ≤ S1x28672x128.size a := fun i arg17 k0_hw4 k0_t23 => k0_hw4.2.2.2.1 k0_t23
theorem k0_t24_ok : ∀ (i : grid0.Coords) (arg17 : BitVec 32) (k0_hw4 : k0_chk4 i arg17), (k0_t24_loop i arg17).OK := fun i arg17 k0_hw4 => k0_hw4.2.2.2.2.1
theorem k0_off33_inb : ∀ (i : grid0.Coords) (arg17 : BitVec 32) (k0_hw4 : k0_chk4 i arg17) (k0_t24 : Fin (k0_t24_loop i arg17).trips), ∀ a, (k0_off33 i arg17 k0_t24) a + S1x512x128.size a ≤ S1x1024x128.size a := fun i arg17 k0_hw4 k0_t24 => k0_hw4.2.2.2.2.2.1 k0_t24
theorem k0_t25_ok : ∀ (i : grid0.Coords) (arg17 : BitVec 32) (k0_hw4 : k0_chk4 i arg17), (k0_t25_loop i arg17).OK := fun i arg17 k0_hw4 => k0_hw4.2.2.2.2.2.2.1
theorem k0_off34_inb : ∀ (i : grid0.Coords) (arg17 : BitVec 32) (k0_hw4 : k0_chk4 i arg17) (k0_t25 : Fin (k0_t25_loop i arg17).trips), ∀ a, (k0_off34 i arg17 k0_t25) a + S1x512x128.size a ≤ S1x1024x128.size a := fun i arg17 k0_hw4 k0_t25 => k0_hw4.2.2.2.2.2.2.2 k0_t25

@[reducible] def k0_t26_loop : Scf.Loop 32 :=
  let c0_i32_95 : BitVec 32 := 0#32
  let c28_i32_96 : BitVec 32 := 28#32
  let v170 : BitVec 32 := Scalar.addi c0_i32_95 c28_i32_96
  let c1_i32_97 : BitVec 32 := 1#32
  ⟨c0_i32_95, v170, c1_i32_97⟩
def k0_off35 (k0_t26 : Fin k0_t26_loop.trips) : Fin 3 → Nat :=
  let c0_139 : Index := 0#32
  let c0_i32_95 : BitVec 32 := 0#32
  let c1_i32_97 : BitVec 32 := 1#32
  let arg18 : BitVec 32 := Scf.iv c0_i32_95 c1_i32_97 k0_t26
  let c1024_i32 : BitVec 32 := 1024#32
  let v259 : BitVec 32 := Scalar.muli arg18 c1024_i32
  let v260 : Index := Scalar.indexCast v259
  let c0_140 : Index := 0#32
  ![0, v260.toNat, 0]
def k0_off36 (k0_t26 : Fin k0_t26_loop.trips) : Fin 3 → Nat :=
  let c0_146 : Index := 0#32
  let c0_147 : Index := 0#32
  let c0_i32_95 : BitVec 32 := 0#32
  let c1_i32_97 : BitVec 32 := 1#32
  let arg18 : BitVec 32 := Scf.iv c0_i32_95 c1_i32_97 k0_t26
  let c1024_i32_145 : BitVec 32 := 1024#32
  let v266 : BitVec 32 := Scalar.muli arg18 c1024_i32_145
  let v267 : Index := Scalar.indexCast v266
  ![0, 0, v267.toNat]
@[reducible] def k0_t27_loop (i : grid0.Coords) : Scf.Loop 32 :=
  let c0_i32_100 : BitVec 32 := 0#32
  let arg2 : BitVec 32 := BitVec.ofNat 32 (i 2).val
  let c1_i32_99 : BitVec 32 := 1#32
  let v172 : BitVec 32 := Scalar.addi arg2 c1_i32_99
  let v173 : BitVec 32 := Scalar.subi v172 c0_i32_100
  let c1_i32_102 : BitVec 32 := 1#32
  let v175 : BitVec 32 := Scalar.divsi v173 c1_i32_102
  let v176 : BitVec 32 := Scalar.muli v175 c1_i32_102
  let v177 : BitVec 32 := Scalar.addi c0_i32_100 v176
  let c1_i32_103 : BitVec 32 := 1#32
  ⟨c0_i32_100, v177, c1_i32_103⟩
def k0_off37 (i : grid0.Coords) (k0_t27 : Fin (k0_t27_loop i).trips) : Fin 3 → Nat :=
  let c0_140 : Index := 0#32
  let c0_i32_100 : BitVec 32 := 0#32
  let c1_i32_103 : BitVec 32 := 1#32
  let arg18 : BitVec 32 := Scf.iv c0_i32_100 c1_i32_103 k0_t27
  let c512_i32_139 : BitVec 32 := 512#32
  let v259 : BitVec 32 := Scalar.muli arg18 c512_i32_139
  let v260 : Index := Scalar.indexCast v259
  let c0_141 : Index := 0#32
  ![0, v260.toNat, 0]
def k0_off38 (i : grid0.Coords) (k0_t27 : Fin (k0_t27_loop i).trips) : Fin 3 → Nat :=
  let c0_150 : Index := 0#32
  let c0_151 : Index := 0#32
  let c0_i32_100 : BitVec 32 := 0#32
  let c1_i32_103 : BitVec 32 := 1#32
  let arg18 : BitVec 32 := Scf.iv c0_i32_100 c1_i32_103 k0_t27
  let c512_i32_149 : BitVec 32 := 512#32
  let v277 : BitVec 32 := Scalar.muli arg18 c512_i32_149
  let v278 : Index := Scalar.indexCast v277
  ![0, 0, v278.toNat]
@[reducible] def k0_t28_loop (i : grid0.Coords) : Scf.Loop 32 :=
  let c0_i32_100 : BitVec 32 := 0#32
  let arg2 : BitVec 32 := BitVec.ofNat 32 (i 2).val
  let c1_i32_99 : BitVec 32 := 1#32
  let v172 : BitVec 32 := Scalar.addi arg2 c1_i32_99
  let v173 : BitVec 32 := Scalar.subi v172 c0_i32_100
  let c1_i32_102 : BitVec 32 := 1#32
  let v175 : BitVec 32 := Scalar.divsi v173 c1_i32_102
  let v176 : BitVec 32 := Scalar.muli v175 c1_i32_102
  let v177 : BitVec 32 := Scalar.addi c0_i32_100 v176
  let v174 : BitVec 32 := Scalar.addi c0_i32_100 v173
  let c1_i32_104 : BitVec 32 := 1#32
  ⟨v177, v174, c1_i32_104⟩
def k0_off39 (i : grid0.Coords) (k0_t28 : Fin (k0_t28_loop i).trips) : Fin 3 → Nat :=
  let c0_140 : Index := 0#32
  let c0_i32_100 : BitVec 32 := 0#32
  let arg2 : BitVec 32 := BitVec.ofNat 32 (i 2).val
  let c1_i32_99 : BitVec 32 := 1#32
  let v172 : BitVec 32 := Scalar.addi arg2 c1_i32_99
  let v173 : BitVec 32 := Scalar.subi v172 c0_i32_100
  let c1_i32_102 : BitVec 32 := 1#32
  let v175 : BitVec 32 := Scalar.divsi v173 c1_i32_102
  let v176 : BitVec 32 := Scalar.muli v175 c1_i32_102
  let v177 : BitVec 32 := Scalar.addi c0_i32_100 v176
  let c1_i32_104 : BitVec 32 := 1#32
  let arg18 : BitVec 32 := Scf.iv v177 c1_i32_104 k0_t28
  let c512_i32_139 : BitVec 32 := 512#32
  let v259 : BitVec 32 := Scalar.muli arg18 c512_i32_139
  let v260 : Index := Scalar.indexCast v259
  let c0_141 : Index := 0#32
  ![0, v260.toNat, 0]
def k0_off40 (i : grid0.Coords) (k0_t28 : Fin (k0_t28_loop i).trips) : Fin 3 → Nat :=
  let c0_150 : Index := 0#32
  let c0_151 : Index := 0#32
  let c0_i32_100 : BitVec 32 := 0#32
  let arg2 : BitVec 32 := BitVec.ofNat 32 (i 2).val
  let c1_i32_99 : BitVec 32 := 1#32
  let v172 : BitVec 32 := Scalar.addi arg2 c1_i32_99
  let v173 : BitVec 32 := Scalar.subi v172 c0_i32_100
  let c1_i32_102 : BitVec 32 := 1#32
  let v175 : BitVec 32 := Scalar.divsi v173 c1_i32_102
  let v176 : BitVec 32 := Scalar.muli v175 c1_i32_102
  let v177 : BitVec 32 := Scalar.addi c0_i32_100 v176
  let c1_i32_104 : BitVec 32 := 1#32
  let arg18 : BitVec 32 := Scf.iv v177 c1_i32_104 k0_t28
  let c512_i32_149 : BitVec 32 := 512#32
  let v277 : BitVec 32 := Scalar.muli arg18 c512_i32_149
  let v278 : Index := Scalar.indexCast v277
  ![0, 0, v278.toNat]
@[reducible] def k0_t29_loop (arg17 : BitVec 32) : Scf.Loop 32 :=
  let c1_i32_71 : BitVec 32 := 1#32
  let c0_i32_61 : BitVec 32 := 0#32
  let v127 : BitVec 1 := Scalar.cmpi .eq arg17 c0_i32_61
  let c1_i32_62 : BitVec 32 := 1#32
  let c28_i32 : BitVec 32 := 28#32
  let v128 : BitVec 32 := Scalar.select v127 c1_i32_62 c28_i32
  let v136 : BitVec 32 := Scalar.subi v128 c1_i32_71
  let c1_i32_72 : BitVec 32 := 1#32
  let v138 : BitVec 32 := Scalar.divsi v136 c1_i32_72
  let v139 : BitVec 32 := Scalar.muli v138 c1_i32_72
  let v140 : BitVec 32 := Scalar.addi c1_i32_71 v139
  let c1_i32_73 : BitVec 32 := 1#32
  ⟨c1_i32_71, v140, c1_i32_73⟩

def k0_off41 (arg17 : BitVec 32) (k0_t29 : Fin (k0_t29_loop arg17).trips) : Fin 3 → Nat :=
  let c0_139 : Index := 0#32
  let c1_i32_71 : BitVec 32 := 1#32
  let c1_i32_73 : BitVec 32 := 1#32
  let arg18 : BitVec 32 := Scf.iv c1_i32_71 c1_i32_73 k0_t29
  let c1024_i32 : BitVec 32 := 1024#32
  let v259 : BitVec 32 := Scalar.muli arg18 c1024_i32
  let v260 : Index := Scalar.indexCast v259
  let c0_140 : Index := 0#32
  ![0, v260.toNat, 0]
@[reducible] def k0_t30_loop (arg17 : BitVec 32) : Scf.Loop 32 :=
  let c1_i32_71 : BitVec 32 := 1#32
  let c0_i32_61 : BitVec 32 := 0#32
  let v127 : BitVec 1 := Scalar.cmpi .eq arg17 c0_i32_61
  let c1_i32_62 : BitVec 32 := 1#32
  let c28_i32 : BitVec 32 := 28#32
  let v128 : BitVec 32 := Scalar.select v127 c1_i32_62 c28_i32
  let v136 : BitVec 32 := Scalar.subi v128 c1_i32_71
  let c1_i32_72 : BitVec 32 := 1#32
  let v138 : BitVec 32 := Scalar.divsi v136 c1_i32_72
  let v139 : BitVec 32 := Scalar.muli v138 c1_i32_72
  let v140 : BitVec 32 := Scalar.addi c1_i32_71 v139
  let v137 : BitVec 32 := Scalar.addi c1_i32_71 v136
  let c1_i32_74 : BitVec 32 := 1#32
  ⟨v140, v137, c1_i32_74⟩
def k0_off42 (arg17 : BitVec 32) (k0_t30 : Fin (k0_t30_loop arg17).trips) : Fin 3 → Nat :=
  let c0_139 : Index := 0#32
  let c1_i32_71 : BitVec 32 := 1#32
  let c0_i32_61 : BitVec 32 := 0#32
  let v127 : BitVec 1 := Scalar.cmpi .eq arg17 c0_i32_61
  let c1_i32_62 : BitVec 32 := 1#32
  let c28_i32 : BitVec 32 := 28#32
  let v128 : BitVec 32 := Scalar.select v127 c1_i32_62 c28_i32
  let v136 : BitVec 32 := Scalar.subi v128 c1_i32_71
  let c1_i32_72 : BitVec 32 := 1#32
  let v138 : BitVec 32 := Scalar.divsi v136 c1_i32_72
  let v139 : BitVec 32 := Scalar.muli v138 c1_i32_72
  let v140 : BitVec 32 := Scalar.addi c1_i32_71 v139
  let c1_i32_74 : BitVec 32 := 1#32
  let arg18 : BitVec 32 := Scf.iv v140 c1_i32_74 k0_t30
  let c1024_i32 : BitVec 32 := 1024#32
  let v259 : BitVec 32 := Scalar.muli arg18 c1024_i32
  let v260 : Index := Scalar.indexCast v259
  let c0_140 : Index := 0#32
  ![0, v260.toNat, 0]
@[reducible] def k0_t31_loop (i : grid0.Coords) (arg17 : BitVec 32) : Scf.Loop 32 :=
  let c0_i32_78 : BitVec 32 := 0#32
  let c0_i32_61 : BitVec 32 := 0#32
  let v127 : BitVec 1 := Scalar.cmpi .eq arg17 c0_i32_61
  let c0_i32_76 : BitVec 32 := 0#32
  let arg2 : BitVec 32 := BitVec.ofNat 32 (i 2).val
  let c1_i32_75 : BitVec 32 := 1#32
  let v143 : BitVec 32 := Scalar.addi arg2 c1_i32_75
  let v144 : BitVec 32 := Scalar.select v127 c0_i32_76 v143
  let v146 : BitVec 32 := Scalar.subi v144 c0_i32_78
  let c1_i32_79 : BitVec 32 := 1#32
  let v148 : BitVec 32 := Scalar.divsi v146 c1_i32_79
  let v149 : BitVec 32 := Scalar.muli v148 c1_i32_79
  let v150 : BitVec 32 := Scalar.addi c0_i32_78 v149
  let c1_i32_80 : BitVec 32 := 1#32
  ⟨c0_i32_78, v150, c1_i32_80⟩
def k0_off43 (i : grid0.Coords) (arg17 : BitVec 32) (k0_t31 : Fin (k0_t31_loop i arg17).trips) : Fin 3 → Nat :=
  let c0_140 : Index := 0#32
  let c0_i32_78 : BitVec 32 := 0#32
  let c1_i32_80 : BitVec 32 := 1#32
  let arg18 : BitVec 32 := Scf.iv c0_i32_78 c1_i32_80 k0_t31
  let c512_i32_139 : BitVec 32 := 512#32
  let v259 : BitVec 32 := Scalar.muli arg18 c512_i32_139
  let v260 : Index := Scalar.indexCast v259
  let c0_141 : Index := 0#32
  ![0, v260.toNat, 0]
@[reducible] def k0_t32_loop (i : grid0.Coords) (arg17 : BitVec 32) : Scf.Loop 32 :=
  let c0_i32_78 : BitVec 32 := 0#32
  let c0_i32_61 : BitVec 32 := 0#32
  let v127 : BitVec 1 := Scalar.cmpi .eq arg17 c0_i32_61
  let c0_i32_76 : BitVec 32 := 0#32
  let arg2 : BitVec 32 := BitVec.ofNat 32 (i 2).val
  let c1_i32_75 : BitVec 32 := 1#32
  let v143 : BitVec 32 := Scalar.addi arg2 c1_i32_75
  let v144 : BitVec 32 := Scalar.select v127 c0_i32_76 v143
  let v146 : BitVec 32 := Scalar.subi v144 c0_i32_78
  let c1_i32_79 : BitVec 32 := 1#32
  let v148 : BitVec 32 := Scalar.divsi v146 c1_i32_79
  let v149 : BitVec 32 := Scalar.muli v148 c1_i32_79
  let v150 : BitVec 32 := Scalar.addi c0_i32_78 v149
  let v147 : BitVec 32 := Scalar.addi c0_i32_78 v146
  let c1_i32_81 : BitVec 32 := 1#32
  ⟨v150, v147, c1_i32_81⟩
def k0_off44 (i : grid0.Coords) (arg17 : BitVec 32) (k0_t32 : Fin (k0_t32_loop i arg17).trips) : Fin 3 → Nat :=
  let c0_140 : Index := 0#32
  let c0_i32_78 : BitVec 32 := 0#32
  let c0_i32_61 : BitVec 32 := 0#32
  let v127 : BitVec 1 := Scalar.cmpi .eq arg17 c0_i32_61
  let c0_i32_76 : BitVec 32 := 0#32
  let arg2 : BitVec 32 := BitVec.ofNat 32 (i 2).val
  let c1_i32_75 : BitVec 32 := 1#32
  let v143 : BitVec 32 := Scalar.addi arg2 c1_i32_75
  let v144 : BitVec 32 := Scalar.select v127 c0_i32_76 v143
  let v146 : BitVec 32 := Scalar.subi v144 c0_i32_78
  let c1_i32_79 : BitVec 32 := 1#32
  let v148 : BitVec 32 := Scalar.divsi v146 c1_i32_79
  let v149 : BitVec 32 := Scalar.muli v148 c1_i32_79
  let v150 : BitVec 32 := Scalar.addi c0_i32_78 v149
  let c1_i32_81 : BitVec 32 := 1#32
  let arg18 : BitVec 32 := Scf.iv v150 c1_i32_81 k0_t32
  let c512_i32_139 : BitVec 32 := 512#32
  let v259 : BitVec 32 := Scalar.muli arg18 c512_i32_139
  let v260 : Index := Scalar.indexCast v259
  let c0_141 : Index := 0#32
  ![0, v260.toNat, 0]

def k0_chk5 (i : grid0.Coords) (arg17 : BitVec 32) : Prop :=
  ((k0_t29_loop arg17).OK) ∧
  (∀ k0_t29 : Fin (k0_t29_loop arg17).trips, ∀ a, (k0_off41 arg17 k0_t29) a + S1x1024x128.size a ≤ S1x28672x128.size a) ∧
  ((k0_t30_loop arg17).OK) ∧
  (∀ k0_t30 : Fin (k0_t30_loop arg17).trips, ∀ a, (k0_off42 arg17 k0_t30) a + S1x1024x128.size a ≤ S1x28672x128.size a) ∧
  ((k0_t31_loop i arg17).OK) ∧
  (∀ k0_t31 : Fin (k0_t31_loop i arg17).trips, ∀ a, (k0_off43 i arg17 k0_t31) a + S1x512x128.size a ≤ S1x1024x128.size a) ∧
  ((k0_t32_loop i arg17).OK) ∧
  (∀ k0_t32 : Fin (k0_t32_loop i arg17).trips, ∀ a, (k0_off44 i arg17 k0_t32) a + S1x512x128.size a ≤ S1x1024x128.size a)
theorem k0_t29_ok : ∀ (i : grid0.Coords) (arg17 : BitVec 32) (k0_hw5 : k0_chk5 i arg17), (k0_t29_loop arg17).OK := fun i arg17 k0_hw5 => k0_hw5.1
theorem k0_off41_inb : ∀ (i : grid0.Coords) (arg17 : BitVec 32) (k0_hw5 : k0_chk5 i arg17) (k0_t29 : Fin (k0_t29_loop arg17).trips), ∀ a, (k0_off41 arg17 k0_t29) a + S1x1024x128.size a ≤ S1x28672x128.size a := fun i arg17 k0_hw5 k0_t29 => k0_hw5.2.1 k0_t29
theorem k0_t30_ok : ∀ (i : grid0.Coords) (arg17 : BitVec 32) (k0_hw5 : k0_chk5 i arg17), (k0_t30_loop arg17).OK := fun i arg17 k0_hw5 => k0_hw5.2.2.1
theorem k0_off42_inb : ∀ (i : grid0.Coords) (arg17 : BitVec 32) (k0_hw5 : k0_chk5 i arg17) (k0_t30 : Fin (k0_t30_loop arg17).trips), ∀ a, (k0_off42 arg17 k0_t30) a + S1x1024x128.size a ≤ S1x28672x128.size a := fun i arg17 k0_hw5 k0_t30 => k0_hw5.2.2.2.1 k0_t30
theorem k0_t31_ok : ∀ (i : grid0.Coords) (arg17 : BitVec 32) (k0_hw5 : k0_chk5 i arg17), (k0_t31_loop i arg17).OK := fun i arg17 k0_hw5 => k0_hw5.2.2.2.2.1
theorem k0_off43_inb : ∀ (i : grid0.Coords) (arg17 : BitVec 32) (k0_hw5 : k0_chk5 i arg17) (k0_t31 : Fin (k0_t31_loop i arg17).trips), ∀ a, (k0_off43 i arg17 k0_t31) a + S1x512x128.size a ≤ S1x1024x128.size a := fun i arg17 k0_hw5 k0_t31 => k0_hw5.2.2.2.2.2.1 k0_t31
theorem k0_t32_ok : ∀ (i : grid0.Coords) (arg17 : BitVec 32) (k0_hw5 : k0_chk5 i arg17), (k0_t32_loop i arg17).OK := fun i arg17 k0_hw5 => k0_hw5.2.2.2.2.2.2.1
theorem k0_off44_inb : ∀ (i : grid0.Coords) (arg17 : BitVec 32) (k0_hw5 : k0_chk5 i arg17) (k0_t32 : Fin (k0_t32_loop i arg17).trips), ∀ a, (k0_off44 i arg17 k0_t32) a + S1x512x128.size a ≤ S1x1024x128.size a := fun i arg17 k0_hw5 k0_t32 => k0_hw5.2.2.2.2.2.2.2 k0_t32

@[reducible] def k0_t33_loop : Scf.Loop 32 :=
  let c0_i32_95 : BitVec 32 := 0#32
  let c28_i32_96 : BitVec 32 := 28#32
  let v170 : BitVec 32 := Scalar.addi c0_i32_95 c28_i32_96
  let c1_i32_97 : BitVec 32 := 1#32
  ⟨c0_i32_95, v170, c1_i32_97⟩
def k0_off45 (k0_t33 : Fin k0_t33_loop.trips) : Fin 3 → Nat :=
  let c0_139 : Index := 0#32
  let c0_i32_95 : BitVec 32 := 0#32
  let c1_i32_97 : BitVec 32 := 1#32
  let arg18 : BitVec 32 := Scf.iv c0_i32_95 c1_i32_97 k0_t33
  let c1024_i32 : BitVec 32 := 1024#32
  let v259 : BitVec 32 := Scalar.muli arg18 c1024_i32
  let v260 : Index := Scalar.indexCast v259
  let c0_140 : Index := 0#32
  ![0, v260.toNat, 0]
def k0_off46 (k0_t33 : Fin k0_t33_loop.trips) : Fin 3 → Nat :=
  let c0_146 : Index := 0#32
  let c0_147 : Index := 0#32
  let c0_i32_95 : BitVec 32 := 0#32
  let c1_i32_97 : BitVec 32 := 1#32
  let arg18 : BitVec 32 := Scf.iv c0_i32_95 c1_i32_97 k0_t33
  let c1024_i32_145 : BitVec 32 := 1024#32
  let v266 : BitVec 32 := Scalar.muli arg18 c1024_i32_145
  let v267 : Index := Scalar.indexCast v266
  ![0, 0, v267.toNat]
@[reducible] def k0_t34_loop (i : grid0.Coords) : Scf.Loop 32 :=
  let c0_i32_100 : BitVec 32 := 0#32
  let arg2 : BitVec 32 := BitVec.ofNat 32 (i 2).val
  let c1_i32_99 : BitVec 32 := 1#32
  let v172 : BitVec 32 := Scalar.addi arg2 c1_i32_99
  let v173 : BitVec 32 := Scalar.subi v172 c0_i32_100
  let c1_i32_102 : BitVec 32 := 1#32
  let v175 : BitVec 32 := Scalar.divsi v173 c1_i32_102
  let v176 : BitVec 32 := Scalar.muli v175 c1_i32_102
  let v177 : BitVec 32 := Scalar.addi c0_i32_100 v176
  let c1_i32_103 : BitVec 32 := 1#32
  ⟨c0_i32_100, v177, c1_i32_103⟩
def k0_off47 (i : grid0.Coords) (k0_t34 : Fin (k0_t34_loop i).trips) : Fin 3 → Nat :=
  let c0_140 : Index := 0#32
  let c0_i32_100 : BitVec 32 := 0#32
  let c1_i32_103 : BitVec 32 := 1#32
  let arg18 : BitVec 32 := Scf.iv c0_i32_100 c1_i32_103 k0_t34
  let c512_i32_139 : BitVec 32 := 512#32
  let v259 : BitVec 32 := Scalar.muli arg18 c512_i32_139
  let v260 : Index := Scalar.indexCast v259
  let c0_141 : Index := 0#32
  ![0, v260.toNat, 0]
def k0_off48 (i : grid0.Coords) (k0_t34 : Fin (k0_t34_loop i).trips) : Fin 3 → Nat :=
  let c0_150 : Index := 0#32
  let c0_151 : Index := 0#32
  let c0_i32_100 : BitVec 32 := 0#32
  let c1_i32_103 : BitVec 32 := 1#32
  let arg18 : BitVec 32 := Scf.iv c0_i32_100 c1_i32_103 k0_t34
  let c512_i32_149 : BitVec 32 := 512#32
  let v277 : BitVec 32 := Scalar.muli arg18 c512_i32_149
  let v278 : Index := Scalar.indexCast v277
  ![0, 0, v278.toNat]
@[reducible] def k0_t35_loop (i : grid0.Coords) : Scf.Loop 32 :=
  let c0_i32_100 : BitVec 32 := 0#32
  let arg2 : BitVec 32 := BitVec.ofNat 32 (i 2).val
  let c1_i32_99 : BitVec 32 := 1#32
  let v172 : BitVec 32 := Scalar.addi arg2 c1_i32_99
  let v173 : BitVec 32 := Scalar.subi v172 c0_i32_100
  let c1_i32_102 : BitVec 32 := 1#32
  let v175 : BitVec 32 := Scalar.divsi v173 c1_i32_102
  let v176 : BitVec 32 := Scalar.muli v175 c1_i32_102
  let v177 : BitVec 32 := Scalar.addi c0_i32_100 v176
  let v174 : BitVec 32 := Scalar.addi c0_i32_100 v173
  let c1_i32_104 : BitVec 32 := 1#32
  ⟨v177, v174, c1_i32_104⟩
def k0_off49 (i : grid0.Coords) (k0_t35 : Fin (k0_t35_loop i).trips) : Fin 3 → Nat :=
  let c0_140 : Index := 0#32
  let c0_i32_100 : BitVec 32 := 0#32
  let arg2 : BitVec 32 := BitVec.ofNat 32 (i 2).val
  let c1_i32_99 : BitVec 32 := 1#32
  let v172 : BitVec 32 := Scalar.addi arg2 c1_i32_99
  let v173 : BitVec 32 := Scalar.subi v172 c0_i32_100
  let c1_i32_102 : BitVec 32 := 1#32
  let v175 : BitVec 32 := Scalar.divsi v173 c1_i32_102
  let v176 : BitVec 32 := Scalar.muli v175 c1_i32_102
  let v177 : BitVec 32 := Scalar.addi c0_i32_100 v176
  let c1_i32_104 : BitVec 32 := 1#32
  let arg18 : BitVec 32 := Scf.iv v177 c1_i32_104 k0_t35
  let c512_i32_139 : BitVec 32 := 512#32
  let v259 : BitVec 32 := Scalar.muli arg18 c512_i32_139
  let v260 : Index := Scalar.indexCast v259
  let c0_141 : Index := 0#32
  ![0, v260.toNat, 0]
def k0_off50 (i : grid0.Coords) (k0_t35 : Fin (k0_t35_loop i).trips) : Fin 3 → Nat :=
  let c0_150 : Index := 0#32
  let c0_151 : Index := 0#32
  let c0_i32_100 : BitVec 32 := 0#32
  let arg2 : BitVec 32 := BitVec.ofNat 32 (i 2).val
  let c1_i32_99 : BitVec 32 := 1#32
  let v172 : BitVec 32 := Scalar.addi arg2 c1_i32_99
  let v173 : BitVec 32 := Scalar.subi v172 c0_i32_100
  let c1_i32_102 : BitVec 32 := 1#32
  let v175 : BitVec 32 := Scalar.divsi v173 c1_i32_102
  let v176 : BitVec 32 := Scalar.muli v175 c1_i32_102
  let v177 : BitVec 32 := Scalar.addi c0_i32_100 v176
  let c1_i32_104 : BitVec 32 := 1#32
  let arg18 : BitVec 32 := Scf.iv v177 c1_i32_104 k0_t35
  let c512_i32_149 : BitVec 32 := 512#32
  let v277 : BitVec 32 := Scalar.muli arg18 c512_i32_149
  let v278 : Index := Scalar.indexCast v277
  ![0, 0, v278.toNat]
@[reducible] def k0_t36_loop (arg17 : BitVec 32) : Scf.Loop 32 :=
  let c1_i32_71 : BitVec 32 := 1#32
  let c0_i32_61 : BitVec 32 := 0#32
  let v127 : BitVec 1 := Scalar.cmpi .eq arg17 c0_i32_61
  let c1_i32_62 : BitVec 32 := 1#32
  let c28_i32 : BitVec 32 := 28#32
  let v128 : BitVec 32 := Scalar.select v127 c1_i32_62 c28_i32
  let v136 : BitVec 32 := Scalar.subi v128 c1_i32_71
  let c1_i32_72 : BitVec 32 := 1#32
  let v138 : BitVec 32 := Scalar.divsi v136 c1_i32_72
  let v139 : BitVec 32 := Scalar.muli v138 c1_i32_72
  let v140 : BitVec 32 := Scalar.addi c1_i32_71 v139
  let c1_i32_73 : BitVec 32 := 1#32
  ⟨c1_i32_71, v140, c1_i32_73⟩

def k0_off51 (arg17 : BitVec 32) (k0_t36 : Fin (k0_t36_loop arg17).trips) : Fin 3 → Nat :=
  let c0_139 : Index := 0#32
  let c1_i32_71 : BitVec 32 := 1#32
  let c1_i32_73 : BitVec 32 := 1#32
  let arg18 : BitVec 32 := Scf.iv c1_i32_71 c1_i32_73 k0_t36
  let c1024_i32 : BitVec 32 := 1024#32
  let v259 : BitVec 32 := Scalar.muli arg18 c1024_i32
  let v260 : Index := Scalar.indexCast v259
  let c0_140 : Index := 0#32
  ![0, v260.toNat, 0]
@[reducible] def k0_t37_loop (arg17 : BitVec 32) : Scf.Loop 32 :=
  let c1_i32_71 : BitVec 32 := 1#32
  let c0_i32_61 : BitVec 32 := 0#32
  let v127 : BitVec 1 := Scalar.cmpi .eq arg17 c0_i32_61
  let c1_i32_62 : BitVec 32 := 1#32
  let c28_i32 : BitVec 32 := 28#32
  let v128 : BitVec 32 := Scalar.select v127 c1_i32_62 c28_i32
  let v136 : BitVec 32 := Scalar.subi v128 c1_i32_71
  let c1_i32_72 : BitVec 32 := 1#32
  let v138 : BitVec 32 := Scalar.divsi v136 c1_i32_72
  let v139 : BitVec 32 := Scalar.muli v138 c1_i32_72
  let v140 : BitVec 32 := Scalar.addi c1_i32_71 v139
  let v137 : BitVec 32 := Scalar.addi c1_i32_71 v136
  let c1_i32_74 : BitVec 32 := 1#32
  ⟨v140, v137, c1_i32_74⟩
def k0_off52 (arg17 : BitVec 32) (k0_t37 : Fin (k0_t37_loop arg17).trips) : Fin 3 → Nat :=
  let c0_139 : Index := 0#32
  let c1_i32_71 : BitVec 32 := 1#32
  let c0_i32_61 : BitVec 32 := 0#32
  let v127 : BitVec 1 := Scalar.cmpi .eq arg17 c0_i32_61
  let c1_i32_62 : BitVec 32 := 1#32
  let c28_i32 : BitVec 32 := 28#32
  let v128 : BitVec 32 := Scalar.select v127 c1_i32_62 c28_i32
  let v136 : BitVec 32 := Scalar.subi v128 c1_i32_71
  let c1_i32_72 : BitVec 32 := 1#32
  let v138 : BitVec 32 := Scalar.divsi v136 c1_i32_72
  let v139 : BitVec 32 := Scalar.muli v138 c1_i32_72
  let v140 : BitVec 32 := Scalar.addi c1_i32_71 v139
  let c1_i32_74 : BitVec 32 := 1#32
  let arg18 : BitVec 32 := Scf.iv v140 c1_i32_74 k0_t37
  let c1024_i32 : BitVec 32 := 1024#32
  let v259 : BitVec 32 := Scalar.muli arg18 c1024_i32
  let v260 : Index := Scalar.indexCast v259
  let c0_140 : Index := 0#32
  ![0, v260.toNat, 0]
@[reducible] def k0_t38_loop (i : grid0.Coords) (arg17 : BitVec 32) : Scf.Loop 32 :=
  let c0_i32_78 : BitVec 32 := 0#32
  let c0_i32_61 : BitVec 32 := 0#32
  let v127 : BitVec 1 := Scalar.cmpi .eq arg17 c0_i32_61
  let c0_i32_76 : BitVec 32 := 0#32
  let arg2 : BitVec 32 := BitVec.ofNat 32 (i 2).val
  let c1_i32_75 : BitVec 32 := 1#32
  let v143 : BitVec 32 := Scalar.addi arg2 c1_i32_75
  let v144 : BitVec 32 := Scalar.select v127 c0_i32_76 v143
  let v146 : BitVec 32 := Scalar.subi v144 c0_i32_78
  let c1_i32_79 : BitVec 32 := 1#32
  let v148 : BitVec 32 := Scalar.divsi v146 c1_i32_79
  let v149 : BitVec 32 := Scalar.muli v148 c1_i32_79
  let v150 : BitVec 32 := Scalar.addi c0_i32_78 v149
  let c1_i32_80 : BitVec 32 := 1#32
  ⟨c0_i32_78, v150, c1_i32_80⟩
def k0_off53 (i : grid0.Coords) (arg17 : BitVec 32) (k0_t38 : Fin (k0_t38_loop i arg17).trips) : Fin 3 → Nat :=
  let c0_140 : Index := 0#32
  let c0_i32_78 : BitVec 32 := 0#32
  let c1_i32_80 : BitVec 32 := 1#32
  let arg18 : BitVec 32 := Scf.iv c0_i32_78 c1_i32_80 k0_t38
  let c512_i32_139 : BitVec 32 := 512#32
  let v259 : BitVec 32 := Scalar.muli arg18 c512_i32_139
  let v260 : Index := Scalar.indexCast v259
  let c0_141 : Index := 0#32
  ![0, v260.toNat, 0]
@[reducible] def k0_t39_loop (i : grid0.Coords) (arg17 : BitVec 32) : Scf.Loop 32 :=
  let c0_i32_78 : BitVec 32 := 0#32
  let c0_i32_61 : BitVec 32 := 0#32
  let v127 : BitVec 1 := Scalar.cmpi .eq arg17 c0_i32_61
  let c0_i32_76 : BitVec 32 := 0#32
  let arg2 : BitVec 32 := BitVec.ofNat 32 (i 2).val
  let c1_i32_75 : BitVec 32 := 1#32
  let v143 : BitVec 32 := Scalar.addi arg2 c1_i32_75
  let v144 : BitVec 32 := Scalar.select v127 c0_i32_76 v143
  let v146 : BitVec 32 := Scalar.subi v144 c0_i32_78
  let c1_i32_79 : BitVec 32 := 1#32
  let v148 : BitVec 32 := Scalar.divsi v146 c1_i32_79
  let v149 : BitVec 32 := Scalar.muli v148 c1_i32_79
  let v150 : BitVec 32 := Scalar.addi c0_i32_78 v149
  let v147 : BitVec 32 := Scalar.addi c0_i32_78 v146
  let c1_i32_81 : BitVec 32 := 1#32
  ⟨v150, v147, c1_i32_81⟩
def k0_off54 (i : grid0.Coords) (arg17 : BitVec 32) (k0_t39 : Fin (k0_t39_loop i arg17).trips) : Fin 3 → Nat :=
  let c0_140 : Index := 0#32
  let c0_i32_78 : BitVec 32 := 0#32
  let c0_i32_61 : BitVec 32 := 0#32
  let v127 : BitVec 1 := Scalar.cmpi .eq arg17 c0_i32_61
  let c0_i32_76 : BitVec 32 := 0#32
  let arg2 : BitVec 32 := BitVec.ofNat 32 (i 2).val
  let c1_i32_75 : BitVec 32 := 1#32
  let v143 : BitVec 32 := Scalar.addi arg2 c1_i32_75
  let v144 : BitVec 32 := Scalar.select v127 c0_i32_76 v143
  let v146 : BitVec 32 := Scalar.subi v144 c0_i32_78
  let c1_i32_79 : BitVec 32 := 1#32
  let v148 : BitVec 32 := Scalar.divsi v146 c1_i32_79
  let v149 : BitVec 32 := Scalar.muli v148 c1_i32_79
  let v150 : BitVec 32 := Scalar.addi c0_i32_78 v149
  let c1_i32_81 : BitVec 32 := 1#32
  let arg18 : BitVec 32 := Scf.iv v150 c1_i32_81 k0_t39
  let c512_i32_139 : BitVec 32 := 512#32
  let v259 : BitVec 32 := Scalar.muli arg18 c512_i32_139
  let v260 : Index := Scalar.indexCast v259
  let c0_141 : Index := 0#32
  ![0, v260.toNat, 0]

def k0_chk6 (i : grid0.Coords) (arg17 : BitVec 32) : Prop :=
  ((k0_t36_loop arg17).OK) ∧
  (∀ k0_t36 : Fin (k0_t36_loop arg17).trips, ∀ a, (k0_off51 arg17 k0_t36) a + S1x1024x128.size a ≤ S1x28672x128.size a) ∧
  ((k0_t37_loop arg17).OK) ∧
  (∀ k0_t37 : Fin (k0_t37_loop arg17).trips, ∀ a, (k0_off52 arg17 k0_t37) a + S1x1024x128.size a ≤ S1x28672x128.size a) ∧
  ((k0_t38_loop i arg17).OK) ∧
  (∀ k0_t38 : Fin (k0_t38_loop i arg17).trips, ∀ a, (k0_off53 i arg17 k0_t38) a + S1x512x128.size a ≤ S1x1024x128.size a) ∧
  ((k0_t39_loop i arg17).OK) ∧
  (∀ k0_t39 : Fin (k0_t39_loop i arg17).trips, ∀ a, (k0_off54 i arg17 k0_t39) a + S1x512x128.size a ≤ S1x1024x128.size a)
theorem k0_t36_ok : ∀ (i : grid0.Coords) (arg17 : BitVec 32) (k0_hw6 : k0_chk6 i arg17), (k0_t36_loop arg17).OK := fun i arg17 k0_hw6 => k0_hw6.1
theorem k0_off51_inb : ∀ (i : grid0.Coords) (arg17 : BitVec 32) (k0_hw6 : k0_chk6 i arg17) (k0_t36 : Fin (k0_t36_loop arg17).trips), ∀ a, (k0_off51 arg17 k0_t36) a + S1x1024x128.size a ≤ S1x28672x128.size a := fun i arg17 k0_hw6 k0_t36 => k0_hw6.2.1 k0_t36
theorem k0_t37_ok : ∀ (i : grid0.Coords) (arg17 : BitVec 32) (k0_hw6 : k0_chk6 i arg17), (k0_t37_loop arg17).OK := fun i arg17 k0_hw6 => k0_hw6.2.2.1
theorem k0_off52_inb : ∀ (i : grid0.Coords) (arg17 : BitVec 32) (k0_hw6 : k0_chk6 i arg17) (k0_t37 : Fin (k0_t37_loop arg17).trips), ∀ a, (k0_off52 arg17 k0_t37) a + S1x1024x128.size a ≤ S1x28672x128.size a := fun i arg17 k0_hw6 k0_t37 => k0_hw6.2.2.2.1 k0_t37
theorem k0_t38_ok : ∀ (i : grid0.Coords) (arg17 : BitVec 32) (k0_hw6 : k0_chk6 i arg17), (k0_t38_loop i arg17).OK := fun i arg17 k0_hw6 => k0_hw6.2.2.2.2.1
theorem k0_off53_inb : ∀ (i : grid0.Coords) (arg17 : BitVec 32) (k0_hw6 : k0_chk6 i arg17) (k0_t38 : Fin (k0_t38_loop i arg17).trips), ∀ a, (k0_off53 i arg17 k0_t38) a + S1x512x128.size a ≤ S1x1024x128.size a := fun i arg17 k0_hw6 k0_t38 => k0_hw6.2.2.2.2.2.1 k0_t38
theorem k0_t39_ok : ∀ (i : grid0.Coords) (arg17 : BitVec 32) (k0_hw6 : k0_chk6 i arg17), (k0_t39_loop i arg17).OK := fun i arg17 k0_hw6 => k0_hw6.2.2.2.2.2.2.1
theorem k0_off54_inb : ∀ (i : grid0.Coords) (arg17 : BitVec 32) (k0_hw6 : k0_chk6 i arg17) (k0_t39 : Fin (k0_t39_loop i arg17).trips), ∀ a, (k0_off54 i arg17 k0_t39) a + S1x512x128.size a ≤ S1x1024x128.size a := fun i arg17 k0_hw6 k0_t39 => k0_hw6.2.2.2.2.2.2.2 k0_t39

@[reducible] def k0_t40_loop : Scf.Loop 32 :=
  let c0_i32_95 : BitVec 32 := 0#32
  let c28_i32_96 : BitVec 32 := 28#32
  let v170 : BitVec 32 := Scalar.addi c0_i32_95 c28_i32_96
  let c1_i32_97 : BitVec 32 := 1#32
  ⟨c0_i32_95, v170, c1_i32_97⟩
def k0_off55 (k0_t40 : Fin k0_t40_loop.trips) : Fin 3 → Nat :=
  let c0_139 : Index := 0#32
  let c0_i32_95 : BitVec 32 := 0#32
  let c1_i32_97 : BitVec 32 := 1#32
  let arg18 : BitVec 32 := Scf.iv c0_i32_95 c1_i32_97 k0_t40
  let c1024_i32 : BitVec 32 := 1024#32
  let v259 : BitVec 32 := Scalar.muli arg18 c1024_i32
  let v260 : Index := Scalar.indexCast v259
  let c0_140 : Index := 0#32
  ![0, v260.toNat, 0]
def k0_off56 (k0_t40 : Fin k0_t40_loop.trips) : Fin 3 → Nat :=
  let c0_146 : Index := 0#32
  let c0_147 : Index := 0#32
  let c0_i32_95 : BitVec 32 := 0#32
  let c1_i32_97 : BitVec 32 := 1#32
  let arg18 : BitVec 32 := Scf.iv c0_i32_95 c1_i32_97 k0_t40
  let c1024_i32_145 : BitVec 32 := 1024#32
  let v266 : BitVec 32 := Scalar.muli arg18 c1024_i32_145
  let v267 : Index := Scalar.indexCast v266
  ![0, 0, v267.toNat]
@[reducible] def k0_t41_loop (i : grid0.Coords) : Scf.Loop 32 :=
  let c0_i32_100 : BitVec 32 := 0#32
  let arg2 : BitVec 32 := BitVec.ofNat 32 (i 2).val
  let c1_i32_99 : BitVec 32 := 1#32
  let v172 : BitVec 32 := Scalar.addi arg2 c1_i32_99
  let v173 : BitVec 32 := Scalar.subi v172 c0_i32_100
  let c1_i32_102 : BitVec 32 := 1#32
  let v175 : BitVec 32 := Scalar.divsi v173 c1_i32_102
  let v176 : BitVec 32 := Scalar.muli v175 c1_i32_102
  let v177 : BitVec 32 := Scalar.addi c0_i32_100 v176
  let c1_i32_103 : BitVec 32 := 1#32
  ⟨c0_i32_100, v177, c1_i32_103⟩
def k0_off57 (i : grid0.Coords) (k0_t41 : Fin (k0_t41_loop i).trips) : Fin 3 → Nat :=
  let c0_140 : Index := 0#32
  let c0_i32_100 : BitVec 32 := 0#32
  let c1_i32_103 : BitVec 32 := 1#32
  let arg18 : BitVec 32 := Scf.iv c0_i32_100 c1_i32_103 k0_t41
  let c512_i32_139 : BitVec 32 := 512#32
  let v259 : BitVec 32 := Scalar.muli arg18 c512_i32_139
  let v260 : Index := Scalar.indexCast v259
  let c0_141 : Index := 0#32
  ![0, v260.toNat, 0]
def k0_off58 (i : grid0.Coords) (k0_t41 : Fin (k0_t41_loop i).trips) : Fin 3 → Nat :=
  let c0_150 : Index := 0#32
  let c0_151 : Index := 0#32
  let c0_i32_100 : BitVec 32 := 0#32
  let c1_i32_103 : BitVec 32 := 1#32
  let arg18 : BitVec 32 := Scf.iv c0_i32_100 c1_i32_103 k0_t41
  let c512_i32_149 : BitVec 32 := 512#32
  let v277 : BitVec 32 := Scalar.muli arg18 c512_i32_149
  let v278 : Index := Scalar.indexCast v277
  ![0, 0, v278.toNat]
@[reducible] def k0_t42_loop (i : grid0.Coords) : Scf.Loop 32 :=
  let c0_i32_100 : BitVec 32 := 0#32
  let arg2 : BitVec 32 := BitVec.ofNat 32 (i 2).val
  let c1_i32_99 : BitVec 32 := 1#32
  let v172 : BitVec 32 := Scalar.addi arg2 c1_i32_99
  let v173 : BitVec 32 := Scalar.subi v172 c0_i32_100
  let c1_i32_102 : BitVec 32 := 1#32
  let v175 : BitVec 32 := Scalar.divsi v173 c1_i32_102
  let v176 : BitVec 32 := Scalar.muli v175 c1_i32_102
  let v177 : BitVec 32 := Scalar.addi c0_i32_100 v176
  let v174 : BitVec 32 := Scalar.addi c0_i32_100 v173
  let c1_i32_104 : BitVec 32 := 1#32
  ⟨v177, v174, c1_i32_104⟩
def k0_off59 (i : grid0.Coords) (k0_t42 : Fin (k0_t42_loop i).trips) : Fin 3 → Nat :=
  let c0_140 : Index := 0#32
  let c0_i32_100 : BitVec 32 := 0#32
  let arg2 : BitVec 32 := BitVec.ofNat 32 (i 2).val
  let c1_i32_99 : BitVec 32 := 1#32
  let v172 : BitVec 32 := Scalar.addi arg2 c1_i32_99
  let v173 : BitVec 32 := Scalar.subi v172 c0_i32_100
  let c1_i32_102 : BitVec 32 := 1#32
  let v175 : BitVec 32 := Scalar.divsi v173 c1_i32_102
  let v176 : BitVec 32 := Scalar.muli v175 c1_i32_102
  let v177 : BitVec 32 := Scalar.addi c0_i32_100 v176
  let c1_i32_104 : BitVec 32 := 1#32
  let arg18 : BitVec 32 := Scf.iv v177 c1_i32_104 k0_t42
  let c512_i32_139 : BitVec 32 := 512#32
  let v259 : BitVec 32 := Scalar.muli arg18 c512_i32_139
  let v260 : Index := Scalar.indexCast v259
  let c0_141 : Index := 0#32
  ![0, v260.toNat, 0]
def k0_off60 (i : grid0.Coords) (k0_t42 : Fin (k0_t42_loop i).trips) : Fin 3 → Nat :=
  let c0_150 : Index := 0#32
  let c0_151 : Index := 0#32
  let c0_i32_100 : BitVec 32 := 0#32
  let arg2 : BitVec 32 := BitVec.ofNat 32 (i 2).val
  let c1_i32_99 : BitVec 32 := 1#32
  let v172 : BitVec 32 := Scalar.addi arg2 c1_i32_99
  let v173 : BitVec 32 := Scalar.subi v172 c0_i32_100
  let c1_i32_102 : BitVec 32 := 1#32
  let v175 : BitVec 32 := Scalar.divsi v173 c1_i32_102
  let v176 : BitVec 32 := Scalar.muli v175 c1_i32_102
  let v177 : BitVec 32 := Scalar.addi c0_i32_100 v176
  let c1_i32_104 : BitVec 32 := 1#32
  let arg18 : BitVec 32 := Scf.iv v177 c1_i32_104 k0_t42
  let c512_i32_149 : BitVec 32 := 512#32
  let v277 : BitVec 32 := Scalar.muli arg18 c512_i32_149
  let v278 : Index := Scalar.indexCast v277
  ![0, 0, v278.toNat]
@[reducible] def k0_t43_loop (arg17 : BitVec 32) : Scf.Loop 32 :=
  let c1_i32_71 : BitVec 32 := 1#32
  let c0_i32_61 : BitVec 32 := 0#32
  let v127 : BitVec 1 := Scalar.cmpi .eq arg17 c0_i32_61
  let c1_i32_62 : BitVec 32 := 1#32
  let c28_i32 : BitVec 32 := 28#32
  let v128 : BitVec 32 := Scalar.select v127 c1_i32_62 c28_i32
  let v136 : BitVec 32 := Scalar.subi v128 c1_i32_71
  let c1_i32_72 : BitVec 32 := 1#32
  let v138 : BitVec 32 := Scalar.divsi v136 c1_i32_72
  let v139 : BitVec 32 := Scalar.muli v138 c1_i32_72
  let v140 : BitVec 32 := Scalar.addi c1_i32_71 v139
  let c1_i32_73 : BitVec 32 := 1#32
  ⟨c1_i32_71, v140, c1_i32_73⟩

def k0_off61 (arg17 : BitVec 32) (k0_t43 : Fin (k0_t43_loop arg17).trips) : Fin 3 → Nat :=
  let c0_139 : Index := 0#32
  let c1_i32_71 : BitVec 32 := 1#32
  let c1_i32_73 : BitVec 32 := 1#32
  let arg18 : BitVec 32 := Scf.iv c1_i32_71 c1_i32_73 k0_t43
  let c1024_i32 : BitVec 32 := 1024#32
  let v259 : BitVec 32 := Scalar.muli arg18 c1024_i32
  let v260 : Index := Scalar.indexCast v259
  let c0_140 : Index := 0#32
  ![0, v260.toNat, 0]
@[reducible] def k0_t44_loop (arg17 : BitVec 32) : Scf.Loop 32 :=
  let c1_i32_71 : BitVec 32 := 1#32
  let c0_i32_61 : BitVec 32 := 0#32
  let v127 : BitVec 1 := Scalar.cmpi .eq arg17 c0_i32_61
  let c1_i32_62 : BitVec 32 := 1#32
  let c28_i32 : BitVec 32 := 28#32
  let v128 : BitVec 32 := Scalar.select v127 c1_i32_62 c28_i32
  let v136 : BitVec 32 := Scalar.subi v128 c1_i32_71
  let c1_i32_72 : BitVec 32 := 1#32
  let v138 : BitVec 32 := Scalar.divsi v136 c1_i32_72
  let v139 : BitVec 32 := Scalar.muli v138 c1_i32_72
  let v140 : BitVec 32 := Scalar.addi c1_i32_71 v139
  let v137 : BitVec 32 := Scalar.addi c1_i32_71 v136
  let c1_i32_74 : BitVec 32 := 1#32
  ⟨v140, v137, c1_i32_74⟩
def k0_off62 (arg17 : BitVec 32) (k0_t44 : Fin (k0_t44_loop arg17).trips) : Fin 3 → Nat :=
  let c0_139 : Index := 0#32
  let c1_i32_71 : BitVec 32 := 1#32
  let c0_i32_61 : BitVec 32 := 0#32
  let v127 : BitVec 1 := Scalar.cmpi .eq arg17 c0_i32_61
  let c1_i32_62 : BitVec 32 := 1#32
  let c28_i32 : BitVec 32 := 28#32
  let v128 : BitVec 32 := Scalar.select v127 c1_i32_62 c28_i32
  let v136 : BitVec 32 := Scalar.subi v128 c1_i32_71
  let c1_i32_72 : BitVec 32 := 1#32
  let v138 : BitVec 32 := Scalar.divsi v136 c1_i32_72
  let v139 : BitVec 32 := Scalar.muli v138 c1_i32_72
  let v140 : BitVec 32 := Scalar.addi c1_i32_71 v139
  let c1_i32_74 : BitVec 32 := 1#32
  let arg18 : BitVec 32 := Scf.iv v140 c1_i32_74 k0_t44
  let c1024_i32 : BitVec 32 := 1024#32
  let v259 : BitVec 32 := Scalar.muli arg18 c1024_i32
  let v260 : Index := Scalar.indexCast v259
  let c0_140 : Index := 0#32
  ![0, v260.toNat, 0]
@[reducible] def k0_t45_loop (i : grid0.Coords) (arg17 : BitVec 32) : Scf.Loop 32 :=
  let c0_i32_78 : BitVec 32 := 0#32
  let c0_i32_61 : BitVec 32 := 0#32
  let v127 : BitVec 1 := Scalar.cmpi .eq arg17 c0_i32_61
  let c0_i32_76 : BitVec 32 := 0#32
  let arg2 : BitVec 32 := BitVec.ofNat 32 (i 2).val
  let c1_i32_75 : BitVec 32 := 1#32
  let v143 : BitVec 32 := Scalar.addi arg2 c1_i32_75
  let v144 : BitVec 32 := Scalar.select v127 c0_i32_76 v143
  let v146 : BitVec 32 := Scalar.subi v144 c0_i32_78
  let c1_i32_79 : BitVec 32 := 1#32
  let v148 : BitVec 32 := Scalar.divsi v146 c1_i32_79
  let v149 : BitVec 32 := Scalar.muli v148 c1_i32_79
  let v150 : BitVec 32 := Scalar.addi c0_i32_78 v149
  let c1_i32_80 : BitVec 32 := 1#32
  ⟨c0_i32_78, v150, c1_i32_80⟩
def k0_off63 (i : grid0.Coords) (arg17 : BitVec 32) (k0_t45 : Fin (k0_t45_loop i arg17).trips) : Fin 3 → Nat :=
  let c0_140 : Index := 0#32
  let c0_i32_78 : BitVec 32 := 0#32
  let c1_i32_80 : BitVec 32 := 1#32
  let arg18 : BitVec 32 := Scf.iv c0_i32_78 c1_i32_80 k0_t45
  let c512_i32_139 : BitVec 32 := 512#32
  let v259 : BitVec 32 := Scalar.muli arg18 c512_i32_139
  let v260 : Index := Scalar.indexCast v259
  let c0_141 : Index := 0#32
  ![0, v260.toNat, 0]
@[reducible] def k0_t46_loop (i : grid0.Coords) (arg17 : BitVec 32) : Scf.Loop 32 :=
  let c0_i32_78 : BitVec 32 := 0#32
  let c0_i32_61 : BitVec 32 := 0#32
  let v127 : BitVec 1 := Scalar.cmpi .eq arg17 c0_i32_61
  let c0_i32_76 : BitVec 32 := 0#32
  let arg2 : BitVec 32 := BitVec.ofNat 32 (i 2).val
  let c1_i32_75 : BitVec 32 := 1#32
  let v143 : BitVec 32 := Scalar.addi arg2 c1_i32_75
  let v144 : BitVec 32 := Scalar.select v127 c0_i32_76 v143
  let v146 : BitVec 32 := Scalar.subi v144 c0_i32_78
  let c1_i32_79 : BitVec 32 := 1#32
  let v148 : BitVec 32 := Scalar.divsi v146 c1_i32_79
  let v149 : BitVec 32 := Scalar.muli v148 c1_i32_79
  let v150 : BitVec 32 := Scalar.addi c0_i32_78 v149
  let v147 : BitVec 32 := Scalar.addi c0_i32_78 v146
  let c1_i32_81 : BitVec 32 := 1#32
  ⟨v150, v147, c1_i32_81⟩
def k0_off64 (i : grid0.Coords) (arg17 : BitVec 32) (k0_t46 : Fin (k0_t46_loop i arg17).trips) : Fin 3 → Nat :=
  let c0_140 : Index := 0#32
  let c0_i32_78 : BitVec 32 := 0#32
  let c0_i32_61 : BitVec 32 := 0#32
  let v127 : BitVec 1 := Scalar.cmpi .eq arg17 c0_i32_61
  let c0_i32_76 : BitVec 32 := 0#32
  let arg2 : BitVec 32 := BitVec.ofNat 32 (i 2).val
  let c1_i32_75 : BitVec 32 := 1#32
  let v143 : BitVec 32 := Scalar.addi arg2 c1_i32_75
  let v144 : BitVec 32 := Scalar.select v127 c0_i32_76 v143
  let v146 : BitVec 32 := Scalar.subi v144 c0_i32_78
  let c1_i32_79 : BitVec 32 := 1#32
  let v148 : BitVec 32 := Scalar.divsi v146 c1_i32_79
  let v149 : BitVec 32 := Scalar.muli v148 c1_i32_79
  let v150 : BitVec 32 := Scalar.addi c0_i32_78 v149
  let c1_i32_81 : BitVec 32 := 1#32
  let arg18 : BitVec 32 := Scf.iv v150 c1_i32_81 k0_t46
  let c512_i32_139 : BitVec 32 := 512#32
  let v259 : BitVec 32 := Scalar.muli arg18 c512_i32_139
  let v260 : Index := Scalar.indexCast v259
  let c0_141 : Index := 0#32
  ![0, v260.toNat, 0]

def k0_chk7 (i : grid0.Coords) (arg17 : BitVec 32) : Prop :=
  ((k0_t43_loop arg17).OK) ∧
  (∀ k0_t43 : Fin (k0_t43_loop arg17).trips, ∀ a, (k0_off61 arg17 k0_t43) a + S1x1024x128.size a ≤ S1x28672x128.size a) ∧
  ((k0_t44_loop arg17).OK) ∧
  (∀ k0_t44 : Fin (k0_t44_loop arg17).trips, ∀ a, (k0_off62 arg17 k0_t44) a + S1x1024x128.size a ≤ S1x28672x128.size a) ∧
  ((k0_t45_loop i arg17).OK) ∧
  (∀ k0_t45 : Fin (k0_t45_loop i arg17).trips, ∀ a, (k0_off63 i arg17 k0_t45) a + S1x512x128.size a ≤ S1x1024x128.size a) ∧
  ((k0_t46_loop i arg17).OK) ∧
  (∀ k0_t46 : Fin (k0_t46_loop i arg17).trips, ∀ a, (k0_off64 i arg17 k0_t46) a + S1x512x128.size a ≤ S1x1024x128.size a)
theorem k0_t43_ok : ∀ (i : grid0.Coords) (arg17 : BitVec 32) (k0_hw7 : k0_chk7 i arg17), (k0_t43_loop arg17).OK := fun i arg17 k0_hw7 => k0_hw7.1
theorem k0_off61_inb : ∀ (i : grid0.Coords) (arg17 : BitVec 32) (k0_hw7 : k0_chk7 i arg17) (k0_t43 : Fin (k0_t43_loop arg17).trips), ∀ a, (k0_off61 arg17 k0_t43) a + S1x1024x128.size a ≤ S1x28672x128.size a := fun i arg17 k0_hw7 k0_t43 => k0_hw7.2.1 k0_t43
theorem k0_t44_ok : ∀ (i : grid0.Coords) (arg17 : BitVec 32) (k0_hw7 : k0_chk7 i arg17), (k0_t44_loop arg17).OK := fun i arg17 k0_hw7 => k0_hw7.2.2.1
theorem k0_off62_inb : ∀ (i : grid0.Coords) (arg17 : BitVec 32) (k0_hw7 : k0_chk7 i arg17) (k0_t44 : Fin (k0_t44_loop arg17).trips), ∀ a, (k0_off62 arg17 k0_t44) a + S1x1024x128.size a ≤ S1x28672x128.size a := fun i arg17 k0_hw7 k0_t44 => k0_hw7.2.2.2.1 k0_t44
theorem k0_t45_ok : ∀ (i : grid0.Coords) (arg17 : BitVec 32) (k0_hw7 : k0_chk7 i arg17), (k0_t45_loop i arg17).OK := fun i arg17 k0_hw7 => k0_hw7.2.2.2.2.1
theorem k0_off63_inb : ∀ (i : grid0.Coords) (arg17 : BitVec 32) (k0_hw7 : k0_chk7 i arg17) (k0_t45 : Fin (k0_t45_loop i arg17).trips), ∀ a, (k0_off63 i arg17 k0_t45) a + S1x512x128.size a ≤ S1x1024x128.size a := fun i arg17 k0_hw7 k0_t45 => k0_hw7.2.2.2.2.2.1 k0_t45
theorem k0_t46_ok : ∀ (i : grid0.Coords) (arg17 : BitVec 32) (k0_hw7 : k0_chk7 i arg17), (k0_t46_loop i arg17).OK := fun i arg17 k0_hw7 => k0_hw7.2.2.2.2.2.2.1
theorem k0_off64_inb : ∀ (i : grid0.Coords) (arg17 : BitVec 32) (k0_hw7 : k0_chk7 i arg17) (k0_t46 : Fin (k0_t46_loop i arg17).trips), ∀ a, (k0_off64 i arg17 k0_t46) a + S1x512x128.size a ≤ S1x1024x128.size a := fun i arg17 k0_hw7 k0_t46 => k0_hw7.2.2.2.2.2.2.2 k0_t46

@[reducible] def k0_t47_loop : Scf.Loop 32 :=
  let c0_i32_95 : BitVec 32 := 0#32
  let c28_i32_96 : BitVec 32 := 28#32
  let v170 : BitVec 32 := Scalar.addi c0_i32_95 c28_i32_96
  let c1_i32_97 : BitVec 32 := 1#32
  ⟨c0_i32_95, v170, c1_i32_97⟩
def k0_off65 (k0_t47 : Fin k0_t47_loop.trips) : Fin 3 → Nat :=
  let c0_139 : Index := 0#32
  let c0_i32_95 : BitVec 32 := 0#32
  let c1_i32_97 : BitVec 32 := 1#32
  let arg18 : BitVec 32 := Scf.iv c0_i32_95 c1_i32_97 k0_t47
  let c1024_i32 : BitVec 32 := 1024#32
  let v259 : BitVec 32 := Scalar.muli arg18 c1024_i32
  let v260 : Index := Scalar.indexCast v259
  let c0_140 : Index := 0#32
  ![0, v260.toNat, 0]
def k0_off66 (k0_t47 : Fin k0_t47_loop.trips) : Fin 3 → Nat :=
  let c0_146 : Index := 0#32
  let c0_147 : Index := 0#32
  let c0_i32_95 : BitVec 32 := 0#32
  let c1_i32_97 : BitVec 32 := 1#32
  let arg18 : BitVec 32 := Scf.iv c0_i32_95 c1_i32_97 k0_t47
  let c1024_i32_145 : BitVec 32 := 1024#32
  let v266 : BitVec 32 := Scalar.muli arg18 c1024_i32_145
  let v267 : Index := Scalar.indexCast v266
  ![0, 0, v267.toNat]
@[reducible] def k0_t48_loop (i : grid0.Coords) : Scf.Loop 32 :=
  let c0_i32_100 : BitVec 32 := 0#32
  let arg2 : BitVec 32 := BitVec.ofNat 32 (i 2).val
  let c1_i32_99 : BitVec 32 := 1#32
  let v172 : BitVec 32 := Scalar.addi arg2 c1_i32_99
  let v173 : BitVec 32 := Scalar.subi v172 c0_i32_100
  let c1_i32_102 : BitVec 32 := 1#32
  let v175 : BitVec 32 := Scalar.divsi v173 c1_i32_102
  let v176 : BitVec 32 := Scalar.muli v175 c1_i32_102
  let v177 : BitVec 32 := Scalar.addi c0_i32_100 v176
  let c1_i32_103 : BitVec 32 := 1#32
  ⟨c0_i32_100, v177, c1_i32_103⟩
def k0_off67 (i : grid0.Coords) (k0_t48 : Fin (k0_t48_loop i).trips) : Fin 3 → Nat :=
  let c0_140 : Index := 0#32
  let c0_i32_100 : BitVec 32 := 0#32
  let c1_i32_103 : BitVec 32 := 1#32
  let arg18 : BitVec 32 := Scf.iv c0_i32_100 c1_i32_103 k0_t48
  let c512_i32_139 : BitVec 32 := 512#32
  let v259 : BitVec 32 := Scalar.muli arg18 c512_i32_139
  let v260 : Index := Scalar.indexCast v259
  let c0_141 : Index := 0#32
  ![0, v260.toNat, 0]
def k0_off68 (i : grid0.Coords) (k0_t48 : Fin (k0_t48_loop i).trips) : Fin 3 → Nat :=
  let c0_150 : Index := 0#32
  let c0_151 : Index := 0#32
  let c0_i32_100 : BitVec 32 := 0#32
  let c1_i32_103 : BitVec 32 := 1#32
  let arg18 : BitVec 32 := Scf.iv c0_i32_100 c1_i32_103 k0_t48
  let c512_i32_149 : BitVec 32 := 512#32
  let v277 : BitVec 32 := Scalar.muli arg18 c512_i32_149
  let v278 : Index := Scalar.indexCast v277
  ![0, 0, v278.toNat]
@[reducible] def k0_t49_loop (i : grid0.Coords) : Scf.Loop 32 :=
  let c0_i32_100 : BitVec 32 := 0#32
  let arg2 : BitVec 32 := BitVec.ofNat 32 (i 2).val
  let c1_i32_99 : BitVec 32 := 1#32
  let v172 : BitVec 32 := Scalar.addi arg2 c1_i32_99
  let v173 : BitVec 32 := Scalar.subi v172 c0_i32_100
  let c1_i32_102 : BitVec 32 := 1#32
  let v175 : BitVec 32 := Scalar.divsi v173 c1_i32_102
  let v176 : BitVec 32 := Scalar.muli v175 c1_i32_102
  let v177 : BitVec 32 := Scalar.addi c0_i32_100 v176
  let v174 : BitVec 32 := Scalar.addi c0_i32_100 v173
  let c1_i32_104 : BitVec 32 := 1#32
  ⟨v177, v174, c1_i32_104⟩
def k0_off69 (i : grid0.Coords) (k0_t49 : Fin (k0_t49_loop i).trips) : Fin 3 → Nat :=
  let c0_140 : Index := 0#32
  let c0_i32_100 : BitVec 32 := 0#32
  let arg2 : BitVec 32 := BitVec.ofNat 32 (i 2).val
  let c1_i32_99 : BitVec 32 := 1#32
  let v172 : BitVec 32 := Scalar.addi arg2 c1_i32_99
  let v173 : BitVec 32 := Scalar.subi v172 c0_i32_100
  let c1_i32_102 : BitVec 32 := 1#32
  let v175 : BitVec 32 := Scalar.divsi v173 c1_i32_102
  let v176 : BitVec 32 := Scalar.muli v175 c1_i32_102
  let v177 : BitVec 32 := Scalar.addi c0_i32_100 v176
  let c1_i32_104 : BitVec 32 := 1#32
  let arg18 : BitVec 32 := Scf.iv v177 c1_i32_104 k0_t49
  let c512_i32_139 : BitVec 32 := 512#32
  let v259 : BitVec 32 := Scalar.muli arg18 c512_i32_139
  let v260 : Index := Scalar.indexCast v259
  let c0_141 : Index := 0#32
  ![0, v260.toNat, 0]
def k0_off70 (i : grid0.Coords) (k0_t49 : Fin (k0_t49_loop i).trips) : Fin 3 → Nat :=
  let c0_150 : Index := 0#32
  let c0_151 : Index := 0#32
  let c0_i32_100 : BitVec 32 := 0#32
  let arg2 : BitVec 32 := BitVec.ofNat 32 (i 2).val
  let c1_i32_99 : BitVec 32 := 1#32
  let v172 : BitVec 32 := Scalar.addi arg2 c1_i32_99
  let v173 : BitVec 32 := Scalar.subi v172 c0_i32_100
  let c1_i32_102 : BitVec 32 := 1#32
  let v175 : BitVec 32 := Scalar.divsi v173 c1_i32_102
  let v176 : BitVec 32 := Scalar.muli v175 c1_i32_102
  let v177 : BitVec 32 := Scalar.addi c0_i32_100 v176
  let c1_i32_104 : BitVec 32 := 1#32
  let arg18 : BitVec 32 := Scf.iv v177 c1_i32_104 k0_t49
  let c512_i32_149 : BitVec 32 := 512#32
  let v277 : BitVec 32 := Scalar.muli arg18 c512_i32_149
  let v278 : Index := Scalar.indexCast v277
  ![0, 0, v278.toNat]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat, arg2.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat, arg2.toNat]

abbrev stage0_0 : Fin 2 → Memref sig .tc .vmem S1x512x896 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x512x28 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x28672x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x128x28672 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x128x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x512x896 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x1x7x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x1x7x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== KernelIdeal.lean ====
variable {F : FTy → Type} [FloatOps F] [Named F]
def κ : String → Option EReal := fun
  | "softmax_scale" => some (((Real.sqrt 128)⁻¹ : ℝ) : EReal)
  | "softmax_scale_log2e" => some (((Real.sqrt 128)⁻¹ * (Real.log 2)⁻¹ : ℝ) : EReal)
  | _ => none
-- ==== ReferenceIdeal.lean ====
abbrev S24x1024x28x128 : Shape := ⟨4, ![24, 1024, 28, 128]⟩
abbrev S24x1024x28x4 : Shape := ⟨4, ![24, 1024, 28, 4]⟩
abbrev S4x28672x128 : Shape := ⟨3, ![4, 28672, 128]⟩
abbrev S4x128x28672 : Shape := ⟨3, ![4, 128, 28672]⟩
abbrev S4x24576x128 : Shape := ⟨3, ![4, 24576, 128]⟩
abbrev S4x128x24576 : Shape := ⟨3, ![4, 128, 24576]⟩
abbrev S_ : Shape := ⟨0, ![]⟩
abbrev S24x1024x28x4x32 : Shape := ⟨5, ![24, 1024, 28, 4, 32]⟩
abbrev S24x1024x28x4x1 : Shape := ⟨5, ![24, 1024, 28, 4, 1]⟩
abbrev S24x1024x4x7x128 : Shape := ⟨5, ![24, 1024, 4, 7, 128]⟩
abbrev S4x24x1024x128 : Shape := ⟨4, ![4, 24, 1024, 128]⟩
abbrev S4x128x24x1024 : Shape := ⟨4, ![4, 128, 24, 1024]⟩
abbrev S4x28672x24x1024x7 : Shape := ⟨5, ![4, 28672, 24, 1024, 7]⟩
abbrev S24x1024x4x7x28672 : Shape := ⟨5, ![24, 1024, 4, 7, 28672]⟩
abbrev S24x1024x4x7 : Shape := ⟨4, ![24, 1024, 4, 7]⟩
abbrev S24x1024x4x7x1 : Shape := ⟨5, ![24, 1024, 4, 7, 1]⟩
abbrev S4x128x24x1024x7 : Shape := ⟨5, ![4, 128, 24, 1024, 7]⟩
abbrev S24x4x1024x1024x7 : Shape := ⟨5, ![24, 4, 1024, 1024, 7]⟩
abbrev S24x1024x4x7x1024 : Shape := ⟨5, ![24, 1024, 4, 7, 1024]⟩
abbrev S1024 : Shape := ⟨1, ![1024]⟩
abbrev S1x1024 : Shape := ⟨2, ![1, 1024]⟩
abbrev S1024x1 : Shape := ⟨2, ![1024, 1]⟩
abbrev S1024x1024 : Shape := ⟨2, ![1024, 1024]⟩
abbrev S1024x1x1x1024 : Shape := ⟨4, ![1024, 1, 1, 1024]⟩
abbrev S24x4x128x1024x7 : Shape := ⟨5, ![24, 4, 128, 1024, 7]⟩
abbrev S24x1024x3584 : Shape := ⟨3, ![24, 1024, 3584]⟩
abbrev S24x4x7x1024 : Shape := ⟨4, ![24, 4, 7, 1024]⟩
abbrev S1x1x1x1024 : Shape := ⟨4, ![1, 1, 1, 1024]⟩

abbrev nBuf : Space → Nat
  | .hbm => 105
  | .vmem => 3
  | .smem => 0
  | _ => 0

abbrev bufTy : (tb : Table) → Fin (tcTables nBuf tb) → BufTy
  | .hbm, ⟨0, _⟩ => ⟨S24x1024x28x128, .fp8e4m3⟩
  | .hbm, ⟨1, _⟩ => ⟨S24x1024x28x4, .i8⟩
  | .hbm, ⟨2, _⟩ => ⟨S4x28672x128, .bf16⟩
  | .hbm, ⟨3, _⟩ => ⟨S4x128x28672, .bf16⟩
  | .hbm, ⟨4, _⟩ => ⟨S4x24576x128, .bf16⟩
  | .hbm, ⟨5, _⟩ => ⟨S4x128x24576, .bf16⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S24x1024x28x4x32, .fp8e4m3⟩
  | .hbm, ⟨11, _⟩ => ⟨S24x1024x28x4x32, .bf16⟩
  | .hbm, ⟨12, _⟩ => ⟨S24x1024x4x7x128, .bf16⟩
  | .hbm, ⟨13, _⟩ => ⟨S4x24x1024x128, .bf16⟩
  | .hbm, ⟨14, _⟩ => ⟨S4x128x24x1024, .bf16⟩
  | .hbm, ⟨15, _⟩ => ⟨S4x28672x24x1024x7, .f32⟩
  | .hbm, ⟨16, _⟩ => ⟨S24x1024x4x7x28672, .f32⟩
  | .hbm, ⟨17, _⟩ => ⟨S24x1024x4x7x28672, .f32⟩
  | .hbm, ⟨18, _⟩ => ⟨S24x1024x4x7x28672, .f32⟩
  | .hbm, ⟨19, _⟩ => ⟨S_, .f32⟩
  | .hbm, ⟨20, _⟩ => ⟨S24x1024x4x7, .f32⟩
  | .hbm, ⟨21, _⟩ => ⟨S24x1024x4x7x1, .f32⟩
  | .hbm, ⟨22, _⟩ => ⟨S24x1024x4x7x28672, .f32⟩
  | .hbm, ⟨23, _⟩ => ⟨S24x1024x4x7x28672, .f32⟩
  | .hbm, ⟨24, _⟩ => ⟨S24x1024x4x7x28672, .f32⟩
  | .hbm, ⟨25, _⟩ => ⟨S_, .f32⟩
  | .hbm, ⟨26, _⟩ => ⟨S24x1024x4x7, .f32⟩
  | .hbm, ⟨27, _⟩ => ⟨S24x1024x4x7x28672, .bf16⟩
  | .hbm, ⟨28, _⟩ => ⟨S4x128x24x1024x7, .f32⟩
  | .hbm, ⟨29, _⟩ => ⟨S24x1024x4x7x128, .f32⟩
  | .hbm, ⟨30, _⟩ => ⟨S24x1024x4x7x1, .f32⟩
  | .hbm, ⟨31, _⟩ => ⟨S24x1024x4x7x128, .f32⟩
  | .hbm, ⟨32, _⟩ => ⟨S24x1024x4x7x128, .f32⟩
  | .hbm, ⟨33, _⟩ => ⟨S24x1024x4x7, .f32⟩
  | .hbm, ⟨34, _⟩ => ⟨S24x1024x4x7, .f32⟩
  | .hbm, ⟨35, _⟩ => ⟨S24x1024x4x7, .f32⟩
  | .hbm, ⟨36, _⟩ => ⟨S24x4x1024x1024x7, .f32⟩
  | .hbm, ⟨37, _⟩ => ⟨S24x1024x4x7x1024, .f32⟩
  | .hbm, ⟨38, _⟩ => ⟨S1024, .i32⟩
  | .hbm, ⟨39, _⟩ => ⟨S1x1024, .i32⟩
  | .hbm, ⟨40, _⟩ => ⟨S1024x1, .i32⟩
  | .hbm, ⟨41, _⟩ => ⟨S1024x1024, .i32⟩
  | .hbm, ⟨42, _⟩ => ⟨S1024x1024, .i32⟩
  | .hbm, ⟨43, _⟩ => ⟨S1024x1024, .i1⟩
  | .hbm, ⟨44, _⟩ => ⟨S1024x1x1x1024, .i1⟩
  | .hbm, ⟨45, _⟩ => ⟨S24x1024x4x7x1024, .f32⟩
  | .hbm, ⟨46, _⟩ => ⟨S24x1024x4x7x1024, .f32⟩
  | .hbm, ⟨47, _⟩ => ⟨S_, .f32⟩
  | .hbm, ⟨48, _⟩ => ⟨S_, .f32⟩
  | .hbm, ⟨49, _⟩ => ⟨S24x1024x4x7x1024, .i1⟩
  | .hbm, ⟨50, _⟩ => ⟨S24x1024x4x7x1024, .f32⟩
  | .hbm, ⟨51, _⟩ => ⟨S24x1024x4x7x1024, .f32⟩
  | .hbm, ⟨52, _⟩ => ⟨S_, .f32⟩
  | .hbm, ⟨53, _⟩ => ⟨S24x1024x4x7, .f32⟩
  | .hbm, ⟨54, _⟩ => ⟨S24x1024x4x7x1, .f32⟩
  | .hbm, ⟨55, _⟩ => ⟨S24x1024x4x7x1024, .f32⟩
  | .hbm, ⟨56, _⟩ => ⟨S24x1024x4x7x1024, .f32⟩
  | .hbm, ⟨57, _⟩ => ⟨S24x1024x4x7x1024, .f32⟩
  | .hbm, ⟨58, _⟩ => ⟨S_, .f32⟩
  | .hbm, ⟨59, _⟩ => ⟨S24x1024x4x7, .f32⟩
  | .hbm, ⟨60, _⟩ => ⟨S24x1024x4x7x1024, .bf16⟩
  | .hbm, ⟨61, _⟩ => ⟨S24x4x128x1024x7, .f32⟩
  | .hbm, ⟨62, _⟩ => ⟨S24x1024x4x7x128, .f32⟩
  | .hbm, ⟨63, _⟩ => ⟨S24x1024x4x7x1, .f32⟩
  | .hbm, ⟨64, _⟩ => ⟨S24x1024x4x7x128, .f32⟩
  | .hbm, ⟨65, _⟩ => ⟨S24x1024x4x7x128, .f32⟩
  | .hbm, ⟨66, _⟩ => ⟨S24x1024x4x7, .f32⟩
  | .hbm, ⟨67, _⟩ => ⟨S24x1024x4x7, .f32⟩
  | .hbm, ⟨68, _⟩ => ⟨S24x1024x4x7, .f32⟩
  | .hbm, ⟨69, _⟩ => ⟨S24x1024x4x7, .f32⟩
  | .hbm, ⟨70, _⟩ => ⟨S24x1024x4x7, .f32⟩
  | .hbm, ⟨71, _⟩ => ⟨S24x1024x4x7, .i1⟩
  | .hbm, ⟨72, _⟩ => ⟨S24x1024x4x7, .f32⟩
  | .hbm, ⟨73, _⟩ => ⟨S24x1024x4x7, .f32⟩
  | .hbm, ⟨74, _⟩ => ⟨S24x1024x4x7, .f32⟩
  | .hbm, ⟨75, _⟩ => ⟨S24x1024x4x7, .f32⟩
  | .hbm, ⟨76, _⟩ => ⟨S24x1024x4x7, .f32⟩
  | .hbm, ⟨77, _⟩ => ⟨S24x1024x4x7, .f32⟩
  | .hbm, ⟨78, _⟩ => ⟨S24x1024x4x7, .f32⟩
  | .hbm, ⟨79, _⟩ => ⟨S24x1024x4x7, .f32⟩
  | .hbm, ⟨80, _⟩ => ⟨S24x1024x4x7, .f32⟩
  | .hbm, ⟨81, _⟩ => ⟨S24x1024x4x7x1, .f32⟩
  | .hbm, ⟨82, _⟩ => ⟨S24x1024x4x7x128, .f32⟩
  | .hbm, ⟨83, _⟩ => ⟨S24x1024x4x7x128, .f32⟩
  | .hbm, ⟨84, _⟩ => ⟨S24x1024x4x7, .f32⟩
  | .hbm, ⟨85, _⟩ => ⟨S24x1024x4x7, .f32⟩
  | .hbm, ⟨86, _⟩ => ⟨S24x1024x4x7x1, .f32⟩
  | .hbm, ⟨87, _⟩ => ⟨S24x1024x4x7x128, .f32⟩
  | .hbm, ⟨88, _⟩ => ⟨S24x1024x4x7x128, .f32⟩
  | .hbm, ⟨89, _⟩ => ⟨S24x1024x4x7x128, .f32⟩
  | .hbm, ⟨90, _⟩ => ⟨S24x1024x3584, .f32⟩
  | .hbm, ⟨91, _⟩ => ⟨S24x1024x3584, .bf16⟩
  | .hbm, ⟨92, _⟩ => ⟨S24x4x7x1024, .f32⟩
  | .hbm, ⟨93, _⟩ => ⟨S_, .f32⟩
  | .hbm, ⟨94, _⟩ => ⟨S24x4x7x1024, .f32⟩
  | .hbm, ⟨95, _⟩ => ⟨S24x4x7x1024, .f32⟩
  | .hbm, ⟨96, _⟩ => ⟨S24x4x7x1024, .f32⟩
  | .hbm, ⟨97, _⟩ => ⟨S1024, .f32⟩
  | .hbm, ⟨98, _⟩ => ⟨S_, .f32⟩
  | .hbm, ⟨99, _⟩ => ⟨S1024, .f32⟩
  | .hbm, ⟨100, _⟩ => ⟨S1024, .f32⟩
  | .hbm, ⟨101, _⟩ => ⟨S1024, .f32⟩
  | .hbm, ⟨102, _⟩ => ⟨S1x1x1x1024, .f32⟩
  | .hbm, ⟨103, _⟩ => ⟨S24x4x7x1024, .f32⟩
  | .hbm, ⟨104, _⟩ => ⟨S24x4x7x1024, .f32⟩
  | .local _ .vmem, ⟨0, _⟩ => ⟨S24x1024x28x4x32, .fp8e4m3⟩
  | .local _ .vmem, ⟨1, _⟩ => ⟨S24x1024x28x4, .i8⟩
  | .local _ .vmem, ⟨2, _⟩ => ⟨S24x1024x28x4x32, .bf16⟩
  | _, _ => ⟨S24x1024x28x128, .fp8e4m3⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst_3 : Ref sig .tc := ⟨.hbm, 47, rfl⟩
abbrev main_call0_v0 : Ref sig .tc := ⟨.hbm, 48, rfl⟩
abbrev main_call0_v1 : Ref sig .tc := ⟨.hbm, 49, rfl⟩
abbrev main_call0_v2 : Ref sig .tc := ⟨.hbm, 50, rfl⟩
abbrev main_v37 : Ref sig .tc := ⟨.hbm, 51, rfl⟩
abbrev main_cst_4 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_5 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_cst_6 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_cst_7 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S24x1024x28x4x32 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S24x1024x28x4 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S24x1024x28x4x32 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.Values.lean ====
/-
  The pure values of one head of the attention kernel, as functions of the blocks the kernel loads — the scores of a key
  chunk, the running maxima, the running sums and products of one attempt, and the attempt's results —, over any float
  semantics. The two programs (the words' and the idealized one) differ only in the two scale constants, which are
  parameters here: `c2` scales the exponents to base two, `cl` scales the maxima.
-/
module

public import proofs.«01_k».proof.Proof.Gen.KernelIdeal

@[expose] public section

noncomputable section

namespace Cert.Attn

open Idealize.ShloMosaic Idealize.SL.Sem
open Cert.KernelIdeal Cert.KernelIdeal.Gen

variable {F : FTy → Type} [FloatOps F]

/-! ### One key chunk -/

/-- The scores of a chunk of 1024 prompt keys against a head's queries (keys down, queries across). -/
def rawP (kb : Vec F S1x1024x128 .bf16) (q : Vec F S1x128x512 .bf16) : FVec F S1024x512 .f32 :=
  matmul dot_S1024x128_S128x512_S1024x512_1_0_0_1_n_n none (shapeCast S1024x128 kb shapeCasts_S1x1024x128_S1024x128 : FVec F S1024x128 .bf16)
    (shapeCast S128x512 q shapeCasts_S1x128x512_S128x512 : FVec F S128x512 .bf16) (constant S1024x512 .f32 0x00000000#32)

/-- The largest score of every query in a prompt chunk. -/
def colMaxP (raw : FVec F S1024x512 .f32) : FVec F S1x512 .f32 :=
  shapeCast S1x512 (multiReduction .maximumf [0] S512 raw 0xFF800000#32 reduces_S1024x512_S512 (.inl rfl) rfl : FVec F S512 .f32) shapeCasts_S512_S1x512

/-- The scores of completion chunk `j` (512 keys) of query block `tb`, keys after the query masked to minus infinity. -/
def rawC (tb j : BitVec 32) (kb : Vec F S1x512x128 .bf16) (q : Vec F S1x128x512 .bf16) : FVec F S512x512 .f32 :=
  select (cmpi .sgt (addi (broadcast S512x512 (Scalar.muli j 512#32)) (iota .tc S512x512 32 [0] iota_S512x512_d0_w32))
      (addi (broadcast S512x512 (Scalar.muli tb 512#32)) (iota .tc S512x512 32 [1] iota_S512x512_d1_w32)))
    (broadcast S512x512 (Scalar.ofBits .f32 0xFF800000#32 : F .f32))
    (matmul dot_S512x128_S128x512_S512x512_1_0_0_1_n_n none (shapeCast S512x128 kb shapeCasts_S1x512x128_S512x128 : FVec F S512x128 .bf16)
      (shapeCast S128x512 q shapeCasts_S1x128x512_S128x512 : FVec F S128x512 .bf16) (constant S512x512 .f32 0x00000000#32))

/-- The largest score of every query in a completion chunk. -/
def colMaxC (raw : FVec F S512x512 .f32) : FVec F S1x512 .f32 :=
  shapeCast S1x512 (multiReduction .maximumf [0] S512 raw 0xFF800000#32 reduces_S512x512_S512 (.inl rfl) rfl : FVec F S512 .f32) shapeCasts_S512_S1x512

/-- The weights of a prompt chunk at the shift `m`. -/
def wP (c2 : F .f32) (m : FVec F S1x512 .f32) (raw : FVec F S1024x512 .f32) : FVec F S1024x512 .f32 :=
  exp2 (subf (mulf raw (broadcast S1024x512 c2)) (broadcastTo S1024x512 (mulf m (broadcast S1x512 c2)) broadcasts_S1x512_S1024x512))

/-- The weights of a completion chunk at the shift `m`. -/
def wC (c2 : F .f32) (m : FVec F S1x512 .f32) (raw : FVec F S512x512 .f32) : FVec F S512x512 .f32 :=
  exp2 (subf (mulf raw (broadcast S512x512 c2)) (broadcastTo S512x512 (mulf m (broadcast S1x512 c2)) broadcasts_S1x512_S512x512))

/-- The eight running sums after a prompt chunk of weights. -/
def sumP (l : Vec F S8x512 .f32) (w : FVec F S1024x512 .f32) : FVec F S8x512 .f32 :=
  shapeCast S8x512 (addf l (multiReduction .add [0] S8x512 (shapeCast S128x8x512 w shapeCasts_S1024x512_S128x8x512 : FVec F S128x8x512 .f32) 0x00000000#32 reduces_S128x8x512_S8x512 (.inl rfl) rfl) : FVec F S8x512 .f32) shapeCasts_S8x512_S8x512

/-- The eight running sums after a completion chunk of weights. -/
def sumC (l : Vec F S8x512 .f32) (w : FVec F S512x512 .f32) : FVec F S8x512 .f32 :=
  shapeCast S8x512 (addf l (multiReduction .add [0] S8x512 (shapeCast S64x8x512 w shapeCasts_S512x512_S64x8x512 : FVec F S64x8x512 .f32) 0x00000000#32 reduces_S64x8x512_S8x512 (.inl rfl) rfl) : FVec F S8x512 .f32) shapeCasts_S8x512_S8x512

/-- The running weighted values after a prompt chunk. -/
def prodP (o : Vec F S128x512 .f32) (vt : Vec F S1x128x1024 .bf16) (w : FVec F S1024x512 .f32) : FVec F S128x512 .f32 :=
  shapeCast S128x512 (addf o (matmul dot_S128x1024_S1024x512_S128x512_1_0_0_1_n_n none (shapeCast S128x1024 vt shapeCasts_S1x128x1024_S128x1024 : FVec F S128x1024 .bf16)
    (truncf .bf16 w bitsLt_bf16_f32) (constant S128x512 .f32 0x00000000#32)) : FVec F S128x512 .f32) shapeCasts_S128x512_S128x512

/-- The running weighted values after a completion chunk. -/
def prodC (o : Vec F S128x512 .f32) (vt : Vec F S1x128x512 .bf16) (w : FVec F S512x512 .f32) : FVec F S128x512 .f32 :=
  shapeCast S128x512 (addf o (matmul dot_S128x512_S512x512_S128x512_1_0_0_1_n_n none (shapeCast S128x512 vt shapeCasts_S1x128x512_S128x512 : FVec F S128x512 .bf16)
    (truncf .bf16 w bitsLt_bf16_f32) (constant S128x512 .f32 0x00000000#32)) : FVec F S128x512 .f32) shapeCasts_S128x512_S128x512

/-- A cleared sum and a cleared product. -/
def zeroL : FVec F S8x512 .f32 := shapeCast S8x512 (broadcast S8x512 (Scalar.ofBits .f32 0x00000000#32 : F .f32) : FVec F S8x512 .f32) shapeCasts_S8x512_S8x512
def zeroO : FVec F S128x512 .f32 := shapeCast S128x512 (broadcast S128x512 (Scalar.ofBits .f32 0x00000000#32 : F .f32) : FVec F S128x512 .f32) shapeCasts_S128x512_S128x512

/-! ### One attempt's end -/

/-- The eight running sums added up. -/
def colSum (l : Vec F S8x512 .f32) : FVec F S1x512 .f32 :=
  shapeCast S1x512 (multiReduction .add [0] S512 l 0x00000000#32 reduces_S8x512_S512 (.inl rfl) rfl : FVec F S512 .f32) shapeCasts_S512_S1x512

/-- The logarithm of a sum of exponentials from its shift and its shifted sum. -/
def lseOf (cl : F .f32) (m l : FVec F S1x512 .f32) : FVec F S1x512 .f32 := addf (mulf m (broadcast S1x512 cl)) (log l)

/-- The two parts' logarithms combined. -/
def lseBoth (a b : FVec F S1x512 .f32) : FVec F S1x512 .f32 :=
  addf (maximumf a b) (log (addf (exp (subf a (maximumf a b))) (exp (subf b (maximumf a b)))))

/-- A part's share of the whole, over its own sum. -/
def share (a t l : FVec F S1x512 .f32) : FVec F S1x512 .f32 := divf (exp (subf a t)) l

/-- The head's output (features down, queries across). -/
def outOf (wp ws : FVec F S1x512 .f32) (op os : Vec F S128x512 .f32) : FVec F S128x512 .f32 :=
  addf (mulf (broadcastTo S128x512 wp broadcasts_S1x512_S128x512) op) (mulf (broadcastTo S128x512 ws broadcasts_S1x512_S128x512) os)

/-- The prompt's logarithm, over the number of prompt keys. -/
def lseP (a : FVec F S1x512 .f32) : FVec F S1x512 .f32 := subf a (broadcast S1x512 (Scalar.ofBits .f32 0x41243805#32 : F .f32))

/-- The completion's logarithm, over the number of keys each query sees. -/
def lseC (tb : BitVec 32) (b : FVec F S1x512 .f32) : FVec F S1x512 .f32 :=
  subf b (log (sitofp .f32 (addi (addi (broadcast S1x512 (Scalar.muli tb 512#32)) (iota .tc S1x512 32 [1] iota_S1x512_d1_w32)) (broadcast S1x512 1#32))))

/-- How many queries an attempt failed for. -/
def nBad (lp ls : FVec F S1x512 .f32) (out : FVec F S128x512 .f32) : F .f32 :=
  extractAt ![0, 0, 0] (shapeCast S1x1x1 (multiReduction .add [1, 2] S1
    (shapeCast S1x1x512 (select
      (andi (andi (andi (cmpf .olt lp (broadcast S1x512 (Scalar.ofBits .f32 0x71800000#32 : F .f32)))
          (cmpf .olt ls (broadcast S1x512 (Scalar.ofBits .f32 0x71800000#32 : F .f32))))
          (cmpf .ogt ls (broadcast S1x512 (Scalar.ofBits .f32 0x0D800000#32 : F .f32))))
        (cmpf .olt (shapeCast S1x512 (multiReduction .maximumf [0] S512 (absf out) 0xFF800000#32 reduces_S128x512_S512 (.inl rfl) rfl : FVec F S512 .f32) shapeCasts_S512_S1x512)
          (broadcast S1x512 (Scalar.ofBits .f32 0x7F800000#32 : F .f32))))
      (broadcast S1x512 (Scalar.ofBits .f32 0x00000000#32 : F .f32)) (broadcast S1x512 (Scalar.ofBits .f32 0x3F800000#32 : F .f32)) : FVec F S1x512 .f32) shapeCasts_S1x512_S1x1x512 : FVec F S1x1x512 .f32)
    0x00000000#32 reduces_S1x1x512_S1 (.inl rfl) rfl : FVec F S1 .f32) shapeCasts_S1_S1x1x1 : FVec F S1x1x1 .f32) inpos_S1x1x1_p0_0_0

/-- The attempt after `n`: the next one if some query failed, none (2) else. -/
def next (n : BitVec 32) (bad : F .f32) : BitVec 32 :=
  Scalar.select (Scalar.cmpf .ogt bad (Scalar.ofBits .f32 0x00000000#32 : F .f32)) (Scalar.addi n 1#32) 2#32

end Cert.Attn

end
-- ==== Proof.Head.lean ====
/-
  One head's `while` body as ONE program, for any head and either program: the printed functions `cc0_while1` … `cc0_while7`
  of the words' program and of the idealized one are this program at a head number `g` and two scale constants. It is cut
  where the printed text is cut (parts A, B, C and the tail), so that the printed functions equal it by computation.
-/
module

public import proofs.«01_k».proof.Proof.Values

@[expose] public section

set_option maxRecDepth 16384

noncomputable section

namespace Cert.Attn

open Idealize.ShloMosaic Idealize.SL.Sem
open Cert.KernelIdeal Cert.KernelIdeal.Gen

variable {F : FTy → Type} [FloatOps F] {nD : ℕ} {τ : Topo} {sig : RefSig} {Λ : Labels}

/-- The buffers one head's body reads and writes. -/
structure Refs (sig : RefSig) where
  a5 : Memref sig .tc .vmem S1x28672x128 .bf16
  a6 : Memref sig .tc .vmem S1x128x28672 .bf16
  a7 : Memref sig .tc .vmem S1x1024x128 .bf16
  a8 : Memref sig .tc .vmem S1x128x1024 .bf16
  a10 : Memref sig .tc .vmem S1x1x7x512 .f32
  a11 : Memref sig .tc .vmem S1x1x7x512 .f32
  a12 : Memref sig .tc .vmem S7x128x512 .bf16
  a13 : Memref sig .tc .vmem S8x512 .f32
  a14 : Memref sig .tc .vmem S8x512 .f32
  a15 : Memref sig .tc .vmem S128x512 .f32
  a16 : Memref sig .tc .vmem S128x512 .f32

theorem inbQ (g : ℕ) (hg : g < 7) : ∀ a, (![g, 0, 0] : Fin 3 → ℕ) a + S1x128x512.size a ≤ S7x128x512.size a := by
  intro a; fin_cases a <;> simp [S1x128x512, S7x128x512] <;> omega

theorem inbL (g : ℕ) (hg : g < 7) : ∀ a, (![0, 0, g, 0] : Fin 4 → ℕ) a + S1x1x1x512.size a ≤ S1x1x7x512.size a := by
  intro a; fin_cases a <;> simp [S1x1x1x512, S1x1x7x512] <;> omega

/-- Head `g`'s rows of the dequantised queries, and its row of a logarithm block. -/
abbrev rQ (g : ℕ) (hg : g < 7) : Rect S7x128x512 := Rect.unit (s := S7x128x512) ![g, 0, 0] S1x128x512.size (inbQ g hg)
abbrev rL (g : ℕ) (hg : g < 7) : Rect S1x1x7x512 := Rect.unit (s := S1x1x7x512) ![0, 0, g, 0] S1x1x1x512.size (inbL g hg)
abbrev r8 : Rect S8x512 := Rect.unit (s := S8x512) ![0, 0] S8x512.size inb_S8x512_S8x512_0_0
abbrev r128 : Rect S128x512 := Rect.unit (s := S128x512) ![0, 0] S128x512.size inb_S128x512_S128x512_0_0

variable (R : Refs sig) (g : ℕ) (hg : g < 7)

/-- A trip of the prompt's maximum loop. -/
def tripMaxP (off : Fin 3 → ℕ) (inb : ∀ a, off a + S1x1024x128.size a ≤ S1x28672x128.size a) (acc : FVec F S1x512 .f32) :
    Prog (TpuEff nD τ sig (Elt F) Λ .tc) (FVec F S1x512 .f32) := do
  let k : Vec F S1x1024x128 .bf16 ← Prog.lift (.load R.a5 (Rect.unit (s := S1x28672x128) off S1x1024x128.size inb).toLoadRect (View.loadsAt_vmem h_S1x1024x128))
  let q : Vec F S1x128x512 .bf16 ← Prog.lift (.load R.a12 (rQ g hg).toLoadRect (View.loadsAt_vmem h_S1x128x512))
  pure (maximumf acc (colMaxP (rawP k q)))

/-- A trip of the completion's maximum loop. -/
def tripMaxC (tb j : BitVec 32) (off : Fin 3 → ℕ) (inb : ∀ a, off a + S1x512x128.size a ≤ S1x1024x128.size a) (acc : FVec F S1x512 .f32) :
    Prog (TpuEff nD τ sig (Elt F) Λ .tc) (FVec F S1x512 .f32) := do
  let k : Vec F S1x512x128 .bf16 ← Prog.lift (.load R.a7 (Rect.unit (s := S1x1024x128) off S1x512x128.size inb).toLoadRect (View.loadsAt_vmem h_S1x512x128))
  let q : Vec F S1x128x512 .bf16 ← Prog.lift (.load R.a12 (rQ g hg).toLoadRect (View.loadsAt_vmem h_S1x128x512))
  pure (maximumf acc (colMaxC (rawC tb j k q)))

/-- A store over a whole 8 x 512 (128 x 512) buffer, after the dead load the printed text has there. -/
def put8 (m : Memref sig .tc .vmem S8x512 .f32) (w : FVec F S8x512 .f32) : Prog (TpuEff nD τ sig (Elt F) Λ .tc) PUnit := do
  let _ ← Prog.lift (.load m r8.toLoadRect (View.loadsAt_vmem h_S8x512))
  Prog.lift (.store m r8 w Finset.univ (View.stores_vmem_bits_univ h_S8x512 rfl) (.inl rfl))

def put128 (m : Memref sig .tc .vmem S128x512 .f32) (w : FVec F S128x512 .f32) : Prog (TpuEff nD τ sig (Elt F) Λ .tc) PUnit := do
  let _ ← Prog.lift (.load m r128.toLoadRect (View.loadsAt_vmem h_S128x512))
  Prog.lift (.store m r128 w Finset.univ (View.stores_vmem_bits_univ h_S128x512 rfl) (.inl rfl))

/-- Part A: the shifts of attempt `n`, and the first sum cleared. -/
def partA (i : grid0.Coords) (n tb : BitVec 32) (C : Prop) (dC : Decidable C) (hC : C → k0_chk1 i n) :
    Prog (TpuEff nD τ sig (Elt F) Λ .tc) (Σ' (_ : FVec F S1x512 .f32) (_ : FVec F S1x512 .f32), FVec F S8x512 .f32) := do
  have hw : k0_chk1 i n := hC (← Prog.lift (TpuEff.assume C dC)).down
  let k : Vec F S1x1024x128 .bf16 ← Prog.lift (.load R.a5 (Rect.unit (s := S1x28672x128) ![0, 0, 0] S1x1024x128.size inb_S1x28672x128_S1x1024x128_0_0_0).toLoadRect (View.loadsAt_vmem h_S1x1024x128))
  let q : Vec F S1x128x512 .bf16 ← Prog.lift (.load R.a12 (rQ g hg).toLoadRect (View.loadsAt_vmem h_S1x128x512))
  let a1 : FVec F S1x512 .f32 ← Scf.Loop.for (k0_t1_loop n) (k0_t1_ok i n hw) (colMaxP (rawP k q)) fun j acc =>
    tripMaxP R g hg (k0_off1 n j) (k0_off1_inb i n hw j) acc
  let a2 : FVec F S1x512 .f32 ← Scf.Loop.for (k0_t2_loop n) (k0_t2_ok i n hw) a1 fun j acc =>
    tripMaxP R g hg (k0_off2 n j) (k0_off2_inb i n hw j) acc
  let b1 : FVec F S1x512 .f32 ← Scf.Loop.for (k0_t3_loop i n) (k0_t3_ok i n hw) (broadcast S1x512 (Scalar.ofBits .f32 0xFF800000#32 : F .f32)) fun j acc =>
    tripMaxC R g hg tb (Scf.iv 0#32 1#32 j) (k0_off3 i n j) (k0_off3_inb i n hw j) acc
  let sel : BitVec 32 := Scalar.select (Scalar.cmpi .eq n 0#32) 0#32 (Scalar.addi tb 1#32)
  let b2 : FVec F S1x512 .f32 ← Scf.Loop.for (k0_t4_loop i n) (k0_t4_ok i n hw) b1 fun j acc =>
    tripMaxC R g hg tb (Scf.iv (Scalar.addi 0#32 (Scalar.muli (Scalar.divsi (Scalar.subi sel 0#32) 1#32) 1#32)) 1#32 j) (k0_off4 i n j) (k0_off4_inb i n hw j) acc
  let _ ← put8 R.a13 zeroL
  pure ⟨a2, Scalar.select (Scalar.cmpi .eq n 0#32) a2 b2, broadcast S8x512 (Scalar.ofBits .f32 0x00000000#32 : F .f32)⟩

/-- A trip of the prompt's sums and products. -/
def tripP (c2 : F .f32) (m : FVec F S1x512 .f32) (off5 : Fin 3 → ℕ) (inb5 : ∀ a, off5 a + S1x1024x128.size a ≤ S1x28672x128.size a)
    (off6 : Fin 3 → ℕ) (inb6 : ∀ a, off6 a + S1x128x1024.size a ≤ S1x128x28672.size a) : Prog (TpuEff nD τ sig (Elt F) Λ .tc) (BitVec 32) := do
  let k : Vec F S1x1024x128 .bf16 ← Prog.lift (.load R.a5 (Rect.unit (s := S1x28672x128) off5 S1x1024x128.size inb5).toLoadRect (View.loadsAt_vmem h_S1x1024x128))
  let q : Vec F S1x128x512 .bf16 ← Prog.lift (.load R.a12 (rQ g hg).toLoadRect (View.loadsAt_vmem h_S1x128x512))
  let v : Vec F S1x128x1024 .bf16 ← Prog.lift (.load R.a6 (Rect.unit (s := S1x128x28672) off6 S1x128x1024.size inb6).toLoadRect (View.loadsAt_vmem h_S1x128x1024))
  let l : Vec F S8x512 .f32 ← Prog.lift (.load R.a13 r8.toLoadRect (View.loadsAt_vmem h_S8x512))
  let _ ← put8 R.a13 (sumP l (wP c2 m (rawP k q)))
  let o : Vec F S128x512 .f32 ← Prog.lift (.load R.a15 r128.toLoadRect (View.loadsAt_vmem h_S128x512))
  let _ ← put128 R.a15 (prodP o v (wP c2 m (rawP k q)))
  pure 0#32

/-- A trip of the completion's sums … -/
def tripC1 (c2 : F .f32) (m : FVec F S1x512 .f32) (tb j : BitVec 32) (off7 : Fin 3 → ℕ) (inb7 : ∀ a, off7 a + S1x512x128.size a ≤ S1x1024x128.size a)
    (off8 : Fin 3 → ℕ) (inb8 : ∀ a, off8 a + S1x128x512.size a ≤ S1x128x1024.size a) :
    Prog (TpuEff nD τ sig (Elt F) Λ .tc) (Σ' (_ : FVec F S128x512 .bf16), FVec F S512x512 .f32) := do
  let k : Vec F S1x512x128 .bf16 ← Prog.lift (.load R.a7 (Rect.unit (s := S1x1024x128) off7 S1x512x128.size inb7).toLoadRect (View.loadsAt_vmem h_S1x512x128))
  let q : Vec F S1x128x512 .bf16 ← Prog.lift (.load R.a12 (rQ g hg).toLoadRect (View.loadsAt_vmem h_S1x128x512))
  let v : Vec F S1x128x512 .bf16 ← Prog.lift (.load R.a8 (Rect.unit (s := S1x128x1024) off8 S1x128x512.size inb8).toLoadRect (View.loadsAt_vmem h_S1x128x512))
  let l : Vec F S8x512 .f32 ← Prog.lift (.load R.a14 r8.toLoadRect (View.loadsAt_vmem h_S8x512))
  let _ ← put8 R.a14 (sumC l (wC c2 m (rawC tb j k q)))
  pure ⟨shapeCast S128x512 v shapeCasts_S1x128x512_S128x512, wC c2 m (rawC tb j k q)⟩

/-- … and of its products. -/
def tripC2 (v : FVec F S128x512 .bf16) (w : FVec F S512x512 .f32) : Prog (TpuEff nD τ sig (Elt F) Λ .tc) (BitVec 32) := do
  let o : Vec F S128x512 .f32 ← Prog.lift (.load R.a16 r128.toLoadRect (View.loadsAt_vmem h_S128x512))
  let _ ← put128 R.a16 (shapeCast S128x512 (addf o (matmul dot_S128x512_S512x512_S128x512_1_0_0_1_n_n none v
    (truncf .bf16 w bitsLt_bf16_f32) (constant S128x512 .f32 0x00000000#32)) : FVec F S128x512 .f32) shapeCasts_S128x512_S128x512)
  pure 0#32

/-- Part B: the sums and products of the attempt at the shifts `mp`, `ms`. -/
def partB (c2 cl : F .f32) (i : grid0.Coords) (tb : BitVec 32) (mp ms : FVec F S1x512 .f32) (z : FVec F S8x512 .f32) :
    Prog (TpuEff nD τ sig (Elt F) Λ .tc) (Σ' (_ : FVec F S1x512 .f32) (_ : FVec F S1x512 .f32), FVec F S1x512 .f32) := do
  let _ ← put8 R.a14 (shapeCast S8x512 z shapeCasts_S8x512_S8x512)
  let _ ← put128 R.a15 zeroO
  let _ ← put128 R.a16 zeroO
  let _ ← Scf.Loop.for k0_t5_loop k0_t5_ok 0#32 fun j _ =>
    tripP R g hg c2 mp (k0_off5 j) (k0_off5_inb j) (k0_off6 j) (k0_off6_inb j)
  let x ← Scf.Loop.for (k0_t6_loop i) (k0_t6_ok i) 0#32 fun j _ => do
    let ⟨v, w⟩ ← tripC1 R g hg c2 ms tb (Scf.iv 0#32 1#32 j) (k0_off7 i j) (k0_off7_inb i j) (k0_off8 i j) (k0_off8_inb i j)
    tripC2 R v w
  let _ ← Scf.Loop.for (k0_t7_loop i) (k0_t7_ok i) x fun j _ => do
    let ⟨v, w⟩ ← tripC1 R g hg c2 ms tb (Scf.iv (Scalar.addi 0#32 (Scalar.muli (Scalar.divsi (Scalar.subi (Scalar.addi tb 1#32) 0#32) 1#32) 1#32)) 1#32 j) (k0_off9 i j) (k0_off9_inb i j) (k0_off10 i j) (k0_off10_inb i j)
    tripC2 R v w
  let lp : Vec F S8x512 .f32 ← Prog.lift (.load R.a13 r8.toLoadRect (View.loadsAt_vmem h_S8x512))
  let ls : Vec F S8x512 .f32 ← Prog.lift (.load R.a14 r8.toLoadRect (View.loadsAt_vmem h_S8x512))
  pure ⟨colSum lp, colSum ls, lseOf cl mp (colSum lp)⟩

/-- A store of a row over head `g`'s row of a logarithm block, after its dead load. -/
def putL (m : Memref sig .tc .vmem S1x1x7x512 .f32) (w : FVec F S1x512 .f32) : Prog (TpuEff nD τ sig (Elt F) Λ .tc) PUnit := do
  let _ ← Prog.lift (.load m (rL g hg).toLoadRect (View.loadsAt_vmem h_S1x1x1x512))
  Prog.lift (.store m (rL g hg) (shapeCast S1x1x1x512 w shapeCasts_S1x512_S1x1x1x512 : FVec F S1x1x1x512 .f32) Finset.univ (View.stores_vmem_bits_univ h_S1x1x1x512 rfl) (.inl rfl))

/-- Part C: the output and the prompt's logarithm stored; it returns the output and the completion's logarithm. -/
def partC (cl : F .f32) (tb : BitVec 32) (ms lp ls lsep : FVec F S1x512 .f32) :
    Prog (TpuEff nD τ sig (Elt F) Λ .tc) (Σ' (_ : FVec F S128x512 .f32), FVec F S1x512 .f32) := do
  let op : Vec F S128x512 .f32 ← Prog.lift (.load R.a15 r128.toLoadRect (View.loadsAt_vmem h_S128x512))
  let os : Vec F S128x512 .f32 ← Prog.lift (.load R.a16 r128.toLoadRect (View.loadsAt_vmem h_S128x512))
  let out : FVec F S128x512 .f32 := outOf (share lsep (lseBoth lsep (lseOf cl ms ls)) lp) (share (lseOf cl ms ls) (lseBoth lsep (lseOf cl ms ls)) ls) op os
  let _ ← put128 R.a15 (shapeCast S128x512 out shapeCasts_S128x512_S128x512)
  let _ ← putL g hg R.a10 (lseP lsep)
  pure ⟨out, lseC tb (lseOf cl ms ls)⟩

/-- The whole body of the `while`: an attempt at counter `n` below two, then `again` at the next counter; else the counter. -/
def whileBody (c2 cl : F .f32) (i : grid0.Coords) (n : BitVec 32) (C : Prop) (dC : Decidable C) (hC : C → k0_chk1 i n)
    (again : BitVec 32 → Prog (TpuEff nD τ sig (Elt F) Λ .tc) (BitVec 32)) : Prog (TpuEff nD τ sig (Elt F) Λ .tc) (BitVec 32) := do
  if Scalar.cmpi .slt n 2#32 = 1#1 then do
    let ⟨mp, ms, z⟩ ← partA R g hg i n (BitVec.ofNat 32 (i 2).val) C dC hC
    let ⟨lp, ls, lsep⟩ ← partB R g hg c2 cl i (BitVec.ofNat 32 (i 2).val) mp ms z
    let ⟨out, lsec⟩ ← partC R g hg cl (BitVec.ofNat 32 (i 2).val) ms lp ls lsep
    let _ ← putL g hg R.a11 lsec
    again (next n (nBad lp ls out))
  else pure n

end Cert.Attn

end
-- ==== Proof.Main.lean ====
/-
  The kernel body as ONE program, for either of the two programs: the queries dequantised and put head by head into their
  scratch buffer, then for every head the `while`'s label called at attempt 0 and the head's output put into its columns of
  the output block.
-/
module

public import proofs.«01_k».proof.Proof.Head

@[expose] public section

set_option maxRecDepth 16384

noncomputable section

namespace Cert.Attn

open Idealize.ShloMosaic Idealize.SL.Sem
open Cert.KernelIdeal Cert.KernelIdeal.Gen

variable {F : FTy → Type} [FloatOps F] {nD : ℕ} {τ : Topo} {sig : RefSig} {Λ : Labels}

/-- The scale of every 32 features of a row of queries: two to the (byte − 127). -/
def scales (e : Vec F S1x1x512x28 .i8) : FVec F S512x28 .bf16 :=
  truncf .bf16 (bitcastToFloat .f32 (shli (extui 32 (shapeCast S512x28 e shapeCasts_S1x1x512x28_S512x28 : IVec S512x28 8) natLt_8_32) (broadcast S512x28 23#32))) bitsLt_bf16_f32

/-- The 28 x 896 matrix that spreads each scale over its 32 features. -/
def spread : FVec F S28x896 .bf16 :=
  truncf .bf16 (sitofp .f32 (extui 32 (cmpi .eq
    (select (andi (cmpi .ne
          (subi (extui 32 (cmpi .sgt (iota .tc S28x896 32 [1] iota_S28x896_d1_w32) (broadcast S28x896 0#32)) natLt_1_32)
            (extui 32 (cmpi .slt (iota .tc S28x896 32 [1] iota_S28x896_d1_w32) (broadcast S28x896 0#32)) natLt_1_32))
          (broadcast S28x896 (Scalar.subi (Scalar.extui (Scalar.cmpi .sgt 32#32 0#32)) (Scalar.extui (Scalar.cmpi .slt 32#32 0#32)))))
        (cmpi .ne (remsi (iota .tc S28x896 32 [1] iota_S28x896_d1_w32) (broadcast S28x896 32#32)) (broadcast S28x896 0#32)))
      (subi (divsi (iota .tc S28x896 32 [1] iota_S28x896_d1_w32) (broadcast S28x896 32#32)) (broadcast S28x896 1#32))
      (divsi (iota .tc S28x896 32 [1] iota_S28x896_d1_w32) (broadcast S28x896 32#32)))
    (iota .tc S28x896 32 [0] iota_S28x896_d0_w32)) natLt_1_32) : FVec F S28x896 .f32) bitsLt_bf16_f32

/-- The dequantised queries of a block: codes times spread scales. -/
def deq (q : Vec F S1x512x896 .fp8e4m3) (e : Vec F S1x1x512x28 .i8) : FVec F S512x896 .bf16 :=
  mulf (extf .bf16 (shapeCast S512x896 q shapeCasts_S1x512x896_S512x896 : FVec F S512x896 .fp8e4m3) bitsLt_fp8e4m3_bf16)
    (truncf .bf16 (matmul dot_S512x28_S28x896_S512x896_1_0_0_1_n_n none (scales e) spread (constant S512x896 .f32 0x00000000#32)) bitsLt_bf16_f32)

theorem slQ (g : ℕ) (hg : g < 7) : S512x896.Slices ![0, 128 * g] S512x128 := by
  interval_cases g
  exacts [slices_S512x896_o0_0_S512x128, slices_S512x896_o0_128_S512x128, slices_S512x896_o0_256_S512x128, slices_S512x896_o0_384_S512x128,
    slices_S512x896_o0_512_S512x128, slices_S512x896_o0_640_S512x128, slices_S512x896_o0_768_S512x128]

/-- Head `g`'s dequantised queries, features down. -/
def qRow (x : FVec F S512x896 .bf16) (g : ℕ) (hg : g < 7) : FVec F S1x128x512 .bf16 :=
  shapeCast S1x128x512 (transpose S128x512 [1, 0] (extractStridedSlice S512x128 ![0, 128 * g] x (slQ g hg) : FVec F S512x128 .bf16) transposes_S512x128_p1_0_S128x512 : FVec F S128x512 .bf16) shapeCasts_S128x512_S1x128x512

/-- A head's output as the output block's columns take it: queries down, rounded. -/
def oRow (o : Vec F S128x512 .f32) : FVec F S1x512x128 .bf16 :=
  shapeCast S1x512x128 (truncf .bf16 (transpose S512x128 [1, 0] o transposes_S128x512_p1_0_S512x128 : FVec F S512x128 .f32) bitsLt_bf16_f32 : FVec F S512x128 .bf16) shapeCasts_S512x128_S1x512x128

theorem inbO (g : ℕ) (hg : g < 7) : ∀ a, (![0, 0, 128 * g] : Fin 3 → ℕ) a + S1x512x128.size a ≤ S1x512x896.size a := by
  intro a; fin_cases a <;> simp [S1x512x128, S1x512x896] <;> omega

/-- Head `g`'s columns of the output block. -/
abbrev rO (g : ℕ) (hg : g < 7) : Rect S1x512x896 := Rect.unit (s := S1x512x896) ![0, 0, 128 * g] S1x512x128.size (inbO g hg)

variable (R : Refs sig) (a3 : Memref sig .tc .vmem S1x512x896 .fp8e4m3) (a4 : Memref sig .tc .vmem S1x1x512x28 .i8) (a9 : Memref sig .tc .vmem S1x512x896 .bf16)
variable (sQ : ∀ g (hg : g < 7), (R.a12.access (rQ g hg)).Stores Finset.univ) (sO : ∀ g (hg : g < 7), (a9.access (rO g hg)).Stores Finset.univ)

/-- Head `g`'s queries put into the scratch buffer. -/
def putQ (x : FVec F S512x896 .bf16) (g : ℕ) (hg : g < 7) : Prog (TpuEff nD τ sig (Elt F) Λ .tc) PUnit := do
  let _ ← Prog.lift (.load R.a12 (rQ g hg).toLoadRect (View.loadsAt_vmem h_S1x128x512))
  Prog.lift (.store R.a12 (rQ g hg) (qRow x g hg) Finset.univ (sQ g hg) (.inl rfl))

/-- Head `g` attended and its output put into the block. -/
def emit (call : ℕ → Prog (TpuEff nD τ sig (Elt F) Λ .tc) (BitVec 32)) (g : ℕ) (hg : g < 7) : Prog (TpuEff nD τ sig (Elt F) Λ .tc) PUnit := do
  let _ ← call g
  let o : Vec F S128x512 .f32 ← Prog.lift (.load R.a15 r128.toLoadRect (View.loadsAt_vmem h_S128x512))
  let _ ← Prog.lift (.load a9 (rO g hg).toLoadRect (View.loadsAt_vmem h_S1x512x128))
  Prog.lift (.store a9 (rO g hg) (oRow o) Finset.univ (sO g hg) (.inl rfl))

/-- The seven heads' queries put into the scratch buffer. -/
def prologue : Prog (TpuEff nD τ sig (Elt F) Λ .tc) PUnit := do
  let q : Vec F S1x512x896 .fp8e4m3 ← Prog.lift (.load a3 (Rect.unit (s := S1x512x896) ![0, 0, 0] S1x512x896.size inb_S1x512x896_S1x512x896_0_0_0).toLoadRect (View.loadsAt_vmem h_S1x512x896))
  let e : Vec F S1x1x512x28 .i8 ← Prog.lift (.load a4 (Rect.unit (s := S1x1x512x28) ![0, 0, 0, 0] S1x1x512x28.size inb_S1x1x512x28_S1x1x512x28_0_0_0_0).toLoadRect (View.loadsAt_vmem h_S1x1x512x28))
  putQ R sQ (deq q e) 0 (by decide)
  putQ R sQ (deq q e) 1 (by decide)
  putQ R sQ (deq q e) 2 (by decide)
  putQ R sQ (deq q e) 3 (by decide)
  putQ R sQ (deq q e) 4 (by decide)
  putQ R sQ (deq q e) 5 (by decide)
  putQ R sQ (deq q e) 6 (by decide)

/-- The kernel body. -/
def body (call : ℕ → Prog (TpuEff nD τ sig (Elt F) Λ .tc) (BitVec 32)) : Prog (TpuEff nD τ sig (Elt F) Λ .tc) PUnit := do
  prologue R a3 a4 sQ
  emit R a9 sO call 0 (by decide)
  emit R a9 sO call 1 (by decide)
  emit R a9 sO call 2 (by decide)
  emit R a9 sO call 3 (by decide)
  emit R a9 sO call 4 (by decide)
  emit R a9 sO call 5 (by decide)
  emit R a9 sO call 6 (by decide)
  pure ⟨⟩

end Cert.Attn

end
-- ==== Proof.EqKernel.lean ====
/-
  The seven printed `while` functions of the words' program are the one program `Attn.whileBody`, at heads 0 to 6,
  and its printed body is `Attn.body` calling those seven labels.
-/
module

public import proofs.«01_k».proof.Proof.Gen.Kernel
public import proofs.«01_k».proof.Proof.Main

@[expose] public section

set_option maxRecDepth 16384

noncomputable section

namespace Cert.Attn.Kernel

open Idealize.ShloMosaic Idealize.SL.Sem
open Cert.Kernel Cert.Kernel.Gen

variable {F : FTy → Type} [FloatOps F]

theorem while1_eq (i : grid0.Coords) (arg5 : Memref sig .tc .vmem S1x28672x128 .bf16) (harg5 : arg5.IsWhole) (arg12 : Memref sig .tc .vmem S7x128x512 .bf16) (harg12 : arg12.IsWhole) (arg7 : Memref sig .tc .vmem S1x1024x128 .bf16) (harg7 : arg7.IsWhole) (arg13 : Memref sig .tc .vmem S8x512 .f32) (harg13 : arg13.IsWhole) (arg14 : Memref sig .tc .vmem S8x512 .f32) (harg14 : arg14.IsWhole) (arg15 : Memref sig .tc .vmem S128x512 .f32) (harg15 : arg15.IsWhole) (arg16 : Memref sig .tc .vmem S128x512 .f32) (harg16 : arg16.IsWhole) (arg6 : Memref sig .tc .vmem S1x128x28672 .bf16) (harg6 : arg6.IsWhole) (arg8 : Memref sig .tc .vmem S1x128x1024 .bf16) (harg8 : arg8.IsWhole) (arg10 : Memref sig .tc .vmem S1x1x7x512 .f32) (harg10 : arg10.IsWhole) (arg11 : Memref sig .tc .vmem S1x1x7x512 .f32) (harg11 : arg11.IsWhole) (n : BitVec 32) :
    cc0_while1 i arg5 harg5 arg12 harg12 arg7 harg7 arg13 harg13 arg14 harg14 arg15 harg15 arg16 harg16 arg6 harg6 arg8 harg8 arg10 harg10 arg11 harg11 n
      = Attn.whileBody (F := F) (nD := nD) (τ := τ) (sig := sig) (Λ := Λ₀ F) ⟨arg5, arg6, arg7, arg8, arg10, arg11, arg12, arg13, arg14, arg15, arg16⟩ 0 (by decide) (Scalar.ofBits .f32 0x3E0293EE#32) (Scalar.ofBits .f32 0x3DB504F3#32) i n (k0_chk1 i n) (k0_chk1.dec i n) id
          (fun n' => Prog.lift (.call (1 : (Λ₀ F).Label) ⟨i, arg5, harg5, arg12, harg12, arg7, harg7, arg13, harg13, arg14, harg14, arg15, harg15, arg16, harg16, arg6, harg6, arg8, harg8, arg10, harg10, arg11, harg11, n'⟩)) := rfl

theorem while2_eq (i : grid0.Coords) (arg5 : Memref sig .tc .vmem S1x28672x128 .bf16) (harg5 : arg5.IsWhole) (arg12 : Memref sig .tc .vmem S7x128x512 .bf16) (harg12 : arg12.IsWhole) (arg7 : Memref sig .tc .vmem S1x1024x128 .bf16) (harg7 : arg7.IsWhole) (arg13 : Memref sig .tc .vmem S8x512 .f32) (harg13 : arg13.IsWhole) (arg14 : Memref sig .tc .vmem S8x512 .f32) (harg14 : arg14.IsWhole) (arg15 : Memref sig .tc .vmem S128x512 .f32) (harg15 : arg15.IsWhole) (arg16 : Memref sig .tc .vmem S128x512 .f32) (harg16 : arg16.IsWhole) (arg6 : Memref sig .tc .vmem S1x128x28672 .bf16) (harg6 : arg6.IsWhole) (arg8 : Memref sig .tc .vmem S1x128x1024 .bf16) (harg8 : arg8.IsWhole) (arg10 : Memref sig .tc .vmem S1x1x7x512 .f32) (harg10 : arg10.IsWhole) (arg11 : Memref sig .tc .vmem S1x1x7x512 .f32) (harg11 : arg11.IsWhole) (n : BitVec 32) :
    cc0_while2 i arg5 harg5 arg12 harg12 arg7 harg7 arg13 harg13 arg14 harg14 arg15 harg15 arg16 harg16 arg6 harg6 arg8 harg8 arg10 harg10 arg11 harg11 n
      = Attn.whileBody (F := F) (nD := nD) (τ := τ) (sig := sig) (Λ := Λ₀ F) ⟨arg5, arg6, arg7, arg8, arg10, arg11, arg12, arg13, arg14, arg15, arg16⟩ 1 (by decide) (Scalar.ofBits .f32 0x3E0293EE#32) (Scalar.ofBits .f32 0x3DB504F3#32) i n (k0_chk2 i n) (k0_chk2.dec i n) id
          (fun n' => Prog.lift (.call (2 : (Λ₀ F).Label) ⟨i, arg5, harg5, arg12, harg12, arg7, harg7, arg13, harg13, arg14, harg14, arg15, harg15, arg16, harg16, arg6, harg6, arg8, harg8, arg10, harg10, arg11, harg11, n'⟩)) := rfl

theorem while3_eq (i : grid0.Coords) (arg5 : Memref sig .tc .vmem S1x28672x128 .bf16) (harg5 : arg5.IsWhole) (arg12 : Memref sig .tc .vmem S7x128x512 .bf16) (harg12 : arg12.IsWhole) (arg7 : Memref sig .tc .vmem S1x1024x128 .bf16) (harg7 : arg7.IsWhole) (arg13 : Memref sig .tc .vmem S8x512 .f32) (harg13 : arg13.IsWhole) (arg14 : Memref sig .tc .vmem S8x512 .f32) (harg14 : arg14.IsWhole) (arg15 : Memref sig .tc .vmem S128x512 .f32) (harg15 : arg15.IsWhole) (arg16 : Memref sig .tc .vmem S128x512 .f32) (harg16 : arg16.IsWhole) (arg6 : Memref sig .tc .vmem S1x128x28672 .bf16) (harg6 : arg6.IsWhole) (arg8 : Memref sig .tc .vmem S1x128x1024 .bf16) (harg8 : arg8.IsWhole) (arg10 : Memref sig .tc .vmem S1x1x7x512 .f32) (harg10 : arg10.IsWhole) (arg11 : Memref sig .tc .vmem S1x1x7x512 .f32) (harg11 : arg11.IsWhole) (n : BitVec 32) :
    cc0_while3 i arg5 harg5 arg12 harg12 arg7 harg7 arg13 harg13 arg14 harg14 arg15 harg15 arg16 harg16 arg6 harg6 arg8 harg8 arg10 harg10 arg11 harg11 n
      = Attn.whileBody (F := F) (nD := nD) (τ := τ) (sig := sig) (Λ := Λ₀ F) ⟨arg5, arg6, arg7, arg8, arg10, arg11, arg12, arg13, arg14, arg15, arg16⟩ 2 (by decide) (Scalar.ofBits .f32 0x3E0293EE#32) (Scalar.ofBits .f32 0x3DB504F3#32) i n (k0_chk3 i n) (k0_chk3.dec i n) id
          (fun n' => Prog.lift (.call (3 : (Λ₀ F).Label) ⟨i, arg5, harg5, arg12, harg12, arg7, harg7, arg13, harg13, arg14, harg14, arg15, harg15, arg16, harg16, arg6, harg6, arg8, harg8, arg10, harg10, arg11, harg11, n'⟩)) := rfl

theorem while4_eq (i : grid0.Coords) (arg5 : Memref sig .tc .vmem S1x28672x128 .bf16) (harg5 : arg5.IsWhole) (arg12 : Memref sig .tc .vmem S7x128x512 .bf16) (harg12 : arg12.IsWhole) (arg7 : Memref sig .tc .vmem S1x1024x128 .bf16) (harg7 : arg7.IsWhole) (arg13 : Memref sig .tc .vmem S8x512 .f32) (harg13 : arg13.IsWhole) (arg14 : Memref sig .tc .vmem S8x512 .f32) (harg14 : arg14.IsWhole) (arg15 : Memref sig .tc .vmem S128x512 .f32) (harg15 : arg15.IsWhole) (arg16 : Memref sig .tc .vmem S128x512 .f32) (harg16 : arg16.IsWhole) (arg6 : Memref sig .tc .vmem S1x128x28672 .bf16) (harg6 : arg6.IsWhole) (arg8 : Memref sig .tc .vmem S1x128x1024 .bf16) (harg8 : arg8.IsWhole) (arg10 : Memref sig .tc .vmem S1x1x7x512 .f32) (harg10 : arg10.IsWhole) (arg11 : Memref sig .tc .vmem S1x1x7x512 .f32) (harg11 : arg11.IsWhole) (n : BitVec 32) :
    cc0_while4 i arg5 harg5 arg12 harg12 arg7 harg7 arg13 harg13 arg14 harg14 arg15 harg15 arg16 harg16 arg6 harg6 arg8 harg8 arg10 harg10 arg11 harg11 n
      = Attn.whileBody (F := F) (nD := nD) (τ := τ) (sig := sig) (Λ := Λ₀ F) ⟨arg5, arg6, arg7, arg8, arg10, arg11, arg12, arg13, arg14, arg15, arg16⟩ 3 (by decide) (Scalar.ofBits .f32 0x3E0293EE#32) (Scalar.ofBits .f32 0x3DB504F3#32) i n (k0_chk4 i n) (k0_chk4.dec i n) id
          (fun n' => Prog.lift (.call (4 : (Λ₀ F).Label) ⟨i, arg5, harg5, arg12, harg12, arg7, harg7, arg13, harg13, arg14, harg14, arg15, harg15, arg16, harg16, arg6, harg6, arg8, harg8, arg10, harg10, arg11, harg11, n'⟩)) := rfl

theorem while5_eq (i : grid0.Coords) (arg5 : Memref sig .tc .vmem S1x28672x128 .bf16) (harg5 : arg5.IsWhole) (arg12 : Memref sig .tc .vmem S7x128x512 .bf16) (harg12 : arg12.IsWhole) (arg7 : Memref sig .tc .vmem S1x1024x128 .bf16) (harg7 : arg7.IsWhole) (arg13 : Memref sig .tc .vmem S8x512 .f32) (harg13 : arg13.IsWhole) (arg14 : Memref sig .tc .vmem S8x512 .f32) (harg14 : arg14.IsWhole) (arg15 : Memref sig .tc .vmem S128x512 .f32) (harg15 : arg15.IsWhole) (arg16 : Memref sig .tc .vmem S128x512 .f32) (harg16 : arg16.IsWhole) (arg6 : Memref sig .tc .vmem S1x128x28672 .bf16) (harg6 : arg6.IsWhole) (arg8 : Memref sig .tc .vmem S1x128x1024 .bf16) (harg8 : arg8.IsWhole) (arg10 : Memref sig .tc .vmem S1x1x7x512 .f32) (harg10 : arg10.IsWhole) (arg11 : Memref sig .tc .vmem S1x1x7x512 .f32) (harg11 : arg11.IsWhole) (n : BitVec 32) :
    cc0_while5 i arg5 harg5 arg12 harg12 arg7 harg7 arg13 harg13 arg14 harg14 arg15 harg15 arg16 harg16 arg6 harg6 arg8 harg8 arg10 harg10 arg11 harg11 n
      = Attn.whileBody (F := F) (nD := nD) (τ := τ) (sig := sig) (Λ := Λ₀ F) ⟨arg5, arg6, arg7, arg8, arg10, arg11, arg12, arg13, arg14, arg15, arg16⟩ 4 (by decide) (Scalar.ofBits .f32 0x3E0293EE#32) (Scalar.ofBits .f32 0x3DB504F3#32) i n (k0_chk5 i n) (k0_chk5.dec i n) id
          (fun n' => Prog.lift (.call (5 : (Λ₀ F).Label) ⟨i, arg5, harg5, arg12, harg12, arg7, harg7, arg13, harg13, arg14, harg14, arg15, harg15, arg16, harg16, arg6, harg6, arg8, harg8, arg10, harg10, arg11, harg11, n'⟩)) := rfl

theorem while6_eq (i : grid0.Coords) (arg5 : Memref sig .tc .vmem S1x28672x128 .bf16) (harg5 : arg5.IsWhole) (arg12 : Memref sig .tc .vmem S7x128x512 .bf16) (harg12 : arg12.IsWhole) (arg7 : Memref sig .tc .vmem S1x1024x128 .bf16) (harg7 : arg7.IsWhole) (arg13 : Memref sig .tc .vmem S8x512 .f32) (harg13 : arg13.IsWhole) (arg14 : Memref sig .tc .vmem S8x512 .f32) (harg14 : arg14.IsWhole) (arg15 : Memref sig .tc .vmem S128x512 .f32) (harg15 : arg15.IsWhole) (arg16 : Memref sig .tc .vmem S128x512 .f32) (harg16 : arg16.IsWhole) (arg6 : Memref sig .tc .vmem S1x128x28672 .bf16) (harg6 : arg6.IsWhole) (arg8 : Memref sig .tc .vmem S1x128x1024 .bf16) (harg8 : arg8.IsWhole) (arg10 : Memref sig .tc .vmem S1x1x7x512 .f32) (harg10 : arg10.IsWhole) (arg11 : Memref sig .tc .vmem S1x1x7x512 .f32) (harg11 : arg11.IsWhole) (n : BitVec 32) :
    cc0_while6 i arg5 harg5 arg12 harg12 arg7 harg7 arg13 harg13 arg14 harg14 arg15 harg15 arg16 harg16 arg6 harg6 arg8 harg8 arg10 harg10 arg11 harg11 n
      = Attn.whileBody (F := F) (nD := nD) (τ := τ) (sig := sig) (Λ := Λ₀ F) ⟨arg5, arg6, arg7, arg8, arg10, arg11, arg12, arg13, arg14, arg15, arg16⟩ 5 (by decide) (Scalar.ofBits .f32 0x3E0293EE#32) (Scalar.ofBits .f32 0x3DB504F3#32) i n (k0_chk6 i n) (k0_chk6.dec i n) id
          (fun n' => Prog.lift (.call (6 : (Λ₀ F).Label) ⟨i, arg5, harg5, arg12, harg12, arg7, harg7, arg13, harg13, arg14, harg14, arg15, harg15, arg16, harg16, arg6, harg6, arg8, harg8, arg10, harg10, arg11, harg11, n'⟩)) := rfl

theorem while7_eq (i : grid0.Coords) (arg5 : Memref sig .tc .vmem S1x28672x128 .bf16) (harg5 : arg5.IsWhole) (arg12 : Memref sig .tc .vmem S7x128x512 .bf16) (harg12 : arg12.IsWhole) (arg7 : Memref sig .tc .vmem S1x1024x128 .bf16) (harg7 : arg7.IsWhole) (arg13 : Memref sig .tc .vmem S8x512 .f32) (harg13 : arg13.IsWhole) (arg14 : Memref sig .tc .vmem S8x512 .f32) (harg14 : arg14.IsWhole) (arg15 : Memref sig .tc .vmem S128x512 .f32) (harg15 : arg15.IsWhole) (arg16 : Memref sig .tc .vmem S128x512 .f32) (harg16 : arg16.IsWhole) (arg6 : Memref sig .tc .vmem S1x128x28672 .bf16) (harg6 : arg6.IsWhole) (arg8 : Memref sig .tc .vmem S1x128x1024 .bf16) (harg8 : arg8.IsWhole) (arg10 : Memref sig .tc .vmem S1x1x7x512 .f32) (harg10 : arg10.IsWhole) (arg11 : Memref sig .tc .vmem S1x1x7x512 .f32) (harg11 : arg11.IsWhole) (n : BitVec 32) :
    cc0_while7 i arg5 harg5 arg12 harg12 arg7 harg7 arg13 harg13 arg14 harg14 arg15 harg15 arg16 harg16 arg6 harg6 arg8 harg8 arg10 harg10 arg11 harg11 n
      = Attn.whileBody (F := F) (nD := nD) (τ := τ) (sig := sig) (Λ := Λ₀ F) ⟨arg5, arg6, arg7, arg8, arg10, arg11, arg12, arg13, arg14, arg15, arg16⟩ 6 (by decide) (Scalar.ofBits .f32 0x3E0293EE#32) (Scalar.ofBits .f32 0x3DB504F3#32) i n (k0_chk7 i n) (k0_chk7.dec i n) id
          (fun n' => Prog.lift (.call (7 : (Λ₀ F).Label) ⟨i, arg5, harg5, arg12, harg12, arg7, harg7, arg13, harg13, arg14, harg14, arg15, harg15, arg16, harg16, arg6, harg6, arg8, harg8, arg10, harg10, arg11, harg11, n'⟩)) := rfl

variable (F) in
/-- The call of head `g`'s label at attempt 0. -/
def callOf (i : grid0.Coords) (arg5 : Memref sig .tc .vmem S1x28672x128 .bf16) (harg5 : arg5.IsWhole) (arg6 : Memref sig .tc .vmem S1x128x28672 .bf16) (harg6 : arg6.IsWhole) (arg7 : Memref sig .tc .vmem S1x1024x128 .bf16) (harg7 : arg7.IsWhole) (arg8 : Memref sig .tc .vmem S1x128x1024 .bf16) (harg8 : arg8.IsWhole) (arg10 : Memref sig .tc .vmem S1x1x7x512 .f32) (harg10 : arg10.IsWhole) (arg11 : Memref sig .tc .vmem S1x1x7x512 .f32) (harg11 : arg11.IsWhole) (arg12 : Memref sig .tc .vmem S7x128x512 .bf16) (harg12 : arg12.IsWhole) (arg13 : Memref sig .tc .vmem S8x512 .f32) (harg13 : arg13.IsWhole) (arg14 : Memref sig .tc .vmem S8x512 .f32) (harg14 : arg14.IsWhole) (arg15 : Memref sig .tc .vmem S128x512 .f32) (harg15 : arg15.IsWhole) (arg16 : Memref sig .tc .vmem S128x512 .f32) (harg16 : arg16.IsWhole) : ℕ → Prog (TpuEff nD τ sig (Elt F) (Λ₀ F) .tc) (BitVec 32)
  | 0 => Prog.lift (.call (1 : (Λ₀ F).Label) ⟨i, arg5, harg5, arg12, harg12, arg7, harg7, arg13, harg13, arg14, harg14, arg15, harg15, arg16, harg16, arg6, harg6, arg8, harg8, arg10, harg10, arg11, harg11, 0#32⟩)
  | 1 => Prog.lift (.call (2 : (Λ₀ F).Label) ⟨i, arg5, harg5, arg12, harg12, arg7, harg7, arg13, harg13, arg14, harg14, arg15, harg15, arg16, harg16, arg6, harg6, arg8, harg8, arg10, harg10, arg11, harg11, 0#32⟩)
  | 2 => Prog.lift (.call (3 : (Λ₀ F).Label) ⟨i, arg5, harg5, arg12, harg12, arg7, harg7, arg13, harg13, arg14, harg14, arg15, harg15, arg16, harg16, arg6, harg6, arg8, harg8, arg10, harg10, arg11, harg11, 0#32⟩)
  | 3 => Prog.lift (.call (4 : (Λ₀ F).Label) ⟨i, arg5, harg5, arg12, harg12, arg7, harg7, arg13, harg13, arg14, harg14, arg15, harg15, arg16, harg16, arg6, harg6, arg8, harg8, arg10, harg10, arg11, harg11, 0#32⟩)
  | 4 => Prog.lift (.call (5 : (Λ₀ F).Label) ⟨i, arg5, harg5, arg12, harg12, arg7, harg7, arg13, harg13, arg14, harg14, arg15, harg15, arg16, harg16, arg6, harg6, arg8, harg8, arg10, harg10, arg11, harg11, 0#32⟩)
  | 5 => Prog.lift (.call (6 : (Λ₀ F).Label) ⟨i, arg5, harg5, arg12, harg12, arg7, harg7, arg13, harg13, arg14, harg14, arg15, harg15, arg16, harg16, arg6, harg6, arg8, harg8, arg10, harg10, arg11, harg11, 0#32⟩)
  | _ => Prog.lift (.call (7 : (Λ₀ F).Label) ⟨i, arg5, harg5, arg12, harg12, arg7, harg7, arg13, harg13, arg14, harg14, arg15, harg15, arg16, harg16, arg6, harg6, arg8, harg8, arg10, harg10, arg11, harg11, 0#32⟩)

theorem storesQ (m : Memref sig .tc .vmem S7x128x512 .bf16) (h : m.IsWhole) : ∀ g (hg : g < 7), (m.access (Attn.rQ g hg)).Stores Finset.univ := by
  intro g hg; interval_cases g
  exacts [View.stores_vmem h_S1x128x512 (h.storeExact_slice rfl _ packedbf16_S7x128x512_S1x128x512_0_0_0) (fun _ => rfl),
    View.stores_vmem h_S1x128x512 (h.storeExact_slice rfl _ packedbf16_S7x128x512_S1x128x512_1_0_0) (fun _ => rfl),
    View.stores_vmem h_S1x128x512 (h.storeExact_slice rfl _ packedbf16_S7x128x512_S1x128x512_2_0_0) (fun _ => rfl),
    View.stores_vmem h_S1x128x512 (h.storeExact_slice rfl _ packedbf16_S7x128x512_S1x128x512_3_0_0) (fun _ => rfl),
    View.stores_vmem h_S1x128x512 (h.storeExact_slice rfl _ packedbf16_S7x128x512_S1x128x512_4_0_0) (fun _ => rfl),
    View.stores_vmem h_S1x128x512 (h.storeExact_slice rfl _ packedbf16_S7x128x512_S1x128x512_5_0_0) (fun _ => rfl),
    View.stores_vmem h_S1x128x512 (h.storeExact_slice rfl _ packedbf16_S7x128x512_S1x128x512_6_0_0) (fun _ => rfl)]

theorem storesO (m : Memref sig .tc .vmem S1x512x896 .bf16) (h : m.IsWhole) : ∀ g (hg : g < 7), (m.access (Attn.rO g hg)).Stores Finset.univ := by
  intro g hg; interval_cases g
  exacts [View.stores_vmem h_S1x512x128 (h.storeExact_slice rfl _ packedbf16_S1x512x896_S1x512x128_0_0_0) (fun _ => rfl),
    View.stores_vmem h_S1x512x128 (h.storeExact_slice rfl _ packedbf16_S1x512x896_S1x512x128_0_0_128) (fun _ => rfl),
    View.stores_vmem h_S1x512x128 (h.storeExact_slice rfl _ packedbf16_S1x512x896_S1x512x128_0_0_256) (fun _ => rfl),
    View.stores_vmem h_S1x512x128 (h.storeExact_slice rfl _ packedbf16_S1x512x896_S1x512x128_0_0_384) (fun _ => rfl),
    View.stores_vmem h_S1x512x128 (h.storeExact_slice rfl _ packedbf16_S1x512x896_S1x512x128_0_0_512) (fun _ => rfl),
    View.stores_vmem h_S1x512x128 (h.storeExact_slice rfl _ packedbf16_S1x512x896_S1x512x128_0_0_640) (fun _ => rfl),
    View.stores_vmem h_S1x512x128 (h.storeExact_slice rfl _ packedbf16_S1x512x896_S1x512x128_0_0_768) (fun _ => rfl)]

theorem body_eq (i : grid0.Coords) (arg3 : Memref sig .tc .vmem S1x512x896 .fp8e4m3) (harg3 : arg3.IsWhole) (arg4 : Memref sig .tc .vmem S1x1x512x28 .i8) (harg4 : arg4.IsWhole)
    (arg9 : Memref sig .tc .vmem S1x512x896 .bf16) (harg9 : arg9.IsWhole) (arg5 : Memref sig .tc .vmem S1x28672x128 .bf16) (harg5 : arg5.IsWhole) (arg6 : Memref sig .tc .vmem S1x128x28672 .bf16) (harg6 : arg6.IsWhole) (arg7 : Memref sig .tc .vmem S1x1024x128 .bf16) (harg7 : arg7.IsWhole) (arg8 : Memref sig .tc .vmem S1x128x1024 .bf16) (harg8 : arg8.IsWhole) (arg10 : Memref sig .tc .vmem S1x1x7x512 .f32) (harg10 : arg10.IsWhole) (arg11 : Memref sig .tc .vmem S1x1x7x512 .f32) (harg11 : arg11.IsWhole) (arg12 : Memref sig .tc .vmem S7x128x512 .bf16) (harg12 : arg12.IsWhole) (arg13 : Memref sig .tc .vmem S8x512 .f32) (harg13 : arg13.IsWhole) (arg14 : Memref sig .tc .vmem S8x512 .f32) (harg14 : arg14.IsWhole) (arg15 : Memref sig .tc .vmem S128x512 .f32) (harg15 : arg15.IsWhole) (arg16 : Memref sig .tc .vmem S128x512 .f32) (harg16 : arg16.IsWhole) :
    cc0_shared_prompt_attention (F := F) i arg3 harg3 arg4 harg4 arg5 harg5 arg6 harg6 arg7 harg7 arg8 harg8 arg9 harg9 arg10 harg10 arg11 harg11 arg12 harg12 arg13 harg13 arg14 harg14 arg15 harg15 arg16 harg16
      = Attn.body (F := F) (nD := nD) (τ := τ) (sig := sig) (Λ := Λ₀ F) ⟨arg5, arg6, arg7, arg8, arg10, arg11, arg12, arg13, arg14, arg15, arg16⟩ arg3 arg4 arg9 (storesQ arg12 harg12) (storesO arg9 harg9)
          (callOf F i arg5 harg5 arg6 harg6 arg7 harg7 arg8 harg8 arg10 harg10 arg11 harg11 arg12 harg12 arg13 harg13 arg14 harg14 arg15 harg15 arg16 harg16) := rfl

end Cert.Attn.Kernel

end
-- ==== Proof.Trips.lean ====
/-
  The trip counts and the chunk offsets of the loops of one attempt, and the check the attempt opens with: at every grid
  point and at both attempts the check holds, the remainder loops run no trip, attempt 0's maximum loops run none either,
  and trip `j` of the others reads the chunk the loop's counter names.
-/
module

public import proofs.«01_k».proof.Proof.Gen.KernelIdeal

@[expose] public section

set_option maxRecDepth 65536

noncomputable section

namespace Cert.Attn

open Idealize.ShloMosaic Idealize.SL.Sem
open Cert.KernelIdeal Cert.KernelIdeal.Gen

/-- The grid point with third coordinate `t`, the others zero. -/
def pt (t : Fin 2) : grid0.Coords := fun a => match a with | 0 => (⟨0, by decide⟩ : Fin 4) | 1 => (⟨0, by decide⟩ : Fin 24) | 2 => t

theorem chk_pt : ∀ (t : Fin 2) (n : Fin 2), k0_chk1 (pt t) (BitVec.ofNat 32 n.val) := by
  intro t n; unfold k0_chk1; revert t n; decide +kernel

theorem chk_eq (i : grid0.Coords) (n : BitVec 32) : k0_chk1 i n = k0_chk1 (pt (i 2)) n := rfl

theorem chk (i : grid0.Coords) (n : Fin 2) : k0_chk1 i (BitVec.ofNat 32 n.val) := by rw [chk_eq]; exact chk_pt _ n

theorem t1_trips : ∀ n : Fin 2, (k0_t1_loop (BitVec.ofNat 32 n.val)).trips = if n = 0 then 0 else 27 := by decide +kernel
theorem t2_trips : ∀ n : Fin 2, (k0_t2_loop (BitVec.ofNat 32 n.val)).trips = 0 := by decide +kernel
theorem t3_trips' : ∀ (t n : Fin 2), (k0_t3_loop (pt t) (BitVec.ofNat 32 n.val)).trips = if n = 0 then 0 else t.val + 1 := by decide +kernel
theorem t3_trips (i : grid0.Coords) (n : Fin 2) : (k0_t3_loop i (BitVec.ofNat 32 n.val)).trips = if n = 0 then 0 else (i 2).val + 1 := t3_trips' (i 2) n
theorem t4_trips' : ∀ (t n : Fin 2), (k0_t4_loop (pt t) (BitVec.ofNat 32 n.val)).trips = 0 := by decide +kernel
theorem t4_trips (i : grid0.Coords) (n : Fin 2) : (k0_t4_loop i (BitVec.ofNat 32 n.val)).trips = 0 := t4_trips' (i 2) n
theorem t5_trips : k0_t5_loop.trips = 28 := by decide +kernel
theorem t6_trips' : ∀ t : Fin 2, (k0_t6_loop (pt t)).trips = t.val + 1 := by decide +kernel
theorem t6_trips (i : grid0.Coords) : (k0_t6_loop i).trips = (i 2).val + 1 := t6_trips' (i 2)
theorem t7_trips' : ∀ t : Fin 2, (k0_t7_loop (pt t)).trips = 0 := by decide +kernel
theorem t7_trips (i : grid0.Coords) : (k0_t7_loop i).trips = 0 := t7_trips' (i 2)

theorem off1 : ∀ (n : Fin 2) (j : Fin (k0_t1_loop (BitVec.ofNat 32 n.val)).trips), k0_off1 (BitVec.ofNat 32 n.val) j = ![0, min (j.val + 1) 27 * 1024, 0] := by decide +kernel
theorem off3' : ∀ (t n : Fin 2) (j : Fin (k0_t3_loop (pt t) (BitVec.ofNat 32 n.val)).trips), k0_off3 (pt t) (BitVec.ofNat 32 n.val) j = ![0, min j.val 1 * 512, 0] := by decide +kernel
theorem off3 (i : grid0.Coords) (n : Fin 2) (j : Fin (k0_t3_loop i (BitVec.ofNat 32 n.val)).trips) : k0_off3 i (BitVec.ofNat 32 n.val) j = ![0, min j.val 1 * 512, 0] := off3' (i 2) n j
theorem off5 : ∀ j : Fin k0_t5_loop.trips, k0_off5 j = ![0, min j.val 27 * 1024, 0] := by decide +kernel
theorem off6 : ∀ j : Fin k0_t5_loop.trips, k0_off6 j = ![0, 0, min j.val 27 * 1024] := by decide +kernel
theorem off7' : ∀ (t : Fin 2) (j : Fin (k0_t6_loop (pt t)).trips), k0_off7 (pt t) j = ![0, min j.val 1 * 512, 0] := by decide +kernel
theorem off7 (i : grid0.Coords) (j : Fin (k0_t6_loop i).trips) : k0_off7 i j = ![0, min j.val 1 * 512, 0] := off7' (i 2) j
theorem off8' : ∀ (t : Fin 2) (j : Fin (k0_t6_loop (pt t)).trips), k0_off8 (pt t) j = ![0, 0, min j.val 1 * 512] := by decide +kernel
theorem off8 (i : grid0.Coords) (j : Fin (k0_t6_loop i).trips) : k0_off8 i j = ![0, 0, min j.val 1 * 512] := off8' (i 2) j

theorem iv_eq (j : ℕ) : Scf.iv 0#32 1#32 j = BitVec.ofNat 32 j := by
  unfold Scf.iv; simp

/-! ### Chunks of the four key and value blocks -/

variable {α : Type}

theorem inbK (j : ℕ) : ∀ a, (![0, min j 27 * 1024, 0] : Fin 3 → ℕ) a + S1x1024x128.size a ≤ S1x28672x128.size a := by
  intro a; fin_cases a <;> simp [S1x1024x128, S1x28672x128] <;> omega
theorem inbV (j : ℕ) : ∀ a, (![0, 0, min j 27 * 1024] : Fin 3 → ℕ) a + S1x128x1024.size a ≤ S1x128x28672.size a := by
  intro a; fin_cases a <;> simp [S1x128x1024, S1x128x28672] <;> omega
theorem inbKc (j : ℕ) : ∀ a, (![0, min j 1 * 512, 0] : Fin 3 → ℕ) a + S1x512x128.size a ≤ S1x1024x128.size a := by
  intro a; fin_cases a <;> simp [S1x512x128, S1x1024x128] <;> omega
theorem inbVc (j : ℕ) : ∀ a, (![0, 0, min j 1 * 512] : Fin 3 → ℕ) a + S1x128x512.size a ≤ S1x128x1024.size a := by
  intro a; fin_cases a <;> simp [S1x128x512, S1x128x1024] <;> omega

/-- Chunk `j` of the prompt's keys (values transposed), of the completion's keys (values transposed). -/
def kAt (K : S1x28672x128.Idx → α) (j : ℕ) : S1x1024x128.Idx → α := fun x => K ((Rect.unit (s := S1x28672x128) ![0, min j 27 * 1024, 0] S1x1024x128.size (inbK j)).emb x)
def vAt (V : S1x128x28672.Idx → α) (j : ℕ) : S1x128x1024.Idx → α := fun x => V ((Rect.unit (s := S1x128x28672) ![0, 0, min j 27 * 1024] S1x128x1024.size (inbV j)).emb x)
def kcAt (K : S1x1024x128.Idx → α) (j : ℕ) : S1x512x128.Idx → α := fun x => K ((Rect.unit (s := S1x1024x128) ![0, min j 1 * 512, 0] S1x512x128.size (inbKc j)).emb x)
def vcAt (V : S1x128x1024.Idx → α) (j : ℕ) : S1x128x512.Idx → α := fun x => V ((Rect.unit (s := S1x128x1024) ![0, 0, min j 1 * 512] S1x128x512.size (inbVc j)).emb x)

end Cert.Attn

end
-- ==== Proof.Result.lean ====
/-
  What one head computes, as a pure function of its block's keys and values and of the head's dequantised queries: the
  shifts of attempt `n`, its running sums and products over the key chunks, its results, and which attempt is kept.
-/
module

public import proofs.«01_k».proof.Proof.Values
public import proofs.«01_k».proof.Proof.Trips

@[expose] public section

noncomputable section

namespace Cert.Attn

open Idealize.ShloMosaic Idealize.SL.Sem
open Cert.KernelIdeal Cert.KernelIdeal.Gen

variable {F : FTy → Type} [FloatOps F]

/-- What a head reads: its block's keys and values (prompt and completion), its dequantised queries, the query block. -/
structure HeadIn (F : FTy → Type) where
  K : Vec F S1x28672x128 .bf16
  V : Vec F S1x128x28672 .bf16
  Kc : Vec F S1x1024x128 .bf16
  Vc : Vec F S1x128x1024 .bf16
  q : Vec F S1x128x512 .bf16
  tb : ℕ

variable (H : HeadIn F) (c2 cl : F .f32)

/-- The largest prompt score of every query after chunks `0 … j`. -/
def maxP : ℕ → FVec F S1x512 .f32
  | 0 => colMaxP (rawP (kAt H.K 0) H.q)
  | j + 1 => maximumf (maxP j) (colMaxP (rawP (kAt H.K (j + 1)) H.q))

/-- The scores of completion chunk `j`. -/
def rawCAt (j : ℕ) : FVec F S512x512 .f32 := rawC (BitVec.ofNat 32 H.tb) (BitVec.ofNat 32 j) (kcAt H.Kc j) H.q

/-- The largest completion score of every query after `j` chunks. -/
def maxC : ℕ → FVec F S1x512 .f32
  | 0 => broadcast S1x512 (Scalar.ofBits .f32 0xFF800000#32 : F .f32)
  | j + 1 => maximumf (maxC j) (colMaxC (rawCAt H j))

/-- The prompt's running sums and products after `j` chunks, at the shift `m`. -/
def lP (m : FVec F S1x512 .f32) : ℕ → FVec F S8x512 .f32
  | 0 => zeroL
  | j + 1 => sumP (lP m j) (wP c2 m (rawP (kAt H.K j) H.q))
def oP (m : FVec F S1x512 .f32) : ℕ → FVec F S128x512 .f32
  | 0 => zeroO
  | j + 1 => prodP (oP m j) (vAt H.V j) (wP c2 m (rawP (kAt H.K j) H.q))

/-- The completion's running sums and products after `j` chunks, at the shift `m`. -/
def lC (m : FVec F S1x512 .f32) : ℕ → FVec F S8x512 .f32
  | 0 => zeroL
  | j + 1 => sumC (lC m j) (wC c2 m (rawCAt H j))
def oC (m : FVec F S1x512 .f32) : ℕ → FVec F S128x512 .f32
  | 0 => zeroO
  | j + 1 => prodC (oC m j) (vcAt H.Vc j) (wC c2 m (rawCAt H j))

/-- The two shifts of attempt `n`: the first prompt chunk's maximum for both; then the true maxima. -/
def mP (n : Fin 2) : FVec F S1x512 .f32 := maxP H (if n = 0 then 0 else 27)
def mC (n : Fin 2) : FVec F S1x512 .f32 := if n = 0 then mP H n else maxC H (H.tb + 1)

/-- The sums, logarithms and results of attempt `n`. -/
def sP (n : Fin 2) : FVec F S1x512 .f32 := colSum (lP H c2 (mP H n) 28)
def sC (n : Fin 2) : FVec F S1x512 .f32 := colSum (lC H c2 (mC H n) (H.tb + 1))
def eP (n : Fin 2) : FVec F S1x512 .f32 := lseOf cl (mP H n) (sP H c2 n)
def eC (n : Fin 2) : FVec F S1x512 .f32 := lseOf cl (mC H n) (sC H c2 n)
def outN (n : Fin 2) : FVec F S128x512 .f32 :=
  outOf (share (eP H c2 cl n) (lseBoth (eP H c2 cl n) (eC H c2 cl n)) (sP H c2 n)) (share (eC H c2 cl n) (lseBoth (eP H c2 cl n) (eC H c2 cl n)) (sC H c2 n))
    (oP H c2 (mP H n) 28) (oC H c2 (mC H n) (H.tb + 1))
def badN (n : Fin 2) : F .f32 := nBad (sP H c2 n) (sC H c2 n) (outN H c2 cl n)

/-- Whether attempt 0 failed for some query. -/
def fails : Prop := Scalar.cmpf .ogt (badN H c2 cl 0) (Scalar.ofBits .f32 0x00000000#32 : F .f32) = 1#1

/-- The attempt kept, and the results. -/
def kept : Fin 2 := open Classical in if fails H c2 cl then 1 else 0
def outH : FVec F S128x512 .f32 := outN H c2 cl (kept H c2 cl)
def lpH : FVec F S1x512 .f32 := lseP (eP H c2 cl (kept H c2 cl))
def lcH : FVec F S1x512 .f32 := lseC (BitVec.ofNat 32 H.tb) (eC H c2 cl (kept H c2 cl))

end Cert.Attn

end
-- ==== Proof.Own.lean ====
/-
  Holding a buffer "at a value": the whole buffer under a memref is held, and what the memref reads off it is `v`. A load
  at the head of a program continues at the value under the load's rectangle, a store at the value with the rectangle
  replaced.
-/
module

public import Idealize.ShloMosaic.Lib.Tactic
public import Idealize.ShloMosaic.Lib.Scf

@[expose] public section

noncomputable section

namespace Cert.Attn

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- `v` with the elements under the rectangle `r` replaced by `w`. -/
def setRect {s : Shape} {α : Type} (r : Rect s) (v : s.Idx → α) (w : r.shape.Idx → α) : s.Idx → α := fun y =>
  open Classical in if h : ∃ x, r.emb x = y then w h.choose else v y

theorem setRect_emb {s : Shape} {α : Type} (r : Rect s) (v : s.Idx → α) (w : r.shape.Idx → α) (x : r.shape.Idx) :
    setRect r v w (r.emb x) = w x := by
  have h : ∃ x', r.emb x' = r.emb x := ⟨x, rfl⟩
  rw [setRect, dif_pos h]; exact congrArg w (r.emb.injective h.choose_spec)

theorem setRect_off {s : Shape} {α : Type} (r : Rect s) (v : s.Idx → α) (w : r.shape.Idx → α) (y : s.Idx) (h : ¬∃ x, r.emb x = y) :
    setRect r v w y = v y := by rw [setRect, dif_neg h]

variable {nD : ℕ} {τ : Topo} {sig : RefSig} {Ix : Type} [DecidableEq Ix] {F : FTy → Type} [FloatOps F]
  {Name : Type} [DecidableEq Name] {U : Type} [URA U] {Lvl : Type} [Preorder Lvl] {Λ : Labels}

local notation "𝕄" => MT nD τ sig Ix (Elt F) Name U Lvl

/-- The buffer under `m` held whole, `v` what `m` reads off it. -/
def own (c : Dev nD) {s : Shape} {e : EltTy} (m : Memref sig Kind.tc Space.vmem s e) (v : s.Idx → Elt F e) : sProp 𝕄 :=
  iprop(∃ f : Buf (Elt F) (m.view.loc (c : Thread nD τ)), (m.view.loc (c : Thread nD τ) ↦{fullShare} f) ∗ ⌜m.view.read (Elt F) f = v⌝)

variable {defs : Defs nD τ sig (Elt F) Λ} (𝒱 : Variants) (c : Dev nD) (bd : Option 𝒱.V) (E : Set Name)
variable {s : Shape} {e : EltTy} {α : Type}

theorem own_load {m : Memref sig Kind.tc Space.vmem s e} {r : Rect s} {hl : m.view.LoadsAt r.toLoadRect}
    {Q : α → sProp 𝕄} {k : (r.shape.Idx → Elt F e) → Prog (TpuEff nD τ sig (Elt F) Λ .tc) α} {v : s.Idx → Elt F e} :
    own (Ix := Ix) (Name := Name) (U := U) (Lvl := Lvl) c m v
      ⊢ iprop((own c m v -∗ wp frame (wpE defs 𝒱 (c : Thread nD τ) bd) E (k fun x => v (r.emb x)) Q)
        -∗ wp frame (wpE defs 𝒱 (c : Thread nD τ) bd) E (.op (.load m r.toLoadRect hl) k) Q) := by
  unfold own
  iintro ⟨%f, Hf, %hv⟩ Hk
  subst hv
  iapply (wp_load 𝒱 (c : Thread nD τ) bd E (m := m) (Finset.subset_univ _)) $$ Hf
  iintro Hf
  iapply Hk
  iexists f
  isplitl [Hf]; · iexact Hf
  ipureintro; rfl

theorem own_store {m : Memref sig Kind.tc Space.vmem s e} {r : Rect s} {w : r.shape.Idx → Elt F e} {hx : (m.access r).Stores Finset.univ}
    {hm : (Finset.univ : Finset r.shape.Idx) = Finset.univ ∨ ∀ a, r.stride a = 1}
    {Q : α → sProp 𝕄} {k : PUnit → Prog (TpuEff nD τ sig (Elt F) Λ .tc) α} {v : s.Idx → Elt F e} :
    own (Ix := Ix) (Name := Name) (U := U) (Lvl := Lvl) c m v
      ⊢ iprop((own c m (setRect r v w) -∗ wp frame (wpE defs 𝒱 (c : Thread nD τ) bd) E (k ⟨⟩) Q)
        -∗ wp frame (wpE defs 𝒱 (c : Thread nD τ) bd) E (.op (.store m r w Finset.univ hx hm) k) Q) := by
  unfold own
  iintro ⟨%f, Hf, %hv⟩ Hk
  subst hv
  iapply (wp_store 𝒱 (c : Thread nD τ) bd E (m := m) (r := r) (Mk := Finset.univ) (Finset.subset_univ _)) $$ Hf
  iintro Hf
  iapply Hk
  iexists _
  isplitl [Hf]; · iexact Hf
  ipureintro
  funext y
  by_cases h : ∃ x, r.emb x = y
  · obtain ⟨x, rfl⟩ := h
    rw [setRect_emb]
    exact View.read_slice_write_emb (v := m.view) r f w (Finset.mem_univ x)
  · rw [setRect_off r _ _ y h]
    exact View.read_slice_write_of_not_mem (v := m.view) r f w Finset.univ (by
      intro hm; obtain ⟨x, -, hx⟩ := Finset.mem_map.mp hm; exact h ⟨x, hx⟩)

end Cert.Attn

end
-- ==== Proof.Triple.lean ====
/-
  One attempt of one head, part by part: holding the buffers at values, each part of the program returns what the pure
  functions of `Result.lean` say and leaves the scratch buffers at them.
-/
module

public import proofs.«01_k».proof.Proof.Head
public import proofs.«01_k».proof.Proof.Result
public import proofs.«01_k».proof.Proof.Own

@[expose] public section

set_option maxRecDepth 16384

noncomputable section

namespace Cert.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : ℕ} {τ : Topo} {sig : RefSig} {Ix : Type} [DecidableEq Ix] {F : FTy → Type} [FloatOps F]
  {Name : Type} [DecidableEq Name] {U : Type} [URA U] {Lvl : Type} [Preorder Lvl] {Λ : Labels}

local notation "𝕄" => MT nD τ sig Ix (Elt F) Name U Lvl

/-! ### Whole-buffer rectangles -/

theorem emb_r8 (x : S8x512.Idx) : r8.emb x = x := by
  funext a; apply Fin.ext; rw [Rect.emb_apply]; fin_cases a <;> simp

theorem emb_r128 (x : S128x512.Idx) : r128.emb x = x := by
  funext a; apply Fin.ext; rw [Rect.emb_apply]; fin_cases a <;> simp

theorem setRect_r8 {α : Type} (v w : S8x512.Idx → α) : setRect r8 v w = w := by
  funext y; have h := setRect_emb r8 v w y; rwa [emb_r8] at h

theorem setRect_r128 {α : Type} (v w : S128x512.Idx → α) : setRect r128 v w = w := by
  funext y; have h := setRect_emb r128 v w y; rwa [emb_r128] at h

/-- Reading through a rectangle depends on its offset only. -/
theorem blk_congr {s : Shape} {α : Type} (v : s.Idx → α) {off off' size : Fin s.rank → ℕ} (h : off = off') (i : ∀ a, off a + size a ≤ s.size a) (i' : ∀ a, off' a + size a ≤ s.size a) :
    (fun x => v ((Rect.unit off size i).emb x)) = fun x => v ((Rect.unit off' size i').emb x) := by subst h; rfl

variable {defs : Defs nD τ sig (Elt F) Λ} (𝒱 : Variants) (c : Dev nD) (bd : Option 𝒱.V) (E : Set Name)
variable (R : Refs sig) (g : ℕ) (hg : g < 7)

/-- Head `g`'s dequantised queries in the scratch buffer's contents `Q`. -/
def qAt (Q : Vec F S7x128x512 .bf16) : Vec F S1x128x512 .bf16 := fun x => Q ((rQ g hg).emb x)

theorem bind_spec {α β : Type} {A : sProp 𝕄} {p : Prog (TpuEff nD τ sig (Elt F) Λ .tc) α} {P : α → sProp 𝕄} {k : α → Prog (TpuEff nD τ sig (Elt F) Λ .tc) β} {Q : β → sProp 𝕄}
    (h : A ⊢ wp frame (wpE defs 𝒱 (c : Thread nD τ) bd) E p P) :
    A ⊢ iprop((∀ a, P a -∗ wp frame (wpE defs 𝒱 (c : Thread nD τ) bd) E (k a) Q) -∗ wp frame (wpE defs 𝒱 (c : Thread nD τ) bd) E (p >>= k) Q) := by
  rw [wp_bind]
  exact h.trans (wp_wand frame (wpE defs 𝒱 (c : Thread nD τ) bd) E)

theorem put8_spec {m : Memref sig .tc .vmem S8x512 .f32} {v w : FVec F S8x512 .f32} :
    (own c m v : sProp 𝕄) ⊢ wp frame (wpE defs 𝒱 (c : Thread nD τ) bd) E (put8 m w) (fun _ => own c m w) := by
  unfold put8
  simp only [Prog.lift, Prog.bind_op, Prog.bind_ret, Prog.pure_eq_ret]
  iintro H
  iapply (own_load 𝒱 c bd E) $$ H; iintro H
  iapply (own_store 𝒱 c bd E) $$ H; iintro H
  rw [wp_ret]; imodintro
  rw [setRect_r8]; iexact H

theorem put128_spec {m : Memref sig .tc .vmem S128x512 .f32} {v w : FVec F S128x512 .f32} :
    (own c m v : sProp 𝕄) ⊢ wp frame (wpE defs 𝒱 (c : Thread nD τ) bd) E (put128 m w) (fun _ => own c m w) := by
  unfold put128
  simp only [Prog.lift, Prog.bind_op, Prog.bind_ret, Prog.pure_eq_ret]
  iintro H
  iapply (own_load 𝒱 c bd E) $$ H; iintro H
  iapply (own_store 𝒱 c bd E) $$ H; iintro H
  rw [wp_ret]; imodintro
  rw [setRect_r128]; iexact H

theorem putL_spec {m : Memref sig .tc .vmem S1x1x7x512 .f32} {v : FVec F S1x1x7x512 .f32} {w : FVec F S1x512 .f32} :
    (own c m v : sProp 𝕄) ⊢ wp frame (wpE defs 𝒱 (c : Thread nD τ) bd) E (putL g hg m w)
      (fun _ => own c m (setRect (rL g hg) v (shapeCast S1x1x1x512 w shapeCasts_S1x512_S1x1x1x512 : FVec F S1x1x1x512 .f32))) := by
  unfold putL
  simp only [Prog.lift, Prog.bind_op, Prog.bind_ret, Prog.pure_eq_ret]
  iintro H
  iapply (own_load 𝒱 c bd E) $$ H; iintro H
  iapply (own_store 𝒱 c bd E) $$ H; iintro H
  rw [wp_ret]; imodintro
  iexact H

theorem tripMaxP_spec {K : Vec F S1x28672x128 .bf16} {Q : Vec F S7x128x512 .bf16} {off : Fin 3 → ℕ} {inb : ∀ a, off a + S1x1024x128.size a ≤ S1x28672x128.size a}
    {acc : FVec F S1x512 .f32} {j : ℕ} (hj : off = ![0, min j 27 * 1024, 0]) :
    (iprop(own c R.a5 K ∗ own c R.a12 Q) : sProp 𝕄) ⊢ wp frame (wpE defs 𝒱 (c : Thread nD τ) bd) E (tripMaxP R g hg off inb acc)
      (fun r => iprop(⌜r = maximumf acc (colMaxP (rawP (kAt K j) (qAt g hg Q)))⌝ ∗ own c R.a5 K ∗ own c R.a12 Q)) := by
  unfold tripMaxP
  simp only [Prog.lift, Prog.bind_op, Prog.bind_ret, Prog.pure_eq_ret]
  iintro ⟨H5, H12⟩
  iapply (own_load 𝒱 c bd E) $$ H5; iintro H5
  iapply (own_load 𝒱 c bd E) $$ H12; iintro H12
  rw [wp_ret]; imodintro
  isplitr
  · ipureintro; subst hj; rfl
  isplitl [H5]; · iexact H5
  iexact H12

theorem tripMaxC_spec {K : Vec F S1x1024x128 .bf16} {Q : Vec F S7x128x512 .bf16} {tb iv : BitVec 32} {off : Fin 3 → ℕ} {inb : ∀ a, off a + S1x512x128.size a ≤ S1x1024x128.size a}
    {acc : FVec F S1x512 .f32} {j : ℕ} (hj : off = ![0, min j 1 * 512, 0]) :
    (iprop(own c R.a7 K ∗ own c R.a12 Q) : sProp 𝕄) ⊢ wp frame (wpE defs 𝒱 (c : Thread nD τ) bd) E (tripMaxC R g hg tb iv off inb acc)
      (fun r => iprop(⌜r = maximumf acc (colMaxC (rawC tb iv (kcAt K j) (qAt g hg Q)))⌝ ∗ own c R.a7 K ∗ own c R.a12 Q)) := by
  unfold tripMaxC
  simp only [Prog.lift, Prog.bind_op, Prog.bind_ret, Prog.pure_eq_ret]
  iintro ⟨H5, H12⟩
  iapply (own_load 𝒱 c bd E) $$ H5; iintro H5
  iapply (own_load 𝒱 c bd E) $$ H12; iintro H12
  rw [wp_ret]; imodintro
  isplitr
  · ipureintro; subst hj; rfl
  isplitl [H5]; · iexact H5
  iexact H12

/-- A loop that runs no trip. -/
theorem for_none {σ β : Type} {L : Scf.Loop 32} {ok : L.OK} (h : L.trips = 0) {init : σ} {f : Fin L.trips → σ → Prog (TpuEff nD τ sig (Elt F) Λ .tc) σ}
    {k : σ → Prog (TpuEff nD τ sig (Elt F) Λ .tc) β} {Q : β → sProp 𝕄} :
    wp frame (wpE defs 𝒱 (c : Thread nD τ) bd) E (k init) Q ⊢ wp frame (wpE defs 𝒱 (c : Thread nD τ) bd) E (Scf.Loop.for L ok init f >>= k) Q := by
  iintro H
  iapply (Scf.wp_for_bind frame (wpE defs 𝒱 (c : Thread nD τ) bd) E L.lb L.ub L.st ok init f
    (fun _ acc => iprop(⌜acc = init⌝)) (fun j => absurd j.isLt (by have := h; unfold Scf.Loop.trips at this; omega)))
  · ipureintro; rfl
  iintro %acc %ha
  subst ha; iexact H

theorem maxP_succ (H : HeadIn F) (j : ℕ) : maximumf (maxP H j) (colMaxP (rawP (kAt H.K (j + 1)) H.q)) = maxP H (j + 1) := rfl

theorem loopMaxP_spec (i : grid0.Coords) (n : Fin 2) {hw : k0_chk1 i (BitVec.ofNat 32 n.val)} {H : HeadIn F} {Q : Vec F S7x128x512 .bf16} (hQ : qAt g hg Q = H.q) {init : FVec F S1x512 .f32} (hi : init = maxP H 0)
    {β : Type} {k : FVec F S1x512 .f32 → Prog (TpuEff nD τ sig (Elt F) Λ .tc) β} {P : β → sProp 𝕄} :
    (iprop(own c R.a5 H.K ∗ own c R.a12 Q) : sProp 𝕄)
      ⊢ iprop((own c R.a5 H.K ∗ own c R.a12 Q -∗ wp frame (wpE defs 𝒱 (c : Thread nD τ) bd) E (k (mP H n)) P)
        -∗ wp frame (wpE defs 𝒱 (c : Thread nD τ) bd) E (Scf.Loop.for (k0_t1_loop (BitVec.ofNat 32 n.val)) (k0_t1_ok i (BitVec.ofNat 32 n.val) hw) init (fun j acc =>
          tripMaxP R g hg (k0_off1 (BitVec.ofNat 32 n.val) j) (k0_off1_inb i (BitVec.ofNat 32 n.val) hw j) acc) >>= k) P) := by
  subst hi
  have hI : (iprop(own c R.a5 H.K ∗ own c R.a12 Q) : sProp 𝕄) ⊢ iprop(⌜maxP H 0 = maxP H 0⌝ ∗ own c R.a5 H.K ∗ own c R.a12 Q) := by
    iintro H; isplitr; · ipureintro; rfl
    iexact H
  have hb : ∀ (j : Fin (k0_t1_loop (BitVec.ofNat 32 n.val)).trips) (acc : FVec F S1x512 .f32),
      (iprop(⌜acc = maxP H j.val⌝ ∗ own c R.a5 H.K ∗ own c R.a12 Q) : sProp 𝕄)
        ⊢ wp frame (wpE defs 𝒱 (c : Thread nD τ) bd) E (tripMaxP R g hg (k0_off1 (BitVec.ofNat 32 n.val) j) (k0_off1_inb i (BitVec.ofNat 32 n.val) hw j) acc)
          (fun acc => iprop(⌜acc = maxP H (j.val + 1)⌝ ∗ own c R.a5 H.K ∗ own c R.a12 Q)) := by
    intro j acc
    iintro ⟨%ha, H⟩
    subst ha
    have h := fun (a : FVec F S1x512 .f32) => tripMaxP_spec (Ix := Ix) (Name := Name) (U := U) (Lvl := Lvl) (defs := defs) 𝒱 c bd E R g hg (K := H.K) (Q := Q) (inb := k0_off1_inb i (BitVec.ofNat 32 n.val) hw j) (acc := a) (off1 n j)
    simp only [hQ] at h
    have h' := h (maxP H j.val)
    rw [maxP_succ] at h'
    iapply h' $$ H
  iintro H Hk
  ihave H := hI $$ H
  iapply (Scf.wp_for_bind frame (wpE defs 𝒱 (c : Thread nD τ) bd) E (k0_t1_loop (BitVec.ofNat 32 n.val)).lb (k0_t1_loop (BitVec.ofNat 32 n.val)).ub (k0_t1_loop (BitVec.ofNat 32 n.val)).st
    (k0_t1_ok i (BitVec.ofNat 32 n.val) hw) (maxP H 0) (fun j acc => tripMaxP R g hg (k0_off1 (BitVec.ofNat 32 n.val) j) (k0_off1_inb i (BitVec.ofNat 32 n.val) hw j) acc)
    (fun j acc => iprop(⌜acc = maxP H j⌝ ∗ own c R.a5 H.K ∗ own c R.a12 Q)) hb) $$ H
  iintro %a1 ⟨%ha1, H⟩
  have ht : a1 = mP H n := by rw [ha1, mP, ← t1_trips n]
  subst ht
  iapply Hk $$ H

theorem maxC_succ (H : HeadIn F) (j : ℕ) : maximumf (maxC H j) (colMaxC (rawC (BitVec.ofNat 32 H.tb) (BitVec.ofNat 32 j) (kcAt H.Kc j) H.q)) = maxC H (j + 1) := rfl

theorem loopMaxC_spec (i : grid0.Coords) (n : Fin 2) {hw : k0_chk1 i (BitVec.ofNat 32 n.val)} {H : HeadIn F} {Q : Vec F S7x128x512 .bf16} (hQ : qAt g hg Q = H.q) (ht : H.tb = (i 2).val) {init : FVec F S1x512 .f32} (hi : init = maxC H 0)
    {β : Type} {k : FVec F S1x512 .f32 → Prog (TpuEff nD τ sig (Elt F) Λ .tc) β} {P : β → sProp 𝕄} :
    (iprop(own c R.a7 H.Kc ∗ own c R.a12 Q) : sProp 𝕄)
      ⊢ iprop((own c R.a7 H.Kc ∗ own c R.a12 Q -∗ wp frame (wpE defs 𝒱 (c : Thread nD τ) bd) E (k (maxC H (if n = 0 then 0 else (i 2).val + 1))) P)
        -∗ wp frame (wpE defs 𝒱 (c : Thread nD τ) bd) E (Scf.Loop.for (k0_t3_loop i (BitVec.ofNat 32 n.val)) (k0_t3_ok i (BitVec.ofNat 32 n.val) hw) init (fun j acc =>
          tripMaxC R g hg (BitVec.ofNat 32 (i 2).val) (Scf.iv 0#32 1#32 j) (k0_off3 i (BitVec.ofNat 32 n.val) j) (k0_off3_inb i (BitVec.ofNat 32 n.val) hw j) acc) >>= k) P) := by
  subst hi
  have hI : (iprop(own c R.a7 H.Kc ∗ own c R.a12 Q) : sProp 𝕄) ⊢ iprop(⌜maxC H 0 = maxC H 0⌝ ∗ own c R.a7 H.Kc ∗ own c R.a12 Q) := by
    iintro H; isplitr; · ipureintro; rfl
    iexact H
  have hb : ∀ (j : Fin (k0_t3_loop i (BitVec.ofNat 32 n.val)).trips) (acc : FVec F S1x512 .f32),
      (iprop(⌜acc = maxC H j.val⌝ ∗ own c R.a7 H.Kc ∗ own c R.a12 Q) : sProp 𝕄)
        ⊢ wp frame (wpE defs 𝒱 (c : Thread nD τ) bd) E (tripMaxC R g hg (BitVec.ofNat 32 (i 2).val) (Scf.iv 0#32 1#32 j) (k0_off3 i (BitVec.ofNat 32 n.val) j) (k0_off3_inb i (BitVec.ofNat 32 n.val) hw j) acc)
          (fun acc => iprop(⌜acc = maxC H (j.val + 1)⌝ ∗ own c R.a7 H.Kc ∗ own c R.a12 Q)) := by
    intro j acc
    iintro ⟨%ha, H⟩
    subst ha
    have h := fun (a : FVec F S1x512 .f32) => tripMaxC_spec (Ix := Ix) (Name := Name) (U := U) (Lvl := Lvl) (defs := defs) 𝒱 c bd E R g hg (K := H.Kc) (Q := Q)
      (tb := BitVec.ofNat 32 (i 2).val) (iv := Scf.iv 0#32 1#32 j) (inb := k0_off3_inb i (BitVec.ofNat 32 n.val) hw j) (acc := a) (off3 i n j)
    simp only [hQ] at h
    have h' := h (maxC H j.val)
    rw [iv_eq, ← ht, maxC_succ] at h'
    rw [iv_eq, ← ht]
    iapply h' $$ H
  iintro H Hk
  ihave H := hI $$ H
  iapply (Scf.wp_for_bind frame (wpE defs 𝒱 (c : Thread nD τ) bd) E (k0_t3_loop i (BitVec.ofNat 32 n.val)).lb (k0_t3_loop i (BitVec.ofNat 32 n.val)).ub (k0_t3_loop i (BitVec.ofNat 32 n.val)).st
    (k0_t3_ok i (BitVec.ofNat 32 n.val) hw) (maxC H 0) (fun j acc => tripMaxC R g hg (BitVec.ofNat 32 (i 2).val) (Scf.iv 0#32 1#32 j) (k0_off3 i (BitVec.ofNat 32 n.val) j) (k0_off3_inb i (BitVec.ofNat 32 n.val) hw j) acc)
    (fun j acc => iprop(⌜acc = maxC H j⌝ ∗ own c R.a7 H.Kc ∗ own c R.a12 Q)) hb) $$ H
  iintro %a1 ⟨%ha1, H⟩
  have ht : a1 = maxC H (if n = 0 then 0 else (i 2).val + 1) := by rw [ha1, ← t3_trips i n]
  subst ht
  iapply Hk $$ H

theorem partA_ms (H : HeadIn F) (i : grid0.Coords) (n : Fin 2) (ht : H.tb = (i 2).val) :
    Scalar.select (Scalar.cmpi .eq (BitVec.ofNat 32 n.val) 0#32) (mP H n) (maxC H (if n = 0 then 0 else (i 2).val + 1)) = mC H n := by
  rw [mC, ht]; fin_cases n <;> rfl

/-- Part A: attempt `n`'s shifts, the prompt's sums cleared. -/
theorem partA_spec (i : grid0.Coords) (n : Fin 2) {C : Prop} {dC : Decidable C} {hC : C → k0_chk1 i (BitVec.ofNat 32 n.val)} (hc : C)
    {H : HeadIn F} {Q : Vec F S7x128x512 .bf16} (hQ : qAt g hg Q = H.q) (ht : H.tb = (i 2).val) {x13 : FVec F S8x512 .f32} :
    (iprop(own c R.a5 H.K ∗ own c R.a7 H.Kc ∗ own c R.a12 Q ∗ own c R.a13 x13) : sProp 𝕄)
      ⊢ wp frame (wpE defs 𝒱 (c : Thread nD τ) bd) E (partA R g hg i (BitVec.ofNat 32 n.val) (BitVec.ofNat 32 (i 2).val) C dC hC)
        (fun r => iprop(⌜r = ⟨mP H n, mC H n, broadcast S8x512 (Scalar.ofBits .f32 0x00000000#32 : F .f32)⟩⌝
          ∗ own c R.a5 H.K ∗ own c R.a7 H.Kc ∗ own c R.a12 Q ∗ own c R.a13 zeroL)) := by
  unfold partA
  simp only [Prog.lift, Prog.bind_op, Prog.bind_ret, Prog.pure_eq_ret]
  iintro ⟨H5, H7, H12, H13⟩
  iapply (wp_assume 𝒱 (c : Thread nD τ) bd E hc)
  iapply (own_load 𝒱 c bd E) $$ H5; iintro H5
  iapply (own_load 𝒱 c bd E) $$ H12; iintro H12
  have h0 : colMaxP (rawP (fun x => H.K ((Rect.unit (s := S1x28672x128) ![0, 0, 0] S1x1024x128.size inb_S1x28672x128_S1x1024x128_0_0_0).emb x)) (fun x => Q ((rQ g hg).emb x))) = maxP H 0 := by
    show colMaxP (rawP _ (qAt g hg Q)) = _
    rw [hQ]; rfl
  iapply (loopMaxP_spec 𝒱 c bd E R g hg i n (hw := hC hc) hQ h0) $$ [H5 H12]
  · isplitl [H5]; · iexact H5
    iexact H12
  iintro ⟨H5, H12⟩
  iapply (for_none 𝒱 c bd E (t2_trips n))
  iapply (loopMaxC_spec 𝒱 c bd E R g hg i n (hw := hC hc) hQ ht rfl) $$ [H7 H12]
  · isplitl [H7]; · iexact H7
    iexact H12
  iintro ⟨H7, H12⟩
  iapply (for_none 𝒱 c bd E (t4_trips i n))
  iapply (bind_spec 𝒱 c bd E (put8_spec 𝒱 c bd E)) $$ H13
  iintro %_u H13
  rw [wp_ret]; imodintro
  isplitr
  · ipureintro; rw [partA_ms H i n ht]
  isplitl [H5]; · iexact H5
  isplitl [H7]; · iexact H7
  isplitl [H12]; · iexact H12
  iexact H13

end Cert.Attn

end
-- ==== Proof.Triple2.lean ====
/-
  The second part of an attempt (the running sums and products over the prompt's and the completion's chunks) and the third
  (the results stored), on buffers held at values.
-/
module

public import proofs.«01_k».proof.Proof.Triple

@[expose] public section

set_option maxRecDepth 16384

noncomputable section

namespace Cert.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : ℕ} {τ : Topo} {sig : RefSig} {Ix : Type} [DecidableEq Ix] {F : FTy → Type} [FloatOps F]
  {Name : Type} [DecidableEq Name] {U : Type} [URA U] {Lvl : Type} [Preorder Lvl] {Λ : Labels}

local notation "𝕄" => MT nD τ sig Ix (Elt F) Name U Lvl

variable {defs : Defs nD τ sig (Elt F) Λ} (𝒱 : Variants) (c : Dev nD) (bd : Option 𝒱.V) (E : Set Name)
variable (R : Refs sig) (g : ℕ) (hg : g < 7)

theorem tripP_spec {H : HeadIn F} {Q : Vec F S7x128x512 .bf16} (hQ : qAt g hg Q = H.q) {c2 : F .f32} {m : FVec F S1x512 .f32} {l : FVec F S8x512 .f32} {o : FVec F S128x512 .f32}
    {off5 : Fin 3 → ℕ} {inb5 : ∀ a, off5 a + S1x1024x128.size a ≤ S1x28672x128.size a} {off6 : Fin 3 → ℕ} {inb6 : ∀ a, off6 a + S1x128x1024.size a ≤ S1x128x28672.size a}
    {j : ℕ} (h5 : off5 = ![0, min j 27 * 1024, 0]) (h6 : off6 = ![0, 0, min j 27 * 1024]) :
    (iprop(own c R.a5 H.K ∗ own c R.a6 H.V ∗ own c R.a12 Q ∗ own c R.a13 l ∗ own c R.a15 o) : sProp 𝕄)
      ⊢ wp frame (wpE defs 𝒱 (c : Thread nD τ) bd) E (tripP R g hg c2 m off5 inb5 off6 inb6)
        (fun _ => iprop(own c R.a5 H.K ∗ own c R.a6 H.V ∗ own c R.a12 Q ∗ own c R.a13 (sumP l (wP c2 m (rawP (kAt H.K j) H.q)))
          ∗ own c R.a15 (prodP o (vAt H.V j) (wP c2 m (rawP (kAt H.K j) H.q))))) := by
  subst h5; subst h6; rw [← hQ]
  unfold tripP
  simp only [Prog.lift, Prog.bind_op, Prog.bind_ret, Prog.pure_eq_ret]
  iintro ⟨H5, H6, H12, H13, H15⟩
  iapply (own_load 𝒱 c bd E) $$ H5; iintro H5
  iapply (own_load 𝒱 c bd E) $$ H12; iintro H12
  iapply (own_load 𝒱 c bd E) $$ H6; iintro H6
  iapply (own_load 𝒱 c bd E) $$ H13; iintro H13
  iapply (bind_spec 𝒱 c bd E (put8_spec 𝒱 c bd E)) $$ H13; iintro %_u H13
  iapply (own_load 𝒱 c bd E) $$ H15; iintro H15
  iapply (bind_spec 𝒱 c bd E (put128_spec 𝒱 c bd E)) $$ H15; iintro %_u H15
  rw [wp_ret]; imodintro
  isplitl [H5]; · iexact H5
  isplitl [H6]; · iexact H6
  isplitl [H12]; · iexact H12
  isplitl [H13]
  · simp only [emb_r8]; iexact H13
  · simp only [emb_r128]; iexact H15

theorem tripC_spec {H : HeadIn F} {Q : Vec F S7x128x512 .bf16} (hQ : qAt g hg Q = H.q) {c2 : F .f32} {m : FVec F S1x512 .f32} {l : FVec F S8x512 .f32} {o : FVec F S128x512 .f32}
    {tb iv : BitVec 32} (ht : tb = BitVec.ofNat 32 H.tb)
    {off7 : Fin 3 → ℕ} {inb7 : ∀ a, off7 a + S1x512x128.size a ≤ S1x1024x128.size a} {off8 : Fin 3 → ℕ} {inb8 : ∀ a, off8 a + S1x128x512.size a ≤ S1x128x1024.size a}
    {j : ℕ} (hj : iv = BitVec.ofNat 32 j) (h7 : off7 = ![0, min j 1 * 512, 0]) (h8 : off8 = ![0, 0, min j 1 * 512]) :
    (iprop(own c R.a7 H.Kc ∗ own c R.a8 H.Vc ∗ own c R.a12 Q ∗ own c R.a14 l ∗ own c R.a16 o) : sProp 𝕄)
      ⊢ wp frame (wpE defs 𝒱 (c : Thread nD τ) bd) E (do let ⟨v, w⟩ ← tripC1 R g hg c2 m tb iv off7 inb7 off8 inb8; tripC2 R v w)
        (fun _ => iprop(own c R.a7 H.Kc ∗ own c R.a8 H.Vc ∗ own c R.a12 Q ∗ own c R.a14 (sumC l (wC c2 m (rawCAt H j)))
          ∗ own c R.a16 (prodC o (vcAt H.Vc j) (wC c2 m (rawCAt H j))))) := by
  subst h7; subst h8; subst hj; subst ht; unfold rawCAt; rw [← hQ]
  unfold tripC1 tripC2
  simp only [Prog.lift, Prog.bind_op, Prog.bind_ret, Prog.pure_eq_ret]
  iintro ⟨H5, H6, H12, H13, H15⟩
  iapply (own_load 𝒱 c bd E) $$ H5; iintro H5
  iapply (own_load 𝒱 c bd E) $$ H12; iintro H12
  iapply (own_load 𝒱 c bd E) $$ H6; iintro H6
  iapply (own_load 𝒱 c bd E) $$ H13; iintro H13
  simp only [Prog.bind_assoc, Prog.bind_ret]
  iapply (bind_spec 𝒱 c bd E (put8_spec 𝒱 c bd E)) $$ H13; iintro %_u H13
  iapply (own_load 𝒱 c bd E) $$ H15; iintro H15
  iapply (bind_spec 𝒱 c bd E (put128_spec 𝒱 c bd E)) $$ H15; iintro %_u H15
  rw [wp_ret]; imodintro
  isplitl [H5]; · iexact H5
  isplitl [H6]; · iexact H6
  isplitl [H12]; · iexact H12
  isplitl [H13]
  · simp only [emb_r8]; iexact H13
  · simp only [emb_r128]; iexact H15

theorem lP_succ (H : HeadIn F) (c2 : F .f32) (m : FVec F S1x512 .f32) (j : ℕ) : sumP (lP H c2 m j) (wP c2 m (rawP (kAt H.K j) H.q)) = lP H c2 m (j + 1) := rfl
theorem oP_succ (H : HeadIn F) (c2 : F .f32) (m : FVec F S1x512 .f32) (j : ℕ) : prodP (oP H c2 m j) (vAt H.V j) (wP c2 m (rawP (kAt H.K j) H.q)) = oP H c2 m (j + 1) := rfl
theorem lC_succ (H : HeadIn F) (c2 : F .f32) (m : FVec F S1x512 .f32) (j : ℕ) : sumC (lC H c2 m j) (wC c2 m (rawCAt H j)) = lC H c2 m (j + 1) := rfl
theorem oC_succ (H : HeadIn F) (c2 : F .f32) (m : FVec F S1x512 .f32) (j : ℕ) : prodC (oC H c2 m j) (vcAt H.Vc j) (wC c2 m (rawCAt H j)) = oC H c2 m (j + 1) := rfl

theorem loopP_spec {H : HeadIn F} {Q : Vec F S7x128x512 .bf16} (hQ : qAt g hg Q = H.q) {c2 : F .f32} {m : FVec F S1x512 .f32} {init : BitVec 32}
    {β : Type} {k : BitVec 32 → Prog (TpuEff nD τ sig (Elt F) Λ .tc) β} {P : β → sProp 𝕄} :
    (iprop(own c R.a5 H.K ∗ own c R.a6 H.V ∗ own c R.a12 Q ∗ own c R.a13 (lP H c2 m 0) ∗ own c R.a15 (oP H c2 m 0)) : sProp 𝕄)
      ⊢ iprop((∀ x, own c R.a5 H.K ∗ own c R.a6 H.V ∗ own c R.a12 Q ∗ own c R.a13 (lP H c2 m 28) ∗ own c R.a15 (oP H c2 m 28)
          -∗ wp frame (wpE defs 𝒱 (c : Thread nD τ) bd) E (k x) P)
        -∗ wp frame (wpE defs 𝒱 (c : Thread nD τ) bd) E (Scf.Loop.for k0_t5_loop k0_t5_ok init (fun j _ =>
          tripP R g hg c2 m (k0_off5 j) (k0_off5_inb j) (k0_off6 j) (k0_off6_inb j)) >>= k) P) := by
  have hb : ∀ (j : Fin k0_t5_loop.trips) (acc : BitVec 32),
      (iprop(own c R.a5 H.K ∗ own c R.a6 H.V ∗ own c R.a12 Q ∗ own c R.a13 (lP H c2 m j.val) ∗ own c R.a15 (oP H c2 m j.val)) : sProp 𝕄)
        ⊢ wp frame (wpE defs 𝒱 (c : Thread nD τ) bd) E (tripP R g hg c2 m (k0_off5 j) (k0_off5_inb j) (k0_off6 j) (k0_off6_inb j))
          (fun _ => iprop(own c R.a5 H.K ∗ own c R.a6 H.V ∗ own c R.a12 Q ∗ own c R.a13 (lP H c2 m (j.val + 1)) ∗ own c R.a15 (oP H c2 m (j.val + 1)))) := by
    intro j acc
    have h := tripP_spec (Ix := Ix) (Name := Name) (U := U) (Lvl := Lvl) (defs := defs) 𝒱 c bd E R g hg hQ (c2 := c2) (m := m) (l := lP H c2 m j.val) (o := oP H c2 m j.val)
      (inb5 := k0_off5_inb j) (inb6 := k0_off6_inb j) (off5 j) (off6 j)
    rw [lP_succ, oP_succ] at h
    exact h
  iintro H Hk
  iapply (Scf.wp_for_bind frame (wpE defs 𝒱 (c : Thread nD τ) bd) E k0_t5_loop.lb k0_t5_loop.ub k0_t5_loop.st
    k0_t5_ok init (fun j _ => tripP R g hg c2 m (k0_off5 j) (k0_off5_inb j) (k0_off6 j) (k0_off6_inb j))
    (fun j _ => iprop(own c R.a5 H.K ∗ own c R.a6 H.V ∗ own c R.a12 Q ∗ own c R.a13 (lP H c2 m j) ∗ own c R.a15 (oP H c2 m j))) hb) $$ H
  iintro %a1 H
  have ht : Scf.trips k0_t5_loop.lb k0_t5_loop.ub k0_t5_loop.st = 28 := t5_trips
  rw [ht]
  iapply Hk $$ H

theorem loopC_spec (i : grid0.Coords) {H : HeadIn F} {Q : Vec F S7x128x512 .bf16} (hQ : qAt g hg Q = H.q) (hT : H.tb = (i 2).val) {c2 : F .f32} {m : FVec F S1x512 .f32} {init : BitVec 32}
    {β : Type} {k : BitVec 32 → Prog (TpuEff nD τ sig (Elt F) Λ .tc) β} {P : β → sProp 𝕄} :
    (iprop(own c R.a7 H.Kc ∗ own c R.a8 H.Vc ∗ own c R.a12 Q ∗ own c R.a14 (lC H c2 m 0) ∗ own c R.a16 (oC H c2 m 0)) : sProp 𝕄)
      ⊢ iprop((∀ x, own c R.a7 H.Kc ∗ own c R.a8 H.Vc ∗ own c R.a12 Q ∗ own c R.a14 (lC H c2 m (H.tb + 1)) ∗ own c R.a16 (oC H c2 m (H.tb + 1))
          -∗ wp frame (wpE defs 𝒱 (c : Thread nD τ) bd) E (k x) P)
        -∗ wp frame (wpE defs 𝒱 (c : Thread nD τ) bd) E (Scf.Loop.for (k0_t6_loop i) (k0_t6_ok i) init (fun j _ => do
          let ⟨v, w⟩ ← tripC1 R g hg c2 m (BitVec.ofNat 32 (i 2).val) (Scf.iv 0#32 1#32 j) (k0_off7 i j) (k0_off7_inb i j) (k0_off8 i j) (k0_off8_inb i j)
          tripC2 R v w) >>= k) P) := by
  have hb : ∀ (j : Fin (k0_t6_loop i).trips) (acc : BitVec 32),
      (iprop(own c R.a7 H.Kc ∗ own c R.a8 H.Vc ∗ own c R.a12 Q ∗ own c R.a14 (lC H c2 m j.val) ∗ own c R.a16 (oC H c2 m j.val)) : sProp 𝕄)
        ⊢ wp frame (wpE defs 𝒱 (c : Thread nD τ) bd) E (do
          let ⟨v, w⟩ ← tripC1 R g hg c2 m (BitVec.ofNat 32 (i 2).val) (Scf.iv 0#32 1#32 j) (k0_off7 i j) (k0_off7_inb i j) (k0_off8 i j) (k0_off8_inb i j)
          tripC2 R v w)
          (fun _ => iprop(own c R.a7 H.Kc ∗ own c R.a8 H.Vc ∗ own c R.a12 Q ∗ own c R.a14 (lC H c2 m (j.val + 1)) ∗ own c R.a16 (oC H c2 m (j.val + 1)))) := by
    intro j acc
    have h := tripC_spec (Ix := Ix) (Name := Name) (U := U) (Lvl := Lvl) (defs := defs) 𝒱 c bd E R g hg hQ (c2 := c2) (m := m) (l := lC H c2 m j.val) (o := oC H c2 m j.val)
      (tb := BitVec.ofNat 32 (i 2).val) (iv := Scf.iv 0#32 1#32 j) (by rw [hT]) (inb7 := k0_off7_inb i j) (inb8 := k0_off8_inb i j) (iv_eq j.val) (off7 i j) (off8 i j)
    rw [lC_succ, oC_succ] at h
    exact h
  iintro H Hk
  iapply (Scf.wp_for_bind frame (wpE defs 𝒱 (c : Thread nD τ) bd) E (k0_t6_loop i).lb (k0_t6_loop i).ub (k0_t6_loop i).st
    (k0_t6_ok i) init (fun j _ => do
          let ⟨v, w⟩ ← tripC1 R g hg c2 m (BitVec.ofNat 32 (i 2).val) (Scf.iv 0#32 1#32 j) (k0_off7 i j) (k0_off7_inb i j) (k0_off8 i j) (k0_off8_inb i j)
          tripC2 R v w)
    (fun j _ => iprop(own c R.a7 H.Kc ∗ own c R.a8 H.Vc ∗ own c R.a12 Q ∗ own c R.a14 (lC H c2 m j) ∗ own c R.a16 (oC H c2 m j))) hb) $$ H
  iintro %a1 H
  have ht : Scf.trips (k0_t6_loop i).lb (k0_t6_loop i).ub (k0_t6_loop i).st = H.tb + 1 := by rw [hT]; exact t6_trips i
  rw [ht]
  iapply Hk $$ H

/-- Part B: the sums and products at the shifts `mp`, `ms`. -/
theorem partB_spec (i : grid0.Coords) {H : HeadIn F} {Q : Vec F S7x128x512 .bf16} (hQ : qAt g hg Q = H.q) (hT : H.tb = (i 2).val) {c2 cl : F .f32} {mp ms : FVec F S1x512 .f32}
    {x14 : FVec F S8x512 .f32} {x15 x16 : FVec F S128x512 .f32} :
    (iprop(own c R.a5 H.K ∗ own c R.a6 H.V ∗ own c R.a7 H.Kc ∗ own c R.a8 H.Vc ∗ own c R.a12 Q ∗ own c R.a13 zeroL ∗ own c R.a14 x14 ∗ own c R.a15 x15 ∗ own c R.a16 x16) : sProp 𝕄)
      ⊢ wp frame (wpE defs 𝒱 (c : Thread nD τ) bd) E (partB R g hg c2 cl i (BitVec.ofNat 32 (i 2).val) mp ms (broadcast S8x512 (Scalar.ofBits .f32 0x00000000#32 : F .f32)))
        (fun r => iprop(⌜r = ⟨colSum (lP H c2 mp 28), colSum (lC H c2 ms (H.tb + 1)), lseOf cl mp (colSum (lP H c2 mp 28))⟩⌝
          ∗ own c R.a5 H.K ∗ own c R.a6 H.V ∗ own c R.a7 H.Kc ∗ own c R.a8 H.Vc ∗ own c R.a12 Q ∗ own c R.a13 (lP H c2 mp 28) ∗ own c R.a14 (lC H c2 ms (H.tb + 1))
          ∗ own c R.a15 (oP H c2 mp 28) ∗ own c R.a16 (oC H c2 ms (H.tb + 1)))) := by
  unfold partB
  simp only [Prog.lift, Prog.bind_op, Prog.bind_ret, Prog.pure_eq_ret]
  iintro ⟨H5, H6, H7, H8, H12, H13, H14, H15, H16⟩
  iapply (bind_spec 𝒱 c bd E (put8_spec 𝒱 c bd E)) $$ H14; iintro %_u H14
  iapply (bind_spec 𝒱 c bd E (put128_spec 𝒱 c bd E)) $$ H15; iintro %_u H15
  iapply (bind_spec 𝒱 c bd E (put128_spec 𝒱 c bd E)) $$ H16; iintro %_u H16
  iapply (loopP_spec 𝒱 c bd E R g hg hQ) $$ [H5 H6 H12 H13 H15]
  · isplitl [H5]; · iexact H5
    isplitl [H6]; · iexact H6
    isplitl [H12]; · iexact H12
    isplitl [H13]; · iexact H13
    iexact H15
  iintro %_x ⟨H5, H6, H12, H13, H15⟩
  iapply (loopC_spec 𝒱 c bd E R g hg i hQ hT) $$ [H7 H8 H12 H14 H16]
  · isplitl [H7]; · iexact H7
    isplitl [H8]; · iexact H8
    isplitl [H12]; · iexact H12
    isplitl [H14]; · iexact H14
    iexact H16
  iintro %_x ⟨H7, H8, H12, H14, H16⟩
  iapply (for_none 𝒱 c bd E (t7_trips i))
  iapply (own_load 𝒱 c bd E) $$ H13; iintro H13
  iapply (own_load 𝒱 c bd E) $$ H14; iintro H14
  rw [wp_ret]; imodintro
  isplitr
  · ipureintro; simp only [emb_r8]
  isplitl [H5]; · iexact H5
  isplitl [H6]; · iexact H6
  isplitl [H7]; · iexact H7
  isplitl [H8]; · iexact H8
  isplitl [H12]; · iexact H12
  isplitl [H13]; · iexact H13
  isplitl [H14]; · iexact H14
  isplitl [H15]; · iexact H15
  iexact H16

/-- A cast to the same shape changes nothing. -/
theorem cast128 (v : FVec F S128x512 .f32) (h : S128x512.ShapeCasts S128x512) : shapeCast S128x512 v h = v := funext fun i => congrArg v (Shape.reshapeEquiv_self _ i)

/-- Part C: the output and the prompt's logarithm stored. -/
theorem partC_spec {cl : F .f32} {tb : BitVec 32} {ms lp ls lsep : FVec F S1x512 .f32} {op os : FVec F S128x512 .f32} {L : FVec F S1x1x7x512 .f32} :
    (iprop(own c R.a15 op ∗ own c R.a16 os ∗ own c R.a10 L) : sProp 𝕄)
      ⊢ wp frame (wpE defs 𝒱 (c : Thread nD τ) bd) E (partC R g hg cl tb ms lp ls lsep)
        (fun r => iprop(⌜r = ⟨outOf (share lsep (lseBoth lsep (lseOf cl ms ls)) lp) (share (lseOf cl ms ls) (lseBoth lsep (lseOf cl ms ls)) ls) op os, lseC tb (lseOf cl ms ls)⟩⌝
          ∗ own c R.a15 (outOf (share lsep (lseBoth lsep (lseOf cl ms ls)) lp) (share (lseOf cl ms ls) (lseBoth lsep (lseOf cl ms ls)) ls) op os) ∗ own c R.a16 os
          ∗ own c R.a10 (setRect (rL g hg) L (shapeCast S1x1x1x512 (lseP lsep) shapeCasts_S1x512_S1x1x1x512 : FVec F S1x1x1x512 .f32)))) := by
  unfold partC
  simp only [Prog.lift, Prog.bind_op, Prog.bind_ret, Prog.pure_eq_ret]
  iintro ⟨H15, H16, H10⟩
  iapply (own_load 𝒱 c bd E) $$ H15; iintro H15
  iapply (own_load 𝒱 c bd E) $$ H16; iintro H16
  iapply (bind_spec 𝒱 c bd E (put128_spec 𝒱 c bd E)) $$ H15; iintro %_u H15
  iapply (bind_spec 𝒱 c bd E (putL_spec 𝒱 c bd E g hg)) $$ H10; iintro %_u H10
  rw [wp_ret]; imodintro
  simp only [emb_r128, cast128]
  isplitr
  · ipureintro; trivial
  isplitl [H15]; · iexact H15
  isplitl [H16]; · iexact H16
  iexact H10

end Cert.Attn

end
-- ==== Proof.While.lean ====
/-
  The whole search for the shift of one head: attempt 0, and attempt 1 if attempt 0 failed for some query. The label is
  answered by a specification at each attempt, the later ones first.
-/
module

public import proofs.«01_k».proof.Proof.Triple2

@[expose] public section

set_option maxRecDepth 16384

noncomputable section

namespace Cert.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : ℕ} {τ : Topo} {sig : RefSig} {Ix : Type} [DecidableEq Ix] {F : FTy → Type} [FloatOps F]
  {Name : Type} [DecidableEq Name] {U : Type} [URA U] {Lvl : Type} [Preorder Lvl] {Λ : Labels}

local notation "𝕄" => MT nD τ sig Ix (Elt F) Name U Lvl

/-- The buffers of one head: the four operands, the queries, the scratch and the two blocks of logarithms. -/
def heldW (c : Dev nD) (R : Refs sig) (H : HeadIn F) (Q : Vec F S7x128x512 .bf16) (x13 x14 : FVec F S8x512 .f32) (x15 x16 : FVec F S128x512 .f32) (L L' : FVec F S1x1x7x512 .f32) : sProp 𝕄 :=
  iprop(own c R.a5 H.K ∗ own c R.a6 H.V ∗ own c R.a7 H.Kc ∗ own c R.a8 H.Vc ∗ own c R.a12 Q ∗ own c R.a13 x13 ∗ own c R.a14 x14 ∗ own c R.a15 x15 ∗ own c R.a16 x16 ∗ own c R.a10 L ∗ own c R.a11 L')

/-- A row of logarithms as the row the block of heads holds. -/
def asRow (w : FVec F S1x512 .f32) : FVec F S1x1x1x512 .f32 := shapeCast S1x1x1x512 w shapeCasts_S1x512_S1x1x1x512

/-- What an attempt leaves when it is the last: the scratch at anything, the output and the logarithms written. -/
def doneW (c : Dev nD) (R : Refs sig) (g : ℕ) (hg : g < 7) (H : HeadIn F) (Q : Vec F S7x128x512 .bf16) (o : FVec F S128x512 .f32) (L L' : FVec F S1x1x7x512 .f32) (a b : FVec F S1x512 .f32) : sProp 𝕄 :=
  iprop(∃ x13 x14 x16, heldW c R H Q x13 x14 o x16 (setRect (rL g hg) L (asRow a)) (setRect (rL g hg) L' (asRow b)))

theorem setRect_again {s : Shape} {α : Type} (r : Rect s) (v : s.Idx → α) (w w' : r.shape.Idx → α) : setRect r (setRect r v w) w' = setRect r v w' := by
  funext y
  by_cases h : ∃ x, r.emb x = y
  · obtain ⟨x, rfl⟩ := h; rw [setRect_emb, setRect_emb]
  · rw [setRect_off r _ _ y h, setRect_off r _ _ y h, setRect_off r _ _ y h]

variable {defs : Defs nD τ sig (Elt F) Λ} (c : Dev nD) (bd : Option ℕ) (E : Set Name)
variable (R : Refs sig) (g : ℕ) (hg : g < 7) (c2 cl : F .f32) (i : grid0.Coords)
  (C : BitVec 32 → Prop) (dC : ∀ n, Decidable (C n)) (hC : ∀ n, C n → k0_chk1 i n)
  (again : BitVec 32 → Prog (TpuEff nD τ sig (Elt F) Λ .tc) (BitVec 32))

/-- One attempt, up to the call of the next. -/
theorem attempt_spec (n : Fin 2) (hc : C (BitVec.ofNat 32 n.val))
    {H : HeadIn F} {Q : Vec F S7x128x512 .bf16} (hQ : qAt g hg Q = H.q) (hT : H.tb = (i 2).val) {x13 x14 : FVec F S8x512 .f32} {x15 x16 : FVec F S128x512 .f32} {L L' : FVec F S1x1x7x512 .f32}
    {P : BitVec 32 → sProp 𝕄} :
    (heldW c R H Q x13 x14 x15 x16 L L' : sProp 𝕄)
      ⊢ iprop((doneW c R g hg H Q (outN H c2 cl n) L L' (lseP (eP H c2 cl n)) (lseC (BitVec.ofNat 32 (i 2).val) (eC H c2 cl n))
          -∗ wp frame (wpE defs Variants.nat (c : Thread nD τ) bd) E (again (next (BitVec.ofNat 32 n.val) (badN H c2 cl n))) P)
        -∗ wp frame (wpE defs Variants.nat (c : Thread nD τ) bd) E
          (whileBody R g hg c2 cl i (BitVec.ofNat 32 n.val) (C (BitVec.ofNat 32 n.val)) (dC _) (hC _) again) P) := by
  have ht : Scalar.cmpi .slt (BitVec.ofNat 32 n.val) 2#32 = 1#1 := by fin_cases n <;> decide
  unfold whileBody heldW
  simp only [ht, ↓reduceIte]
  iintro ⟨H5, H6, H7, H8, H12, H13, H14, H15, H16, H10, H11⟩ Hk
  iapply (bind_spec Variants.nat c bd E (partA_spec Variants.nat c bd E R g hg i n hc hQ hT)) $$ [H5 H7 H12 H13]
  · isplitl [H5]; · iexact H5
    isplitl [H7]; · iexact H7
    isplitl [H12]; · iexact H12
    iexact H13
  iintro %r ⟨%hr, H5, H7, H12, H13⟩
  subst hr
  iapply (bind_spec Variants.nat c bd E (partB_spec Variants.nat c bd E R g hg i hQ hT)) $$ [H5 H6 H7 H8 H12 H13 H14 H15 H16]
  · isplitl [H5]; · iexact H5
    isplitl [H6]; · iexact H6
    isplitl [H7]; · iexact H7
    isplitl [H8]; · iexact H8
    isplitl [H12]; · iexact H12
    isplitl [H13]; · iexact H13
    isplitl [H14]; · iexact H14
    isplitl [H15]; · iexact H15
    iexact H16
  iintro %r ⟨%hr, H5, H6, H7, H8, H12, H13, H14, H15, H16⟩
  subst hr
  iapply (bind_spec Variants.nat c bd E (partC_spec Variants.nat c bd E R g hg)) $$ [H15 H16 H10]
  · isplitl [H15]; · iexact H15
    isplitl [H16]; · iexact H16
    iexact H10
  iintro %r ⟨%hr, H15, H16, H10⟩
  subst hr
  iapply (bind_spec Variants.nat c bd E (putL_spec Variants.nat c bd E g hg)) $$ H11; iintro %_u H11
  iapply Hk
  unfold doneW heldW
  iexists _; iexists _; iexists _
  isplitl [H5]; · iexact H5
  isplitl [H6]; · iexact H6
  isplitl [H7]; · iexact H7
  isplitl [H8]; · iexact H8
  isplitl [H12]; · iexact H12
  isplitl [H13]; · iexact H13
  isplitl [H14]; · iexact H14
  isplitl [H15]; · iexact H15
  isplitl [H16]; · iexact H16
  isplitl [H10]; · iexact H10
  iexact H11

/-- The test fails after attempt 1: nothing is done. -/
theorem stop_spec (C' : Prop) (dC' : Decidable C') (hC' : C' → k0_chk1 i 2#32) {A : sProp 𝕄} :
    (A : sProp 𝕄) ⊢ wp frame (wpE defs Variants.nat (c : Thread nD τ) bd) E (whileBody R g hg c2 cl i 2#32 C' dC' hC' again) (fun _ => A) := by
  have ht : ¬ Scalar.cmpi .slt 2#32 2#32 = 1#1 := by decide
  unfold whileBody
  simp only [ht, ↓reduceIte, Prog.pure_eq_ret]
  iintro H
  rw [wp_ret]; imodintro
  iexact H

/-- A label whose body is `body n`: a call of it at attempt `n`, entered below the caller's variant, may be answered by
    what its body does. -/
def Answers (defs : Defs nD τ sig (Elt F) Λ) (c : Dev nD) (E : Set Name) (body again : BitVec 32 → Prog (TpuEff nD τ sig (Elt F) Λ .tc) (BitVec 32)) : Prop :=
  ∀ (n : BitVec 32) (v : ℕ) (bd : Option ℕ) (hv : ∀ u ∈ bd, v < u) (A B : sProp 𝕄),
    (A ⊢ wp frame (wpE defs Variants.nat (c : Thread nD τ) (some v)) E (body n) (fun _ => B)) →
      (A ⊢ wp frame (wpE defs Variants.nat (c : Thread nD τ) bd) E (again n) (fun _ => B))

theorem next_one (b : F .f32) : next (BitVec.ofNat 32 1) b = 2#32 := by
  unfold next Scalar.select; split <;> rfl

open Classical in
theorem next_zero (H : HeadIn F) : next (BitVec.ofNat 32 0) (badN H c2 cl 0) = BitVec.ofNat 32 (if fails H c2 cl then 1 else 2) := by
  unfold next Scalar.select fails; split <;> simp_all [Scalar.addi]
  rfl

open Classical in
theorem search_spec (hans : Answers (Ix := Ix) (Name := Name) (U := U) (Lvl := Lvl) defs c E (fun n => whileBody R g hg c2 cl i n (C n) (dC n) (hC n) again) again)
    (hc : ∀ n : Fin 2, C (BitVec.ofNat 32 n.val))
    {H : HeadIn F} {Q : Vec F S7x128x512 .bf16} (hQ : qAt g hg Q = H.q) (hT : H.tb = (i 2).val) {x13 x14 : FVec F S8x512 .f32} {x15 x16 : FVec F S128x512 .f32} {L L' : FVec F S1x1x7x512 .f32} :
    (heldW c R H Q x13 x14 x15 x16 L L' : sProp 𝕄)
      ⊢ wp frame (wpE defs Variants.nat (c : Thread nD τ) none) E (again 0#32)
          (fun _ => doneW c R g hg H Q (outH H c2 cl) L L' (lpH H c2 cl) (lcH H c2 cl)) := by
  -- attempt 1, the last
  have h2 : ∀ A : sProp 𝕄, A ⊢ wp frame (wpE defs Variants.nat (c : Thread nD τ) (some 1)) E (again 2#32) (fun _ => A) := fun A =>
    hans 2#32 0 (some 1) (fun u hu => by cases hu; exact Nat.lt_succ_self 0) A A (stop_spec c (some 0) E R g hg c2 cl i again _ _ _)
  have h2' : ∀ A : sProp 𝕄, A ⊢ wp frame (wpE defs Variants.nat (c : Thread nD τ) (some 2)) E (again 2#32) (fun _ => A) := fun A =>
    hans 2#32 0 (some 2) (fun u hu => by cases hu; exact Nat.zero_lt_two) A A (stop_spec c (some 0) E R g hg c2 cl i again _ _ _)
  have h1 : ∀ (x13 x14 : FVec F S8x512 .f32) (x15 x16 : FVec F S128x512 .f32) (M M' : FVec F S1x1x7x512 .f32), (heldW c R H Q x13 x14 x15 x16 M M' : sProp 𝕄)
      ⊢ wp frame (wpE defs Variants.nat (c : Thread nD τ) (some 2)) E (again 1#32)
        (fun _ => doneW c R g hg H Q (outN H c2 cl 1) M M' (lseP (eP H c2 cl 1)) (lseC (BitVec.ofNat 32 (i 2).val) (eC H c2 cl 1))) := by
    intro x13 x14 x15 x16 M M'
    refine hans 1#32 1 (some 2) (fun u hu => by cases hu; exact Nat.one_lt_two) _ _ ?_
    iintro Hh
    iapply (attempt_spec c (some 1) E R g hg c2 cl i C dC hC again 1 (hc 1) hQ hT) $$ Hh
    iintro Hh
    have hn : next (BitVec.ofNat 32 ((1 : Fin 2) : ℕ)) (badN H c2 cl 1) = 2#32 := next_one _
    rw [hn]
    iapply (h2 _) $$ Hh
  refine hans 0#32 2 none (fun u hu => by cases hu) _ _ ?_
  iintro Hh
  iapply (attempt_spec c (some 2) E R g hg c2 cl i C dC hC again 0 (hc 0) hQ hT) $$ Hh
  iintro Hh
  have hn : next (BitVec.ofNat 32 ((0 : Fin 2) : ℕ)) (badN H c2 cl 0) = BitVec.ofNat 32 (if fails H c2 cl then 1 else 2) := next_zero c2 cl H
  rw [hn]
  unfold outH lpH lcH kept
  rw [hT]
  by_cases hf : fails H c2 cl
  · simp only [hf, ↓reduceIte]
    unfold doneW
    icases Hh with ⟨%x13, %x14, %x16, Hh⟩
    have h := h1 x13 x14 (outN H c2 cl 0) x16 (setRect (rL g hg) L (asRow (lseP (eP H c2 cl 0)))) (setRect (rL g hg) L' (asRow (lseC (BitVec.ofNat 32 (i 2).val) (eC H c2 cl 0))))
    unfold doneW at h
    simp only [setRect_again] at h
    iapply h $$ Hh
  · simp only [hf, ↓reduceIte]
    iapply (h2' _) $$ Hh

end Cert.Attn

end
-- ==== Proof.BodyTriple.lean ====
/-
  The kernel body at one grid point: holding the eight operand and result blocks and the scratch, it leaves in the three
  result blocks, head by head, what the search of each head returns.
-/
module

public import proofs.«01_k».proof.Proof.While
public import proofs.«01_k».proof.Proof.Main

@[expose] public section

set_option maxRecDepth 16384

noncomputable section

namespace Cert.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : ℕ} {τ : Topo} {sig : RefSig} {Ix : Type} [DecidableEq Ix] {F : FTy → Type} [FloatOps F]
  {Name : Type} [DecidableEq Name] {U : Type} [URA U] {Lvl : Type} [Preorder Lvl] {Λ : Labels}

local notation "𝕄" => MT nD τ sig Ix (Elt F) Name U Lvl

/-! ### Blocks filled rectangle by rectangle -/

/-- The first `k` of seven rectangles of `v` hold `w`. -/
def Filled {s : Shape} {α : Type} (r : ∀ g, g < 7 → Rect s) (w : ∀ g hg, (r g hg).shape.Idx → α) (k : ℕ) (v : s.Idx → α) : Prop :=
  ∀ g hg, g < k → ∀ x, v ((r g hg).emb x) = w g hg x

/-- Different rectangles share no place. -/
def Apart {s : Shape} (r : ∀ g, g < 7 → Rect s) : Prop := ∀ g hg g' hg', g ≠ g' → ∀ x y, (r g hg).emb x ≠ (r g' hg').emb y

theorem filled_zero {s : Shape} {α : Type} {r : ∀ g, g < 7 → Rect s} {w : ∀ g hg, (r g hg).shape.Idx → α} (v : s.Idx → α) : Filled r w 0 v :=
  fun _ _ h => absurd h (Nat.not_lt_zero _)

theorem filled_succ {s : Shape} {α : Type} {r : ∀ g, g < 7 → Rect s} {w : ∀ g hg, (r g hg).shape.Idx → α} (hr : Apart r) {k : ℕ} (hk : k < 7) {v : s.Idx → α}
    (h : Filled r w k v) : Filled r w (k + 1) (setRect (r k hk) v (w k hk)) := by
  intro g hg hgk x
  by_cases hgk' : g = k
  · subst hgk'; rw [setRect_emb]
  · rw [setRect_off _ _ _ _ (fun ⟨y, hy⟩ => hr k hk g hg (Ne.symm hgk') y x hy)]
    exact h g hg (by omega) x

theorem apartQ : Apart rQ := by
  intro g hg g' hg' hne x y h
  have h0 := congrArg Fin.val (congrFun h 0)
  rw [Rect.emb_apply, Rect.emb_apply] at h0
  have hx : ((x 0 : Fin _) : ℕ) < 1 := (x 0).isLt
  have hy : ((y 0 : Fin _) : ℕ) < 1 := (y 0).isLt
  simp at h0
  omega

theorem apartL : Apart rL := by
  intro g hg g' hg' hne x y h
  have h0 := congrArg Fin.val (congrFun h 2)
  rw [Rect.emb_apply, Rect.emb_apply] at h0
  have hx : ((x 2 : Fin _) : ℕ) < 1 := (x 2).isLt
  have hy : ((y 2 : Fin _) : ℕ) < 1 := (y 2).isLt
  simp at h0
  omega

theorem apartO : Apart rO := by
  intro g hg g' hg' hne x y h
  have h0 := congrArg Fin.val (congrFun h 2)
  rw [Rect.emb_apply, Rect.emb_apply] at h0
  have hx : ((x 2 : Fin _) : ℕ) < 128 := (x 2).isLt
  have hy : ((y 2 : Fin _) : ℕ) < 128 := (y 2).isLt
  simp at h0
  omega

/-! ### The results of a grid point -/

/-- What a grid point reads: its operand blocks and its query block's number. -/
structure PointIn (F : FTy → Type) where
  q : Vec F S1x512x896 .fp8e4m3
  e : Vec F S1x1x512x28 .i8
  K : Vec F S1x28672x128 .bf16
  V : Vec F S1x128x28672 .bf16
  Kc : Vec F S1x1024x128 .bf16
  Vc : Vec F S1x128x1024 .bf16
  tb : ℕ

/-- Head `g` of it. -/
def PointIn.head (I : PointIn F) (g : ℕ) (hg : g < 7) : HeadIn F := ⟨I.K, I.V, I.Kc, I.Vc, qRow (deq I.q I.e) g hg, I.tb⟩

variable (c2 cl : F .f32) (I : PointIn F)

def wO (g : ℕ) (hg : g < 7) : (rO g hg).shape.Idx → Elt F .bf16 := oRow (outH (I.head g hg) c2 cl)
def wLp (g : ℕ) (hg : g < 7) : (rL g hg).shape.Idx → Elt F .f32 := asRow (lpH (I.head g hg) c2 cl)
def wLc (g : ℕ) (hg : g < 7) : (rL g hg).shape.Idx → Elt F .f32 := asRow (lcH (I.head g hg) c2 cl)

/-- The place of a lane within its head's columns. -/
def colIx (y : S1x512x896.Idx) : S1x512x128.Idx := fun a => match a with
  | 0 => y 0 | 1 => y 1 | 2 => ⟨(y 2).val % 128, Nat.mod_lt _ (by decide)⟩

/-- The place of a query within its head's row. -/
def rowIx (y : S1x1x7x512.Idx) : S1x1x1x512.Idx := fun a => match a with
  | 0 => y 0 | 1 => y 1 | 2 => ⟨0, by decide⟩ | 3 => y 3

/-- The output block. -/
def blkO : Vec F S1x512x896 .bf16 := fun y => wO c2 cl I ((y 2).val / 128) (by have h : (y 2).val < 896 := (y 2).isLt; omega) (colIx y)
/-- The blocks of logarithms. -/
def blkLp : Vec F S1x1x7x512 .f32 := fun y => wLp c2 cl I (y 2).val (y 2).isLt (rowIx y)
def blkLc : Vec F S1x1x7x512 .f32 := fun y => wLc c2 cl I (y 2).val (y 2).isLt (rowIx y)

theorem filledO {v : Vec F S1x512x896 .bf16} (h : Filled rO (wO c2 cl I) 7 v) : v = blkO c2 cl I := by
  funext y
  have hy : (y 2).val < 896 := (y 2).isLt
  have hg : (y 2).val / 128 < 7 := by omega
  have he : (rO ((y 2).val / 128) hg).emb (colIx y) = y := by
    funext a; apply Fin.ext; rw [Rect.emb_apply]
    fin_cases a
    · simp [colIx]
    · simp [colIx]
    · simp [colIx]; omega
  have h' := h _ hg hg (colIx y)
  rw [he] at h'
  exact h'

theorem filledL {w : ∀ g hg, (rL g hg).shape.Idx → Elt F .f32} {v : Vec F S1x1x7x512 .f32} (h : Filled rL w 7 v) :
    v = fun y => w (y 2).val (y 2).isLt (rowIx y) := by
  funext y
  have hg : (y 2).val < 7 := (y 2).isLt
  have he : (rL (y 2).val hg).emb (rowIx y) = y := by
    funext a; apply Fin.ext; rw [Rect.emb_apply]
    fin_cases a <;> simp [rowIx]
  have h' := h _ hg hg (rowIx y)
  rw [he] at h'
  exact h'

/-! ### The body -/

variable {defs : Defs nD τ sig (Elt F) Λ} (c : Dev nD) (E : Set Name)
variable (R : Refs sig) (a3 : Memref sig .tc .vmem S1x512x896 .fp8e4m3) (a4 : Memref sig .tc .vmem S1x1x512x28 .i8) (a9 : Memref sig .tc .vmem S1x512x896 .bf16)
variable (sQ : ∀ g (hg : g < 7), (R.a12.access (rQ g hg)).Stores Finset.univ) (sO : ∀ g (hg : g < 7), (a9.access (rO g hg)).Stores Finset.univ)

theorem putQ_spec (x : FVec F S512x896 .bf16) (k : ℕ) (hk : k < 7) {Q : Vec F S7x128x512 .bf16} :
    (own c R.a12 Q : sProp 𝕄) ⊢ wp frame (wpE defs Variants.nat (c : Thread nD τ) none) E (putQ R sQ x k hk) (fun _ => own c R.a12 (setRect (rQ k hk) Q (qRow x k hk))) := by
  unfold putQ
  simp only [Prog.lift, Prog.bind_op, Prog.bind_ret, Prog.pure_eq_ret]
  iintro H
  iapply (own_load Variants.nat c none E) $$ H; iintro H
  iapply (own_store Variants.nat c none E) $$ H; iintro H
  rw [wp_ret]; imodintro
  iexact H

theorem whole3 (v : Vec F S1x512x896 .fp8e4m3) : (fun x => v ((Rect.unit (s := S1x512x896) ![0, 0, 0] S1x512x896.size inb_S1x512x896_S1x512x896_0_0_0).emb x)) = v := by
  funext x; congr 1; funext a; apply Fin.ext; rw [Rect.emb_apply]; fin_cases a <;> simp

theorem whole4 (v : Vec F S1x1x512x28 .i8) : (fun x => v ((Rect.unit (s := S1x1x512x28) ![0, 0, 0, 0] S1x1x512x28.size inb_S1x1x512x28_S1x1x512x28_0_0_0_0).emb x)) = v := by
  funext x; congr 1; funext a; apply Fin.ext; rw [Rect.emb_apply]; fin_cases a <;> simp

theorem prologue_spec {q : Vec F S1x512x896 .fp8e4m3} {e : Vec F S1x1x512x28 .i8} {Q : Vec F S7x128x512 .bf16} :
    (iprop(own c a3 q ∗ own c a4 e ∗ own c R.a12 Q) : sProp 𝕄) ⊢ wp frame (wpE defs Variants.nat (c : Thread nD τ) none) E (prologue R a3 a4 sQ)
      (fun _ => iprop(own c a3 q ∗ own c a4 e ∗ ∃ Q', ⌜∀ g hg, qAt g hg Q' = qRow (deq q e) g hg⌝ ∗ own c R.a12 Q')) := by
  unfold prologue
  simp only [Prog.lift, Prog.bind_op, Prog.bind_ret, Prog.pure_eq_ret]
  iintro ⟨H3, H4, H⟩
  iapply (own_load Variants.nat c none E) $$ H3; iintro H3
  iapply (own_load Variants.nat c none E) $$ H4; iintro H4
  rw [whole3, whole4]
  iapply (bind_spec Variants.nat c none E (putQ_spec c E R sQ _ 0 _)) $$ H; iintro %_u H
  iapply (bind_spec Variants.nat c none E (putQ_spec c E R sQ _ 1 _)) $$ H; iintro %_u H
  iapply (bind_spec Variants.nat c none E (putQ_spec c E R sQ _ 2 _)) $$ H; iintro %_u H
  iapply (bind_spec Variants.nat c none E (putQ_spec c E R sQ _ 3 _)) $$ H; iintro %_u H
  iapply (bind_spec Variants.nat c none E (putQ_spec c E R sQ _ 4 _)) $$ H; iintro %_u H
  iapply (bind_spec Variants.nat c none E (putQ_spec c E R sQ _ 5 _)) $$ H; iintro %_u H
  iapply (wp_wand frame (wpE defs Variants.nat (c : Thread nD τ) none) E) $$ [H]
  · iapply (putQ_spec c E R sQ _ 6 _) $$ H
  iintro %_u H
  isplitl [H3]; · iexact H3
  isplitl [H4]; · iexact H4
  iexists _
  isplitr [H]
  rotate_left
  · iexact H
  · ipureintro
    intro g hg
    funext x
    exact filled_succ (r := rQ) (w := fun g hg => qRow (deq q e) g hg) apartQ (by decide) (filled_succ apartQ (by decide) (filled_succ apartQ (by decide) (filled_succ apartQ (by decide)
      (filled_succ apartQ (by decide) (filled_succ apartQ (by decide) (filled_succ apartQ (by decide) (filled_zero Q))))))) g hg hg x

/-- The heads' buffers between two heads, the first `k` done. -/
def between (k : ℕ) (Q : Vec F S7x128x512 .bf16) : sProp 𝕄 :=
  iprop(∃ x13 x14 x15 x16 w9 L L', ⌜Filled rO (wO c2 cl I) k w9 ∧ Filled rL (wLp c2 cl I) k L ∧ Filled rL (wLc c2 cl I) k L'⌝
    ∗ heldW c R (I.head 0 (by decide)) Q x13 x14 x15 x16 L L' ∗ own c a9 w9)

variable (call : ℕ → Prog (TpuEff nD τ sig (Elt F) Λ .tc) (BitVec 32))

theorem emit_spec (hcall : ∀ g (hg : g < 7) (H : HeadIn F) (Q : Vec F S7x128x512 .bf16), qAt g hg Q = H.q → H.tb = I.tb → ∀ x13 x14 x15 x16 L L',
      (heldW c R H Q x13 x14 x15 x16 L L' : sProp 𝕄) ⊢ wp frame (wpE defs Variants.nat (c : Thread nD τ) none) E (call g)
          (fun _ => doneW c R g hg H Q (outH H c2 cl) L L' (lpH H c2 cl) (lcH H c2 cl)))
    {Q : Vec F S7x128x512 .bf16} (hQ : ∀ g hg, qAt g hg Q = qRow (deq I.q I.e) g hg) (k : ℕ) (hk : k < 7) :
    (between c2 cl I c R a9 k Q : sProp 𝕄) ⊢ wp frame (wpE defs Variants.nat (c : Thread nD τ) none) E (emit R a9 sO call k hk)
      (fun _ => between c2 cl I c R a9 (k + 1) Q) := by
  unfold emit between
  simp only [Prog.lift, Prog.bind_op, Prog.bind_ret, Prog.pure_eq_ret]
  iintro ⟨%x13, %x14, %x15, %x16, %w9, %L, %L', %hF, H, H9⟩
  obtain ⟨h9, hL, hL'⟩ := hF
  have h := hcall k hk (I.head k hk) Q (hQ k hk) rfl x13 x14 x15 x16 L L'
  have h' : (heldW c R (I.head 0 (by decide)) Q x13 x14 x15 x16 L L' : sProp 𝕄) ⊢ wp frame (wpE defs Variants.nat (c : Thread nD τ) none) E (call k)
          (fun _ => doneW c R k hk (I.head k hk) Q (outH (I.head k hk) c2 cl) L L' (lpH (I.head k hk) c2 cl) (lcH (I.head k hk) c2 cl)) := h
  iapply (bind_spec Variants.nat c none E h') $$ H
  unfold doneW heldW
  iintro %_r ⟨%y13, %y14, %y16, H5, H6, H7, H8, H12, H13, H14, H15, H16, H10, H11⟩
  iapply (own_load Variants.nat c none E) $$ H15; iintro H15
  iapply (own_load Variants.nat c none E) $$ H9; iintro H9
  iapply (own_store Variants.nat c none E) $$ H9; iintro H9
  rw [wp_ret]; imodintro
  simp only [emb_r128]
  iexists _; iexists _; iexists _; iexists _; iexists _; iexists _; iexists _
  isplitr [H5 H6 H7 H8 H12 H13 H14 H15 H16 H10 H11 H9]
  rotate_left
  · isplitr [H9]
    · isplitl [H5]; · iexact H5
      isplitl [H6]; · iexact H6
      isplitl [H7]; · iexact H7
      isplitl [H8]; · iexact H8
      isplitl [H12]; · iexact H12
      isplitl [H13]; · iexact H13
      isplitl [H14]; · iexact H14
      isplitl [H15]; · iexact H15
      isplitl [H16]; · iexact H16
      isplitl [H10]; · iexact H10
      iexact H11
    · iexact H9
  · ipureintro
    exact ⟨filled_succ apartO hk h9, filled_succ apartL hk hL, filled_succ apartL hk hL'⟩

/-- The body: the operand blocks as they were, the result blocks at the point's results, the scratch at anything. -/
theorem body_spec (hcall : ∀ g (hg : g < 7) (H : HeadIn F) (Q : Vec F S7x128x512 .bf16), qAt g hg Q = H.q → H.tb = I.tb → ∀ x13 x14 x15 x16 L L',
      (heldW c R H Q x13 x14 x15 x16 L L' : sProp 𝕄) ⊢ wp frame (wpE defs Variants.nat (c : Thread nD τ) none) E (call g)
          (fun _ => doneW c R g hg H Q (outH H c2 cl) L L' (lpH H c2 cl) (lcH H c2 cl)))
    {w9 : Vec F S1x512x896 .bf16} {L L' : FVec F S1x1x7x512 .f32} {Q : Vec F S7x128x512 .bf16} {x13 x14 : FVec F S8x512 .f32} {x15 x16 : FVec F S128x512 .f32} :
    (iprop(own c a3 I.q ∗ own c a4 I.e ∗ own c R.a5 I.K ∗ own c R.a6 I.V ∗ own c R.a7 I.Kc ∗ own c R.a8 I.Vc ∗ own c a9 w9 ∗ own c R.a10 L ∗ own c R.a11 L'
        ∗ own c R.a12 Q ∗ own c R.a13 x13 ∗ own c R.a14 x14 ∗ own c R.a15 x15 ∗ own c R.a16 x16) : sProp 𝕄)
      ⊢ wp frame (wpE defs Variants.nat (c : Thread nD τ) none) E (body R a3 a4 a9 sQ sO call)
        (fun _ => iprop(own c a3 I.q ∗ own c a4 I.e ∗ own c R.a5 I.K ∗ own c R.a6 I.V ∗ own c R.a7 I.Kc ∗ own c R.a8 I.Vc
          ∗ own c a9 (blkO c2 cl I) ∗ own c R.a10 (blkLp c2 cl I) ∗ own c R.a11 (blkLc c2 cl I)
          ∗ ∃ Q x13 x14 x15 x16, own c R.a12 Q ∗ own c R.a13 x13 ∗ own c R.a14 x14 ∗ own c R.a15 x15 ∗ own c R.a16 x16)) := by
  unfold body
  iintro ⟨H3, H4, H5, H6, H7, H8, H9, H10, H11, H12, H13, H14, H15, H16⟩
  iapply (bind_spec Variants.nat c none E (prologue_spec c E R a3 a4 sQ)) $$ [H3 H4 H12]
  · isplitl [H3]; · iexact H3
    isplitl [H4]; · iexact H4
    iexact H12
  iintro %_u ⟨H3, H4, %Q', %hQ, H12⟩
  have hb : (iprop(own c R.a5 I.K ∗ own c R.a6 I.V ∗ own c R.a7 I.Kc ∗ own c R.a8 I.Vc ∗ own c R.a12 Q' ∗ own c R.a13 x13 ∗ own c R.a14 x14 ∗ own c R.a15 x15 ∗ own c R.a16 x16 ∗ own c R.a10 L ∗ own c R.a11 L' ∗ own c a9 w9) : sProp 𝕄)
      ⊢ between c2 cl I c R a9 0 Q' := by
    unfold between
    iintro ⟨H5, H6, H7, H8, H12, H13, H14, H15, H16, H10, H11, H9⟩
    iexists x13; iexists x14; iexists x15; iexists x16; iexists w9; iexists L; iexists L'
    isplitr [H5 H6 H7 H8 H12 H13 H14 H15 H16 H10 H11 H9]
    · ipureintro; exact ⟨filled_zero _, filled_zero _, filled_zero _⟩
    isplitr [H9]
    · unfold heldW
      isplitl [H5]; · iexact H5
      isplitl [H6]; · iexact H6
      isplitl [H7]; · iexact H7
      isplitl [H8]; · iexact H8
      isplitl [H12]; · iexact H12
      isplitl [H13]; · iexact H13
      isplitl [H14]; · iexact H14
      isplitl [H15]; · iexact H15
      isplitl [H16]; · iexact H16
      isplitl [H10]; · iexact H10
      iexact H11
    · iexact H9
  ihave Hb := hb $$ [H5 H6 H7 H8 H12 H13 H14 H15 H16 H10 H11 H9]
  · isplitl [H5]; · iexact H5
    isplitl [H6]; · iexact H6
    isplitl [H7]; · iexact H7
    isplitl [H8]; · iexact H8
    isplitl [H12]; · iexact H12
    isplitl [H13]; · iexact H13
    isplitl [H14]; · iexact H14
    isplitl [H15]; · iexact H15
    isplitl [H16]; · iexact H16
    isplitl [H10]; · iexact H10
    isplitl [H11]; · iexact H11
    iexact H9
  iapply (bind_spec Variants.nat c none E (emit_spec c2 cl I c E R a9 sO call hcall hQ 0 _)) $$ Hb; iintro %_u Hb
  iapply (bind_spec Variants.nat c none E (emit_spec c2 cl I c E R a9 sO call hcall hQ 1 _)) $$ Hb; iintro %_u Hb
  iapply (bind_spec Variants.nat c none E (emit_spec c2 cl I c E R a9 sO call hcall hQ 2 _)) $$ Hb; iintro %_u Hb
  iapply (bind_spec Variants.nat c none E (emit_spec c2 cl I c E R a9 sO call hcall hQ 3 _)) $$ Hb; iintro %_u Hb
  iapply (bind_spec Variants.nat c none E (emit_spec c2 cl I c E R a9 sO call hcall hQ 4 _)) $$ Hb; iintro %_u Hb
  iapply (bind_spec Variants.nat c none E (emit_spec c2 cl I c E R a9 sO call hcall hQ 5 _)) $$ Hb; iintro %_u Hb
  iapply (bind_spec Variants.nat c none E (emit_spec c2 cl I c E R a9 sO call hcall hQ 6 _)) $$ Hb; iintro %_u Hb
  rw [Prog.pure_eq_ret, wp_ret]; imodintro
  unfold between
  icases Hb with ⟨%y13, %y14, %y15, %y16, %z9, %M, %M', %hF, Hh, H9⟩
  obtain ⟨h9, hL, hL'⟩ := hF
  have e9 := filledO c2 cl I h9
  have eL : M = blkLp c2 cl I := filledL hL
  have eL' : M' = blkLc c2 cl I := filledL hL'
  subst e9 eL eL'
  unfold heldW
  icases Hh with ⟨H5, H6, H7, H8, H12, H13, H14, H15, H16, H10, H11⟩
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexists _; iexists _; iexists _; iexists _; iexists _
  isplitl [H12]; · iexact H12
  isplitl [H13]; · iexact H13
  isplitl [H14]; · iexact H14
  isplitl [H15]; · iexact H15
  iexact H16

end Cert.Attn

end
-- ==== Proof.Answer.lean ====
/-
  Two small bridges to the launch library: a call of a label answered by a triple about the label's body, and `own` of a
  buffer in the library's words.
-/
module

public import proofs.«01_k».proof.Proof.Own
public import Idealize.ShloMosaic.Lib.Memref

@[expose] public section

noncomputable section

namespace Cert.Attn

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : ℕ} {τ : Topo} {sig : RefSig} {Ix : Type} [DecidableEq Ix] {F : FTy → Type} [FloatOps F]
  {Name : Type} [DecidableEq Name] {U : Type} [URA U] {Lvl : Type} [Preorder Lvl] {Λ : Labels}

local notation "𝕄" => MT nD τ sig Ix (Elt F) Name U Lvl

theorem own_owns (c : Dev nD) {s : Shape} {e : EltTy} (m : Memref sig Kind.tc Space.vmem s e) (hm : m.IsWhole) (v : s.Idx → Elt F e) :
    (own c m v : sProp 𝕄) ⊢ owns (c : Thread nD τ) m fullShare v := by
  unfold own owns
  rw [hm.set_eq_univ]
  iintro ⟨%f, H, %h⟩
  iexists f; isplitr
  · ipureintro; exact h
  · iexact H

theorem owns_own (c : Dev nD) {s : Shape} {e : EltTy} (m : Memref sig Kind.tc Space.vmem s e) (hm : m.IsWhole) (v : s.Idx → Elt F e) :
    (owns (c : Thread nD τ) m fullShare v : sProp 𝕄) ⊢ own c m v := by
  unfold own owns
  rw [hm.set_eq_univ]
  iintro ⟨%f, %h, H⟩
  iexists f; isplitl
  · iexact H
  · ipureintro; exact h

/-- A call's body proved to take `A` to `B` below the caller's variant: so does the call. -/
theorem call_answer {defs : Defs nD τ sig (Elt F) Λ} (𝒱 : Variants) (c : Dev nD) (bd : Option 𝒱.V) (E : Set Name)
    {ℓ : Λ.Label} {a : Λ.Args ℓ} (v : 𝒱.V) (hv : ∀ u ∈ bd, 𝒱.lt v u) {A B : sProp 𝕄}
    (h : A ⊢ wp frame (wpE defs 𝒱 (c : Thread nD τ) (some v)) E (defs .tc ℓ a) (fun _ => B)) :
    A ⊢ wp frame (wpE defs 𝒱 (c : Thread nD τ) bd) E (Prog.lift (.call ℓ a)) (fun _ => B) := by
  refine BIBase.Entails.trans ?_ (wp_call_spec 𝒱 (c : Thread nD τ) bd E (a := a)
    (S := do sWPT.consume A; let r ← sWPT.arbitrary; sWPT.produce B; pure r) v hv ?_)
  · show A ⊢ iprop(A ∗ ∀ r : Λ.Result ℓ, (B -∗ wp frame (wpE defs 𝒱 (c : Thread nD τ) bd) E (Prog.ret r) (fun _ => B)))
    iintro HA
    isplitl [HA]; · iexact HA
    iintro %r HB
    rw [wp_ret]; imodintro
    iexact HB
  · intro Q
    show iprop(A ∗ ∀ r, (B -∗ Q r)) ⊢ _
    iintro ⟨HA, HQ⟩
    ihave H := h $$ HA
    iapply wp_wand $$ H
    iintro %r HB
    iapply HQ $$ HB

end Cert.Attn

end
-- ==== Proof.RunKernel.lean ====
/-
  The launch of the program of words, told as for the idealized one: at every grid point its body leaves in the three result blocks what `Attn.blkO`,
  `Attn.blkLp` and `Attn.blkLc` compute from the point's operand blocks, so every run ends with the result arrays put
  together from those blocks and the arguments unchanged.
-/
module

public import proofs.«01_k».proof.Proof.EqKernel
public import proofs.«01_k».proof.Proof.BodyTriple
public import proofs.«01_k».proof.Proof.Trips
public import proofs.«01_k».proof.Proof.Answer
public import proofs.«01_k».proof.Proof.Gen.Kernel.Launch
public import Idealize.ShloMosaic.Lib.Pipeline.FrameBody
public import Idealize.ShloMosaic.Lib.Claim

@[expose] public section

set_option maxRecDepth 16384

noncomputable section

namespace Cert.Attn.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The program's two scales: of the logits in base 2, and of the logits. -/
abbrev sl2 : F .f32 := Scalar.ofBits .f32 0x3E0293EE#32
abbrev sl : F .f32 := Scalar.ofBits .f32 0x3DB504F3#32

/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) (cfgs (F := F)) 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin (cfg0 (F := F)).W) (t : Fin (cfg0 (F := F)).N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ (cfg0 (F := F)) c) (hA : dat.A 0 = V m c (Pipeline.arrRef spec0 0))
    (hafter : ∀ t, dat.after 0 t = iblk m c 0 t) (t : Fin (cfg0 (F := F)).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ (cfg0 (F := F)) c) (hA : dat.A 1 = V m c (Pipeline.arrRef spec0 1))
    (hafter : ∀ t, dat.after 1 t = iblk m c 1 t) (t : Fin (cfg0 (F := F)).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ (cfg0 (F := F)) c) (hA : dat.A 2 = V m c (Pipeline.arrRef spec0 2))
    (hafter : ∀ t, dat.after 2 t = iblk m c 2 t) (t : Fin (cfg0 (F := F)).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ (cfg0 (F := F)) c) (hA : dat.A 3 = V m c (Pipeline.arrRef spec0 3))
    (hafter : ∀ t, dat.after 3 t = iblk m c 3 t) (t : Fin (cfg0 (F := F)).N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ (cfg0 (F := F)) c) (hA : dat.A 4 = V m c (Pipeline.arrRef spec0 4))
    (hafter : ∀ t, dat.after 4 t = iblk m c 4 t) (t : Fin (cfg0 (F := F)).N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ (cfg0 (F := F)) c) (hA : dat.A 5 = V m c (Pipeline.arrRef spec0 5))
    (hafter : ∀ t, dat.after 5 t = iblk m c 5 t) (t : Fin (cfg0 (F := F)).N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_Kernel`, Defs.lean, at any `F`). -/
theorem frame_of (dats : (p : Fin 1) → (c : Dev nD) → Dat τ (Elt F) Unit ℕ (UR sig nD τ) ℕ (cfgs (F := F) p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (Pipeline.mem_restRefs_of main_arg0 (by decide) (by decide : ∀ w : Fin 9, (spec0 w).arr.view.ref ≠ main_arg0))).trans (V_main_arg0 m c),
      ((h c).2 main_arg1 (Pipeline.mem_restRefs_of main_arg1 (by decide) (by decide : ∀ w : Fin 9, (spec0 w).arr.view.ref ≠ main_arg1))).trans (V_main_arg1 m c),
      ((h c).1 2).trans (((dats 0 c).arrAt_in 2 rfl _).trans ((hA c 2).trans (V_main_arg2 m c))),
      ((h c).1 3).trans (((dats 0 c).arrAt_in 3 rfl _).trans ((hA c 3).trans (V_main_arg3 m c))),
      ((h c).1 4).trans (((dats 0 c).arrAt_in 4 rfl _).trans ((hA c 4).trans (V_main_arg4 m c))),
      ((h c).1 5).trans (((dats 0 c).arrAt_in 5 rfl _).trans ((hA c 5).trans (V_main_arg5 m c)))⟩) h

/-- Each window's current staging memref at point `t`, spelled as the pipeline passes it (`bodyAt0`), and its wholeness. -/
abbrev ms0_0 (t : Fin (cfg0 (F := F)).N) : Memref sig .tc .vmem S1x512x896 .fp8e4m3 := win0_0.stage (cfg0.slots t 0)
abbrev hs0_0 (t : Fin (cfg0 (F := F)).N) : (ms0_0 t).IsWhole := hstage0_0 ((cfg0.slots t 0).cast nbuf0_0)
abbrev ms0_1 (t : Fin (cfg0 (F := F)).N) : Memref sig .tc .vmem S1x1x512x28 .i8 := win0_1.stage (cfg0.slots t 1)
abbrev hs0_1 (t : Fin (cfg0 (F := F)).N) : (ms0_1 t).IsWhole := hstage0_1 ((cfg0.slots t 1).cast nbuf0_1)
abbrev ms0_2 (t : Fin (cfg0 (F := F)).N) : Memref sig .tc .vmem S1x28672x128 .bf16 := win0_2.stage (cfg0.slots t 2)
abbrev hs0_2 (t : Fin (cfg0 (F := F)).N) : (ms0_2 t).IsWhole := hstage0_2 ((cfg0.slots t 2).cast nbuf0_2)
abbrev ms0_3 (t : Fin (cfg0 (F := F)).N) : Memref sig .tc .vmem S1x128x28672 .bf16 := win0_3.stage (cfg0.slots t 3)
abbrev hs0_3 (t : Fin (cfg0 (F := F)).N) : (ms0_3 t).IsWhole := hstage0_3 ((cfg0.slots t 3).cast nbuf0_3)
abbrev ms0_4 (t : Fin (cfg0 (F := F)).N) : Memref sig .tc .vmem S1x1024x128 .bf16 := win0_4.stage (cfg0.slots t 4)
abbrev hs0_4 (t : Fin (cfg0 (F := F)).N) : (ms0_4 t).IsWhole := hstage0_4 ((cfg0.slots t 4).cast nbuf0_4)
abbrev ms0_5 (t : Fin (cfg0 (F := F)).N) : Memref sig .tc .vmem S1x128x1024 .bf16 := win0_5.stage (cfg0.slots t 5)
abbrev hs0_5 (t : Fin (cfg0 (F := F)).N) : (ms0_5 t).IsWhole := hstage0_5 ((cfg0.slots t 5).cast nbuf0_5)
abbrev ms0_6 (t : Fin (cfg0 (F := F)).N) : Memref sig .tc .vmem S1x512x896 .bf16 := win0_6.stage (cfg0.slots t 6)
abbrev hs0_6 (t : Fin (cfg0 (F := F)).N) : (ms0_6 t).IsWhole := hstage0_6 ((cfg0.slots t 6).cast nbuf0_6)
abbrev ms0_7 (t : Fin (cfg0 (F := F)).N) : Memref sig .tc .vmem S1x1x7x512 .f32 := win0_7.stage (cfg0.slots t 7)
abbrev hs0_7 (t : Fin (cfg0 (F := F)).N) : (ms0_7 t).IsWhole := hstage0_7 ((cfg0.slots t 7).cast nbuf0_7)
abbrev ms0_8 (t : Fin (cfg0 (F := F)).N) : Memref sig .tc .vmem S1x1x7x512 .f32 := win0_8.stage (cfg0.slots t 8)
abbrev hs0_8 (t : Fin (cfg0 (F := F)).N) : (ms0_8 t).IsWhole := hstage0_8 ((cfg0.slots t 8).cast nbuf0_8)
/-- The scratch operands: whole scoped buffers of the kernel's own, passed beside the windows. -/
abbrev scM0_0 : Memref sig .tc .vmem S7x128x512 .bf16 := Memref.whole cc0_scratch0
abbrev scM0_1 : Memref sig .tc .vmem S8x512 .f32 := Memref.whole cc0_scratch1
abbrev scM0_2 : Memref sig .tc .vmem S8x512 .f32 := Memref.whole cc0_scratch2
abbrev scM0_3 : Memref sig .tc .vmem S128x512 .f32 := Memref.whole cc0_scratch3
abbrev scM0_4 : Memref sig .tc .vmem S128x512 .f32 := Memref.whole cc0_scratch4

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

/-! ## What the body leaves -/

/-- A grid point's operand blocks and its place along the tokens. -/
def point (c : Dev nD) (t : Fin (cfg0 (F := F)).N) : PointIn F :=
  ⟨iblk m c 0 t, iblk m c 1 t, iblk m c 2 t, iblk m c 3 t, iblk m c 4 t, iblk m c 5 t, (grid0.coords t 2).val⟩

/-- The proof data of the one pipeline: inputs left in place, results at the blocks. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => blkO sl2 sl (point m c t)
    | ⟨7, _⟩ => blkLp sl2 sl (point m c t)
    | ⟨8, _⟩ => blkLc sl2 sl (point m c t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin (cfg0 (F := F)).W) : (dats m 0 c).A w = V m c (Pipeline.arrRef spec0 w) := by
  dsimp only [dats]

/-- What the body leaves, window by window (the proof data's `match` reduced by `dsimp`). -/
theorem after0_0 (c : Dev nD) (t : Fin (cfg0 (F := F)).N) : (dats m 0 c).after 0 t = iblk m c 0 t := rfl
theorem after0_1 (c : Dev nD) (t : Fin (cfg0 (F := F)).N) : (dats m 0 c).after 1 t = iblk m c 1 t := rfl
theorem after0_2 (c : Dev nD) (t : Fin (cfg0 (F := F)).N) : (dats m 0 c).after 2 t = iblk m c 2 t := rfl
theorem after0_3 (c : Dev nD) (t : Fin (cfg0 (F := F)).N) : (dats m 0 c).after 3 t = iblk m c 3 t := rfl
theorem after0_4 (c : Dev nD) (t : Fin (cfg0 (F := F)).N) : (dats m 0 c).after 4 t = iblk m c 4 t := rfl
theorem after0_5 (c : Dev nD) (t : Fin (cfg0 (F := F)).N) : (dats m 0 c).after 5 t = iblk m c 5 t := rfl
theorem after0_6 (c : Dev nD) (t : Fin (cfg0 (F := F)).N) : (dats m 0 c).after 6 t = blkO sl2 sl (point m c t) := rfl
theorem after0_7 (c : Dev nD) (t : Fin (cfg0 (F := F)).N) : (dats m 0 c).after 7 t = blkLp sl2 sl (point m c t) := rfl
theorem after0_8 (c : Dev nD) (t : Fin (cfg0 (F := F)).N) : (dats m 0 c).after 8 t = blkLc sl2 sl (point m c t) := rfl

/-- Each input's current staging buffer holds its block at every point, fetched there or not (`beforeK_W_of`). -/
theorem before0_0 (c : Dev nD) (t : Fin (cfg0 (F := F)).N) (d) : (dats m 0 c).before 0 t d = iblk m c 0 t :=
  before0_0_of m (dats m 0 c) (A_eq m c 0) (after0_0 m c) t d
theorem before0_1 (c : Dev nD) (t : Fin (cfg0 (F := F)).N) (d) : (dats m 0 c).before 1 t d = iblk m c 1 t :=
  before0_1_of m (dats m 0 c) (A_eq m c 1) (after0_1 m c) t d
theorem before0_2 (c : Dev nD) (t : Fin (cfg0 (F := F)).N) (d) : (dats m 0 c).before 2 t d = iblk m c 2 t :=
  before0_2_of m (dats m 0 c) (A_eq m c 2) (after0_2 m c) t d
theorem before0_3 (c : Dev nD) (t : Fin (cfg0 (F := F)).N) (d) : (dats m 0 c).before 3 t d = iblk m c 3 t :=
  before0_3_of m (dats m 0 c) (A_eq m c 3) (after0_3 m c) t d
theorem before0_4 (c : Dev nD) (t : Fin (cfg0 (F := F)).N) (d) : (dats m 0 c).before 4 t d = iblk m c 4 t :=
  before0_4_of m (dats m 0 c) (A_eq m c 4) (after0_4 m c) t d
theorem before0_5 (c : Dev nD) (t : Fin (cfg0 (F := F)).N) (d) : (dats m 0 c).before 5 t d = iblk m c 5 t :=
  before0_5_of m (dats m 0 c) (A_eq m c 5) (after0_5 m c) t d

/-! ## The body obligation, at a generic point -/

/-- What the body is called with at point `t` (Lib/Pipeline.lean `BodyObligation`'s precondition, the windows one by one), -/
def bodyPre (c : Dev nD) (t : Fin (cfg0 (F := F)).N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin (cfg0 (F := F)).N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t))

/-! ## The body at a point -/

section Search

variable (c : Dev nD) (i : grid0.Coords) (arg5 : Memref sig .tc .vmem S1x28672x128 .bf16) (harg5 : arg5.IsWhole) (arg6 : Memref sig .tc .vmem S1x128x28672 .bf16) (harg6 : arg6.IsWhole) (arg7 : Memref sig .tc .vmem S1x1024x128 .bf16) (harg7 : arg7.IsWhole) (arg8 : Memref sig .tc .vmem S1x128x1024 .bf16) (harg8 : arg8.IsWhole) (arg10 : Memref sig .tc .vmem S1x1x7x512 .f32) (harg10 : arg10.IsWhole) (arg11 : Memref sig .tc .vmem S1x1x7x512 .f32) (harg11 : arg11.IsWhole) (arg12 : Memref sig .tc .vmem S7x128x512 .bf16) (harg12 : arg12.IsWhole) (arg13 : Memref sig .tc .vmem S8x512 .f32) (harg13 : arg13.IsWhole) (arg14 : Memref sig .tc .vmem S8x512 .f32) (harg14 : arg14.IsWhole) (arg15 : Memref sig .tc .vmem S128x512 .f32) (harg15 : arg15.IsWhole) (arg16 : Memref sig .tc .vmem S128x512 .f32) (harg16 : arg16.IsWhole)

theorem search0 (H : HeadIn F) (Q : Vec F S7x128x512 .bf16) (hQ : qAt 0 (by decide) Q = H.q) (hT : H.tb = (i 2).val) (x13 x14 : FVec F S8x512 .f32) (x15 x16 : FVec F S128x512 .f32) (L L' : FVec F S1x1x7x512 .f32) :
    (heldW c (⟨arg5, arg6, arg7, arg8, arg10, arg11, arg12, arg13, arg14, arg15, arg16⟩ : Refs sig) H Q x13 x14 x15 x16 L L' : sProp 𝕄) ⊢ wp frame (wpE (defs₀ (F := F)) Variants.nat (c : Thread nD τ) none) Set.univ
      (callOf F i arg5 harg5 arg6 harg6 arg7 harg7 arg8 harg8 arg10 harg10 arg11 harg11 arg12 harg12 arg13 harg13 arg14 harg14 arg15 harg15 arg16 harg16 0) (fun _ => doneW c (⟨arg5, arg6, arg7, arg8, arg10, arg11, arg12, arg13, arg14, arg15, arg16⟩ : Refs sig) 0 (by decide) H Q (outH H sl2 sl) L L' (lpH H sl2 sl) (lcH H sl2 sl)) :=
  search_spec c Set.univ (⟨arg5, arg6, arg7, arg8, arg10, arg11, arg12, arg13, arg14, arg15, arg16⟩ : Refs sig) 0 (by decide) sl2 sl i (k0_chk1 i) (k0_chk1.dec i) (fun _ => id)
    (fun n => Prog.lift (.call (1 : (Λ₀ F).Label) ⟨i, arg5, harg5, arg12, harg12, arg7, harg7, arg13, harg13, arg14, harg14, arg15, harg15, arg16, harg16, arg6, harg6, arg8, harg8, arg10, harg10, arg11, harg11, n⟩))
    (fun n v bd hv A B h => call_answer Variants.nat c bd Set.univ v hv
      (by have e := while1_eq (F := F) i arg5 harg5 arg12 harg12 arg7 harg7 arg13 harg13 arg14 harg14 arg15 harg15 arg16 harg16 arg6 harg6 arg8 harg8 arg10 harg10 arg11 harg11 n
          exact h.trans (BIBase.Entails.of_eq (congrArg (fun p => wp frame (wpE (defs₀ (F := F)) Variants.nat (c : Thread nD τ) (some v)) Set.univ p (fun _ => B)) e.symm))))
    (chk i) hQ hT

theorem search1 (H : HeadIn F) (Q : Vec F S7x128x512 .bf16) (hQ : qAt 1 (by decide) Q = H.q) (hT : H.tb = (i 2).val) (x13 x14 : FVec F S8x512 .f32) (x15 x16 : FVec F S128x512 .f32) (L L' : FVec F S1x1x7x512 .f32) :
    (heldW c (⟨arg5, arg6, arg7, arg8, arg10, arg11, arg12, arg13, arg14, arg15, arg16⟩ : Refs sig) H Q x13 x14 x15 x16 L L' : sProp 𝕄) ⊢ wp frame (wpE (defs₀ (F := F)) Variants.nat (c : Thread nD τ) none) Set.univ
      (callOf F i arg5 harg5 arg6 harg6 arg7 harg7 arg8 harg8 arg10 harg10 arg11 harg11 arg12 harg12 arg13 harg13 arg14 harg14 arg15 harg15 arg16 harg16 1) (fun _ => doneW c (⟨arg5, arg6, arg7, arg8, arg10, arg11, arg12, arg13, arg14, arg15, arg16⟩ : Refs sig) 1 (by decide) H Q (outH H sl2 sl) L L' (lpH H sl2 sl) (lcH H sl2 sl)) :=
  search_spec c Set.univ (⟨arg5, arg6, arg7, arg8, arg10, arg11, arg12, arg13, arg14, arg15, arg16⟩ : Refs sig) 1 (by decide) sl2 sl i (k0_chk2 i) (k0_chk2.dec i) (fun _ => id)
    (fun n => Prog.lift (.call (2 : (Λ₀ F).Label) ⟨i, arg5, harg5, arg12, harg12, arg7, harg7, arg13, harg13, arg14, harg14, arg15, harg15, arg16, harg16, arg6, harg6, arg8, harg8, arg10, harg10, arg11, harg11, n⟩))
    (fun n v bd hv A B h => call_answer Variants.nat c bd Set.univ v hv
      (by have e := while2_eq (F := F) i arg5 harg5 arg12 harg12 arg7 harg7 arg13 harg13 arg14 harg14 arg15 harg15 arg16 harg16 arg6 harg6 arg8 harg8 arg10 harg10 arg11 harg11 n
          exact h.trans (BIBase.Entails.of_eq (congrArg (fun p => wp frame (wpE (defs₀ (F := F)) Variants.nat (c : Thread nD τ) (some v)) Set.univ p (fun _ => B)) e.symm))))
    (chk i) hQ hT

theorem search2 (H : HeadIn F) (Q : Vec F S7x128x512 .bf16) (hQ : qAt 2 (by decide) Q = H.q) (hT : H.tb = (i 2).val) (x13 x14 : FVec F S8x512 .f32) (x15 x16 : FVec F S128x512 .f32) (L L' : FVec F S1x1x7x512 .f32) :
    (heldW c (⟨arg5, arg6, arg7, arg8, arg10, arg11, arg12, arg13, arg14, arg15, arg16⟩ : Refs sig) H Q x13 x14 x15 x16 L L' : sProp 𝕄) ⊢ wp frame (wpE (defs₀ (F := F)) Variants.nat (c : Thread nD τ) none) Set.univ
      (callOf F i arg5 harg5 arg6 harg6 arg7 harg7 arg8 harg8 arg10 harg10 arg11 harg11 arg12 harg12 arg13 harg13 arg14 harg14 arg15 harg15 arg16 harg16 2) (fun _ => doneW c (⟨arg5, arg6, arg7, arg8, arg10, arg11, arg12, arg13, arg14, arg15, arg16⟩ : Refs sig) 2 (by decide) H Q (outH H sl2 sl) L L' (lpH H sl2 sl) (lcH H sl2 sl)) :=
  search_spec c Set.univ (⟨arg5, arg6, arg7, arg8, arg10, arg11, arg12, arg13, arg14, arg15, arg16⟩ : Refs sig) 2 (by decide) sl2 sl i (k0_chk3 i) (k0_chk3.dec i) (fun _ => id)
    (fun n => Prog.lift (.call (3 : (Λ₀ F).Label) ⟨i, arg5, harg5, arg12, harg12, arg7, harg7, arg13, harg13, arg14, harg14, arg15, harg15, arg16, harg16, arg6, harg6, arg8, harg8, arg10, harg10, arg11, harg11, n⟩))
    (fun n v bd hv A B h => call_answer Variants.nat c bd Set.univ v hv
      (by have e := while3_eq (F := F) i arg5 harg5 arg12 harg12 arg7 harg7 arg13 harg13 arg14 harg14 arg15 harg15 arg16 harg16 arg6 harg6 arg8 harg8 arg10 harg10 arg11 harg11 n
          exact h.trans (BIBase.Entails.of_eq (congrArg (fun p => wp frame (wpE (defs₀ (F := F)) Variants.nat (c : Thread nD τ) (some v)) Set.univ p (fun _ => B)) e.symm))))
    (chk i) hQ hT

theorem search3 (H : HeadIn F) (Q : Vec F S7x128x512 .bf16) (hQ : qAt 3 (by decide) Q = H.q) (hT : H.tb = (i 2).val) (x13 x14 : FVec F S8x512 .f32) (x15 x16 : FVec F S128x512 .f32) (L L' : FVec F S1x1x7x512 .f32) :
    (heldW c (⟨arg5, arg6, arg7, arg8, arg10, arg11, arg12, arg13, arg14, arg15, arg16⟩ : Refs sig) H Q x13 x14 x15 x16 L L' : sProp 𝕄) ⊢ wp frame (wpE (defs₀ (F := F)) Variants.nat (c : Thread nD τ) none) Set.univ
      (callOf F i arg5 harg5 arg6 harg6 arg7 harg7 arg8 harg8 arg10 harg10 arg11 harg11 arg12 harg12 arg13 harg13 arg14 harg14 arg15 harg15 arg16 harg16 3) (fun _ => doneW c (⟨arg5, arg6, arg7, arg8, arg10, arg11, arg12, arg13, arg14, arg15, arg16⟩ : Refs sig) 3 (by decide) H Q (outH H sl2 sl) L L' (lpH H sl2 sl) (lcH H sl2 sl)) :=
  search_spec c Set.univ (⟨arg5, arg6, arg7, arg8, arg10, arg11, arg12, arg13, arg14, arg15, arg16⟩ : Refs sig) 3 (by decide) sl2 sl i (k0_chk4 i) (k0_chk4.dec i) (fun _ => id)
    (fun n => Prog.lift (.call (4 : (Λ₀ F).Label) ⟨i, arg5, harg5, arg12, harg12, arg7, harg7, arg13, harg13, arg14, harg14, arg15, harg15, arg16, harg16, arg6, harg6, arg8, harg8, arg10, harg10, arg11, harg11, n⟩))
    (fun n v bd hv A B h => call_answer Variants.nat c bd Set.univ v hv
      (by have e := while4_eq (F := F) i arg5 harg5 arg12 harg12 arg7 harg7 arg13 harg13 arg14 harg14 arg15 harg15 arg16 harg16 arg6 harg6 arg8 harg8 arg10 harg10 arg11 harg11 n
          exact h.trans (BIBase.Entails.of_eq (congrArg (fun p => wp frame (wpE (defs₀ (F := F)) Variants.nat (c : Thread nD τ) (some v)) Set.univ p (fun _ => B)) e.symm))))
    (chk i) hQ hT

theorem search4 (H : HeadIn F) (Q : Vec F S7x128x512 .bf16) (hQ : qAt 4 (by decide) Q = H.q) (hT : H.tb = (i 2).val) (x13 x14 : FVec F S8x512 .f32) (x15 x16 : FVec F S128x512 .f32) (L L' : FVec F S1x1x7x512 .f32) :
    (heldW c (⟨arg5, arg6, arg7, arg8, arg10, arg11, arg12, arg13, arg14, arg15, arg16⟩ : Refs sig) H Q x13 x14 x15 x16 L L' : sProp 𝕄) ⊢ wp frame (wpE (defs₀ (F := F)) Variants.nat (c : Thread nD τ) none) Set.univ
      (callOf F i arg5 harg5 arg6 harg6 arg7 harg7 arg8 harg8 arg10 harg10 arg11 harg11 arg12 harg12 arg13 harg13 arg14 harg14 arg15 harg15 arg16 harg16 4) (fun _ => doneW c (⟨arg5, arg6, arg7, arg8, arg10, arg11, arg12, arg13, arg14, arg15, arg16⟩ : Refs sig) 4 (by decide) H Q (outH H sl2 sl) L L' (lpH H sl2 sl) (lcH H sl2 sl)) :=
  search_spec c Set.univ (⟨arg5, arg6, arg7, arg8, arg10, arg11, arg12, arg13, arg14, arg15, arg16⟩ : Refs sig) 4 (by decide) sl2 sl i (k0_chk5 i) (k0_chk5.dec i) (fun _ => id)
    (fun n => Prog.lift (.call (5 : (Λ₀ F).Label) ⟨i, arg5, harg5, arg12, harg12, arg7, harg7, arg13, harg13, arg14, harg14, arg15, harg15, arg16, harg16, arg6, harg6, arg8, harg8, arg10, harg10, arg11, harg11, n⟩))
    (fun n v bd hv A B h => call_answer Variants.nat c bd Set.univ v hv
      (by have e := while5_eq (F := F) i arg5 harg5 arg12 harg12 arg7 harg7 arg13 harg13 arg14 harg14 arg15 harg15 arg16 harg16 arg6 harg6 arg8 harg8 arg10 harg10 arg11 harg11 n
          exact h.trans (BIBase.Entails.of_eq (congrArg (fun p => wp frame (wpE (defs₀ (F := F)) Variants.nat (c : Thread nD τ) (some v)) Set.univ p (fun _ => B)) e.symm))))
    (chk i) hQ hT

theorem search5 (H : HeadIn F) (Q : Vec F S7x128x512 .bf16) (hQ : qAt 5 (by decide) Q = H.q) (hT : H.tb = (i 2).val) (x13 x14 : FVec F S8x512 .f32) (x15 x16 : FVec F S128x512 .f32) (L L' : FVec F S1x1x7x512 .f32) :
    (heldW c (⟨arg5, arg6, arg7, arg8, arg10, arg11, arg12, arg13, arg14, arg15, arg16⟩ : Refs sig) H Q x13 x14 x15 x16 L L' : sProp 𝕄) ⊢ wp frame (wpE (defs₀ (F := F)) Variants.nat (c : Thread nD τ) none) Set.univ
      (callOf F i arg5 harg5 arg6 harg6 arg7 harg7 arg8 harg8 arg10 harg10 arg11 harg11 arg12 harg12 arg13 harg13 arg14 harg14 arg15 harg15 arg16 harg16 5) (fun _ => doneW c (⟨arg5, arg6, arg7, arg8, arg10, arg11, arg12, arg13, arg14, arg15, arg16⟩ : Refs sig) 5 (by decide) H Q (outH H sl2 sl) L L' (lpH H sl2 sl) (lcH H sl2 sl)) :=
  search_spec c Set.univ (⟨arg5, arg6, arg7, arg8, arg10, arg11, arg12, arg13, arg14, arg15, arg16⟩ : Refs sig) 5 (by decide) sl2 sl i (k0_chk6 i) (k0_chk6.dec i) (fun _ => id)
    (fun n => Prog.lift (.call (6 : (Λ₀ F).Label) ⟨i, arg5, harg5, arg12, harg12, arg7, harg7, arg13, harg13, arg14, harg14, arg15, harg15, arg16, harg16, arg6, harg6, arg8, harg8, arg10, harg10, arg11, harg11, n⟩))
    (fun n v bd hv A B h => call_answer Variants.nat c bd Set.univ v hv
      (by have e := while6_eq (F := F) i arg5 harg5 arg12 harg12 arg7 harg7 arg13 harg13 arg14 harg14 arg15 harg15 arg16 harg16 arg6 harg6 arg8 harg8 arg10 harg10 arg11 harg11 n
          exact h.trans (BIBase.Entails.of_eq (congrArg (fun p => wp frame (wpE (defs₀ (F := F)) Variants.nat (c : Thread nD τ) (some v)) Set.univ p (fun _ => B)) e.symm))))
    (chk i) hQ hT

theorem search6 (H : HeadIn F) (Q : Vec F S7x128x512 .bf16) (hQ : qAt 6 (by decide) Q = H.q) (hT : H.tb = (i 2).val) (x13 x14 : FVec F S8x512 .f32) (x15 x16 : FVec F S128x512 .f32) (L L' : FVec F S1x1x7x512 .f32) :
    (heldW c (⟨arg5, arg6, arg7, arg8, arg10, arg11, arg12, arg13, arg14, arg15, arg16⟩ : Refs sig) H Q x13 x14 x15 x16 L L' : sProp 𝕄) ⊢ wp frame (wpE (defs₀ (F := F)) Variants.nat (c : Thread nD τ) none) Set.univ
      (callOf F i arg5 harg5 arg6 harg6 arg7 harg7 arg8 harg8 arg10 harg10 arg11 harg11 arg12 harg12 arg13 harg13 arg14 harg14 arg15 harg15 arg16 harg16 6) (fun _ => doneW c (⟨arg5, arg6, arg7, arg8, arg10, arg11, arg12, arg13, arg14, arg15, arg16⟩ : Refs sig) 6 (by decide) H Q (outH H sl2 sl) L L' (lpH H sl2 sl) (lcH H sl2 sl)) :=
  search_spec c Set.univ (⟨arg5, arg6, arg7, arg8, arg10, arg11, arg12, arg13, arg14, arg15, arg16⟩ : Refs sig) 6 (by decide) sl2 sl i (k0_chk7 i) (k0_chk7.dec i) (fun _ => id)
    (fun n => Prog.lift (.call (7 : (Λ₀ F).Label) ⟨i, arg5, harg5, arg12, harg12, arg7, harg7, arg13, harg13, arg14, harg14, arg15, harg15, arg16, harg16, arg6, harg6, arg8, harg8, arg10, harg10, arg11, harg11, n⟩))
    (fun n v bd hv A B h => call_answer Variants.nat c bd Set.univ v hv
      (by have e := while7_eq (F := F) i arg5 harg5 arg12 harg12 arg7 harg7 arg13 harg13 arg14 harg14 arg15 harg15 arg16 harg16 arg6 harg6 arg8 harg8 arg10 harg10 arg11 harg11 n
          exact h.trans (BIBase.Entails.of_eq (congrArg (fun p => wp frame (wpE (defs₀ (F := F)) Variants.nat (c : Thread nD τ) (some v)) Set.univ p (fun _ => B)) e.symm))))
    (chk i) hQ hT

theorem search_any (g : ℕ) (hg : g < 7) (H : HeadIn F) (Q : Vec F S7x128x512 .bf16) (hQ : qAt g hg Q = H.q) (hT : H.tb = (i 2).val) (x13 x14 : FVec F S8x512 .f32) (x15 x16 : FVec F S128x512 .f32) (L L' : FVec F S1x1x7x512 .f32) :
    (heldW c (⟨arg5, arg6, arg7, arg8, arg10, arg11, arg12, arg13, arg14, arg15, arg16⟩ : Refs sig) H Q x13 x14 x15 x16 L L' : sProp 𝕄) ⊢ wp frame (wpE (defs₀ (F := F)) Variants.nat (c : Thread nD τ) none) Set.univ
      (callOf F i arg5 harg5 arg6 harg6 arg7 harg7 arg8 harg8 arg10 harg10 arg11 harg11 arg12 harg12 arg13 harg13 arg14 harg14 arg15 harg15 arg16 harg16 g) (fun _ => doneW c (⟨arg5, arg6, arg7, arg8, arg10, arg11, arg12, arg13, arg14, arg15, arg16⟩ : Refs sig) g hg H Q (outH H sl2 sl) L L' (lpH H sl2 sl) (lcH H sl2 sl)) :=
  match g, hg with
  | 0, _ => search0 c i arg5 harg5 arg6 harg6 arg7 harg7 arg8 harg8 arg10 harg10 arg11 harg11 arg12 harg12 arg13 harg13 arg14 harg14 arg15 harg15 arg16 harg16 H Q hQ hT x13 x14 x15 x16 L L'
  | 1, _ => search1 c i arg5 harg5 arg6 harg6 arg7 harg7 arg8 harg8 arg10 harg10 arg11 harg11 arg12 harg12 arg13 harg13 arg14 harg14 arg15 harg15 arg16 harg16 H Q hQ hT x13 x14 x15 x16 L L'
  | 2, _ => search2 c i arg5 harg5 arg6 harg6 arg7 harg7 arg8 harg8 arg10 harg10 arg11 harg11 arg12 harg12 arg13 harg13 arg14 harg14 arg15 harg15 arg16 harg16 H Q hQ hT x13 x14 x15 x16 L L'
  | 3, _ => search3 c i arg5 harg5 arg6 harg6 arg7 harg7 arg8 harg8 arg10 harg10 arg11 harg11 arg12 harg12 arg13 harg13 arg14 harg14 arg15 harg15 arg16 harg16 H Q hQ hT x13 x14 x15 x16 L L'
  | 4, _ => search4 c i arg5 harg5 arg6 harg6 arg7 harg7 arg8 harg8 arg10 harg10 arg11 harg11 arg12 harg12 arg13 harg13 arg14 harg14 arg15 harg15 arg16 harg16 H Q hQ hT x13 x14 x15 x16 L L'
  | 5, _ => search5 c i arg5 harg5 arg6 harg6 arg7 harg7 arg8 harg8 arg10 harg10 arg11 harg11 arg12 harg12 arg13 harg13 arg14 harg14 arg15 harg15 arg16 harg16 H Q hQ hT x13 x14 x15 x16 L L'
  | 6, _ => search6 c i arg5 harg5 arg6 harg6 arg7 harg7 arg8 harg8 arg10 harg10 arg11 harg11 arg12 harg12 arg13 harg13 arg14 harg14 arg15 harg15 arg16 harg16 H Q hQ hT x13 x14 x15 x16 L L'
  | n + 7, h => absurd h (by omega)

end Search

/-- The program run at point `t`. -/
abbrev bodyAt (t : Fin (cfg0 (F := F)).N) : Prog (TpuEff nD τ sig (Elt F) (Λ₀ F) .tc) PUnit :=
  cc0_shared_prompt_attention (F := F) (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _)

set_option maxHeartbeats 1200000 in
/-- The body at any point: from the operand blocks and anything in the results and the scratch, to the result blocks. -/
theorem sound_body (c : Dev nD) (t : Fin (cfg0 (F := F)).N) :
    bodyPre m c t ⊢ wp frame (wpE (defs₀ (F := F)) Variants.nat c none) Set.univ (bodyAt t) (fun _ => bodyPost m c t) := by
  have hb := fun w9 L L' Q x13 x14 x15 x16 => body_spec (Ix := Unit) (Name := ℕ) (U := UR sig nD τ) (Lvl := ℕ) (defs := defs₀ (F := F)) sl2 sl (point m c t) c Set.univ
    ⟨ms0_2 t, ms0_3 t, ms0_4 t, ms0_5 t, ms0_7 t, ms0_8 t, scM0_0, scM0_1, scM0_2, scM0_3, scM0_4⟩ (ms0_0 t) (ms0_1 t) (ms0_6 t)
    (storesQ scM0_0 (Memref.isWhole_whole _)) (storesO (ms0_6 t) (hs0_6 t))
    (callOf F (grid0.coords t) (ms0_2 t) (hs0_2 t) (ms0_3 t) (hs0_3 t) (ms0_4 t) (hs0_4 t) (ms0_5 t) (hs0_5 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _))
    (fun g hg H Q hQ hT x13 x14 x15 x16 L L' => search_any c (grid0.coords t) (ms0_2 t) (hs0_2 t) (ms0_3 t) (hs0_3 t) (ms0_4 t) (hs0_4 t) (ms0_5 t) (hs0_5 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) g hg H Q hQ hT x13 x14 x15 x16 L L') (w9 := w9) (L := L) (L' := L') (Q := Q) (x13 := x13) (x14 := x14) (x15 := x15) (x16 := x16)
  unfold bodyPre bodyPost bodyAt
  rw [body_eq]
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  rw [show (dats m 0 c).Φ t.castSucc = Pipeline.ΦA spec0 c from rfl, PhiA0_eq]
  iintro ⟨⟨⟨⟨%s0, HS0⟩, ⟨%s1, HS1⟩, ⟨%s2, HS2⟩, ⟨%s3, HS3⟩, ⟨%s4, HS4⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  ihave H0 := (owns_own c (ms0_0 t) (hs0_0 t) (iblk m c 0 t)) $$ H0
  ihave H1 := (owns_own c (ms0_1 t) (hs0_1 t) (iblk m c 1 t)) $$ H1
  ihave H2 := (owns_own c (ms0_2 t) (hs0_2 t) (iblk m c 2 t)) $$ H2
  ihave H3 := (owns_own c (ms0_3 t) (hs0_3 t) (iblk m c 3 t)) $$ H3
  ihave H4 := (owns_own c (ms0_4 t) (hs0_4 t) (iblk m c 4 t)) $$ H4
  ihave H5 := (owns_own c (ms0_5 t) (hs0_5 t) (iblk m c 5 t)) $$ H5
  ihave H6 := (owns_own c (ms0_6 t) (hs0_6 t) ((dats m 0 c).before 6 t d6)) $$ H6
  ihave H7 := (owns_own c (ms0_7 t) (hs0_7 t) ((dats m 0 c).before 7 t d7)) $$ H7
  ihave H8 := (owns_own c (ms0_8 t) (hs0_8 t) ((dats m 0 c).before 8 t d8)) $$ H8
  ihave HS0 := (owns_own c scM0_0 (Memref.isWhole_whole _) s0) $$ HS0
  ihave HS1 := (owns_own c scM0_1 (Memref.isWhole_whole _) s1) $$ HS1
  ihave HS2 := (owns_own c scM0_2 (Memref.isWhole_whole _) s2) $$ HS2
  ihave HS3 := (owns_own c scM0_3 (Memref.isWhole_whole _) s3) $$ HS3
  ihave HS4 := (owns_own c scM0_4 (Memref.isWhole_whole _) s4) $$ HS4
  ihave H := hb ((dats m 0 c).before 6 t d6) ((dats m 0 c).before 7 t d7) ((dats m 0 c).before 8 t d8) s0 s1 s2 s3 s4 $$ [H0 H1 H2 H3 H4 H5 H6 H7 H8 HS0 HS1 HS2 HS3 HS4]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS0]; · iexact HS0
    isplitl [HS1]; · iexact HS1
    isplitl [HS2]; · iexact HS2
    isplitl [HS3]; · iexact HS3
    iexact HS4
  iapply wp_wand $$ H
  iintro %_u ⟨H0, H1, H2, H3, H4, H5, H6, H7, H8, %y0, %y1, %y2, %y3, %y4, HS0, HS1, HS2, HS3, HS4⟩
  ihave H0 := (own_owns c (ms0_0 t) (hs0_0 t) (point m c t).q) $$ H0
  ihave H1 := (own_owns c (ms0_1 t) (hs0_1 t) (point m c t).e) $$ H1
  ihave H2 := (own_owns c (ms0_2 t) (hs0_2 t) (point m c t).K) $$ H2
  ihave H3 := (own_owns c (ms0_3 t) (hs0_3 t) (point m c t).V) $$ H3
  ihave H4 := (own_owns c (ms0_4 t) (hs0_4 t) (point m c t).Kc) $$ H4
  ihave H5 := (own_owns c (ms0_5 t) (hs0_5 t) (point m c t).Vc) $$ H5
  ihave H6 := (own_owns c (ms0_6 t) (hs0_6 t) (blkO sl2 sl (point m c t))) $$ H6
  ihave H7 := (own_owns c (ms0_7 t) (hs0_7 t) (blkLp sl2 sl (point m c t))) $$ H7
  ihave H8 := (own_owns c (ms0_8 t) (hs0_8 t) (blkLc sl2 sl (point m c t))) $$ H8
  ihave HS0 := (own_owns c scM0_0 (Memref.isWhole_whole _) y0) $$ HS0
  ihave HS1 := (own_owns c scM0_1 (Memref.isWhole_whole _) y1) $$ HS1
  ihave HS2 := (own_owns c scM0_2 (Memref.isWhole_whole _) y2) $$ HS2
  ihave HS3 := (own_owns c scM0_3 (Memref.isWhole_whole _) y3) $$ HS3
  ihave HS4 := (own_owns c scM0_4 (Memref.isWhole_whole _) y4) $$ HS4
  isplitl [HS0 HS1 HS2 HS3 HS4 Hg]
  · isplitl [HS0 HS1 HS2 HS3 HS4]
    · isplitl [HS0]; · iexists _; iexact HS0
      isplitl [HS1]; · iexists _; iexact HS1
      isplitl [HS2]; · iexists _; iexact HS2
      isplitl [HS3]; · iexists _; iexact HS3
      iexists _; iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body table's row at point `t`'s slots is the body. -/
theorem defs₀_row (t : Fin (cfg0 (F := F)).N) :
    defs₀ (F := F) .tc cfg0.body (cfg0.bodyArgs t (cfg0.slots t)) = bodyAt t := by
  unfold defs₀; rw [Defs.onTc_tc]

/-- The library's body obligation, at every point. -/
theorem body_obligation (c : Dev nD) : BodyObligation (dats (F := F) m 0 c) (defs₀ (F := F)) Variants.nat () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.nat m ρ main
    (hbody := fun c => (body_obligation m c).loose) (hshare := fun c => (dats m 0 c).share_full fun _ => rfl)
    (howed := fun _ _ => rfl) (V := V m) (hmain := hmain m Variants.nat) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.Attn.Kernel

end
-- ==== Proof.EqKernelIdeal.lean ====
/-
  The seven printed `while` functions of the idealized program are the one program `Attn.whileBody`, at heads 0 to 6,
  and its printed body is `Attn.body` calling those seven labels.
-/
module

public import proofs.«01_k».proof.Proof.Gen.KernelIdeal
public import proofs.«01_k».proof.Proof.Main

@[expose] public section

set_option maxRecDepth 16384

noncomputable section

namespace Cert.Attn.KernelIdeal

open Idealize.ShloMosaic Idealize.SL.Sem
open Cert.KernelIdeal Cert.KernelIdeal.Gen

variable {F : FTy → Type} [FloatOps F] [Named F]

theorem while1_eq (i : grid0.Coords) (arg5 : Memref sig .tc .vmem S1x28672x128 .bf16) (harg5 : arg5.IsWhole) (arg12 : Memref sig .tc .vmem S7x128x512 .bf16) (harg12 : arg12.IsWhole) (arg7 : Memref sig .tc .vmem S1x1024x128 .bf16) (harg7 : arg7.IsWhole) (arg13 : Memref sig .tc .vmem S8x512 .f32) (harg13 : arg13.IsWhole) (arg14 : Memref sig .tc .vmem S8x512 .f32) (harg14 : arg14.IsWhole) (arg15 : Memref sig .tc .vmem S128x512 .f32) (harg15 : arg15.IsWhole) (arg16 : Memref sig .tc .vmem S128x512 .f32) (harg16 : arg16.IsWhole) (arg6 : Memref sig .tc .vmem S1x128x28672 .bf16) (harg6 : arg6.IsWhole) (arg8 : Memref sig .tc .vmem S1x128x1024 .bf16) (harg8 : arg8.IsWhole) (arg10 : Memref sig .tc .vmem S1x1x7x512 .f32) (harg10 : arg10.IsWhole) (arg11 : Memref sig .tc .vmem S1x1x7x512 .f32) (harg11 : arg11.IsWhole) (n : BitVec 32) :
    cc0_while1 i arg5 harg5 arg12 harg12 arg7 harg7 arg13 harg13 arg14 harg14 arg15 harg15 arg16 harg16 arg6 harg6 arg8 harg8 arg10 harg10 arg11 harg11 n
      = Attn.whileBody (F := F) (nD := nD) (τ := τ) (sig := sig) (Λ := Λ₀ F) ⟨arg5, arg6, arg7, arg8, arg10, arg11, arg12, arg13, arg14, arg15, arg16⟩ 0 (by decide) (Named.named κ "softmax_scale_log2e" 0x3E0293EE#32) (Named.named κ "softmax_scale" 0x3DB504F3#32) i n (k0_chk1 i n) (k0_chk1.dec i n) id
          (fun n' => Prog.lift (.call (1 : (Λ₀ F).Label) ⟨i, arg5, harg5, arg12, harg12, arg7, harg7, arg13, harg13, arg14, harg14, arg15, harg15, arg16, harg16, arg6, harg6, arg8, harg8, arg10, harg10, arg11, harg11, n'⟩)) := rfl

theorem while2_eq (i : grid0.Coords) (arg5 : Memref sig .tc .vmem S1x28672x128 .bf16) (harg5 : arg5.IsWhole) (arg12 : Memref sig .tc .vmem S7x128x512 .bf16) (harg12 : arg12.IsWhole) (arg7 : Memref sig .tc .vmem S1x1024x128 .bf16) (harg7 : arg7.IsWhole) (arg13 : Memref sig .tc .vmem S8x512 .f32) (harg13 : arg13.IsWhole) (arg14 : Memref sig .tc .vmem S8x512 .f32) (harg14 : arg14.IsWhole) (arg15 : Memref sig .tc .vmem S128x512 .f32) (harg15 : arg15.IsWhole) (arg16 : Memref sig .tc .vmem S128x512 .f32) (harg16 : arg16.IsWhole) (arg6 : Memref sig .tc .vmem S1x128x28672 .bf16) (harg6 : arg6.IsWhole) (arg8 : Memref sig .tc .vmem S1x128x1024 .bf16) (harg8 : arg8.IsWhole) (arg10 : Memref sig .tc .vmem S1x1x7x512 .f32) (harg10 : arg10.IsWhole) (arg11 : Memref sig .tc .vmem S1x1x7x512 .f32) (harg11 : arg11.IsWhole) (n : BitVec 32) :
    cc0_while2 i arg5 harg5 arg12 harg12 arg7 harg7 arg13 harg13 arg14 harg14 arg15 harg15 arg16 harg16 arg6 harg6 arg8 harg8 arg10 harg10 arg11 harg11 n
      = Attn.whileBody (F := F) (nD := nD) (τ := τ) (sig := sig) (Λ := Λ₀ F) ⟨arg5, arg6, arg7, arg8, arg10, arg11, arg12, arg13, arg14, arg15, arg16⟩ 1 (by decide) (Named.named κ "softmax_scale_log2e" 0x3E0293EE#32) (Named.named κ "softmax_scale" 0x3DB504F3#32) i n (k0_chk2 i n) (k0_chk2.dec i n) id
          (fun n' => Prog.lift (.call (2 : (Λ₀ F).Label) ⟨i, arg5, harg5, arg12, harg12, arg7, harg7, arg13, harg13, arg14, harg14, arg15, harg15, arg16, harg16, arg6, harg6, arg8, harg8, arg10, harg10, arg11, harg11, n'⟩)) := rfl

theorem while3_eq (i : grid0.Coords) (arg5 : Memref sig .tc .vmem S1x28672x128 .bf16) (harg5 : arg5.IsWhole) (arg12 : Memref sig .tc .vmem S7x128x512 .bf16) (harg12 : arg12.IsWhole) (arg7 : Memref sig .tc .vmem S1x1024x128 .bf16) (harg7 : arg7.IsWhole) (arg13 : Memref sig .tc .vmem S8x512 .f32) (harg13 : arg13.IsWhole) (arg14 : Memref sig .tc .vmem S8x512 .f32) (harg14 : arg14.IsWhole) (arg15 : Memref sig .tc .vmem S128x512 .f32) (harg15 : arg15.IsWhole) (arg16 : Memref sig .tc .vmem S128x512 .f32) (harg16 : arg16.IsWhole) (arg6 : Memref sig .tc .vmem S1x128x28672 .bf16) (harg6 : arg6.IsWhole) (arg8 : Memref sig .tc .vmem S1x128x1024 .bf16) (harg8 : arg8.IsWhole) (arg10 : Memref sig .tc .vmem S1x1x7x512 .f32) (harg10 : arg10.IsWhole) (arg11 : Memref sig .tc .vmem S1x1x7x512 .f32) (harg11 : arg11.IsWhole) (n : BitVec 32) :
    cc0_while3 i arg5 harg5 arg12 harg12 arg7 harg7 arg13 harg13 arg14 harg14 arg15 harg15 arg16 harg16 arg6 harg6 arg8 harg8 arg10 harg10 arg11 harg11 n
      = Attn.whileBody (F := F) (nD := nD) (τ := τ) (sig := sig) (Λ := Λ₀ F) ⟨arg5, arg6, arg7, arg8, arg10, arg11, arg12, arg13, arg14, arg15, arg16⟩ 2 (by decide) (Named.named κ "softmax_scale_log2e" 0x3E0293EE#32) (Named.named κ "softmax_scale" 0x3DB504F3#32) i n (k0_chk3 i n) (k0_chk3.dec i n) id
          (fun n' => Prog.lift (.call (3 : (Λ₀ F).Label) ⟨i, arg5, harg5, arg12, harg12, arg7, harg7, arg13, harg13, arg14, harg14, arg15, harg15, arg16, harg16, arg6, harg6, arg8, harg8, arg10, harg10, arg11, harg11, n'⟩)) := rfl

theorem while4_eq (i : grid0.Coords) (arg5 : Memref sig .tc .vmem S1x28672x128 .bf16) (harg5 : arg5.IsWhole) (arg12 : Memref sig .tc .vmem S7x128x512 .bf16) (harg12 : arg12.IsWhole) (arg7 : Memref sig .tc .vmem S1x1024x128 .bf16) (harg7 : arg7.IsWhole) (arg13 : Memref sig .tc .vmem S8x512 .f32) (harg13 : arg13.IsWhole) (arg14 : Memref sig .tc .vmem S8x512 .f32) (harg14 : arg14.IsWhole) (arg15 : Memref sig .tc .vmem S128x512 .f32) (harg15 : arg15.IsWhole) (arg16 : Memref sig .tc .vmem S128x512 .f32) (harg16 : arg16.IsWhole) (arg6 : Memref sig .tc .vmem S1x128x28672 .bf16) (harg6 : arg6.IsWhole) (arg8 : Memref sig .tc .vmem S1x128x1024 .bf16) (harg8 : arg8.IsWhole) (arg10 : Memref sig .tc .vmem S1x1x7x512 .f32) (harg10 : arg10.IsWhole) (arg11 : Memref sig .tc .vmem S1x1x7x512 .f32) (harg11 : arg11.IsWhole) (n : BitVec 32) :
    cc0_while4 i arg5 harg5 arg12 harg12 arg7 harg7 arg13 harg13 arg14 harg14 arg15 harg15 arg16 harg16 arg6 harg6 arg8 harg8 arg10 harg10 arg11 harg11 n
      = Attn.whileBody (F := F) (nD := nD) (τ := τ) (sig := sig) (Λ := Λ₀ F) ⟨arg5, arg6, arg7, arg8, arg10, arg11, arg12, arg13, arg14, arg15, arg16⟩ 3 (by decide) (Named.named κ "softmax_scale_log2e" 0x3E0293EE#32) (Named.named κ "softmax_scale" 0x3DB504F3#32) i n (k0_chk4 i n) (k0_chk4.dec i n) id
          (fun n' => Prog.lift (.call (4 : (Λ₀ F).Label) ⟨i, arg5, harg5, arg12, harg12, arg7, harg7, arg13, harg13, arg14, harg14, arg15, harg15, arg16, harg16, arg6, harg6, arg8, harg8, arg10, harg10, arg11, harg11, n'⟩)) := rfl

theorem while5_eq (i : grid0.Coords) (arg5 : Memref sig .tc .vmem S1x28672x128 .bf16) (harg5 : arg5.IsWhole) (arg12 : Memref sig .tc .vmem S7x128x512 .bf16) (harg12 : arg12.IsWhole) (arg7 : Memref sig .tc .vmem S1x1024x128 .bf16) (harg7 : arg7.IsWhole) (arg13 : Memref sig .tc .vmem S8x512 .f32) (harg13 : arg13.IsWhole) (arg14 : Memref sig .tc .vmem S8x512 .f32) (harg14 : arg14.IsWhole) (arg15 : Memref sig .tc .vmem S128x512 .f32) (harg15 : arg15.IsWhole) (arg16 : Memref sig .tc .vmem S128x512 .f32) (harg16 : arg16.IsWhole) (arg6 : Memref sig .tc .vmem S1x128x28672 .bf16) (harg6 : arg6.IsWhole) (arg8 : Memref sig .tc .vmem S1x128x1024 .bf16) (harg8 : arg8.IsWhole) (arg10 : Memref sig .tc .vmem S1x1x7x512 .f32) (harg10 : arg10.IsWhole) (arg11 : Memref sig .tc .vmem S1x1x7x512 .f32) (harg11 : arg11.IsWhole) (n : BitVec 32) :
    cc0_while5 i arg5 harg5 arg12 harg12 arg7 harg7 arg13 harg13 arg14 harg14 arg15 harg15 arg16 harg16 arg6 harg6 arg8 harg8 arg10 harg10 arg11 harg11 n
      = Attn.whileBody (F := F) (nD := nD) (τ := τ) (sig := sig) (Λ := Λ₀ F) ⟨arg5, arg6, arg7, arg8, arg10, arg11, arg12, arg13, arg14, arg15, arg16⟩ 4 (by decide) (Named.named κ "softmax_scale_log2e" 0x3E0293EE#32) (Named.named κ "softmax_scale" 0x3DB504F3#32) i n (k0_chk5 i n) (k0_chk5.dec i n) id
          (fun n' => Prog.lift (.call (5 : (Λ₀ F).Label) ⟨i, arg5, harg5, arg12, harg12, arg7, harg7, arg13, harg13, arg14, harg14, arg15, harg15, arg16, harg16, arg6, harg6, arg8, harg8, arg10, harg10, arg11, harg11, n'⟩)) := rfl

theorem while6_eq (i : grid0.Coords) (arg5 : Memref sig .tc .vmem S1x28672x128 .bf16) (harg5 : arg5.IsWhole) (arg12 : Memref sig .tc .vmem S7x128x512 .bf16) (harg12 : arg12.IsWhole) (arg7 : Memref sig .tc .vmem S1x1024x128 .bf16) (harg7 : arg7.IsWhole) (arg13 : Memref sig .tc .vmem S8x512 .f32) (harg13 : arg13.IsWhole) (arg14 : Memref sig .tc .vmem S8x512 .f32) (harg14 : arg14.IsWhole) (arg15 : Memref sig .tc .vmem S128x512 .f32) (harg15 : arg15.IsWhole) (arg16 : Memref sig .tc .vmem S128x512 .f32) (harg16 : arg16.IsWhole) (arg6 : Memref sig .tc .vmem S1x128x28672 .bf16) (harg6 : arg6.IsWhole) (arg8 : Memref sig .tc .vmem S1x128x1024 .bf16) (harg8 : arg8.IsWhole) (arg10 : Memref sig .tc .vmem S1x1x7x512 .f32) (harg10 : arg10.IsWhole) (arg11 : Memref sig .tc .vmem S1x1x7x512 .f32) (harg11 : arg11.IsWhole) (n : BitVec 32) :
    cc0_while6 i arg5 harg5 arg12 harg12 arg7 harg7 arg13 harg13 arg14 harg14 arg15 harg15 arg16 harg16 arg6 harg6 arg8 harg8 arg10 harg10 arg11 harg11 n
      = Attn.whileBody (F := F) (nD := nD) (τ := τ) (sig := sig) (Λ := Λ₀ F) ⟨arg5, arg6, arg7, arg8, arg10, arg11, arg12, arg13, arg14, arg15, arg16⟩ 5 (by decide) (Named.named κ "softmax_scale_log2e" 0x3E0293EE#32) (Named.named κ "softmax_scale" 0x3DB504F3#32) i n (k0_chk6 i n) (k0_chk6.dec i n) id
          (fun n' => Prog.lift (.call (6 : (Λ₀ F).Label) ⟨i, arg5, harg5, arg12, harg12, arg7, harg7, arg13, harg13, arg14, harg14, arg15, harg15, arg16, harg16, arg6, harg6, arg8, harg8, arg10, harg10, arg11, harg11, n'⟩)) := rfl

theorem while7_eq (i : grid0.Coords) (arg5 : Memref sig .tc .vmem S1x28672x128 .bf16) (harg5 : arg5.IsWhole) (arg12 : Memref sig .tc .vmem S7x128x512 .bf16) (harg12 : arg12.IsWhole) (arg7 : Memref sig .tc .vmem S1x1024x128 .bf16) (harg7 : arg7.IsWhole) (arg13 : Memref sig .tc .vmem S8x512 .f32) (harg13 : arg13.IsWhole) (arg14 : Memref sig .tc .vmem S8x512 .f32) (harg14 : arg14.IsWhole) (arg15 : Memref sig .tc .vmem S128x512 .f32) (harg15 : arg15.IsWhole) (arg16 : Memref sig .tc .vmem S128x512 .f32) (harg16 : arg16.IsWhole) (arg6 : Memref sig .tc .vmem S1x128x28672 .bf16) (harg6 : arg6.IsWhole) (arg8 : Memref sig .tc .vmem S1x128x1024 .bf16) (harg8 : arg8.IsWhole) (arg10 : Memref sig .tc .vmem S1x1x7x512 .f32) (harg10 : arg10.IsWhole) (arg11 : Memref sig .tc .vmem S1x1x7x512 .f32) (harg11 : arg11.IsWhole) (n : BitVec 32) :
    cc0_while7 i arg5 harg5 arg12 harg12 arg7 harg7 arg13 harg13 arg14 harg14 arg15 harg15 arg16 harg16 arg6 harg6 arg8 harg8 arg10 harg10 arg11 harg11 n
      = Attn.whileBody (F := F) (nD := nD) (τ := τ) (sig := sig) (Λ := Λ₀ F) ⟨arg5, arg6, arg7, arg8, arg10, arg11, arg12, arg13, arg14, arg15, arg16⟩ 6 (by decide) (Named.named κ "softmax_scale_log2e" 0x3E0293EE#32) (Named.named κ "softmax_scale" 0x3DB504F3#32) i n (k0_chk7 i n) (k0_chk7.dec i n) id
          (fun n' => Prog.lift (.call (7 : (Λ₀ F).Label) ⟨i, arg5, harg5, arg12, harg12, arg7, harg7, arg13, harg13, arg14, harg14, arg15, harg15, arg16, harg16, arg6, harg6, arg8, harg8, arg10, harg10, arg11, harg11, n'⟩)) := rfl

variable (F) in
/-- The call of head `g`'s label at attempt 0. -/
def callOf (i : grid0.Coords) (arg5 : Memref sig .tc .vmem S1x28672x128 .bf16) (harg5 : arg5.IsWhole) (arg6 : Memref sig .tc .vmem S1x128x28672 .bf16) (harg6 : arg6.IsWhole) (arg7 : Memref sig .tc .vmem S1x1024x128 .bf16) (harg7 : arg7.IsWhole) (arg8 : Memref sig .tc .vmem S1x128x1024 .bf16) (harg8 : arg8.IsWhole) (arg10 : Memref sig .tc .vmem S1x1x7x512 .f32) (harg10 : arg10.IsWhole) (arg11 : Memref sig .tc .vmem S1x1x7x512 .f32) (harg11 : arg11.IsWhole) (arg12 : Memref sig .tc .vmem S7x128x512 .bf16) (harg12 : arg12.IsWhole) (arg13 : Memref sig .tc .vmem S8x512 .f32) (harg13 : arg13.IsWhole) (arg14 : Memref sig .tc .vmem S8x512 .f32) (harg14 : arg14.IsWhole) (arg15 : Memref sig .tc .vmem S128x512 .f32) (harg15 : arg15.IsWhole) (arg16 : Memref sig .tc .vmem S128x512 .f32) (harg16 : arg16.IsWhole) : ℕ → Prog (TpuEff nD τ sig (Elt F) (Λ₀ F) .tc) (BitVec 32)
  | 0 => Prog.lift (.call (1 : (Λ₀ F).Label) ⟨i, arg5, harg5, arg12, harg12, arg7, harg7, arg13, harg13, arg14, harg14, arg15, harg15, arg16, harg16, arg6, harg6, arg8, harg8, arg10, harg10, arg11, harg11, 0#32⟩)
  | 1 => Prog.lift (.call (2 : (Λ₀ F).Label) ⟨i, arg5, harg5, arg12, harg12, arg7, harg7, arg13, harg13, arg14, harg14, arg15, harg15, arg16, harg16, arg6, harg6, arg8, harg8, arg10, harg10, arg11, harg11, 0#32⟩)
  | 2 => Prog.lift (.call (3 : (Λ₀ F).Label) ⟨i, arg5, harg5, arg12, harg12, arg7, harg7, arg13, harg13, arg14, harg14, arg15, harg15, arg16, harg16, arg6, harg6, arg8, harg8, arg10, harg10, arg11, harg11, 0#32⟩)
  | 3 => Prog.lift (.call (4 : (Λ₀ F).Label) ⟨i, arg5, harg5, arg12, harg12, arg7, harg7, arg13, harg13, arg14, harg14, arg15, harg15, arg16, harg16, arg6, harg6, arg8, harg8, arg10, harg10, arg11, harg11, 0#32⟩)
  | 4 => Prog.lift (.call (5 : (Λ₀ F).Label) ⟨i, arg5, harg5, arg12, harg12, arg7, harg7, arg13, harg13, arg14, harg14, arg15, harg15, arg16, harg16, arg6, harg6, arg8, harg8, arg10, harg10, arg11, harg11, 0#32⟩)
  | 5 => Prog.lift (.call (6 : (Λ₀ F).Label) ⟨i, arg5, harg5, arg12, harg12, arg7, harg7, arg13, harg13, arg14, harg14, arg15, harg15, arg16, harg16, arg6, harg6, arg8, harg8, arg10, harg10, arg11, harg11, 0#32⟩)
  | _ => Prog.lift (.call (7 : (Λ₀ F).Label) ⟨i, arg5, harg5, arg12, harg12, arg7, harg7, arg13, harg13, arg14, harg14, arg15, harg15, arg16, harg16, arg6, harg6, arg8, harg8, arg10, harg10, arg11, harg11, 0#32⟩)

theorem storesQ (m : Memref sig .tc .vmem S7x128x512 .bf16) (h : m.IsWhole) : ∀ g (hg : g < 7), (m.access (Attn.rQ g hg)).Stores Finset.univ := by
  intro g hg; interval_cases g
  exacts [View.stores_vmem h_S1x128x512 (h.storeExact_slice rfl _ packedbf16_S7x128x512_S1x128x512_0_0_0) (fun _ => rfl),
    View.stores_vmem h_S1x128x512 (h.storeExact_slice rfl _ packedbf16_S7x128x512_S1x128x512_1_0_0) (fun _ => rfl),
    View.stores_vmem h_S1x128x512 (h.storeExact_slice rfl _ packedbf16_S7x128x512_S1x128x512_2_0_0) (fun _ => rfl),
    View.stores_vmem h_S1x128x512 (h.storeExact_slice rfl _ packedbf16_S7x128x512_S1x128x512_3_0_0) (fun _ => rfl),
    View.stores_vmem h_S1x128x512 (h.storeExact_slice rfl _ packedbf16_S7x128x512_S1x128x512_4_0_0) (fun _ => rfl),
    View.stores_vmem h_S1x128x512 (h.storeExact_slice rfl _ packedbf16_S7x128x512_S1x128x512_5_0_0) (fun _ => rfl),
    View.stores_vmem h_S1x128x512 (h.storeExact_slice rfl _ packedbf16_S7x128x512_S1x128x512_6_0_0) (fun _ => rfl)]

theorem storesO (m : Memref sig .tc .vmem S1x512x896 .bf16) (h : m.IsWhole) : ∀ g (hg : g < 7), (m.access (Attn.rO g hg)).Stores Finset.univ := by
  intro g hg; interval_cases g
  exacts [View.stores_vmem h_S1x512x128 (h.storeExact_slice rfl _ packedbf16_S1x512x896_S1x512x128_0_0_0) (fun _ => rfl),
    View.stores_vmem h_S1x512x128 (h.storeExact_slice rfl _ packedbf16_S1x512x896_S1x512x128_0_0_128) (fun _ => rfl),
    View.stores_vmem h_S1x512x128 (h.storeExact_slice rfl _ packedbf16_S1x512x896_S1x512x128_0_0_256) (fun _ => rfl),
    View.stores_vmem h_S1x512x128 (h.storeExact_slice rfl _ packedbf16_S1x512x896_S1x512x128_0_0_384) (fun _ => rfl),
    View.stores_vmem h_S1x512x128 (h.storeExact_slice rfl _ packedbf16_S1x512x896_S1x512x128_0_0_512) (fun _ => rfl),
    View.stores_vmem h_S1x512x128 (h.storeExact_slice rfl _ packedbf16_S1x512x896_S1x512x128_0_0_640) (fun _ => rfl),
    View.stores_vmem h_S1x512x128 (h.storeExact_slice rfl _ packedbf16_S1x512x896_S1x512x128_0_0_768) (fun _ => rfl)]

theorem body_eq (i : grid0.Coords) (arg3 : Memref sig .tc .vmem S1x512x896 .fp8e4m3) (harg3 : arg3.IsWhole) (arg4 : Memref sig .tc .vmem S1x1x512x28 .i8) (harg4 : arg4.IsWhole)
    (arg9 : Memref sig .tc .vmem S1x512x896 .bf16) (harg9 : arg9.IsWhole) (arg5 : Memref sig .tc .vmem S1x28672x128 .bf16) (harg5 : arg5.IsWhole) (arg6 : Memref sig .tc .vmem S1x128x28672 .bf16) (harg6 : arg6.IsWhole) (arg7 : Memref sig .tc .vmem S1x1024x128 .bf16) (harg7 : arg7.IsWhole) (arg8 : Memref sig .tc .vmem S1x128x1024 .bf16) (harg8 : arg8.IsWhole) (arg10 : Memref sig .tc .vmem S1x1x7x512 .f32) (harg10 : arg10.IsWhole) (arg11 : Memref sig .tc .vmem S1x1x7x512 .f32) (harg11 : arg11.IsWhole) (arg12 : Memref sig .tc .vmem S7x128x512 .bf16) (harg12 : arg12.IsWhole) (arg13 : Memref sig .tc .vmem S8x512 .f32) (harg13 : arg13.IsWhole) (arg14 : Memref sig .tc .vmem S8x512 .f32) (harg14 : arg14.IsWhole) (arg15 : Memref sig .tc .vmem S128x512 .f32) (harg15 : arg15.IsWhole) (arg16 : Memref sig .tc .vmem S128x512 .f32) (harg16 : arg16.IsWhole) :
    cc0_shared_prompt_attention (F := F) i arg3 harg3 arg4 harg4 arg5 harg5 arg6 harg6 arg7 harg7 arg8 harg8 arg9 harg9 arg10 harg10 arg11 harg11 arg12 harg12 arg13 harg13 arg14 harg14 arg15 harg15 arg16 harg16
      = Attn.body (F := F) (nD := nD) (τ := τ) (sig := sig) (Λ := Λ₀ F) ⟨arg5, arg6, arg7, arg8, arg10, arg11, arg12, arg13, arg14, arg15, arg16⟩ arg3 arg4 arg9 (storesQ arg12 harg12) (storesO arg9 harg9)
          (callOf F i arg5 harg5 arg6 harg6 arg7 harg7 arg8 harg8 arg10 harg10 arg11 harg11 arg12 harg12 arg13 harg13 arg14 harg14 arg15 harg15 arg16 harg16) := rfl

end Cert.Attn.KernelIdeal

end
-- ==== Proof.RunKernelIdeal.lean ====
/-
  The idealized program's launch: at every grid point its body leaves in the three result blocks what `Attn.blkO`,
  `Attn.blkLp` and `Attn.blkLc` compute from the point's operand blocks, so every run ends with the result arrays put
  together from those blocks and the arguments unchanged.
-/
module

public import proofs.«01_k».proof.Proof.EqKernelIdeal
public import proofs.«01_k».proof.Proof.BodyTriple
public import proofs.«01_k».proof.Proof.Trips
public import proofs.«01_k».proof.Proof.Answer
public import proofs.«01_k».proof.Proof.Gen.KernelIdeal.Launch
public import Idealize.ShloMosaic.Lib.Pipeline.FrameBody
public import Idealize.ShloMosaic.Lib.Claim

@[expose] public section

set_option maxRecDepth 16384

noncomputable section

namespace Cert.Attn.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The program's two scales: of the logits in base 2, and of the logits. -/
abbrev sl2 : F .f32 := Named.named κ "softmax_scale_log2e" 0x3E0293EE#32
abbrev sl : F .f32 := Named.named κ "softmax_scale" 0x3DB504F3#32

/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) (cfgs (F := F)) 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin (cfg0 (F := F)).W) (t : Fin (cfg0 (F := F)).N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ (cfg0 (F := F)) c) (hA : dat.A 0 = V m c (Pipeline.arrRef spec0 0))
    (hafter : ∀ t, dat.after 0 t = iblk m c 0 t) (t : Fin (cfg0 (F := F)).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ (cfg0 (F := F)) c) (hA : dat.A 1 = V m c (Pipeline.arrRef spec0 1))
    (hafter : ∀ t, dat.after 1 t = iblk m c 1 t) (t : Fin (cfg0 (F := F)).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ (cfg0 (F := F)) c) (hA : dat.A 2 = V m c (Pipeline.arrRef spec0 2))
    (hafter : ∀ t, dat.after 2 t = iblk m c 2 t) (t : Fin (cfg0 (F := F)).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ (cfg0 (F := F)) c) (hA : dat.A 3 = V m c (Pipeline.arrRef spec0 3))
    (hafter : ∀ t, dat.after 3 t = iblk m c 3 t) (t : Fin (cfg0 (F := F)).N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ (cfg0 (F := F)) c) (hA : dat.A 4 = V m c (Pipeline.arrRef spec0 4))
    (hafter : ∀ t, dat.after 4 t = iblk m c 4 t) (t : Fin (cfg0 (F := F)).N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ (cfg0 (F := F)) c) (hA : dat.A 5 = V m c (Pipeline.arrRef spec0 5))
    (hafter : ∀ t, dat.after 5 t = iblk m c 5 t) (t : Fin (cfg0 (F := F)).N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_KernelIdeal`, Defs.lean, at any `F`). -/
theorem frame_of (dats : (p : Fin 1) → (c : Dev nD) → Dat τ (Elt F) Unit ℕ (UR sig nD τ) ℕ (cfgs (F := F) p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (Pipeline.mem_restRefs_of main_arg0 (by decide) (by decide : ∀ w : Fin 9, (spec0 w).arr.view.ref ≠ main_arg0))).trans (V_main_arg0 m c),
      ((h c).2 main_arg1 (Pipeline.mem_restRefs_of main_arg1 (by decide) (by decide : ∀ w : Fin 9, (spec0 w).arr.view.ref ≠ main_arg1))).trans (V_main_arg1 m c),
      ((h c).1 2).trans (((dats 0 c).arrAt_in 2 rfl _).trans ((hA c 2).trans (V_main_arg2 m c))),
      ((h c).1 3).trans (((dats 0 c).arrAt_in 3 rfl _).trans ((hA c 3).trans (V_main_arg3 m c))),
      ((h c).1 4).trans (((dats 0 c).arrAt_in 4 rfl _).trans ((hA c 4).trans (V_main_arg4 m c))),
      ((h c).1 5).trans (((dats 0 c).arrAt_in 5 rfl _).trans ((hA c 5).trans (V_main_arg5 m c)))⟩) h

/-- Each window's current staging memref at point `t`, spelled as the pipeline passes it (`bodyAt0`), and its wholeness. -/
abbrev ms0_0 (t : Fin (cfg0 (F := F)).N) : Memref sig .tc .vmem S1x512x896 .fp8e4m3 := win0_0.stage (cfg0.slots t 0)
abbrev hs0_0 (t : Fin (cfg0 (F := F)).N) : (ms0_0 t).IsWhole := hstage0_0 ((cfg0.slots t 0).cast nbuf0_0)
abbrev ms0_1 (t : Fin (cfg0 (F := F)).N) : Memref sig .tc .vmem S1x1x512x28 .i8 := win0_1.stage (cfg0.slots t 1)
abbrev hs0_1 (t : Fin (cfg0 (F := F)).N) : (ms0_1 t).IsWhole := hstage0_1 ((cfg0.slots t 1).cast nbuf0_1)
abbrev ms0_2 (t : Fin (cfg0 (F := F)).N) : Memref sig .tc .vmem S1x28672x128 .bf16 := win0_2.stage (cfg0.slots t 2)
abbrev hs0_2 (t : Fin (cfg0 (F := F)).N) : (ms0_2 t).IsWhole := hstage0_2 ((cfg0.slots t 2).cast nbuf0_2)
abbrev ms0_3 (t : Fin (cfg0 (F := F)).N) : Memref sig .tc .vmem S1x128x28672 .bf16 := win0_3.stage (cfg0.slots t 3)
abbrev hs0_3 (t : Fin (cfg0 (F := F)).N) : (ms0_3 t).IsWhole := hstage0_3 ((cfg0.slots t 3).cast nbuf0_3)
abbrev ms0_4 (t : Fin (cfg0 (F := F)).N) : Memref sig .tc .vmem S1x1024x128 .bf16 := win0_4.stage (cfg0.slots t 4)
abbrev hs0_4 (t : Fin (cfg0 (F := F)).N) : (ms0_4 t).IsWhole := hstage0_4 ((cfg0.slots t 4).cast nbuf0_4)
abbrev ms0_5 (t : Fin (cfg0 (F := F)).N) : Memref sig .tc .vmem S1x128x1024 .bf16 := win0_5.stage (cfg0.slots t 5)
abbrev hs0_5 (t : Fin (cfg0 (F := F)).N) : (ms0_5 t).IsWhole := hstage0_5 ((cfg0.slots t 5).cast nbuf0_5)
abbrev ms0_6 (t : Fin (cfg0 (F := F)).N) : Memref sig .tc .vmem S1x512x896 .bf16 := win0_6.stage (cfg0.slots t 6)
abbrev hs0_6 (t : Fin (cfg0 (F := F)).N) : (ms0_6 t).IsWhole := hstage0_6 ((cfg0.slots t 6).cast nbuf0_6)
abbrev ms0_7 (t : Fin (cfg0 (F := F)).N) : Memref sig .tc .vmem S1x1x7x512 .f32 := win0_7.stage (cfg0.slots t 7)
abbrev hs0_7 (t : Fin (cfg0 (F := F)).N) : (ms0_7 t).IsWhole := hstage0_7 ((cfg0.slots t 7).cast nbuf0_7)
abbrev ms0_8 (t : Fin (cfg0 (F := F)).N) : Memref sig .tc .vmem S1x1x7x512 .f32 := win0_8.stage (cfg0.slots t 8)
abbrev hs0_8 (t : Fin (cfg0 (F := F)).N) : (ms0_8 t).IsWhole := hstage0_8 ((cfg0.slots t 8).cast nbuf0_8)
/-- The scratch operands: whole scoped buffers of the kernel's own, passed beside the windows. -/
abbrev scM0_0 : Memref sig .tc .vmem S7x128x512 .bf16 := Memref.whole cc0_scratch0
abbrev scM0_1 : Memref sig .tc .vmem S8x512 .f32 := Memref.whole cc0_scratch1
abbrev scM0_2 : Memref sig .tc .vmem S8x512 .f32 := Memref.whole cc0_scratch2
abbrev scM0_3 : Memref sig .tc .vmem S128x512 .f32 := Memref.whole cc0_scratch3
abbrev scM0_4 : Memref sig .tc .vmem S128x512 .f32 := Memref.whole cc0_scratch4

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

/-! ## What the body leaves -/

/-- A grid point's operand blocks and its place along the tokens. -/
def point (c : Dev nD) (t : Fin (cfg0 (F := F)).N) : PointIn F :=
  ⟨iblk m c 0 t, iblk m c 1 t, iblk m c 2 t, iblk m c 3 t, iblk m c 4 t, iblk m c 5 t, (grid0.coords t 2).val⟩

/-- The proof data of the one pipeline: inputs left in place, results at the blocks. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => blkO sl2 sl (point m c t)
    | ⟨7, _⟩ => blkLp sl2 sl (point m c t)
    | ⟨8, _⟩ => blkLc sl2 sl (point m c t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin (cfg0 (F := F)).W) : (dats m 0 c).A w = V m c (Pipeline.arrRef spec0 w) := by
  dsimp only [dats]

/-- What the body leaves, window by window (the proof data's `match` reduced by `dsimp`). -/
theorem after0_0 (c : Dev nD) (t : Fin (cfg0 (F := F)).N) : (dats m 0 c).after 0 t = iblk m c 0 t := rfl
theorem after0_1 (c : Dev nD) (t : Fin (cfg0 (F := F)).N) : (dats m 0 c).after 1 t = iblk m c 1 t := rfl
theorem after0_2 (c : Dev nD) (t : Fin (cfg0 (F := F)).N) : (dats m 0 c).after 2 t = iblk m c 2 t := rfl
theorem after0_3 (c : Dev nD) (t : Fin (cfg0 (F := F)).N) : (dats m 0 c).after 3 t = iblk m c 3 t := rfl
theorem after0_4 (c : Dev nD) (t : Fin (cfg0 (F := F)).N) : (dats m 0 c).after 4 t = iblk m c 4 t := rfl
theorem after0_5 (c : Dev nD) (t : Fin (cfg0 (F := F)).N) : (dats m 0 c).after 5 t = iblk m c 5 t := rfl
theorem after0_6 (c : Dev nD) (t : Fin (cfg0 (F := F)).N) : (dats m 0 c).after 6 t = blkO sl2 sl (point m c t) := rfl
theorem after0_7 (c : Dev nD) (t : Fin (cfg0 (F := F)).N) : (dats m 0 c).after 7 t = blkLp sl2 sl (point m c t) := rfl
theorem after0_8 (c : Dev nD) (t : Fin (cfg0 (F := F)).N) : (dats m 0 c).after 8 t = blkLc sl2 sl (point m c t) := rfl

/-- Each input's current staging buffer holds its block at every point, fetched there or not (`beforeK_W_of`). -/
theorem before0_0 (c : Dev nD) (t : Fin (cfg0 (F := F)).N) (d) : (dats m 0 c).before 0 t d = iblk m c 0 t :=
  before0_0_of m (dats m 0 c) (A_eq m c 0) (after0_0 m c) t d
theorem before0_1 (c : Dev nD) (t : Fin (cfg0 (F := F)).N) (d) : (dats m 0 c).before 1 t d = iblk m c 1 t :=
  before0_1_of m (dats m 0 c) (A_eq m c 1) (after0_1 m c) t d
theorem before0_2 (c : Dev nD) (t : Fin (cfg0 (F := F)).N) (d) : (dats m 0 c).before 2 t d = iblk m c 2 t :=
  before0_2_of m (dats m 0 c) (A_eq m c 2) (after0_2 m c) t d
theorem before0_3 (c : Dev nD) (t : Fin (cfg0 (F := F)).N) (d) : (dats m 0 c).before 3 t d = iblk m c 3 t :=
  before0_3_of m (dats m 0 c) (A_eq m c 3) (after0_3 m c) t d
theorem before0_4 (c : Dev nD) (t : Fin (cfg0 (F := F)).N) (d) : (dats m 0 c).before 4 t d = iblk m c 4 t :=
  before0_4_of m (dats m 0 c) (A_eq m c 4) (after0_4 m c) t d
theorem before0_5 (c : Dev nD) (t : Fin (cfg0 (F := F)).N) (d) : (dats m 0 c).before 5 t d = iblk m c 5 t :=
  before0_5_of m (dats m 0 c) (A_eq m c 5) (after0_5 m c) t d

/-! ## The body obligation, at a generic point -/

/-- What the body is called with at point `t` (Lib/Pipeline.lean `BodyObligation`'s precondition, the windows one by one), -/
def bodyPre (c : Dev nD) (t : Fin (cfg0 (F := F)).N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin (cfg0 (F := F)).N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t))

/-! ## The body at a point -/

section Search

variable (c : Dev nD) (i : grid0.Coords) (arg5 : Memref sig .tc .vmem S1x28672x128 .bf16) (harg5 : arg5.IsWhole) (arg6 : Memref sig .tc .vmem S1x128x28672 .bf16) (harg6 : arg6.IsWhole) (arg7 : Memref sig .tc .vmem S1x1024x128 .bf16) (harg7 : arg7.IsWhole) (arg8 : Memref sig .tc .vmem S1x128x1024 .bf16) (harg8 : arg8.IsWhole) (arg10 : Memref sig .tc .vmem S1x1x7x512 .f32) (harg10 : arg10.IsWhole) (arg11 : Memref sig .tc .vmem S1x1x7x512 .f32) (harg11 : arg11.IsWhole) (arg12 : Memref sig .tc .vmem S7x128x512 .bf16) (harg12 : arg12.IsWhole) (arg13 : Memref sig .tc .vmem S8x512 .f32) (harg13 : arg13.IsWhole) (arg14 : Memref sig .tc .vmem S8x512 .f32) (harg14 : arg14.IsWhole) (arg15 : Memref sig .tc .vmem S128x512 .f32) (harg15 : arg15.IsWhole) (arg16 : Memref sig .tc .vmem S128x512 .f32) (harg16 : arg16.IsWhole)

theorem search0 (H : HeadIn F) (Q : Vec F S7x128x512 .bf16) (hQ : qAt 0 (by decide) Q = H.q) (hT : H.tb = (i 2).val) (x13 x14 : FVec F S8x512 .f32) (x15 x16 : FVec F S128x512 .f32) (L L' : FVec F S1x1x7x512 .f32) :
    (heldW c (⟨arg5, arg6, arg7, arg8, arg10, arg11, arg12, arg13, arg14, arg15, arg16⟩ : Refs sig) H Q x13 x14 x15 x16 L L' : sProp 𝕄) ⊢ wp frame (wpE (defs₀ (F := F)) Variants.nat (c : Thread nD τ) none) Set.univ
      (callOf F i arg5 harg5 arg6 harg6 arg7 harg7 arg8 harg8 arg10 harg10 arg11 harg11 arg12 harg12 arg13 harg13 arg14 harg14 arg15 harg15 arg16 harg16 0) (fun _ => doneW c (⟨arg5, arg6, arg7, arg8, arg10, arg11, arg12, arg13, arg14, arg15, arg16⟩ : Refs sig) 0 (by decide) H Q (outH H sl2 sl) L L' (lpH H sl2 sl) (lcH H sl2 sl)) :=
  search_spec c Set.univ (⟨arg5, arg6, arg7, arg8, arg10, arg11, arg12, arg13, arg14, arg15, arg16⟩ : Refs sig) 0 (by decide) sl2 sl i (k0_chk1 i) (k0_chk1.dec i) (fun _ => id)
    (fun n => Prog.lift (.call (1 : (Λ₀ F).Label) ⟨i, arg5, harg5, arg12, harg12, arg7, harg7, arg13, harg13, arg14, harg14, arg15, harg15, arg16, harg16, arg6, harg6, arg8, harg8, arg10, harg10, arg11, harg11, n⟩))
    (fun n v bd hv A B h => call_answer Variants.nat c bd Set.univ v hv
      (by have e := while1_eq (F := F) i arg5 harg5 arg12 harg12 arg7 harg7 arg13 harg13 arg14 harg14 arg15 harg15 arg16 harg16 arg6 harg6 arg8 harg8 arg10 harg10 arg11 harg11 n
          exact h.trans (BIBase.Entails.of_eq (congrArg (fun p => wp frame (wpE (defs₀ (F := F)) Variants.nat (c : Thread nD τ) (some v)) Set.univ p (fun _ => B)) e.symm))))
    (chk i) hQ hT

theorem search1 (H : HeadIn F) (Q : Vec F S7x128x512 .bf16) (hQ : qAt 1 (by decide) Q = H.q) (hT : H.tb = (i 2).val) (x13 x14 : FVec F S8x512 .f32) (x15 x16 : FVec F S128x512 .f32) (L L' : FVec F S1x1x7x512 .f32) :
    (heldW c (⟨arg5, arg6, arg7, arg8, arg10, arg11, arg12, arg13, arg14, arg15, arg16⟩ : Refs sig) H Q x13 x14 x15 x16 L L' : sProp 𝕄) ⊢ wp frame (wpE (defs₀ (F := F)) Variants.nat (c : Thread nD τ) none) Set.univ
      (callOf F i arg5 harg5 arg6 harg6 arg7 harg7 arg8 harg8 arg10 harg10 arg11 harg11 arg12 harg12 arg13 harg13 arg14 harg14 arg15 harg15 arg16 harg16 1) (fun _ => doneW c (⟨arg5, arg6, arg7, arg8, arg10, arg11, arg12, arg13, arg14, arg15, arg16⟩ : Refs sig) 1 (by decide) H Q (outH H sl2 sl) L L' (lpH H sl2 sl) (lcH H sl2 sl)) :=
  search_spec c Set.univ (⟨arg5, arg6, arg7, arg8, arg10, arg11, arg12, arg13, arg14, arg15, arg16⟩ : Refs sig) 1 (by decide) sl2 sl i (k0_chk2 i) (k0_chk2.dec i) (fun _ => id)
    (fun n => Prog.lift (.call (2 : (Λ₀ F).Label) ⟨i, arg5, harg5, arg12, harg12, arg7, harg7, arg13, harg13, arg14, harg14, arg15, harg15, arg16, harg16, arg6, harg6, arg8, harg8, arg10, harg10, arg11, harg11, n⟩))
    (fun n v bd hv A B h => call_answer Variants.nat c bd Set.univ v hv
      (by have e := while2_eq (F := F) i arg5 harg5 arg12 harg12 arg7 harg7 arg13 harg13 arg14 harg14 arg15 harg15 arg16 harg16 arg6 harg6 arg8 harg8 arg10 harg10 arg11 harg11 n
          exact h.trans (BIBase.Entails.of_eq (congrArg (fun p => wp frame (wpE (defs₀ (F := F)) Variants.nat (c : Thread nD τ) (some v)) Set.univ p (fun _ => B)) e.symm))))
    (chk i) hQ hT

theorem search2 (H : HeadIn F) (Q : Vec F S7x128x512 .bf16) (hQ : qAt 2 (by decide) Q = H.q) (hT : H.tb = (i 2).val) (x13 x14 : FVec F S8x512 .f32) (x15 x16 : FVec F S128x512 .f32) (L L' : FVec F S1x1x7x512 .f32) :
    (heldW c (⟨arg5, arg6, arg7, arg8, arg10, arg11, arg12, arg13, arg14, arg15, arg16⟩ : Refs sig) H Q x13 x14 x15 x16 L L' : sProp 𝕄) ⊢ wp frame (wpE (defs₀ (F := F)) Variants.nat (c : Thread nD τ) none) Set.univ
      (callOf F i arg5 harg5 arg6 harg6 arg7 harg7 arg8 harg8 arg10 harg10 arg11 harg11 arg12 harg12 arg13 harg13 arg14 harg14 arg15 harg15 arg16 harg16 2) (fun _ => doneW c (⟨arg5, arg6, arg7, arg8, arg10, arg11, arg12, arg13, arg14, arg15, arg16⟩ : Refs sig) 2 (by decide) H Q (outH H sl2 sl) L L' (lpH H sl2 sl) (lcH H sl2 sl)) :=
  search_spec c Set.univ (⟨arg5, arg6, arg7, arg8, arg10, arg11, arg12, arg13, arg14, arg15, arg16⟩ : Refs sig) 2 (by decide) sl2 sl i (k0_chk3 i) (k0_chk3.dec i) (fun _ => id)
    (fun n => Prog.lift (.call (3 : (Λ₀ F).Label) ⟨i, arg5, harg5, arg12, harg12, arg7, harg7, arg13, harg13, arg14, harg14, arg15, harg15, arg16, harg16, arg6, harg6, arg8, harg8, arg10, harg10, arg11, harg11, n⟩))
    (fun n v bd hv A B h => call_answer Variants.nat c bd Set.univ v hv
      (by have e := while3_eq (F := F) i arg5 harg5 arg12 harg12 arg7 harg7 arg13 harg13 arg14 harg14 arg15 harg15 arg16 harg16 arg6 harg6 arg8 harg8 arg10 harg10 arg11 harg11 n
          exact h.trans (BIBase.Entails.of_eq (congrArg (fun p => wp frame (wpE (defs₀ (F := F)) Variants.nat (c : Thread nD τ) (some v)) Set.univ p (fun _ => B)) e.symm))))
    (chk i) hQ hT

theorem search3 (H : HeadIn F) (Q : Vec F S7x128x512 .bf16) (hQ : qAt 3 (by decide) Q = H.q) (hT : H.tb = (i 2).val) (x13 x14 : FVec F S8x512 .f32) (x15 x16 : FVec F S128x512 .f32) (L L' : FVec F S1x1x7x512 .f32) :
    (heldW c (⟨arg5, arg6, arg7, arg8, arg10, arg11, arg12, arg13, arg14, arg15, arg16⟩ : Refs sig) H Q x13 x14 x15 x16 L L' : sProp 𝕄) ⊢ wp frame (wpE (defs₀ (F := F)) Variants.nat (c : Thread nD τ) none) Set.univ
      (callOf F i arg5 harg5 arg6 harg6 arg7 harg7 arg8 harg8 arg10 harg10 arg11 harg11 arg12 harg12 arg13 harg13 arg14 harg14 arg15 harg15 arg16 harg16 3) (fun _ => doneW c (⟨arg5, arg6, arg7, arg8, arg10, arg11, arg12, arg13, arg14, arg15, arg16⟩ : Refs sig) 3 (by decide) H Q (outH H sl2 sl) L L' (lpH H sl2 sl) (lcH H sl2 sl)) :=
  search_spec c Set.univ (⟨arg5, arg6, arg7, arg8, arg10, arg11, arg12, arg13, arg14, arg15, arg16⟩ : Refs sig) 3 (by decide) sl2 sl i (k0_chk4 i) (k0_chk4.dec i) (fun _ => id)
    (fun n => Prog.lift (.call (4 : (Λ₀ F).Label) ⟨i, arg5, harg5, arg12, harg12, arg7, harg7, arg13, harg13, arg14, harg14, arg15, harg15, arg16, harg16, arg6, harg6, arg8, harg8, arg10, harg10, arg11, harg11, n⟩))
    (fun n v bd hv A B h => call_answer Variants.nat c bd Set.univ v hv
      (by have e := while4_eq (F := F) i arg5 harg5 arg12 harg12 arg7 harg7 arg13 harg13 arg14 harg14 arg15 harg15 arg16 harg16 arg6 harg6 arg8 harg8 arg10 harg10 arg11 harg11 n
          exact h.trans (BIBase.Entails.of_eq (congrArg (fun p => wp frame (wpE (defs₀ (F := F)) Variants.nat (c : Thread nD τ) (some v)) Set.univ p (fun _ => B)) e.symm))))
    (chk i) hQ hT

theorem search4 (H : HeadIn F) (Q : Vec F S7x128x512 .bf16) (hQ : qAt 4 (by decide) Q = H.q) (hT : H.tb = (i 2).val) (x13 x14 : FVec F S8x512 .f32) (x15 x16 : FVec F S128x512 .f32) (L L' : FVec F S1x1x7x512 .f32) :
    (heldW c (⟨arg5, arg6, arg7, arg8, arg10, arg11, arg12, arg13, arg14, arg15, arg16⟩ : Refs sig) H Q x13 x14 x15 x16 L L' : sProp 𝕄) ⊢ wp frame (wpE (defs₀ (F := F)) Variants.nat (c : Thread nD τ) none) Set.univ
      (callOf F i arg5 harg5 arg6 harg6 arg7 harg7 arg8 harg8 arg10 harg10 arg11 harg11 arg12 harg12 arg13 harg13 arg14 harg14 arg15 harg15 arg16 harg16 4) (fun _ => doneW c (⟨arg5, arg6, arg7, arg8, arg10, arg11, arg12, arg13, arg14, arg15, arg16⟩ : Refs sig) 4 (by decide) H Q (outH H sl2 sl) L L' (lpH H sl2 sl) (lcH H sl2 sl)) :=
  search_spec c Set.univ (⟨arg5, arg6, arg7, arg8, arg10, arg11, arg12, arg13, arg14, arg15, arg16⟩ : Refs sig) 4 (by decide) sl2 sl i (k0_chk5 i) (k0_chk5.dec i) (fun _ => id)
    (fun n => Prog.lift (.call (5 : (Λ₀ F).Label) ⟨i, arg5, harg5, arg12, harg12, arg7, harg7, arg13, harg13, arg14, harg14, arg15, harg15, arg16, harg16, arg6, harg6, arg8, harg8, arg10, harg10, arg11, harg11, n⟩))
    (fun n v bd hv A B h => call_answer Variants.nat c bd Set.univ v hv
      (by have e := while5_eq (F := F) i arg5 harg5 arg12 harg12 arg7 harg7 arg13 harg13 arg14 harg14 arg15 harg15 arg16 harg16 arg6 harg6 arg8 harg8 arg10 harg10 arg11 harg11 n
          exact h.trans (BIBase.Entails.of_eq (congrArg (fun p => wp frame (wpE (defs₀ (F := F)) Variants.nat (c : Thread nD τ) (some v)) Set.univ p (fun _ => B)) e.symm))))
    (chk i) hQ hT

theorem search5 (H : HeadIn F) (Q : Vec F S7x128x512 .bf16) (hQ : qAt 5 (by decide) Q = H.q) (hT : H.tb = (i 2).val) (x13 x14 : FVec F S8x512 .f32) (x15 x16 : FVec F S128x512 .f32) (L L' : FVec F S1x1x7x512 .f32) :
    (heldW c (⟨arg5, arg6, arg7, arg8, arg10, arg11, arg12, arg13, arg14, arg15, arg16⟩ : Refs sig) H Q x13 x14 x15 x16 L L' : sProp 𝕄) ⊢ wp frame (wpE (defs₀ (F := F)) Variants.nat (c : Thread nD τ) none) Set.univ
      (callOf F i arg5 harg5 arg6 harg6 arg7 harg7 arg8 harg8 arg10 harg10 arg11 harg11 arg12 harg12 arg13 harg13 arg14 harg14 arg15 harg15 arg16 harg16 5) (fun _ => doneW c (⟨arg5, arg6, arg7, arg8, arg10, arg11, arg12, arg13, arg14, arg15, arg16⟩ : Refs sig) 5 (by decide) H Q (outH H sl2 sl) L L' (lpH H sl2 sl) (lcH H sl2 sl)) :=
  search_spec c Set.univ (⟨arg5, arg6, arg7, arg8, arg10, arg11, arg12, arg13, arg14, arg15, arg16⟩ : Refs sig) 5 (by decide) sl2 sl i (k0_chk6 i) (k0_chk6.dec i) (fun _ => id)
    (fun n => Prog.lift (.call (6 : (Λ₀ F).Label) ⟨i, arg5, harg5, arg12, harg12, arg7, harg7, arg13, harg13, arg14, harg14, arg15, harg15, arg16, harg16, arg6, harg6, arg8, harg8, arg10, harg10, arg11, harg11, n⟩))
    (fun n v bd hv A B h => call_answer Variants.nat c bd Set.univ v hv
      (by have e := while6_eq (F := F) i arg5 harg5 arg12 harg12 arg7 harg7 arg13 harg13 arg14 harg14 arg15 harg15 arg16 harg16 arg6 harg6 arg8 harg8 arg10 harg10 arg11 harg11 n
          exact h.trans (BIBase.Entails.of_eq (congrArg (fun p => wp frame (wpE (defs₀ (F := F)) Variants.nat (c : Thread nD τ) (some v)) Set.univ p (fun _ => B)) e.symm))))
    (chk i) hQ hT

theorem search6 (H : HeadIn F) (Q : Vec F S7x128x512 .bf16) (hQ : qAt 6 (by decide) Q = H.q) (hT : H.tb = (i 2).val) (x13 x14 : FVec F S8x512 .f32) (x15 x16 : FVec F S128x512 .f32) (L L' : FVec F S1x1x7x512 .f32) :
    (heldW c (⟨arg5, arg6, arg7, arg8, arg10, arg11, arg12, arg13, arg14, arg15, arg16⟩ : Refs sig) H Q x13 x14 x15 x16 L L' : sProp 𝕄) ⊢ wp frame (wpE (defs₀ (F := F)) Variants.nat (c : Thread nD τ) none) Set.univ
      (callOf F i arg5 harg5 arg6 harg6 arg7 harg7 arg8 harg8 arg10 harg10 arg11 harg11 arg12 harg12 arg13 harg13 arg14 harg14 arg15 harg15 arg16 harg16 6) (fun _ => doneW c (⟨arg5, arg6, arg7, arg8, arg10, arg11, arg12, arg13, arg14, arg15, arg16⟩ : Refs sig) 6 (by decide) H Q (outH H sl2 sl) L L' (lpH H sl2 sl) (lcH H sl2 sl)) :=
  search_spec c Set.univ (⟨arg5, arg6, arg7, arg8, arg10, arg11, arg12, arg13, arg14, arg15, arg16⟩ : Refs sig) 6 (by decide) sl2 sl i (k0_chk7 i) (k0_chk7.dec i) (fun _ => id)
    (fun n => Prog.lift (.call (7 : (Λ₀ F).Label) ⟨i, arg5, harg5, arg12, harg12, arg7, harg7, arg13, harg13, arg14, harg14, arg15, harg15, arg16, harg16, arg6, harg6, arg8, harg8, arg10, harg10, arg11, harg11, n⟩))
    (fun n v bd hv A B h => call_answer Variants.nat c bd Set.univ v hv
      (by have e := while7_eq (F := F) i arg5 harg5 arg12 harg12 arg7 harg7 arg13 harg13 arg14 harg14 arg15 harg15 arg16 harg16 arg6 harg6 arg8 harg8 arg10 harg10 arg11 harg11 n
          exact h.trans (BIBase.Entails.of_eq (congrArg (fun p => wp frame (wpE (defs₀ (F := F)) Variants.nat (c : Thread nD τ) (some v)) Set.univ p (fun _ => B)) e.symm))))
    (chk i) hQ hT

theorem search_any (g : ℕ) (hg : g < 7) (H : HeadIn F) (Q : Vec F S7x128x512 .bf16) (hQ : qAt g hg Q = H.q) (hT : H.tb = (i 2).val) (x13 x14 : FVec F S8x512 .f32) (x15 x16 : FVec F S128x512 .f32) (L L' : FVec F S1x1x7x512 .f32) :
    (heldW c (⟨arg5, arg6, arg7, arg8, arg10, arg11, arg12, arg13, arg14, arg15, arg16⟩ : Refs sig) H Q x13 x14 x15 x16 L L' : sProp 𝕄) ⊢ wp frame (wpE (defs₀ (F := F)) Variants.nat (c : Thread nD τ) none) Set.univ
      (callOf F i arg5 harg5 arg6 harg6 arg7 harg7 arg8 harg8 arg10 harg10 arg11 harg11 arg12 harg12 arg13 harg13 arg14 harg14 arg15 harg15 arg16 harg16 g) (fun _ => doneW c (⟨arg5, arg6, arg7, arg8, arg10, arg11, arg12, arg13, arg14, arg15, arg16⟩ : Refs sig) g hg H Q (outH H sl2 sl) L L' (lpH H sl2 sl) (lcH H sl2 sl)) :=
  match g, hg with
  | 0, _ => search0 c i arg5 harg5 arg6 harg6 arg7 harg7 arg8 harg8 arg10 harg10 arg11 harg11 arg12 harg12 arg13 harg13 arg14 harg14 arg15 harg15 arg16 harg16 H Q hQ hT x13 x14 x15 x16 L L'
  | 1, _ => search1 c i arg5 harg5 arg6 harg6 arg7 harg7 arg8 harg8 arg10 harg10 arg11 harg11 arg12 harg12 arg13 harg13 arg14 harg14 arg15 harg15 arg16 harg16 H Q hQ hT x13 x14 x15 x16 L L'
  | 2, _ => search2 c i arg5 harg5 arg6 harg6 arg7 harg7 arg8 harg8 arg10 harg10 arg11 harg11 arg12 harg12 arg13 harg13 arg14 harg14 arg15 harg15 arg16 harg16 H Q hQ hT x13 x14 x15 x16 L L'
  | 3, _ => search3 c i arg5 harg5 arg6 harg6 arg7 harg7 arg8 harg8 arg10 harg10 arg11 harg11 arg12 harg12 arg13 harg13 arg14 harg14 arg15 harg15 arg16 harg16 H Q hQ hT x13 x14 x15 x16 L L'
  | 4, _ => search4 c i arg5 harg5 arg6 harg6 arg7 harg7 arg8 harg8 arg10 harg10 arg11 harg11 arg12 harg12 arg13 harg13 arg14 harg14 arg15 harg15 arg16 harg16 H Q hQ hT x13 x14 x15 x16 L L'
  | 5, _ => search5 c i arg5 harg5 arg6 harg6 arg7 harg7 arg8 harg8 arg10 harg10 arg11 harg11 arg12 harg12 arg13 harg13 arg14 harg14 arg15 harg15 arg16 harg16 H Q hQ hT x13 x14 x15 x16 L L'
  | 6, _ => search6 c i arg5 harg5 arg6 harg6 arg7 harg7 arg8 harg8 arg10 harg10 arg11 harg11 arg12 harg12 arg13 harg13 arg14 harg14 arg15 harg15 arg16 harg16 H Q hQ hT x13 x14 x15 x16 L L'
  | n + 7, h => absurd h (by omega)

end Search

/-- The program run at point `t`. -/
abbrev bodyAt (t : Fin (cfg0 (F := F)).N) : Prog (TpuEff nD τ sig (Elt F) (Λ₀ F) .tc) PUnit :=
  cc0_shared_prompt_attention (F := F) (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _)

set_option maxHeartbeats 1200000 in
/-- The body at any point: from the operand blocks and anything in the results and the scratch, to the result blocks. -/
theorem sound_body (c : Dev nD) (t : Fin (cfg0 (F := F)).N) :
    bodyPre m c t ⊢ wp frame (wpE (defs₀ (F := F)) Variants.nat c none) Set.univ (bodyAt t) (fun _ => bodyPost m c t) := by
  have hb := fun w9 L L' Q x13 x14 x15 x16 => body_spec (Ix := Unit) (Name := ℕ) (U := UR sig nD τ) (Lvl := ℕ) (defs := defs₀ (F := F)) sl2 sl (point m c t) c Set.univ
    ⟨ms0_2 t, ms0_3 t, ms0_4 t, ms0_5 t, ms0_7 t, ms0_8 t, scM0_0, scM0_1, scM0_2, scM0_3, scM0_4⟩ (ms0_0 t) (ms0_1 t) (ms0_6 t)
    (storesQ scM0_0 (Memref.isWhole_whole _)) (storesO (ms0_6 t) (hs0_6 t))
    (callOf F (grid0.coords t) (ms0_2 t) (hs0_2 t) (ms0_3 t) (hs0_3 t) (ms0_4 t) (hs0_4 t) (ms0_5 t) (hs0_5 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _))
    (fun g hg H Q hQ hT x13 x14 x15 x16 L L' => search_any c (grid0.coords t) (ms0_2 t) (hs0_2 t) (ms0_3 t) (hs0_3 t) (ms0_4 t) (hs0_4 t) (ms0_5 t) (hs0_5 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) g hg H Q hQ hT x13 x14 x15 x16 L L') (w9 := w9) (L := L) (L' := L') (Q := Q) (x13 := x13) (x14 := x14) (x15 := x15) (x16 := x16)
  unfold bodyPre bodyPost bodyAt
  rw [body_eq]
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  rw [show (dats m 0 c).Φ t.castSucc = Pipeline.ΦA spec0 c from rfl, PhiA0_eq]
  iintro ⟨⟨⟨⟨%s0, HS0⟩, ⟨%s1, HS1⟩, ⟨%s2, HS2⟩, ⟨%s3, HS3⟩, ⟨%s4, HS4⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  ihave H0 := (owns_own c (ms0_0 t) (hs0_0 t) (iblk m c 0 t)) $$ H0
  ihave H1 := (owns_own c (ms0_1 t) (hs0_1 t) (iblk m c 1 t)) $$ H1
  ihave H2 := (owns_own c (ms0_2 t) (hs0_2 t) (iblk m c 2 t)) $$ H2
  ihave H3 := (owns_own c (ms0_3 t) (hs0_3 t) (iblk m c 3 t)) $$ H3
  ihave H4 := (owns_own c (ms0_4 t) (hs0_4 t) (iblk m c 4 t)) $$ H4
  ihave H5 := (owns_own c (ms0_5 t) (hs0_5 t) (iblk m c 5 t)) $$ H5
  ihave H6 := (owns_own c (ms0_6 t) (hs0_6 t) ((dats m 0 c).before 6 t d6)) $$ H6
  ihave H7 := (owns_own c (ms0_7 t) (hs0_7 t) ((dats m 0 c).before 7 t d7)) $$ H7
  ihave H8 := (owns_own c (ms0_8 t) (hs0_8 t) ((dats m 0 c).before 8 t d8)) $$ H8
  ihave HS0 := (owns_own c scM0_0 (Memref.isWhole_whole _) s0) $$ HS0
  ihave HS1 := (owns_own c scM0_1 (Memref.isWhole_whole _) s1) $$ HS1
  ihave HS2 := (owns_own c scM0_2 (Memref.isWhole_whole _) s2) $$ HS2
  ihave HS3 := (owns_own c scM0_3 (Memref.isWhole_whole _) s3) $$ HS3
  ihave HS4 := (owns_own c scM0_4 (Memref.isWhole_whole _) s4) $$ HS4
  ihave H := hb ((dats m 0 c).before 6 t d6) ((dats m 0 c).before 7 t d7) ((dats m 0 c).before 8 t d8) s0 s1 s2 s3 s4 $$ [H0 H1 H2 H3 H4 H5 H6 H7 H8 HS0 HS1 HS2 HS3 HS4]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS0]; · iexact HS0
    isplitl [HS1]; · iexact HS1
    isplitl [HS2]; · iexact HS2
    isplitl [HS3]; · iexact HS3
    iexact HS4
  iapply wp_wand $$ H
  iintro %_u ⟨H0, H1, H2, H3, H4, H5, H6, H7, H8, %y0, %y1, %y2, %y3, %y4, HS0, HS1, HS2, HS3, HS4⟩
  ihave H0 := (own_owns c (ms0_0 t) (hs0_0 t) (point m c t).q) $$ H0
  ihave H1 := (own_owns c (ms0_1 t) (hs0_1 t) (point m c t).e) $$ H1
  ihave H2 := (own_owns c (ms0_2 t) (hs0_2 t) (point m c t).K) $$ H2
  ihave H3 := (own_owns c (ms0_3 t) (hs0_3 t) (point m c t).V) $$ H3
  ihave H4 := (own_owns c (ms0_4 t) (hs0_4 t) (point m c t).Kc) $$ H4
  ihave H5 := (own_owns c (ms0_5 t) (hs0_5 t) (point m c t).Vc) $$ H5
  ihave H6 := (own_owns c (ms0_6 t) (hs0_6 t) (blkO sl2 sl (point m c t))) $$ H6
  ihave H7 := (own_owns c (ms0_7 t) (hs0_7 t) (blkLp sl2 sl (point m c t))) $$ H7
  ihave H8 := (own_owns c (ms0_8 t) (hs0_8 t) (blkLc sl2 sl (point m c t))) $$ H8
  ihave HS0 := (own_owns c scM0_0 (Memref.isWhole_whole _) y0) $$ HS0
  ihave HS1 := (own_owns c scM0_1 (Memref.isWhole_whole _) y1) $$ HS1
  ihave HS2 := (own_owns c scM0_2 (Memref.isWhole_whole _) y2) $$ HS2
  ihave HS3 := (own_owns c scM0_3 (Memref.isWhole_whole _) y3) $$ HS3
  ihave HS4 := (own_owns c scM0_4 (Memref.isWhole_whole _) y4) $$ HS4
  isplitl [HS0 HS1 HS2 HS3 HS4 Hg]
  · isplitl [HS0 HS1 HS2 HS3 HS4]
    · isplitl [HS0]; · iexists _; iexact HS0
      isplitl [HS1]; · iexists _; iexact HS1
      isplitl [HS2]; · iexists _; iexact HS2
      isplitl [HS3]; · iexists _; iexact HS3
      iexists _; iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body table's row at point `t`'s slots is the body. -/
theorem defs₀_row (t : Fin (cfg0 (F := F)).N) :
    defs₀ (F := F) .tc cfg0.body (cfg0.bodyArgs t (cfg0.slots t)) = bodyAt t := by
  unfold defs₀; rw [Defs.onTc_tc]

/-- The library's body obligation, at every point. -/
theorem body_obligation (c : Dev nD) : BodyObligation (dats (F := F) m 0 c) (defs₀ (F := F)) Variants.nat () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.nat m ρ main
    (hbody := fun c => (body_obligation m c).loose) (hshare := fun c => (dats m 0 c).share_full fun _ => rfl)
    (howed := fun _ _ => rfl) (V := V m) (hmain := hmain m Variants.nat) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.Attn.KernelIdeal

end
-- ==== Proof.Preserves.lean ====
/-
  The two named constants of the idealized program are the printed words' names: the softmax scale `1/√128`, and that scale
  times `1/ln 2`.
-/
module

public import proofs.«01_k».proof.Defs

@[expose] public section

noncomputable section

namespace Cert.Attn

open Idealize.ShloMosaic

theorem preserves : Cert.preserves_Kernel_KernelIdeal :=
  ⟨IdealRules.named_const.statement Cert.KernelIdeal.κ "softmax_scale_log2e" .f32 0x3E0293EE#32 (((Real.sqrt 128)⁻¹ * (Real.log 2)⁻¹ : ℝ) : EReal) rfl,
    IdealRules.named_const.statement Cert.KernelIdeal.κ "softmax_scale" .f32 0x3DB504F3#32 (((Real.sqrt 128)⁻¹ : ℝ) : EReal) rfl⟩

end Cert.Attn

end
-- ==== Proof.Read.lean ====
/-
  The values of one chunk and of one attempt's end over the extended reals, read at one query (and one feature).
-/
module

public import proofs.«01_k».proof.Proof.Values
public import Idealize.ShloMosaic.Lib.Pointwise
public import Idealize.ShloMosaic.Lib.WordCmp

@[expose] public section

set_option maxRecDepth 16384

noncomputable section

namespace Cert.Attn

open Idealize.ShloMosaic Idealize.SL.Sem
open Cert.KernelIdeal Cert.KernelIdeal.Gen

theorem ofBits_neg_inf : Ideal.ofBits .f32 0xFF800000#32 = ⊥ := by simp [Ideal.ofBits, Ideal.ieee]

theorem ofBits_small : 0 ≤ Ideal.ofBits .f32 0x0D800000#32 := by
  have h1 : ((0x0D800000#32).extractLsb' (8 + 23) 1 == 1#1) = false := by decide
  have h2 : ((0x0D800000#32).extractLsb' 23 8).toNat = 27 := by decide
  have h3 : ((0x0D800000#32).extractLsb' 0 23).toNat = 0 := by decide
  simp only [Ideal.ofBits, Ideal.ieee, h1, h2, h3]
  rw [if_neg (by norm_num), if_neg (by norm_num)]
  refine EReal.coe_nonneg.mpr ?_
  simp only [Bool.false_eq_true, if_false]
  positivity

/-- The largest of finitely many scores. -/
theorem fold_max {n : ℕ} (f : Fin n → EReal) : Finset.fold max (Ideal.ofBits .f32 0xFF800000#32) f Finset.univ = Finset.univ.sup f := by
  rw [ofBits_neg_inf]; rfl

theorem rawP_at (kb : FVec Ideal S1x1024x128 .bf16) (q : FVec Ideal S1x128x512 .bf16) (r : Fin 1024) (l : Fin 512) :
    rawP (F := Ideal) kb q (ix2 r l) = ∑ d : Fin 128, kb (ix3 0 r d) * q (ix3 0 d l) := by
  pointwise [rawP]

theorem colMaxP_at (raw : FVec Ideal S1024x512 .f32) (l : Fin 512) : colMaxP (F := Ideal) raw (ix2 0 l) = Finset.univ.sup (fun r : Fin 1024 => raw (ix2 r l)) := by
  pointwise [colMaxP]
  exact fold_max _

theorem colMaxC_at (raw : FVec Ideal S512x512 .f32) (l : Fin 512) : colMaxC (F := Ideal) raw (ix2 0 l) = Finset.univ.sup (fun r : Fin 512 => raw (ix2 r l)) := by
  pointwise [colMaxC]
  exact fold_max _

theorem rawC_at (tb j : ℕ) (htb : tb < 2) (hj : j < 2) (kb : FVec Ideal S1x512x128 .bf16) (q : FVec Ideal S1x128x512 .bf16) (r : Fin 512) (l : Fin 512) :
    rawC (F := Ideal) (BitVec.ofNat 32 tb) (BitVec.ofNat 32 j) kb q (ix2 r l) = if tb * 512 + l.val < j * 512 + r.val then ⊥ else ∑ d : Fin 128, kb (ix3 0 r d) * q (ix3 0 d l) := by
  pointwise [rawC]
  rw [ofBits_neg_inf]
  have h1 : ∀ n : ℕ, n < 2 → Scalar.muli (BitVec.ofNat 32 n) 512#32 = BitVec.ofNat 32 (n * 512) := fun n hn => by interval_cases n <;> rfl
  rw [h1 j hj, h1 tb htb]
  have h2 : ∀ a b : ℕ, IntOp.addi (BitVec.ofNat 32 a) (BitVec.ofNat 32 b) = BitVec.ofNat 32 (a + b) := fun a b => by
    show BitVec.ofNat 32 a + BitVec.ofNat 32 b = _
    rw [← BitVec.ofNat_add]
  rw [h2, h2]
  have hr := r.isLt; have hl := l.isLt
  simp (disch := omega) only [hlo_ix]

theorem wP_at (c2 : EReal) (m : FVec Ideal S1x512 .f32) (raw : FVec Ideal S1024x512 .f32) (r : Fin 1024) (l : Fin 512) :
    wP (F := Ideal) c2 m raw (ix2 r l) = Ideal.exp2 (raw (ix2 r l) * c2 - m (ix2 0 l) * c2) := by
  pointwise [wP]
  rfl

theorem wC_at (c2 : EReal) (m : FVec Ideal S1x512 .f32) (raw : FVec Ideal S512x512 .f32) (r : Fin 512) (l : Fin 512) :
    wC (F := Ideal) c2 m raw (ix2 r l) = Ideal.exp2 (raw (ix2 r l) * c2 - m (ix2 0 l) * c2) := by
  pointwise [wC]
  rfl

theorem sumP_at (a : FVec Ideal S8x512 .f32) (w : FVec Ideal S1024x512 .f32) (s : Fin 8) (l : Fin 512) :
    sumP (F := Ideal) a w (ix2 s l) = a (ix2 s l) + ∑ t : Fin 128, w (ix2 ⟨t.val * 8 + s.val, by omega⟩ l) := by
  pointwise [sumP]

theorem sumC_at (a : FVec Ideal S8x512 .f32) (w : FVec Ideal S512x512 .f32) (s : Fin 8) (l : Fin 512) :
    sumC (F := Ideal) a w (ix2 s l) = a (ix2 s l) + ∑ t : Fin 64, w (ix2 ⟨t.val * 8 + s.val, by omega⟩ l) := by
  pointwise [sumC]

theorem prodP_at (o : FVec Ideal S128x512 .f32) (vt : FVec Ideal S1x128x1024 .bf16) (w : FVec Ideal S1024x512 .f32) (f : Fin 128) (l : Fin 512) :
    prodP (F := Ideal) o vt w (ix2 f l) = o (ix2 f l) + ∑ r : Fin 1024, vt (ix3 0 f r) * w (ix2 r l) := by
  pointwise [prodP]

theorem prodC_at (o : FVec Ideal S128x512 .f32) (vt : FVec Ideal S1x128x512 .bf16) (w : FVec Ideal S512x512 .f32) (f : Fin 128) (l : Fin 512) :
    prodC (F := Ideal) o vt w (ix2 f l) = o (ix2 f l) + ∑ r : Fin 512, vt (ix3 0 f r) * w (ix2 r l) := by
  pointwise [prodC]

theorem zeroL_at (s : Fin 8) (l : Fin 512) : zeroL (F := Ideal) (ix2 s l) = 0 := by
  pointwise [zeroL]

theorem zeroO_at (s : Fin 128) (l : Fin 512) : zeroO (F := Ideal) (ix2 s l) = 0 := by
  pointwise [zeroO]

theorem colSum_at (a : FVec Ideal S8x512 .f32) (l : Fin 512) : colSum (F := Ideal) a (ix2 0 l) = ∑ s : Fin 8, a (ix2 s l) := by
  pointwise [colSum]

theorem lseOf_at (cl : EReal) (m s : FVec Ideal S1x512 .f32) (l : Fin 512) : lseOf (F := Ideal) cl m s (ix2 0 l) = m (ix2 0 l) * cl + Ideal.log (s (ix2 0 l)) := by
  pointwise [lseOf]

theorem lseBoth_at (a b : FVec Ideal S1x512 .f32) (l : Fin 512) : lseBoth (F := Ideal) a b (ix2 0 l) =
    max (a (ix2 0 l)) (b (ix2 0 l)) + Ideal.log (Ideal.exp (a (ix2 0 l) - max (a (ix2 0 l)) (b (ix2 0 l))) + Ideal.exp (b (ix2 0 l) - max (a (ix2 0 l)) (b (ix2 0 l)))) := by
  pointwise [lseBoth]

theorem share_at (a t s : FVec Ideal S1x512 .f32) (l : Fin 512) : share (F := Ideal) a t s (ix2 0 l) = Ideal.div (Ideal.exp (a (ix2 0 l) - t (ix2 0 l))) (s (ix2 0 l)) := by
  pointwise [share]

theorem outOf_at (wp ws : FVec Ideal S1x512 .f32) (op os : FVec Ideal S128x512 .f32) (f : Fin 128) (l : Fin 512) :
    outOf (F := Ideal) wp ws op os (ix2 f l) = wp (ix2 0 l) * op (ix2 f l) + ws (ix2 0 l) * os (ix2 f l) := by
  pointwise [outOf]

theorem lseP_at (a : FVec Ideal S1x512 .f32) (l : Fin 512) : lseP (F := Ideal) a (ix2 0 l) = a (ix2 0 l) - Ideal.ofBits .f32 0x41243805#32 := by
  pointwise [lseP]

theorem lseC_at (tb : ℕ) (htb : tb < 2) (a : FVec Ideal S1x512 .f32) (l : Fin 512) : lseC (F := Ideal) (BitVec.ofNat 32 tb) a (ix2 0 l) = a (ix2 0 l) - Ideal.log (((tb * 512 + l.val + 1 : ℕ) : ℝ) : EReal) := by
  pointwise [lseC]
  have h1 : ∀ n : ℕ, n < 2 → Scalar.muli (BitVec.ofNat 32 n) 512#32 = BitVec.ofNat 32 (n * 512) := fun n hn => by interval_cases n <;> rfl
  rw [h1 tb htb]
  have h2 : ∀ a b : ℕ, IntOp.addi (BitVec.ofNat 32 a) (BitVec.ofNat 32 b) = BitVec.ofNat 32 (a + b) := fun a b => by
    show BitVec.ofNat 32 a + BitVec.ofNat 32 b = _
    rw [← BitVec.ofNat_add]
  rw [h2, h2]
  have hl := l.isLt
  show _ - Ideal.log ((((BitVec.ofNat 32 (tb * 512 + l.val + 1)).toInt : ℝ)) : EReal) = _
  rw [WordCmp.toInt_ofNat_of_lt (by omega)]
  norm_cast

theorem nBad_at (lp ls : FVec Ideal S1x512 .f32) (out : FVec Ideal S128x512 .f32) (h : ¬ 0 < (nBad (F := Ideal) lp ls out : EReal)) (l : Fin 512) :
    lp (ix2 0 l) < Ideal.ofBits .f32 0x71800000#32 ∧ ls (ix2 0 l) < Ideal.ofBits .f32 0x71800000#32 ∧ Ideal.ofBits .f32 0x0D800000#32 < ls (ix2 0 l) := by
  pointwise [nBad] at h
  have hb : ∀ {p q r t : Prop} [Decidable p] [Decidable q] [Decidable r] [Decidable t],
      IntOp.andi (IntOp.andi (IntOp.andi (BitVec.ofBool (decide p)) (BitVec.ofBool (decide q))) (BitVec.ofBool (decide r))) (BitVec.ofBool (decide t)) = 1#1 → p ∧ q ∧ r := by
    intro p q r t _ _ _ _ h
    by_cases hp : p <;> by_cases hq : q <;> by_cases hr : r <;> by_cases ht : t <;> simp_all [IntOp.andi]
  have hs : ∀ w : BitVec 1, (0 : EReal) ≤ Scalar.select w (0 : EReal) 1 := fun w => by
    unfold Scalar.select; split <;> simp
  by_contra hc
  refine h (lt_of_lt_of_le (zero_lt_one (α := EReal)) (le_trans ?_ (Finset.single_le_sum (fun x _ => Finset.sum_nonneg fun y _ => hs _) (Finset.mem_univ (0 : Fin 1)))))
  refine le_trans ?_ (Finset.single_le_sum (fun y _ => hs _) (Finset.mem_univ l))
  unfold Scalar.select
  split
  · exact absurd (hb (by assumption)) hc
  · exact le_rfl

end Cert.Attn

end
-- ==== Proof.MathE.lean ====
/-
  The arithmetic of the claim over the extended reals: weights at a shift, what a shift does to sums and products, the
  logarithm of a sum of exponentials, and how two of them combine.
-/
module

public import Idealize.ShloMosaic.Lib.Pointwise

@[expose] public section

noncomputable section

namespace Cert.Attn.Math

open Idealize.ShloMosaic

variable {ι : Type} [Fintype ι]

/-- The weight of a score `x` at the shift `m`. -/
def wt (cl : ℝ) (m x : EReal) : EReal := Ideal.exp (x * (cl : EReal) - m * (cl : EReal))
/-- The weights' sum. -/
def sm (cl : ℝ) (m : EReal) (a : ι → EReal) : EReal := ∑ i, wt cl m (a i)
/-- The weighted values. -/
def pr (cl : ℝ) (m : EReal) (a v : ι → EReal) : EReal := ∑ i, v i * wt cl m (a i)
/-- The logarithm of the sum of exponentials, from a shift. -/
def lse (cl : ℝ) (m s : EReal) : EReal := m * (cl : EReal) + Ideal.log s

/-- Two to the scaled difference is e to the difference: the kernel's weight. -/
theorem exp2_wt {cl c2 : ℝ} (hcl : 0 < cl) (h2 : 0 < c2) (h : c2 * Real.log 2 = cl) (x m : EReal) :
    Ideal.exp2 (x * (c2 : EReal) - m * (c2 : EReal)) = wt cl m x := by
  unfold wt
  have hb : ∀ {c : ℝ}, 0 < c → (⊥ : EReal) * (c : EReal) = ⊥ := fun hc => EReal.bot_mul_coe_of_pos hc
  have ht : ∀ {c : ℝ}, 0 < c → (⊤ : EReal) * (c : EReal) = ⊤ := fun hc => EReal.top_mul_coe_of_pos hc
  induction x with
  | bot => simp [hb hcl, hb h2]
  | top => induction m with
    | bot => simp [ht hcl, ht h2, hb hcl, hb h2]
    | top => simp [ht hcl, ht h2]
    | coe y => rw [ht hcl, ht h2, ← EReal.coe_mul, ← EReal.coe_mul, EReal.top_sub_coe, EReal.top_sub_coe]; rfl
  | coe r => induction m with
    | bot => rw [hb hcl, hb h2, ← EReal.coe_mul, ← EReal.coe_mul, EReal.coe_sub_bot, EReal.coe_sub_bot]; rfl
    | top => simp [ht hcl, ht h2]
    | coe y =>
      rw [← EReal.coe_mul, ← EReal.coe_mul, ← EReal.coe_mul, ← EReal.coe_mul, ← EReal.coe_sub, ← EReal.coe_sub, Ideal.exp2_coe, Ideal.exp_coe]
      congr 1
      show (2 : ℝ) ^ (r * c2 - y * c2) = _
      rw [Real.rpow_def_of_pos (by norm_num), ← h]; congr 1; ring

/-- The scale goes through a maximum. -/
theorem sup_scale {cl : ℝ} (hcl : 0 < cl) (a : ι → EReal) : Finset.univ.sup (fun i => a i * (cl : EReal)) = Finset.univ.sup a * (cl : EReal) := by
  have := Finset.comp_sup_eq_sup_comp_of_is_total (s := (Finset.univ : Finset ι)) (f := a) (fun x : EReal => x * (cl : EReal))
    (fun x y hxy => mul_le_mul_of_nonneg_right hxy (by exact_mod_cast hcl.le)) (by exact EReal.bot_mul_coe_of_pos hcl)
  simpa [Function.comp_def] using this.symm

theorem wt_nonneg (cl : ℝ) (m x : EReal) : 0 ≤ wt cl m x := by
  unfold wt
  generalize x * (cl : EReal) - m * (cl : EReal) = y
  induction y with
  | bot => simp
  | top => simp
  | coe r => rw [Ideal.exp_coe]; exact_mod_cast (Real.exp_pos r).le

theorem wt_bot {cl : ℝ} (hcl : 0 < cl) (m : EReal) : wt cl m ⊥ = 0 ∨ m = ⊥ ∧ wt cl m ⊥ = 0 := by
  left; unfold wt; rw [EReal.bot_mul_coe_of_pos hcl]; simp

theorem wt_bot' {cl : ℝ} (hcl : 0 < cl) (m : EReal) : wt cl m ⊥ = 0 := by
  unfold wt; rw [EReal.bot_mul_coe_of_pos hcl]; simp

theorem wt_top {cl : ℝ} (hcl : 0 < cl) (x : EReal) : wt cl ⊤ x = 0 := by
  unfold wt; rw [EReal.top_mul_coe_of_pos hcl]; simp

theorem wt_coe {cl : ℝ} (m x : ℝ) : wt cl m x = (Real.exp (x * cl - m * cl) : ℝ) := by
  unfold wt; rw [← EReal.coe_mul, ← EReal.coe_mul, ← EReal.coe_sub, Ideal.exp_coe]

theorem wt_coe_top {cl : ℝ} (hcl : 0 < cl) (m : ℝ) : wt cl m ⊤ = ⊤ := by
  unfold wt; rw [EReal.top_mul_coe_of_pos hcl, ← EReal.coe_mul, EReal.top_sub_coe]; rfl

theorem wt_at_bot {cl : ℝ} (hcl : 0 < cl) {x : EReal} (hx : x ≠ ⊥) : wt cl ⊥ x = ⊤ := by
  unfold wt; rw [EReal.bot_mul_coe_of_pos hcl]
  induction x with
  | bot => exact absurd rfl hx
  | top => rw [EReal.top_mul_coe_of_pos hcl]; simp
  | coe r => rw [← EReal.coe_mul, EReal.coe_sub_bot]; rfl

theorem sum_real (f : ι → EReal) (h : ∀ i, ∃ r : ℝ, 0 ≤ r ∧ f i = r) : ∃ r : ℝ, 0 ≤ r ∧ ∑ i, f i = r ∧ (r = 0 → ∀ i, f i = 0) := by
  choose g hg hf using h
  refine ⟨∑ i, g i, Finset.sum_nonneg fun i _ => hg i, ?_, fun h0 i => ?_⟩
  · rw [Finset.sum_congr rfl (fun i _ => hf i)]
    exact (map_sum (⟨⟨fun r : ℝ => (r : EReal), rfl⟩, EReal.coe_add⟩ : ℝ →+ EReal) g Finset.univ).symm
  · rw [hf i, (Finset.sum_eq_zero_iff_of_nonneg (fun i _ => hg i)).mp h0 i (Finset.mem_univ i)]; rfl

/-- At the true maximum the weights' sum is a real number; if it is 0 every weight is; if not the maximum is real. -/
theorem sm_max {cl : ℝ} (hcl : 0 < cl) (a : ι → EReal) : ∃ r : ℝ, 0 ≤ r ∧ sm cl (Finset.univ.sup a) a = r
    ∧ (r = 0 → ∀ i, wt cl (Finset.univ.sup a) (a i) = 0) ∧ (r ≠ 0 → ∃ M : ℝ, Finset.univ.sup a = M) := by
  have hle : ∀ i, a i ≤ Finset.univ.sup a := fun i => Finset.le_sup (Finset.mem_univ i)
  generalize Finset.univ.sup a = M at *
  have h0 : (∀ i, wt cl M (a i) = 0) → ∃ r : ℝ, 0 ≤ r ∧ sm cl M a = r ∧ (r = 0 → ∀ i, wt cl M (a i) = 0) ∧ (r ≠ 0 → ∃ N : ℝ, M = N) :=
    fun h => ⟨0, le_rfl, by unfold sm; rw [Finset.sum_eq_zero fun i _ => h i]; rfl, fun _ => h, fun h' => absurd rfl h'⟩
  induction M with
  | bot => exact h0 fun i => by rw [le_bot_iff.mp (hle i)]; exact wt_bot' hcl _
  | top => exact h0 fun i => wt_top hcl _
  | coe M =>
    obtain ⟨r, hr, hs, hz⟩ := sum_real (fun i => wt cl M (a i)) fun i => by
      have := hle i
      generalize a i = x at *
      induction x with
      | bot => exact ⟨0, le_rfl, wt_bot' hcl _⟩
      | top => exact absurd (top_le_iff.mp this) (EReal.coe_ne_top M)
      | coe x => exact ⟨_, (Real.exp_pos _).le, wt_coe M x⟩
    exact ⟨r, hr, hs, hz, fun _ => ⟨M, rfl⟩⟩

/-- At the true maximum the logarithm is minus infinity or real. -/
theorem lse_max {cl : ℝ} (hcl : 0 < cl) (a : ι → EReal) : lse cl (Finset.univ.sup a) (sm cl (Finset.univ.sup a) a) ≠ ⊤ := by
  obtain ⟨r, hr, hs, -, hM⟩ := sm_max hcl a
  rw [hs]; unfold lse; rw [Ideal.log_coe]
  by_cases h : r = 0
  · rw [if_pos h.le]; simp
  · obtain ⟨M, hM⟩ := hM h
    rw [hM, if_neg (not_le.mpr (lt_of_le_of_ne hr (Ne.symm h))), ← EReal.coe_mul, ← EReal.coe_add]; exact EReal.coe_ne_top _

theorem div_pos' {r : ℝ} (hr : r ≠ 0) (x : EReal) : Ideal.div x (r : EReal) = x * ((r⁻¹ : ℝ) : EReal) := by
  unfold Ideal.div
  rw [if_neg (by exact_mod_cast hr), EReal.coe_inv]

/-- At the true maximum: a share over its sum times the products is the share times the quotient. -/
theorem share_max {cl : ℝ} (hcl : 0 < cl) (a v : ι → EReal) (B : EReal) :
    Ideal.div (Ideal.exp (lse cl (Finset.univ.sup a) (sm cl (Finset.univ.sup a) a) - B)) (sm cl (Finset.univ.sup a) a) * pr cl (Finset.univ.sup a) a v
      = Ideal.exp (lse cl (Finset.univ.sup a) (sm cl (Finset.univ.sup a) a) - B) * Ideal.div (pr cl (Finset.univ.sup a) a v) (sm cl (Finset.univ.sup a) a) := by
  obtain ⟨r, hr, hs, h0, -⟩ := sm_max hcl a
  rw [hs]
  by_cases h : r = 0
  · have hp : pr cl (Finset.univ.sup a) a v = 0 := Finset.sum_eq_zero fun i _ => by rw [h0 h i, mul_zero]
    have hl : lse cl (Finset.univ.sup a) (r : EReal) = ⊥ := by unfold lse; rw [Ideal.log_coe, if_pos h.le]; simp
    rw [hp, hl]; simp
  · rw [div_pos' h, div_pos' h, mul_assoc, mul_comm ((r⁻¹ : ℝ) : EReal)]

/-- Two logarithms combined, the kernel's way and the reference's. -/
theorem both {x y : EReal} (hx : x ≠ ⊤) (hy : y ≠ ⊤) :
    max x y + Ideal.log (Ideal.exp (x - max x y) + Ideal.exp (y - max x y)) = max x y + Ideal.log1p (Ideal.exp (-(max (x - y) (-(x - y))))) := by
  unfold Ideal.log1p
  have he : Ideal.exp (0 : EReal) = 1 := by
    have := Ideal.exp_coe (r := 0); rw [Real.exp_zero] at this; exact_mod_cast this
  have hlog : Ideal.log (1 : EReal) = 0 := by
    have := Ideal.log_coe (r := 1); rw [if_neg (by norm_num), Real.log_one] at this; exact_mod_cast this
  induction x with
  | top => exact absurd rfl hx
  | bot => induction y with
    | top => exact absurd rfl hy
    | bot => simp
    | coe y => simp [he, hlog]
  | coe x => induction y with
    | top => exact absurd rfl hy
    | bot => simp [he, hlog]
    | coe y =>
      have hm : ∀ u v : ℝ, max (u : EReal) (v : EReal) = ((max u v : ℝ) : EReal) := fun u v => (EReal.coe_strictMono.monotone.map_max).symm
      have key : ∀ p : ℝ, 0 < p → Ideal.log ((p : ℝ) : EReal) = (Real.log p : ℝ) := fun p hp => by rw [Ideal.log_coe, if_neg (not_le.mpr hp)]
      rw [hm, ← EReal.coe_sub, ← EReal.coe_sub, ← EReal.coe_sub, ← EReal.coe_neg, hm, ← EReal.coe_neg, Ideal.exp_coe, Ideal.exp_coe, Ideal.exp_coe, ← EReal.coe_add]
      have h1 : (1 : EReal) + ((Real.exp (-max (x - y) (-(x - y))) : ℝ) : EReal) = ((1 + Real.exp (-max (x - y) (-(x - y))) : ℝ) : EReal) := by rw [EReal.coe_add]; rfl
      rw [h1]
      congr 3
      rcases le_total x y with h | h
      · rw [max_eq_right h, max_eq_right (by linarith), sub_self, Real.exp_zero, add_comm]; congr 2; ring
      · rw [max_eq_left h, max_eq_left (by linarith), sub_self, Real.exp_zero]; congr 2; ring

/-! ### Another shift -/

/-- A positive real factor comes out of a sum. -/
theorem sum_mul_pos (C : ℝ) (hC : 0 ≤ C) (s : Finset ι) (f : ι → EReal) : ∑ i ∈ s, f i * (C : EReal) = (∑ i ∈ s, f i) * (C : EReal) := by
  classical
  induction s using Finset.induction_on with
  | empty => simp
  | insert i s hi ih =>
    rw [Finset.sum_insert hi, Finset.sum_insert hi, ih, EReal.right_distrib_of_nonneg_of_ne_top (by exact_mod_cast hC) (EReal.coe_ne_top C)]

theorem wt_shift {cl : ℝ} (hcl : 0 < cl) (m M : ℝ) (x : EReal) : wt cl m x = wt cl M x * ((Real.exp ((M - m) * cl) : ℝ) : EReal) := by
  induction x with
  | bot => rw [wt_bot' hcl, wt_bot' hcl, zero_mul]
  | top => rw [wt_coe_top hcl, wt_coe_top hcl, EReal.top_mul_coe_of_pos (Real.exp_pos _)]
  | coe x => rw [wt_coe, wt_coe, ← EReal.coe_mul, ← Real.exp_add]; congr 2; ring

theorem sm_shift {cl : ℝ} (hcl : 0 < cl) (m M : ℝ) (a : ι → EReal) : sm cl m a = sm cl M a * ((Real.exp ((M - m) * cl) : ℝ) : EReal) := by
  unfold sm
  rw [← sum_mul_pos _ (Real.exp_pos _).le]
  exact Finset.sum_congr rfl fun i _ => wt_shift hcl m M _

theorem pr_shift {cl : ℝ} (hcl : 0 < cl) (m M : ℝ) (a v : ι → EReal) : pr cl m a v = pr cl M a v * ((Real.exp ((M - m) * cl) : ℝ) : EReal) := by
  unfold pr
  rw [← sum_mul_pos _ (Real.exp_pos _).le]
  exact Finset.sum_congr rfl fun i _ => by rw [wt_shift hcl m M, mul_assoc]

/-- A real shift under which the sum is not 0 and not infinite gives the logarithm and the share the true maximum gives. -/
theorem shift_same {cl : ℝ} (hcl : 0 < cl) (m : ℝ) (a : ι → EReal) (hM : ∃ M : ℝ, Finset.univ.sup a = M) (hpos : 0 < sm cl m a) :
    lse cl m (sm cl m a) = lse cl (Finset.univ.sup a) (sm cl (Finset.univ.sup a) a) ∧ ∀ (x : EReal) (v : ι → EReal),
      Ideal.div x (sm cl m a) * pr cl m a v = Ideal.div x (sm cl (Finset.univ.sup a) a) * pr cl (Finset.univ.sup a) a v := by
  obtain ⟨r, hr, hs, -, -⟩ := sm_max hcl a
  obtain ⟨M, hM⟩ := hM
  rw [hM] at hs ⊢
  have hr0 : r ≠ 0 := by
    rintro rfl
    rw [sm_shift hcl m M, hs] at hpos; simp at hpos
  have hrp : 0 < r := lt_of_le_of_ne hr (Ne.symm hr0)
  have hC := Real.exp_pos ((M - m) * cl)
  have hrC : r * Real.exp ((M - m) * cl) ≠ 0 := (mul_pos hrp hC).ne'
  refine ⟨?_, fun x v => ?_⟩
  · rw [sm_shift hcl m M, hs, ← EReal.coe_mul]
    unfold lse
    rw [Ideal.log_coe, if_neg (not_le.mpr (mul_pos hrp hC)), Ideal.log_coe, if_neg (not_le.mpr hrp), ← EReal.coe_mul, ← EReal.coe_mul, ← EReal.coe_add, ← EReal.coe_add,
      Real.log_mul hr0 hC.ne', Real.log_exp]
    congr 1; ring
  · rw [sm_shift hcl m M, pr_shift hcl m M, hs, ← EReal.coe_mul, div_pos' hrC, div_pos' hr0, mul_assoc, mul_assoc, mul_comm (pr cl M a v), ← mul_assoc ((_ : ℝ) : EReal), ← EReal.coe_mul]
    congr 3
    field_simp

/-- What the checks of the first attempt say about its shift and the true maxima. -/
theorem checks {κ : Type} [Fintype κ] {cl : ℝ} (hcl : 0 < cl) (m : EReal) (a : ι → EReal) (b : κ → EReal) (T t : EReal) (hT : T ≤ ⊤) (ht : 0 ≤ t)
    (hm : m ≤ Finset.univ.sup a) (ha : sm cl m a < T) (hb : sm cl m b < T) (hb' : t < sm cl m b) :
    ∃ mr : ℝ, m = mr ∧ (∃ M : ℝ, Finset.univ.sup a = M) ∧ (∃ M : ℝ, Finset.univ.sup b = M) ∧ 0 < sm cl m a ∧ 0 < sm cl m b := by
  have ha' := lt_of_lt_of_le ha hT
  have hbT := lt_of_lt_of_le hb hT
  have hb0 := lt_of_le_of_lt ht hb'
  have hterm : ∀ {γ : Type} [Fintype γ] (m : EReal) (f : γ → EReal) (i : γ), wt cl m (f i) ≤ sm cl m f := fun m f i =>
    Finset.single_le_sum (f := fun i => wt cl m (f i)) (fun j _ => wt_nonneg cl m _) (Finset.mem_univ i)
  have hne : ∃ j, b j ≠ ⊥ := by
    by_contra h; push Not at h
    exact hb0.ne' (Finset.sum_eq_zero fun j _ => by rw [h j]; exact wt_bot' hcl m)
  obtain ⟨j, hj⟩ := hne
  induction m with
  | top => exact absurd (Finset.sum_eq_zero fun j _ => wt_top hcl (b j)) hb0.ne'
  | bot => exact absurd (top_le_iff.mp ((wt_at_bot hcl hj).symm.le.trans (hterm ⊥ b j))) hbT.ne
  | coe m =>
    have hsup : ∀ {γ : Type} [Fintype γ] (f : γ → EReal), sm cl m f < ⊤ → (∃ i, f i ≠ ⊥) → ∃ M : ℝ, Finset.univ.sup f = M := fun f hf ⟨i, hi⟩ => by
      have h1 : Finset.univ.sup f < ⊤ := (Finset.sup_lt_iff bot_lt_top).mpr fun k _ => lt_top_iff_ne_top.mpr fun hk => by
        have := hterm (m : EReal) f k; rw [hk, wt_coe_top hcl] at this; exact hf.ne (top_le_iff.mp this)
      have h2 : Finset.univ.sup f ≠ ⊥ := fun h => hi (le_bot_iff.mp (h ▸ Finset.le_sup (Finset.mem_univ i)))
      exact ⟨_, (EReal.coe_toReal h1.ne h2).symm⟩
    have hi : ∃ i, a i ≠ ⊥ := by
      by_contra h; push Not at h
      have : Finset.univ.sup a = ⊥ := (Finset.sup_eq_bot_iff _ _).mpr fun i _ => h i
      rw [this] at hm; exact EReal.coe_ne_bot m (le_bot_iff.mp hm)
    refine ⟨m, rfl, hsup a ha' hi, hsup b hbT ⟨j, hj⟩, ?_, hb0⟩
    obtain ⟨i, hi⟩ := hi
    refine lt_of_lt_of_le ?_ (hterm (m : EReal) a i)
    generalize a i = x at hi
    induction x with
    | bot => exact absurd rfl hi
    | top => rw [wt_coe_top hcl]; exact EReal.zero_lt_top
    | coe x => rw [wt_coe]; exact_mod_cast Real.exp_pos _

end Cert.Attn.Math

end
-- ==== Proof.HeadValue.lean ====
/-
  One head of the kernel over the extended reals, read at one query: the chunked maxima, sums and products are the maxima,
  sums and products over all the keys.
-/
module

public import proofs.«01_k».proof.Proof.Result
public import proofs.«01_k».proof.Proof.Read
public import proofs.«01_k».proof.Proof.MathE

@[expose] public section

set_option maxRecDepth 16384

noncomputable section

namespace Cert.Attn

open Idealize.ShloMosaic Idealize.SL.Sem
open Cert.KernelIdeal Cert.KernelIdeal.Gen

/-! ### Sums in tiles -/

/-- A function on `N` places as one on the naturals, 0 past the end. -/
def ext {N : ℕ} (f : Fin N → EReal) (n : ℕ) : EReal := if h : n < N then f ⟨n, h⟩ else 0

theorem ext_lt {N : ℕ} (f : Fin N → EReal) {n : ℕ} (h : n < N) : ext f n = f ⟨n, h⟩ := dif_pos h

theorem sum_ext {N : ℕ} (f : Fin N → EReal) : ∑ n ∈ Finset.range N, ext f n = ∑ i, f i := by
  rw [Finset.sum_range]; exact Finset.sum_congr rfl fun i _ => ext_lt f i.isLt

/-- A sum over `J` tiles of `T`. -/
theorem sum_tiles (J T : ℕ) (g : ℕ → EReal) : ∑ j ∈ Finset.range J, ∑ t ∈ Finset.range T, g (j * T + t) = ∑ n ∈ Finset.range (J * T), g n := by
  induction J with
  | zero => simp
  | succ J ih => rw [Finset.sum_range_succ, ih, Nat.succ_mul, Finset.sum_range_add]

/-- Eight running sums over `J` chunks of `T` groups of eight rows, added up. -/
theorem sum_eight (J T : ℕ) (g : ℕ → EReal) :
    ∑ s : Fin 8, ∑ j ∈ Finset.range J, ∑ t : Fin T, g (j * (T * 8) + (t.val * 8 + s.val)) = ∑ n ∈ Finset.range (J * (T * 8)), g n := by
  rw [← sum_tiles, Finset.sum_comm]
  refine Finset.sum_congr rfl fun j _ => ?_
  rw [← sum_tiles T 8 (fun n => g (j * (T * 8) + n)), Finset.sum_comm, Finset.sum_range]
  refine Finset.sum_congr rfl fun t _ => ?_
  rw [Finset.sum_range]

/-! ### The blocks' chunks -/

theorem kAt_at (K : FVec Ideal S1x28672x128 .bf16) (j : ℕ) (hj : j < 28) (r : Fin 1024) (d : Fin 128) :
    kAt K j (ix3 0 r d) = K (ix3 0 ⟨j * 1024 + r.val, by omega⟩ d) := by
  unfold kAt; congr 1; funext a; apply Fin.ext; rw [Rect.emb_apply]
  have : min j 27 = j := by omega
  fin_cases a <;> simp [this]

theorem vAt_at (V : FVec Ideal S1x128x28672 .bf16) (j : ℕ) (hj : j < 28) (f : Fin 128) (r : Fin 1024) :
    vAt V j (ix3 0 f r) = V (ix3 0 f ⟨j * 1024 + r.val, by omega⟩) := by
  unfold vAt; congr 1; funext a; apply Fin.ext; rw [Rect.emb_apply]
  have : min j 27 = j := by omega
  fin_cases a <;> simp [this]

theorem kcAt_at (K : FVec Ideal S1x1024x128 .bf16) (j : ℕ) (hj : j < 2) (r : Fin 512) (d : Fin 128) :
    kcAt K j (ix3 0 r d) = K (ix3 0 ⟨j * 512 + r.val, by omega⟩ d) := by
  unfold kcAt; congr 1; funext a; apply Fin.ext; rw [Rect.emb_apply]
  have : min j 1 = j := by omega
  fin_cases a <;> simp [this]

theorem vcAt_at (V : FVec Ideal S1x128x1024 .bf16) (j : ℕ) (hj : j < 2) (f : Fin 128) (r : Fin 512) :
    vcAt V j (ix3 0 f r) = V (ix3 0 f ⟨j * 512 + r.val, by omega⟩) := by
  unfold vcAt; congr 1; funext a; apply Fin.ext; rw [Rect.emb_apply]
  have : min j 1 = j := by omega
  fin_cases a <;> simp [this]

variable (H : HeadIn Ideal) (l : Fin 512) (f : Fin 128)

/-- A query's scores against the prompt's keys and against the completion's (minus infinity past the query). -/
def scP (p : Fin 28672) : EReal := ∑ d : Fin 128, (H.K : FVec Ideal S1x28672x128 .bf16) (ix3 0 p d) * (H.q : FVec Ideal S1x128x512 .bf16) (ix3 0 d l)
def scC (j : Fin 1024) : EReal := if H.tb * 512 + l.val < j.val then ⊥ else
  ∑ d : Fin 128, (H.Kc : FVec Ideal S1x1024x128 .bf16) (ix3 0 j d) * (H.q : FVec Ideal S1x128x512 .bf16) (ix3 0 d l)
/-- One feature of the values. -/
def vaP (p : Fin 28672) : EReal := (H.V : FVec Ideal S1x128x28672 .bf16) (ix3 0 f p)
def vaC (j : Fin 1024) : EReal := (H.Vc : FVec Ideal S1x128x1024 .bf16) (ix3 0 f j)

theorem raw_at (j : ℕ) (hj : j < 28) (r : Fin 1024) : rawP (F := Ideal) (kAt H.K j) H.q (ix2 r l) = scP H l ⟨j * 1024 + r.val, by omega⟩ := by
  rw [rawP_at]
  exact Finset.sum_congr rfl fun d _ => congrArg (· * _) (kAt_at H.K j hj r d)

theorem rawCAt_at (htb : H.tb < 2) (j : ℕ) (hj : j < 2) (r : Fin 512) : rawCAt H j (ix2 r l) = scC H l ⟨j * 512 + r.val, by omega⟩ := by
  unfold rawCAt
  rw [rawC_at H.tb j htb hj]
  unfold scC
  split
  · rfl
  · exact Finset.sum_congr rfl fun d _ => congrArg (· * _) (kcAt_at H.Kc j hj r d)

/-! ### Maxima -/

theorem colMax_le (j : ℕ) (hj : j < 28) (x : EReal) : (colMaxP (F := Ideal) (rawP (kAt H.K j) H.q) (ix2 0 l) : EReal) ≤ x
    ↔ ∀ p : Fin 28672, j * 1024 ≤ p.val → p.val < (j + 1) * 1024 → scP H l p ≤ x := by
  rw [colMaxP_at, Finset.sup_le_iff]
  constructor
  · intro h p h1 h2
    have := h ⟨p.val - j * 1024, by omega⟩ (Finset.mem_univ _)
    rw [raw_at H l j hj] at this
    convert this using 3; dsimp; omega
  · intro h r _
    rw [raw_at H l j hj]
    exact h _ (by dsimp; omega) (by dsimp; omega)

theorem maxP_le (j : ℕ) (hj : j < 28) (x : EReal) : (maxP H j (ix2 0 l) : EReal) ≤ x ↔ ∀ p : Fin 28672, p.val < (j + 1) * 1024 → scP H l p ≤ x := by
  induction j with
  | zero =>
    refine (colMax_le H l 0 hj x).trans ⟨fun h p hp => h p (by omega) hp, fun h p _ hp => h p hp⟩
  | succ j ih =>
    have : (maxP H (j + 1) (ix2 0 l) : EReal) = max (maxP H j (ix2 0 l) : EReal) (colMaxP (F := Ideal) (rawP (kAt H.K (j + 1)) H.q) (ix2 0 l)) := rfl
    rw [this, max_le_iff, ih (by omega), colMax_le H l (j + 1) hj]
    constructor
    · rintro ⟨h1, h2⟩ p hp
      rcases Nat.lt_or_ge p.val ((j + 1) * 1024) with h' | h'
      · exact h1 p h'
      · exact h2 p h' hp
    · intro h
      refine ⟨fun p hp => ?_, fun p _ hp => ?_⟩
      · exact h p (lt_of_lt_of_le hp (Nat.mul_le_mul_right _ (Nat.le_succ _)))
      · exact h p hp

theorem maxP_all : (maxP H 27 (ix2 0 l) : EReal) = Finset.univ.sup (scP H l) :=
  eq_of_forall_ge_iff fun x => by
    rw [maxP_le H l 27 (by decide), Finset.sup_le_iff]
    exact ⟨fun h p _ => h p p.isLt, fun h p _ => h p (Finset.mem_univ p)⟩

theorem maxP_first : (maxP H 0 (ix2 0 l) : EReal) ≤ Finset.univ.sup (scP H l) :=
  (maxP_le H l 0 (by decide) _).mpr fun p _ => Finset.le_sup (Finset.mem_univ p)

theorem maxC_le (htb : H.tb < 2) (n : ℕ) (hn : n ≤ 2) (x : EReal) : (maxC H n (ix2 0 l) : EReal) ≤ x ↔ ∀ j : Fin 1024, j.val < n * 512 → scC H l j ≤ x := by
  induction n with
  | zero =>
    have : (maxC H 0 (ix2 0 l) : EReal) = ⊥ := ofBits_neg_inf
    rw [this]; exact ⟨fun _ j hj => absurd hj (by omega), fun _ => bot_le⟩
  | succ n ih =>
    have : (maxC H (n + 1) (ix2 0 l) : EReal) = max (maxC H n (ix2 0 l) : EReal) (colMaxC (F := Ideal) (rawCAt H n) (ix2 0 l)) := rfl
    rw [this, max_le_iff, ih (by omega), colMaxC_at, Finset.sup_le_iff]
    constructor
    · rintro ⟨h1, h2⟩ j hj
      by_cases h' : j.val < n * 512
      · exact h1 j h'
      · have := h2 ⟨j.val - n * 512, by omega⟩ (Finset.mem_univ _)
        rw [rawCAt_at H l htb n (by omega)] at this
        convert this using 3; dsimp; omega
    · intro h
      refine ⟨fun j hj => h j (by omega), fun r _ => ?_⟩
      rw [rawCAt_at H l htb n (by omega)]
      exact h _ (by dsimp; omega)

theorem scC_past (j : Fin 1024) (h : (H.tb + 1) * 512 ≤ j.val) : scC H l j = ⊥ := if_pos (by omega)

theorem maxC_all (htb : H.tb < 2) : (maxC H (H.tb + 1) (ix2 0 l) : EReal) = Finset.univ.sup (scC H l) :=
  eq_of_forall_ge_iff fun x => by
    rw [maxC_le H l htb (H.tb + 1) (by omega), Finset.sup_le_iff]
    refine ⟨fun h j _ => ?_, fun h p _ => h p (Finset.mem_univ p)⟩
    by_cases hj : j.val < (H.tb + 1) * 512
    · exact h j hj
    · rw [scC_past H l j (by omega)]; exact bot_le

/-! ### Sums and products -/

variable {cl c2 : ℝ} (hcl : 0 < cl) (h2 : 0 < c2) (h : c2 * Real.log 2 = cl) (m : FVec Ideal S1x512 .f32)
include hcl h2 h

theorem wP_wt (j : ℕ) (hj : j < 28) (r : Fin 1024) :
    wP (F := Ideal) (c2 : EReal) m (rawP (kAt H.K j) H.q) (ix2 r l) = ext (fun p => Math.wt cl (m (ix2 0 l)) (scP H l p)) (j * 1024 + r.val) := by
  rw [wP_at, raw_at H l j hj, Math.exp2_wt hcl h2 h, ext_lt]

theorem wC_wt (htb : H.tb < 2) (j : ℕ) (hj : j < 2) (r : Fin 512) :
    wC (F := Ideal) (c2 : EReal) m (rawCAt H j) (ix2 r l) = ext (fun p => Math.wt cl (m (ix2 0 l)) (scC H l p)) (j * 512 + r.val) := by
  rw [wC_at, rawCAt_at H l htb j hj, Math.exp2_wt hcl h2 h, ext_lt]

theorem lP_run (s : Fin 8) (n : ℕ) (hn : n ≤ 28) : (lP H (c2 : EReal) m n (ix2 s l) : EReal)
    = ∑ j ∈ Finset.range n, ∑ t : Fin 128, ext (fun p => Math.wt cl (m (ix2 0 l)) (scP H l p)) (j * (128 * 8) + (t.val * 8 + s.val)) := by
  induction n with
  | zero => exact zeroL_at s l
  | succ n ih =>
    rw [Finset.sum_range_succ, ← ih (by omega)]
    refine (sumP_at _ _ s l).trans (congrArg _ (Finset.sum_congr rfl fun t _ => ?_))
    rw [wP_wt H l hcl h2 h m n (by omega)]

theorem lC_run (htb : H.tb < 2) (s : Fin 8) (n : ℕ) (hn : n ≤ 2) : (lC H (c2 : EReal) m n (ix2 s l) : EReal)
    = ∑ j ∈ Finset.range n, ∑ t : Fin 64, ext (fun p => Math.wt cl (m (ix2 0 l)) (scC H l p)) (j * (64 * 8) + (t.val * 8 + s.val)) := by
  induction n with
  | zero => exact zeroL_at s l
  | succ n ih =>
    rw [Finset.sum_range_succ, ← ih (by omega)]
    refine (sumC_at _ _ s l).trans (congrArg _ (Finset.sum_congr rfl fun t _ => ?_))
    rw [wC_wt H l hcl h2 h m htb n (by omega)]

theorem sumP_all : (colSum (F := Ideal) (lP H (c2 : EReal) m 28) (ix2 0 l) : EReal) = Math.sm cl (m (ix2 0 l)) (scP H l) := by
  rw [colSum_at, Finset.sum_congr rfl fun s _ => lP_run H l hcl h2 h m s 28 le_rfl, sum_eight 28 128]
  exact sum_ext (N := 28672) _

/-- A sum over the chunks up to the query's is the sum over all the keys, the weights past the query being 0. -/
theorem sum_upto (htb : H.tb < 2) (g : Fin 1024 → EReal) (hg : ∀ j : Fin 1024, (H.tb + 1) * 512 ≤ j.val → g j = 0) :
    ∑ n ∈ Finset.range ((H.tb + 1) * 512), ext g n = ∑ j, g j := by
  rw [← sum_ext g]
  refine Finset.sum_subset (Finset.range_subset_range.mpr (by omega)) fun n hn hn' => ?_
  rw [Finset.mem_range] at hn hn'
  rw [ext_lt g hn]; exact hg _ (by dsimp; omega)

theorem sumC_all (htb : H.tb < 2) : (colSum (F := Ideal) (lC H (c2 : EReal) m (H.tb + 1)) (ix2 0 l) : EReal) = Math.sm cl (m (ix2 0 l)) (scC H l) := by
  rw [colSum_at, Finset.sum_congr rfl fun s _ => lC_run H l hcl h2 h m htb s (H.tb + 1) (by omega), sum_eight (H.tb + 1) 64]
  exact sum_upto H hcl h2 h htb _ fun j hj => by rw [scC_past H l j hj, Math.wt_bot' hcl]

theorem oP_run (n : ℕ) (hn : n ≤ 28) : (oP H (c2 : EReal) m n (ix2 f l) : EReal)
    = ∑ j ∈ Finset.range n, ∑ r ∈ Finset.range 1024, ext (fun p => vaP H f p * Math.wt cl (m (ix2 0 l)) (scP H l p)) (j * 1024 + r) := by
  induction n with
  | zero => exact zeroO_at f l
  | succ n ih =>
    rw [Finset.sum_range_succ, ← ih (by omega)]
    refine (prodP_at _ _ _ f l).trans (congrArg _ ?_)
    rw [Finset.sum_range]
    refine Finset.sum_congr rfl fun r _ => ?_
    rw [wP_wt H l hcl h2 h m n (by omega), vAt_at H.V n (by omega), ext_lt _ (by omega), ext_lt _ (by omega)]; rfl

theorem oC_run (htb : H.tb < 2) (n : ℕ) (hn : n ≤ 2) : (oC H (c2 : EReal) m n (ix2 f l) : EReal)
    = ∑ j ∈ Finset.range n, ∑ r ∈ Finset.range 512, ext (fun p => vaC H f p * Math.wt cl (m (ix2 0 l)) (scC H l p)) (j * 512 + r) := by
  induction n with
  | zero => exact zeroO_at f l
  | succ n ih =>
    rw [Finset.sum_range_succ, ← ih (by omega)]
    refine (prodC_at _ _ _ f l).trans (congrArg _ ?_)
    rw [Finset.sum_range]
    refine Finset.sum_congr rfl fun r _ => ?_
    rw [wC_wt H l hcl h2 h m htb n (by omega), vcAt_at H.Vc n (by omega), ext_lt _ (by omega), ext_lt _ (by omega)]; rfl

theorem oP_all : (oP H (c2 : EReal) m 28 (ix2 f l) : EReal) = Math.pr cl (m (ix2 0 l)) (scP H l) (vaP H f) := by
  rw [oP_run H l f hcl h2 h m 28 le_rfl, sum_tiles 28 1024]
  exact sum_ext (N := 28672) _

theorem oC_all (htb : H.tb < 2) : (oC H (c2 : EReal) m (H.tb + 1) (ix2 f l) : EReal) = Math.pr cl (m (ix2 0 l)) (scC H l) (vaC H f) := by
  rw [oC_run H l f hcl h2 h m htb (H.tb + 1) (by omega), sum_tiles (H.tb + 1) 512]
  exact sum_upto H hcl h2 h htb _ fun j hj => by rw [scC_past H l j hj, Math.wt_bot' hcl, mul_zero]

end Cert.Attn

end
-- ==== Proof.HeadSame.lean ====
/-
  The kernel's results for one head over the extended reals, whichever attempt it keeps: the softmax over the prompt's keys,
  the masked softmax over the completion's keys, and the two combined.
-/
module

public import proofs.«01_k».proof.Proof.HeadValue

@[expose] public section

set_option maxRecDepth 16384

noncomputable section

namespace Cert.Attn

open Idealize.ShloMosaic Idealize.SL.Sem
open Cert.KernelIdeal Cert.KernelIdeal.Gen

namespace Math

variable {ι κ : Type} [Fintype ι] [Fintype κ]

/-- The logarithm of the sum of exponentials of scaled scores. -/
def LSE (cl : ℝ) (a : ι → EReal) : EReal := lse cl (Finset.univ.sup a) (sm cl (Finset.univ.sup a) a)
/-- The softmax's weighted values. -/
def OUT (cl : ℝ) (a v : ι → EReal) : EReal := Ideal.div (pr cl (Finset.univ.sup a) a v) (sm cl (Finset.univ.sup a) a)
/-- The logarithm of a sum of two exponentials. -/
def LAE (x y : EReal) : EReal := max x y + Ideal.log1p (Ideal.exp (-(max (x - y) (-(x - y)))))
/-- Two softmax parts combined. -/
def BOTH (cl : ℝ) (a v : ι → EReal) (b u : κ → EReal) : EReal :=
  Ideal.exp (LSE cl a - LAE (LSE cl a) (LSE cl b)) * OUT cl a v + Ideal.exp (LSE cl b - LAE (LSE cl a) (LSE cl b)) * OUT cl b u

end Math

variable (H : HeadIn Ideal) (l : Fin 512) (f : Fin 128) {cl c2 : ℝ} (hcl : 0 < cl) (h2 : 0 < c2) (h : c2 * Real.log 2 = cl) (htb : H.tb < 2)
include hcl h2 h htb

theorem sP_at (n : Fin 2) : (sP H (c2 : EReal) n (ix2 0 l) : EReal) = Math.sm cl (mP H n (ix2 0 l)) (scP H l) := sumP_all H l hcl h2 h _
theorem sC_at (n : Fin 2) : (sC H (c2 : EReal) n (ix2 0 l) : EReal) = Math.sm cl (mC H n (ix2 0 l)) (scC H l) := sumC_all H l hcl h2 h _ htb

theorem eP_at (n : Fin 2) : (eP H (c2 : EReal) (cl : EReal) n (ix2 0 l) : EReal) = Math.lse cl (mP H n (ix2 0 l)) (Math.sm cl (mP H n (ix2 0 l)) (scP H l)) := by
  unfold eP; rw [lseOf_at, sP_at H l hcl h2 h htb]; rfl
theorem eC_at (n : Fin 2) : (eC H (c2 : EReal) (cl : EReal) n (ix2 0 l) : EReal) = Math.lse cl (mC H n (ix2 0 l)) (Math.sm cl (mC H n (ix2 0 l)) (scC H l)) := by
  unfold eC; rw [lseOf_at, sC_at H l hcl h2 h htb]; rfl

/-- The kept attempt's shifts give what the true maxima give. -/
theorem kept_same (n : Fin 2) (hn : n = kept H (c2 : EReal) (cl : EReal)) :
    (Math.lse cl (mP H n (ix2 0 l)) (Math.sm cl (mP H n (ix2 0 l)) (scP H l)) = Math.LSE cl (scP H l)
      ∧ ∀ (x : EReal) (v : Fin 28672 → EReal), Ideal.div x (Math.sm cl (mP H n (ix2 0 l)) (scP H l)) * Math.pr cl (mP H n (ix2 0 l)) (scP H l) v
        = Ideal.div x (Math.sm cl (Finset.univ.sup (scP H l)) (scP H l)) * Math.pr cl (Finset.univ.sup (scP H l)) (scP H l) v)
    ∧ (Math.lse cl (mC H n (ix2 0 l)) (Math.sm cl (mC H n (ix2 0 l)) (scC H l)) = Math.LSE cl (scC H l)
      ∧ ∀ (x : EReal) (v : Fin 1024 → EReal), Ideal.div x (Math.sm cl (mC H n (ix2 0 l)) (scC H l)) * Math.pr cl (mC H n (ix2 0 l)) (scC H l) v
        = Ideal.div x (Math.sm cl (Finset.univ.sup (scC H l)) (scC H l)) * Math.pr cl (Finset.univ.sup (scC H l)) (scC H l) v) := by
  classical
  by_cases hf : fails H (c2 : EReal) (cl : EReal)
  · have h1 : n = 1 := by rw [hn]; unfold kept; exact if_pos hf
    subst h1
    have e1 : (mP H 1 (ix2 0 l) : EReal) = Finset.univ.sup (scP H l) := maxP_all H l
    have e2 : (mC H 1 (ix2 0 l) : EReal) = Finset.univ.sup (scC H l) := maxC_all H l htb
    rw [e1, e2]
    exact ⟨⟨rfl, fun _ _ => rfl⟩, rfl, fun _ _ => rfl⟩
  · have h0 : n = 0 := by rw [hn]; unfold kept; exact if_neg hf
    subst h0
    have hb : ¬ 0 < (badN H (c2 : EReal) (cl : EReal) 0 : EReal) := fun hb => hf (by
      unfold fails
      show Ideal.cmp .ogt _ (Ideal.ofBits .f32 0x00000000#32) = 1#1
      rw [Ideal.ofBits_zero_f32]
      simp [Ideal.cmp, hb])
    obtain ⟨c1, c3, c4⟩ := nBad_at _ _ _ hb l
    rw [sP_at H l hcl h2 h htb] at c1
    rw [sC_at H l hcl h2 h htb] at c3 c4
    have e2 : (mC H 0 (ix2 0 l) : EReal) = mP H 0 (ix2 0 l) := rfl
    have e1 : (mP H 0 (ix2 0 l) : EReal) ≤ Finset.univ.sup (scP H l) := maxP_first H l
    rw [e2] at c3 c4 ⊢
    obtain ⟨m, hm, hMa, hMb, pa, pb⟩ := Math.checks hcl _ (scP H l) (scC H l) _ _ le_top ofBits_small e1 c1 c3 c4
    rw [hm] at pa pb ⊢
    exact ⟨Math.shift_same hcl m _ hMa pa, Math.shift_same hcl m _ hMb pb⟩

/-- The prompt's logarithm. -/
theorem lpH_at : (lpH H (c2 : EReal) (cl : EReal) (ix2 0 l) : EReal) = Math.LSE cl (scP H l) - Ideal.ofBits .f32 0x41243805#32 := by
  unfold lpH
  rw [lseP_at, eP_at H l hcl h2 h htb, (kept_same H l hcl h2 h htb _ rfl).1.1]

/-- The completion's logarithm. -/
theorem lcH_at : (lcH H (c2 : EReal) (cl : EReal) (ix2 0 l) : EReal) = Math.LSE cl (scC H l) - Ideal.log (((H.tb * 512 + l.val + 1 : ℕ) : ℝ) : EReal) := by
  unfold lcH
  rw [lseC_at H.tb htb, eC_at H l hcl h2 h htb, (kept_same H l hcl h2 h htb _ rfl).2.1]

/-- The output. -/
theorem outH_at : (outH H (c2 : EReal) (cl : EReal) (ix2 f l) : EReal) = Math.BOTH cl (scP H l) (vaP H f) (scC H l) (vaC H f) := by
  unfold outH
  obtain ⟨⟨k1, k2⟩, k3, k4⟩ := kept_same H l hcl h2 h htb _ rfl
  generalize kept H (c2 : EReal) (cl : EReal) = n at *
  unfold outN
  rw [outOf_at, share_at, share_at, lseBoth_at, eP_at H l hcl h2 h htb, eC_at H l hcl h2 h htb, sP_at H l hcl h2 h htb, sC_at H l hcl h2 h htb, k1, k3,
    oP_all H l f hcl h2 h, oC_all H l f hcl h2 h _ htb, k2, k4, Math.both (x := Math.LSE cl (scP H l)) (y := Math.LSE cl (scC H l)) (Math.lse_max hcl (scP H l)) (Math.lse_max hcl (scC H l))]
  unfold Math.BOTH Math.OUT
  exact congrArg₂ (· + ·) (Math.share_max hcl (scP H l) (vaP H f) _) (Math.share_max hcl (scC H l) (vaC H f) _)

end Cert.Attn

end
-- ==== Proof.Query.lean ====
/-
  The dequantised queries of a block over the extended reals, read at one query and one feature: the code times its scale.
-/
module

public import proofs.«01_k».proof.Proof.BodyTriple
public import proofs.«01_k».proof.Proof.HeadSame

@[expose] public section

set_option maxRecDepth 16384

noncomputable section

namespace Cert.Attn

open Idealize.ShloMosaic Idealize.SL.Sem
open Cert.KernelIdeal Cert.KernelIdeal.Gen

/-- The scale an exponent byte stands for. -/
def scl (e : BitVec 8) : EReal := Ideal.ofBits .f32 (IntOp.shli .vector (e.setWidth 32) 23#32)

theorem scales_at (e : Vec Ideal S1x1x512x28 .i8) (l : Fin 512) (x : Fin 28) : (scales (F := Ideal) e (ix2 l x) : EReal) = scl (e (ix4 0 0 l x)) := by
  pointwise [scales]
  rfl

theorem spread_word : ∀ c : Fin 896,
    Scalar.select
            (IntOp.andi
              (IntOp.cmpi CmpIPredicate.ne
                (IntOp.subi (BitVec.setWidth 32 (IntOp.cmpi CmpIPredicate.sgt (BitVec.ofNat 32 c.val) 0#32))
                  (BitVec.setWidth 32 (IntOp.cmpi CmpIPredicate.slt (BitVec.ofNat 32 c.val) 0#32)))
                (Scalar.subi (Scalar.extui (Scalar.cmpi CmpIPredicate.sgt 32#32 0#32))
                  (Scalar.extui (Scalar.cmpi CmpIPredicate.slt 32#32 0#32))))
              (IntOp.cmpi CmpIPredicate.ne (IntOp.remsi ArithUnit.vector (BitVec.ofNat 32 c.val) 32#32) 0#32))
            (IntOp.subi (IntOp.divsi ArithUnit.vector (BitVec.ofNat 32 c.val) 32#32) 1#32)
            (IntOp.divsi ArithUnit.vector (BitVec.ofNat 32 c.val) 32#32) = BitVec.ofNat 32 (c.val / 32) := by
  decide +kernel

theorem spread_at (x : Fin 28) (c : Fin 896) : (spread (F := Ideal) (ix2 x c) : EReal) = if c.val / 32 = x.val then 1 else 0 := by
  pointwise [spread]
  rw [spread_word c]
  have hx := x.isLt; have hc := c.isLt
  by_cases h : c.val / 32 = x.val
  · rw [if_pos h, h]
    simp only [IntOp.cmpi]
    show ((((BitVec.setWidth 32 (BitVec.ofBool _)).toInt : ℝ)) : EReal) = 1
    simp
  · rw [if_neg h]
    have : ¬ BitVec.ofNat 32 (c.val / 32) = BitVec.ofNat 32 x.val := fun e => h (by
      have := congrArg BitVec.toNat e
      rw [BitVec.toNat_ofNat, BitVec.toNat_ofNat, Nat.mod_eq_of_lt (by omega), Nat.mod_eq_of_lt (by omega)] at this
      exact this)
    simp only [IntOp.cmpi]
    show ((((BitVec.setWidth 32 (BitVec.ofBool _)).toInt : ℝ)) : EReal) = 0
    simp [beq_eq_false_iff_ne.mpr this]

theorem deq_at (q : FVec Ideal S1x512x896 .fp8e4m3) (e : Vec Ideal S1x1x512x28 .i8) (l : Fin 512) (c : Fin 896) :
    (deq (F := Ideal) q e (ix2 l c) : EReal) = q (ix3 0 l c) * scl (e (ix4 0 0 l ⟨c.val / 32, by omega⟩)) := by
  pointwise [deq]
  refine congrArg _ ?_
  rw [Finset.sum_eq_single (⟨c.val / 32, by omega⟩ : Fin 28)]
  · rw [scales_at, spread_at, if_pos rfl, mul_one]
  · intro x _ hx
    rw [spread_at, if_neg (fun h => hx (Fin.ext h.symm)), mul_zero]
  · exact fun h => absurd (Finset.mem_univ _) h

theorem qRow_at (x : FVec Ideal S512x896 .bf16) (g : ℕ) (hg : g < 7) (d : Fin 128) (l : Fin 512) :
    (qRow (F := Ideal) x g hg (ix3 0 d l) : EReal) = x (ix2 l ⟨128 * g + d.val, by omega⟩) := by
  pointwise [qRow]

theorem oRow_at (o : FVec Ideal S128x512 .f32) (l : Fin 512) (f : Fin 128) : (oRow (F := Ideal) o (ix3 0 l f) : EReal) = o (ix2 f l) := by
  pointwise [oRow]

theorem asRow_at (o : FVec Ideal S1x512 .f32) (l : Fin 512) : (asRow (F := Ideal) o (ix4 0 0 0 l) : EReal) = o (ix2 0 l) := by
  pointwise [asRow]

end Cert.Attn

end
-- ==== Proof.Spec.lean ====
/-
  The attention over the extended reals, query by query, as a function of the argument arrays: what both programs compute.
-/
module

public import proofs.«01_k».proof.Proof.Query

@[expose] public section

set_option maxRecDepth 16384

noncomputable section

namespace Cert.Attn.Spec

open Idealize.ShloMosaic Idealize.SL.Sem
open Cert.KernelIdeal Cert.KernelIdeal.Gen

variable (C : FVec Ideal S24x1024x28x128 .fp8e4m3) (E : Vec Ideal S24x1024x28x4 .i8) (pk : FVec Ideal S4x28672x128 .bf16) (pv : FVec Ideal S4x128x28672 .bf16)
  (ck : FVec Ideal S4x24576x128 .bf16) (cv : FVec Ideal S4x128x24576 .bf16) (cl : ℝ) (b : Fin 24) (t : Fin 1024) (k : Fin 4) (g : Fin 7) (f : Fin 128)

/-- A feature of a query: its code times its scale. -/
def qv (d : Fin 128) : EReal := C (ix4 b t ⟨k.val * 7 + g.val, by omega⟩ d) * scl (E (ix4 b t ⟨k.val * 7 + g.val, by omega⟩ ⟨d.val / 32, by omega⟩))
/-- Its scores against the prompt's keys. -/
def aP (p : Fin 28672) : EReal := ∑ d : Fin 128, pk (ix3 k p d) * qv C E b t k g d
/-- Its scores against its sequence's completion keys, minus infinity past the query. -/
def aC (j : Fin 1024) : EReal := if t.val < j.val then ⊥ else ∑ d : Fin 128, ck (ix3 k ⟨b.val * 1024 + j.val, by omega⟩ d) * qv C E b t k g d
/-- A feature of the prompt's and of the completion's values. -/
def uP (p : Fin 28672) : EReal := pv (ix3 k f p)
def uC (j : Fin 1024) : EReal := cv (ix3 k f ⟨b.val * 1024 + j.val, by omega⟩)

/-- The three results of a query. -/
def out : EReal := Math.BOTH cl (aP C E pk b t k g) (uP pv k f) (aC C E ck b t k g) (uC cv b k f)
def lseP : EReal := Math.LSE cl (aP C E pk b t k g) - Ideal.ofBits .f32 0x41243805#32
def lseC : EReal := Math.LSE cl (aC C E ck b t k g) - Ideal.log (((t.val + 1 : ℕ) : ℝ) : EReal)

/-- The three result arrays. -/
def OUT : FVec Ideal S24x1024x3584 .bf16 := fun i =>
  out C E pk pv ck cv cl (i 0) (i 1) ⟨(i 2).val / 896, by have h : (i 2).val < 3584 := (i 2).isLt; omega⟩ ⟨(i 2).val % 896 / 128, by omega⟩ ⟨(i 2).val % 128, by omega⟩
def LP : FVec Ideal S24x4x7x1024 .f32 := fun i => lseP C E pk cl (i 0) (i 3) (i 1) (i 2)
def LC : FVec Ideal S24x4x7x1024 .f32 := fun i => lseC C E ck cl (i 0) (i 3) (i 1) (i 2)

variable {C E pk pv ck cv cl b t k g f} {b' : Fin 24} {t' : Fin 1024} {k' : Fin 4} {g' : Fin 7} {f' : Fin 128}

theorem out_congr (hb : b.val = b'.val) (ht : t.val = t'.val) (hk : k.val = k'.val) (hg : g.val = g'.val) (hf : f.val = f'.val) :
    out C E pk pv ck cv cl b t k g f = out C E pk pv ck cv cl b' t' k' g' f' := by
  rw [Fin.ext hb, Fin.ext ht, Fin.ext hk, Fin.ext hg, Fin.ext hf]
theorem lseP_congr (hb : b.val = b'.val) (ht : t.val = t'.val) (hk : k.val = k'.val) (hg : g.val = g'.val) : lseP C E pk cl b t k g = lseP C E pk cl b' t' k' g' := by
  rw [Fin.ext hb, Fin.ext ht, Fin.ext hk, Fin.ext hg]
theorem lseC_congr (hb : b.val = b'.val) (ht : t.val = t'.val) (hk : k.val = k'.val) (hg : g.val = g'.val) : lseC C E ck cl b t k g = lseC C E ck cl b' t' k' g' := by
  rw [Fin.ext hb, Fin.ext ht, Fin.ext hk, Fin.ext hg]

end Cert.Attn.Spec

end
-- ==== Proof.FinalPoint.lean ====
/-
  What a grid point writes, over the extended reals, is the attention's results at its place — given what its blocks hold.
-/
module

public import proofs.«01_k».proof.Proof.Spec

@[expose] public section

set_option maxRecDepth 16384

noncomputable section

namespace Cert.Attn

open Idealize.ShloMosaic Idealize.SL.Sem
open Cert.KernelIdeal Cert.KernelIdeal.Gen

variable (C : FVec Ideal S24x1024x28x128 .fp8e4m3) (E : Vec Ideal S24x1024x28x4 .i8) (pk : FVec Ideal S4x28672x128 .bf16) (pv : FVec Ideal S4x128x28672 .bf16)
  (ck : FVec Ideal S4x24576x128 .bf16) (cv : FVec Ideal S4x128x24576 .bf16)

/-- The blocks of a grid point hold the arrays' parts for the key-value head `k`, the sequence `b` and its query block. -/
structure Holds (I : PointIn Ideal) (k : Fin 4) (b : Fin 24) : Prop where
  htb : I.tb < 2
  hq : ∀ (l : Fin 512) (g : Fin 7) (d : Fin 128), (I.q (ix3 0 l ⟨128 * g.val + d.val, by omega⟩) : EReal) = C (ix4 b ⟨I.tb * 512 + l.val, by omega⟩ ⟨k.val * 7 + g.val, by omega⟩ d)
  he : ∀ (l : Fin 512) (g : Fin 7) (d : Fin 4), I.e (ix4 0 0 l ⟨4 * g.val + d.val, by omega⟩) = E (ix4 b ⟨I.tb * 512 + l.val, by omega⟩ ⟨k.val * 7 + g.val, by omega⟩ d)
  hK : ∀ (p : Fin 28672) (d : Fin 128), (I.K (ix3 0 p d) : EReal) = pk (ix3 k p d)
  hV : ∀ (f : Fin 128) (p : Fin 28672), (I.V (ix3 0 f p) : EReal) = pv (ix3 k f p)
  hKc : ∀ (j : Fin 1024) (d : Fin 128), (I.Kc (ix3 0 j d) : EReal) = ck (ix3 k ⟨b.val * 1024 + j.val, by omega⟩ d)
  hVc : ∀ (f : Fin 128) (j : Fin 1024), (I.Vc (ix3 0 f j) : EReal) = cv (ix3 k f ⟨b.val * 1024 + j.val, by omega⟩)

variable {C E pk pv ck cv} {I : PointIn Ideal} {k : Fin 4} {b : Fin 24} (h : Holds C E pk pv ck cv I k b)
include h

theorem head_q (g : Fin 7) (d : Fin 128) (l : Fin 512) :
    ((I.head g.val g.isLt).q (ix3 0 d l) : EReal) = Spec.qv C E b ⟨I.tb * 512 + l.val, by have := h.htb; omega⟩ k g d := by
  show (qRow (F := Ideal) (deq I.q I.e) g.val g.isLt (ix3 0 d l) : EReal) = _
  rw [qRow_at, deq_at]
  unfold Spec.qv
  have e : (⟨(128 * g.val + d.val) / 32, by omega⟩ : Fin 28) = ⟨4 * g.val + d.val / 32, by omega⟩ := Fin.ext (by dsimp; omega)
  have h1 := h.hq l g d
  have h2 := h.he l g ⟨d.val / 32, by omega⟩
  refine congrArg₂ (· * ·) h1 (congrArg scl ?_)
  refine Eq.trans ?_ h2
  exact congrArg (fun x => I.e (ix4 0 0 l x)) e

theorem head_scP (g : Fin 7) (l : Fin 512) : scP (I.head g.val g.isLt) l = Spec.aP C E pk b ⟨I.tb * 512 + l.val, by have := h.htb; omega⟩ k g := by
  funext p
  exact Finset.sum_congr rfl fun d _ => congrArg₂ (· * ·) (h.hK p d) (head_q h g d l)

theorem head_scC (g : Fin 7) (l : Fin 512) : scC (I.head g.val g.isLt) l = Spec.aC C E ck b ⟨I.tb * 512 + l.val, by have := h.htb; omega⟩ k g := by
  funext j
  unfold scC Spec.aC
  refine if_congr Iff.rfl rfl ?_
  exact Finset.sum_congr rfl fun d _ => congrArg₂ (· * ·) (h.hKc j d) (head_q h g d l)

variable {cl c2 : ℝ} (hcl : 0 < cl) (h2 : 0 < c2) (hs : c2 * Real.log 2 = cl)
include hcl h2 hs

theorem blkO_at (l : Fin 512) (c : Fin 896) : (blkO (c2 : EReal) (cl : EReal) I (ix3 0 l c) : EReal)
    = Spec.out C E pk pv ck cv cl b ⟨I.tb * 512 + l.val, by have := h.htb; omega⟩ k ⟨c.val / 128, by omega⟩ ⟨c.val % 128, by omega⟩ := by
  have e : colIx (ix3 0 l c) = ix3 0 l ⟨c.val % 128, by omega⟩ := by funext a; fin_cases a <;> rfl
  unfold blkO wO
  rw [e]
  refine (oRow_at _ l ⟨c.val % 128, by omega⟩).trans ?_
  refine (outH_at (I.head (c.val / 128) (by omega)) l ⟨c.val % 128, by omega⟩ hcl h2 hs h.htb).trans ?_
  unfold Spec.out
  have e1 := head_scP h ⟨c.val / 128, by omega⟩ l
  have e2 := head_scC h ⟨c.val / 128, by omega⟩ l
  have e3 : vaP (I.head (c.val / 128) (by omega)) ⟨c.val % 128, by omega⟩ = Spec.uP pv k ⟨c.val % 128, by omega⟩ := funext fun p => h.hV _ p
  have e4 : vaC (I.head (c.val / 128) (by omega)) ⟨c.val % 128, by omega⟩ = Spec.uC cv b k ⟨c.val % 128, by omega⟩ := funext fun p => h.hVc _ p
  rw [← e1, ← e2, ← e3, ← e4]

theorem blkLp_at (g : Fin 7) (l : Fin 512) : (blkLp (c2 : EReal) (cl : EReal) I (ix4 0 0 g l) : EReal)
    = Spec.lseP C E pk cl b ⟨I.tb * 512 + l.val, by have := h.htb; omega⟩ k g := by
  have e : rowIx (ix4 0 0 g l) = ix4 0 0 0 l := by funext a; fin_cases a <;> rfl
  unfold blkLp wLp
  rw [e]
  refine (asRow_at _ l).trans ?_
  refine (lpH_at (I.head g.val g.isLt) l hcl h2 hs h.htb).trans ?_
  rw [head_scP h g l]; rfl

theorem blkLc_at (g : Fin 7) (l : Fin 512) : (blkLc (c2 : EReal) (cl : EReal) I (ix4 0 0 g l) : EReal)
    = Spec.lseC C E ck cl b ⟨I.tb * 512 + l.val, by have := h.htb; omega⟩ k g := by
  have e : rowIx (ix4 0 0 g l) = ix4 0 0 0 l := by funext a; fin_cases a <;> rfl
  unfold blkLc wLc
  rw [e]
  refine (asRow_at _ l).trans ?_
  refine (lcH_at (I.head g.val g.isLt) l hcl h2 hs h.htb).trans ?_
  rw [head_scC h g l]; rfl

end Cert.Attn

end
-- ==== Proof.Final.lean ====
/-
  The idealized kernel's three result arrays over the extended reals: the attention of the argument arrays.
-/
module

public import proofs.«01_k».proof.Proof.RunKernelIdeal
public import proofs.«01_k».proof.Proof.FinalPoint
public import Idealize.ShloMosaic.Lib.Pipeline.ValueKit

@[expose] public section

set_option maxRecDepth 16384

noncomputable section

namespace Cert.Attn.KernelIdeal

open Cert.KernelIdeal Cert.KernelIdeal.Gen
open Idealize.ShloMosaic Idealize.ShloMosaic.TcCoe Idealize.ShloMosaic.Tactic
open Idealize.SL.Sem
open Idealize.ShloMosaic.Pipeline (Dat)

variable (m : (ℓ : Loc nD τ sig) → Buf (Elt Ideal) ℓ)

/-- The windows' block indices at every grid point. -/
theorem idx : ∀ t : Fin grid0.N, (grid0.coords t 0).val < 4 ∧ (grid0.coords t 1).val < 24 ∧ (grid0.coords t 2).val < 2
    ∧ win0_0.index t = ![(grid0.coords t 1).val, (grid0.coords t 2).val, (grid0.coords t 0).val]
    ∧ win0_1.index t = ![(grid0.coords t 0).val, (grid0.coords t 1).val, (grid0.coords t 2).val, 0]
    ∧ win0_2.index t = ![(grid0.coords t 0).val, 0, 0] ∧ win0_3.index t = ![(grid0.coords t 0).val, 0, 0]
    ∧ win0_4.index t = ![(grid0.coords t 0).val, (grid0.coords t 1).val, 0] ∧ win0_5.index t = ![(grid0.coords t 0).val, 0, (grid0.coords t 1).val]
    ∧ win0_6.index t = ![(grid0.coords t 1).val, (grid0.coords t 2).val, (grid0.coords t 0).val]
    ∧ win0_7.index t = ![(grid0.coords t 1).val, (grid0.coords t 0).val, 0, (grid0.coords t 2).val]
    ∧ win0_8.index t = ![(grid0.coords t 1).val, (grid0.coords t 0).val, 0, (grid0.coords t 2).val] := by
  decide +kernel

/-- The codes and the exponent bytes as the region finds them. -/
theorem V_codes (c : Dev nD) : (V m c main_v2 : FVec Ideal S24x1024x3584 .fp8e4m3) = shapeCast S24x1024x3584 (m ((c : Thread nD τ).loc main_arg0) : FVec Ideal S24x1024x28x128 .fp8e4m3) shapeCasts_S24x1024x28x128_S24x1024x3584 := by
  entry_read; rfl
theorem V_exps (c : Dev nD) : (V m c main_v1 : Vec Ideal S4x24x1024x28 .i8) = transpose S4x24x1024x28 [2, 0, 1, 3] (shapeCast S24x1024x4x28 (m ((c : Thread nD τ).loc main_arg1) : Vec Ideal S24x1024x28x4 .i8) shapeCasts_S24x1024x28x4_S24x1024x4x28 : Vec Ideal S24x1024x4x28 .i8) transposes_S24x1024x4x28_S4x24x1024x28_2_0_1_3 := by
  entry_read; rfl

theorem codes_pure (X : FVec Ideal S24x1024x28x128 .fp8e4m3) (b : Fin 24) (t : Fin 1024) (x : Fin 3584) :
    shapeCast S24x1024x3584 X shapeCasts_S24x1024x28x128_S24x1024x3584 (ix3 b t x) = X (ix4 b t ⟨x.val / 128, by omega⟩ ⟨x.val % 128, by omega⟩) := by
  pointwise

theorem exps_pure (X : Vec Ideal S24x1024x28x4 .i8) (k : Fin 4) (b : Fin 24) (t : Fin 1024) (x : Fin 28) :
    transpose S4x24x1024x28 [2, 0, 1, 3] (shapeCast S24x1024x4x28 X shapeCasts_S24x1024x28x4_S24x1024x4x28 : Vec Ideal S24x1024x4x28 .i8) transposes_S24x1024x4x28_S4x24x1024x28_2_0_1_3 (ix4 k b t x)
      = X (ix4 b t ⟨k.val * 7 + x.val / 4, by omega⟩ ⟨x.val % 4, by omega⟩) := by
  rw [show transpose S4x24x1024x28 [2, 0, 1, 3] (shapeCast S24x1024x4x28 X shapeCasts_S24x1024x28x4_S24x1024x4x28 : Vec Ideal S24x1024x4x28 .i8) transposes_S24x1024x4x28_S4x24x1024x28_2_0_1_3 (ix4 k b t x)
    = (shapeCast S24x1024x4x28 X shapeCasts_S24x1024x28x4_S24x1024x4x28 : Vec Ideal S24x1024x4x28 .i8) (ix4 b t k x) from by pointwise]
  rw [shapeCast_apply]
  rw [rowMajor_val4 (d := ![24, 1024, 28, 4]) _ 114688 112 4 rfl rfl rfl, rowMajor_val4 (d := ![24, 1024, 4, 28]) _ 114688 112 28 rfl rfl rfl]
  dsimp only [ix4_0, ix4_1, ix4_2, ix4_3]
  omega

abbrev kOf (t : Fin (cfg0 (F := Ideal)).N) : Fin 4 := ⟨(grid0.coords t 0).val, (idx t).1⟩
abbrev bOf (t : Fin (cfg0 (F := Ideal)).N) : Fin 24 := ⟨(grid0.coords t 1).val, (idx t).2.1⟩

theorem codes_at (c : Dev nD) (b : Fin 24) (t : Fin 1024) (x : Fin 3584) : (V m c main_v2 : FVec Ideal S24x1024x3584 .fp8e4m3) (ix3 b t x)
    = (m ((c : Thread nD τ).loc main_arg0) : FVec Ideal S24x1024x28x128 .fp8e4m3) (ix4 b t ⟨x.val / 128, by omega⟩ ⟨x.val % 128, by omega⟩) := by
  rw [V_codes]; exact codes_pure _ b t x

theorem exps_at (c : Dev nD) (k : Fin 4) (b : Fin 24) (t : Fin 1024) (x : Fin 28) : (V m c main_v1 : Vec Ideal S4x24x1024x28 .i8) (ix4 k b t x)
    = (m ((c : Thread nD τ).loc main_arg1) : Vec Ideal S24x1024x28x4 .i8) (ix4 b t ⟨k.val * 7 + x.val / 4, by omega⟩ ⟨x.val % 4, by omega⟩) := by
  rw [V_exps]; exact exps_pure _ k b t x

theorem holds (c : Dev nD) (t : Fin (cfg0 (F := Ideal)).N) :
    Holds (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) (point m c t) (kOf t) (bOf t) where
  htb := (idx t).2.2.1
  hq l g d := by
    have h := (idx t).2.2.1
    have e : (iblk m c 0 t (ix3 0 l ⟨128 * g.val + d.val, by omega⟩) : EReal) = (V m c main_v2 : FVec Ideal S24x1024x3584 .fp8e4m3) (ix3 (bOf t) ⟨(grid0.coords t 2).val * 512 + l.val, by omega⟩
        ⟨(kOf t).val * 896 + (128 * g.val + d.val), by omega⟩) := by
      blk_ext [iblk, idx t]
    refine e.trans ((codes_at m c _ _ _).trans ?_)
    blk_ext []
    rfl
  he l g d := by
    have h := (idx t).2.2.1
    have e : (iblk m c 1 t (ix4 0 0 l ⟨4 * g.val + d.val, by omega⟩) : BitVec 8) = (V m c main_v1 : Vec Ideal S4x24x1024x28 .i8) (ix4 (kOf t) (bOf t) ⟨(grid0.coords t 2).val * 512 + l.val, by omega⟩
        ⟨4 * g.val + d.val, by omega⟩) := by
      blk_ext [iblk, idx t]
    refine e.trans ((exps_at m c _ _ _ _).trans ?_)
    blk_ext []
    rfl
  hK p d := by
    show iblk m c 2 t (ix3 0 p d) = _
    blk_ext [iblk, V, idx t]
  hV f p := by
    show iblk m c 3 t (ix3 0 f p) = _
    blk_ext [iblk, V, idx t]
  hKc j d := by
    show iblk m c 4 t (ix3 0 j d) = _
    blk_ext [iblk, V, idx t]
  hVc f j := by
    show iblk m c 5 t (ix3 0 f j) = _
    blk_ext [iblk, V, idx t]

/-- The two scales over the extended reals. -/
def cl : ℝ := (Real.sqrt 128)⁻¹
def c2 : ℝ := (Real.sqrt 128)⁻¹ * (Real.log 2)⁻¹

theorem sl_eq : (sl (F := Ideal) : EReal) = (cl : EReal) := by
  exact IdealRules.named_const.ideal_named_scalar _ _ _ _ rfl
theorem sl2_eq : (sl2 (F := Ideal) : EReal) = (c2 : EReal) := by
  exact IdealRules.named_const.ideal_named_scalar _ _ _ _ rfl
theorem cl_pos : 0 < cl := by unfold cl; positivity
theorem c2_pos : 0 < c2 := by unfold c2; have := Real.log_pos (by norm_num : (1 : ℝ) < 2); positivity
theorem c2_cl : c2 * Real.log 2 = cl := by
  unfold c2 cl; have := Real.log_pos (by norm_num : (1 : ℝ) < 2); field_simp

/-- The argument arrays, typed. -/
abbrev A0 (c : Dev nD) : FVec Ideal S24x1024x28x128 .fp8e4m3 := m ((c : Thread nD τ).loc main_arg0)
abbrev A1 (c : Dev nD) : Vec Ideal S24x1024x28x4 .i8 := m ((c : Thread nD τ).loc main_arg1)
abbrev A2 (c : Dev nD) : FVec Ideal S4x28672x128 .bf16 := m ((c : Thread nD τ).loc main_arg2)
abbrev A3 (c : Dev nD) : FVec Ideal S4x128x28672 .bf16 := m ((c : Thread nD τ).loc main_arg3)
abbrev A4 (c : Dev nD) : FVec Ideal S4x24576x128 .bf16 := m ((c : Thread nD τ).loc main_arg4)
abbrev A5 (c : Dev nD) : FVec Ideal S4x128x24576 .bf16 := m ((c : Thread nD τ).loc main_arg5)

theorem final7 (c : Dev nD) : (dats m 0 c).arrAt 7 (cfgs (F := Ideal) 0).N = Spec.LP (A0 m c) (A1 m c) (A2 m c) cl := by
  refine (dats m 0 c).arrAt_eq_of_covers 7 _ (by decide +kernel) fun t _ y => ?_
  blk_simp
  rw [after0_7]
  have h0 : (y 0).val < 1 := (y 0).isLt
  have h1 : (y 1).val < 1 := (y 1).isLt
  have hy : (y : S1x1x7x512.Idx) = ix4 0 0 ⟨(y 2).val, (y 2).isLt⟩ ⟨(y 3).val, (y 3).isLt⟩ := by
    funext a; apply Fin.ext; fin_cases a
    · show (y 0).val = 0; omega
    · show (y 1).val = 0; omega
    · rfl
    · rfl
  refine (congrArg₂ (fun a b => blkLp (F := Ideal) a b (point m c t) y) sl2_eq sl_eq).trans ?_
  refine (congrArg (blkLp (F := Ideal) (c2 : EReal) (cl : EReal) (point m c t)) hy).trans ?_
  refine (blkLp_at (holds m c t) cl_pos c2_pos c2_cl _ _).trans ?_
  refine Spec.lseP_congr ?_ ?_ ?_ ?_ <;> blk_simp [idx t] <;> try omega
  rfl

theorem final8 (c : Dev nD) : (dats m 0 c).arrAt 8 (cfgs (F := Ideal) 0).N = Spec.LC (A0 m c) (A1 m c) (A4 m c) cl := by
  refine (dats m 0 c).arrAt_eq_of_covers 8 _ (by decide +kernel) fun t _ y => ?_
  blk_simp
  rw [after0_8]
  have h0 : (y 0).val < 1 := (y 0).isLt
  have h1 : (y 1).val < 1 := (y 1).isLt
  have hy : (y : S1x1x7x512.Idx) = ix4 0 0 ⟨(y 2).val, (y 2).isLt⟩ ⟨(y 3).val, (y 3).isLt⟩ := by
    funext a; apply Fin.ext; fin_cases a
    · show (y 0).val = 0; omega
    · show (y 1).val = 0; omega
    · rfl
    · rfl
  refine (congrArg₂ (fun a b => blkLc (F := Ideal) a b (point m c t) y) sl2_eq sl_eq).trans ?_
  refine (congrArg (blkLc (F := Ideal) (c2 : EReal) (cl : EReal) (point m c t)) hy).trans ?_
  refine (blkLc_at (holds m c t) cl_pos c2_pos c2_cl _ _).trans ?_
  refine Spec.lseC_congr ?_ ?_ ?_ ?_ <;> blk_simp [idx t] <;> try omega
  rfl

theorem final6 (c : Dev nD) : (dats m 0 c).arrAt 6 (cfgs (F := Ideal) 0).N = Spec.OUT (A0 m c) (A1 m c) (A2 m c) (A3 m c) (A4 m c) (A5 m c) cl := by
  refine (dats m 0 c).arrAt_eq_of_covers 6 _ (by decide +kernel) fun t _ y => ?_
  blk_simp
  rw [after0_6]
  have h0 : (y 0).val < 1 := (y 0).isLt
  have h2 : (y 2).val < 896 := (y 2).isLt
  have hy : (y : S1x512x896.Idx) = ix3 0 ⟨(y 1).val, (y 1).isLt⟩ ⟨(y 2).val, (y 2).isLt⟩ := by
    funext a; apply Fin.ext; fin_cases a
    · show (y 0).val = 0; omega
    · rfl
    · rfl
  refine (congrArg₂ (fun a b => blkO (F := Ideal) a b (point m c t) y) sl2_eq sl_eq).trans ?_
  refine (congrArg (blkO (F := Ideal) (c2 : EReal) (cl : EReal) (point m c t)) hy).trans ?_
  refine (blkO_at (holds m c t) cl_pos c2_pos c2_cl _ _).trans ?_
  refine Spec.out_congr ?_ ?_ ?_ ?_ ?_ <;> blk_simp [idx t] <;> dsimp only [kOf] <;> try omega
  rfl

end Cert.Attn.KernelIdeal

end
-- ==== Proof.RefDefs.lean ====
/-
  The reference's values as functions of the widened queries, the keys and the values, and what each of them is at an index
  over the extended reals.
-/
module

public import proofs.«01_k».proof.Proof.Gen.ReferenceIdeal
public import Idealize.ShloMosaic.Lib.Pointwise
public import Idealize.ShloMosaic.Lib.WordCmp

@[expose] public section

set_option maxRecDepth 16384

noncomputable section

namespace Cert.Attn.Ref

open Idealize.ShloMosaic Idealize.SL.Sem
open Cert.ReferenceIdeal Cert.ReferenceIdeal.Gen

/-- One over the root of 128. -/
def one_root : FVec Ideal S_ .f32 := Host.divf (constant S_ .f32 0x3F800000#32 : FVec Ideal S_ .f32) (Host.sqrt (constant S_ .f32 0x43000000#32 : FVec Ideal S_ .f32) : FVec Ideal S_ .f32)
/-- The queries, head by head; the completion's keys and values, sequence by sequence. -/
def qq (q : FVec Ideal S24x1024x28x4x32 .bf16) : FVec Ideal S24x1024x4x7x128 .bf16 := shapeCast S24x1024x4x7x128 q shapeCasts_S24x1024x28x4x32_S24x1024x4x7x128
def kk (k : FVec Ideal S4x24576x128 .bf16) : FVec Ideal S4x24x1024x128 .bf16 := shapeCast S4x24x1024x128 k shapeCasts_S4x24576x128_S4x24x1024x128
def vv (v : FVec Ideal S4x128x24576 .bf16) : FVec Ideal S4x128x24x1024 .bf16 := shapeCast S4x128x24x1024 v shapeCasts_S4x128x24576_S4x128x24x1024

/-! ### The prompt -/

def scoreP (s : FVec Ideal S_ .f32) (q : FVec Ideal S24x1024x4x7x128 .bf16) (k : FVec Ideal S4x28672x128 .bf16) : FVec Ideal S24x1024x4x7x28672 .f32 :=
  mulf (transpose S24x1024x4x7x28672 [2, 3, 0, 4, 1] (Host.dotGeneral dot_S4x28672x128_S24x1024x4x7x128_S4x28672x24x1024x7_2_4_1_013_0_2 none k q : FVec Ideal S4x28672x24x1024x7 .f32)
    transposes_S4x28672x24x1024x7_S24x1024x4x7x28672_2_3_0_4_1 : FVec Ideal S24x1024x4x7x28672 .f32) (broadcastInDim S24x1024x4x7x28672 ![] bcast_S_S24x1024x4x7x28672 s)
def mxP (x : FVec Ideal S24x1024x4x7x28672 .f32) : FVec Ideal S24x1024x4x7 .f32 :=
  Host.reduce FloatOps.maximumf x (constant S_ .f32 0xFF800000#32 : FVec Ideal S_ .f32) reducesTo_S24x1024x4x7x28672_S24x1024x4x7_d4 h_S_
def col (x : FVec Ideal S24x1024x4x7 .f32) : FVec Ideal S24x1024x4x7x1 .f32 := broadcastInDim S24x1024x4x7x1 ![0, 1, 2, 3] bcast_S24x1024x4x7_S24x1024x4x7x1_0_1_2_3 x
def wtP (x : FVec Ideal S24x1024x4x7x28672 .f32) (m : FVec Ideal S24x1024x4x7 .f32) : FVec Ideal S24x1024x4x7x28672 .f32 :=
  Host.exp (subf x (broadcastInDim S24x1024x4x7x28672 ![0, 1, 2, 3, 4] bcast_S24x1024x4x7x1_S24x1024x4x7x28672_0_1_2_3_4 (col m)))
def smP (w : FVec Ideal S24x1024x4x7x28672 .f32) : FVec Ideal S24x1024x4x7 .f32 :=
  Host.reduceAdd w (constant S_ .f32 0x00000000#32 : FVec Ideal S_ .f32) reducesTo_S24x1024x4x7x28672_S24x1024x4x7_d4 h_S_
def prP (v : FVec Ideal S4x128x28672 .bf16) (w : FVec Ideal S24x1024x4x7x28672 .f32) : FVec Ideal S24x1024x4x7x128 .f32 :=
  transpose S24x1024x4x7x128 [2, 3, 0, 4, 1] (Host.dotGeneral dot_S4x128x28672_S24x1024x4x7x28672_S4x128x24x1024x7_2_4_1_013_0_2 none v (truncf .bf16 w bitsLt_bf16_f32 : FVec Ideal S24x1024x4x7x28672 .bf16)
    : FVec Ideal S4x128x24x1024x7 .f32) transposes_S4x128x24x1024x7_S24x1024x4x7x128_2_3_0_4_1
/-- A number per query, repeated over the features. -/
def rep (x : FVec Ideal S24x1024x4x7 .f32) : FVec Ideal S24x1024x4x7x128 .f32 :=
  broadcastInDim S24x1024x4x7x128 ![0, 1, 2, 3, 4] bcast_S24x1024x4x7x1_S24x1024x4x7x128_0_1_2_3_4 (col x)
def quo (o : FVec Ideal S24x1024x4x7x128 .f32) (l : FVec Ideal S24x1024x4x7 .f32) : FVec Ideal S24x1024x4x7x128 .f32 := Host.divf o (rep l)
def lg (m l : FVec Ideal S24x1024x4x7 .f32) : FVec Ideal S24x1024x4x7 .f32 :=
  addf (shapeCast S24x1024x4x7 (col m) shapeCasts_S24x1024x4x7x1_S24x1024x4x7 : FVec Ideal S24x1024x4x7 .f32) (Host.log l)

/-! ### The completion -/

def past : Vec Ideal S1024x1x1x1024 .i1 :=
  broadcastInDim S1024x1x1x1024 ![0, 3] bcast_S1024x1024_S1024x1x1x1024_0_3 (cmpi .sgt
    (broadcastInDim S1024x1024 ![0, 1] bcast_S1x1024_S1024x1024_0_1 (broadcastInDim S1x1024 ![1] bcast_S1024_S1x1024_1 (iotaInDim S1024 32 0 : Vec Ideal S1024 .i32) : Vec Ideal S1x1024 .i32) : Vec Ideal S1024x1024 .i32)
    (broadcastInDim S1024x1024 ![0, 1] bcast_S1024x1_S1024x1024_0_1 (broadcastInDim S1024x1 ![0] bcast_S1024_S1024x1_0 (iotaInDim S1024 32 0 : Vec Ideal S1024 .i32) : Vec Ideal S1024x1 .i32) : Vec Ideal S1024x1024 .i32) : Vec Ideal S1024x1024 .i1)
def scoreC (s : FVec Ideal S_ .f32) (q : FVec Ideal S24x1024x4x7x128 .bf16) (k : FVec Ideal S4x24x1024x128 .bf16) : FVec Ideal S24x1024x4x7x1024 .f32 :=
  mulf (transpose S24x1024x4x7x1024 [0, 3, 1, 4, 2] (Host.dotGeneral dot_S4x24x1024x128_S24x1024x4x7x128_S24x4x1024x1024x7_3_4_2_13_10_02 none k q : FVec Ideal S24x4x1024x1024x7 .f32)
    transposes_S24x4x1024x1024x7_S24x1024x4x7x1024_0_3_1_4_2 : FVec Ideal S24x1024x4x7x1024 .f32) (broadcastInDim S24x1024x4x7x1024 ![] bcast_S_S24x1024x4x7x1024 s)
def masked (x : FVec Ideal S24x1024x4x7x1024 .f32) : FVec Ideal S24x1024x4x7x1024 .f32 :=
  select (broadcastInDim S24x1024x4x7x1024 ![1, 2, 3, 4] bcast_S1024x1x1x1024_S24x1024x4x7x1024_1_2_3_4 past : Vec Ideal S24x1024x4x7x1024 .i1)
    (broadcastInDim S24x1024x4x7x1024 ![] bcast_S_S24x1024x4x7x1024 (constant S_ .f32 0xFF800000#32 : FVec Ideal S_ .f32)) x
def mxC (x : FVec Ideal S24x1024x4x7x1024 .f32) : FVec Ideal S24x1024x4x7 .f32 :=
  Host.reduce FloatOps.maximumf x (constant S_ .f32 0xFF800000#32 : FVec Ideal S_ .f32) reducesTo_S24x1024x4x7x1024_S24x1024x4x7_d4 h_S_
def wtC (x : FVec Ideal S24x1024x4x7x1024 .f32) (m : FVec Ideal S24x1024x4x7 .f32) : FVec Ideal S24x1024x4x7x1024 .f32 :=
  Host.exp (subf x (broadcastInDim S24x1024x4x7x1024 ![0, 1, 2, 3, 4] bcast_S24x1024x4x7x1_S24x1024x4x7x1024_0_1_2_3_4 (col m)))
def smC (w : FVec Ideal S24x1024x4x7x1024 .f32) : FVec Ideal S24x1024x4x7 .f32 :=
  Host.reduceAdd w (constant S_ .f32 0x00000000#32 : FVec Ideal S_ .f32) reducesTo_S24x1024x4x7x1024_S24x1024x4x7_d4 h_S_
def prC (v : FVec Ideal S4x128x24x1024 .bf16) (w : FVec Ideal S24x1024x4x7x1024 .f32) : FVec Ideal S24x1024x4x7x128 .f32 :=
  transpose S24x1024x4x7x128 [0, 3, 1, 4, 2] (Host.dotGeneral dot_S4x128x24x1024_S24x1024x4x7x1024_S24x4x128x1024x7_3_4_1_13_20_02 none v (truncf .bf16 w bitsLt_bf16_f32 : FVec Ideal S24x1024x4x7x1024 .bf16)
    : FVec Ideal S24x4x128x1024x7 .f32) transposes_S24x4x128x1024x7_S24x1024x4x7x128_0_3_1_4_2

/-! ### The two combined -/

def lae (a b : FVec Ideal S24x1024x4x7 .f32) : FVec Ideal S24x1024x4x7 .f32 :=
  select (cmpf .une (subf a b) (subf a b)) (addf a b) (addf (maximumf a b) (Host.log1p (Host.exp (Host.negf (Host.absf (subf a b))))))
def mix (a b : FVec Ideal S24x1024x4x7 .f32) (o p : FVec Ideal S24x1024x4x7x128 .f32) : FVec Ideal S24x1024x4x7x128 .f32 :=
  addf (mulf (rep (Host.exp (subf a (lae a b)))) o) (mulf (rep (Host.exp (subf b (lae a b)))) p)
def flat (x : FVec Ideal S24x1024x4x7x128 .f32) : FVec Ideal S24x1024x3584 .bf16 :=
  truncf .bf16 (shapeCast S24x1024x3584 x shapeCasts_S24x1024x4x7x128_S24x1024x3584 : FVec Ideal S24x1024x3584 .f32) bitsLt_bf16_f32
def rows (x : FVec Ideal S24x1024x4x7 .f32) : FVec Ideal S24x4x7x1024 .f32 := transpose S24x4x7x1024 [0, 2, 3, 1] x transposes_S24x1024x4x7_S24x4x7x1024_0_2_3_1
def resP (x : FVec Ideal S24x1024x4x7 .f32) : FVec Ideal S24x4x7x1024 .f32 :=
  subf (rows x) (broadcastInDim S24x4x7x1024 ![] bcast_S_S24x4x7x1024 (constant S_ .f32 0x41243805#32 : FVec Ideal S_ .f32))
def logs : FVec Ideal S1024 .f32 :=
  Host.log (addf (broadcastInDim S1024 ![] bcast_S_S1024 (constant S_ .f32 0x3F800000#32 : FVec Ideal S_ .f32) : FVec Ideal S1024 .f32) (sitofp .f32 (iotaInDim S1024 32 0 : Vec Ideal S1024 .i32)))
def resC (x : FVec Ideal S24x1024x4x7 .f32) : FVec Ideal S24x4x7x1024 .f32 :=
  subf (rows x) (broadcastInDim S24x4x7x1024 ![0, 1, 2, 3] bcast_S1x1x1x1024_S24x4x7x1024_0_1_2_3 (broadcastInDim S1x1x1x1024 ![3] bcast_S1024_S1x1x1x1024_3 logs : FVec Ideal S1x1x1x1024 .f32))

/-! ### The three results -/

section
variable (s : FVec Ideal S_ .f32) (q : FVec Ideal S24x1024x28x4x32 .bf16) (pk : FVec Ideal S4x28672x128 .bf16) (pv : FVec Ideal S4x128x28672 .bf16)
  (ck : FVec Ideal S4x24576x128 .bf16) (cv : FVec Ideal S4x128x24576 .bf16)
def xP := scoreP s (qq q) pk
def xC := masked (scoreC s (qq q) (kk ck))
def eP := lg (mxP (xP s q pk)) (smP (wtP (xP s q pk) (mxP (xP s q pk))))
def eC := lg (mxC (xC s q ck)) (smC (wtC (xC s q ck) (mxC (xC s q ck))))
def oP := quo (prP pv (wtP (xP s q pk) (mxP (xP s q pk)))) (smP (wtP (xP s q pk) (mxP (xP s q pk))))
def oC := quo (prC (vv cv) (wtC (xC s q ck) (mxC (xC s q ck)))) (smC (wtC (xC s q ck) (mxC (xC s q ck))))
def r0 := flat (mix (eP s q pk) (eC s q ck) (oP s q pk pv) (oC s q ck cv))
def r1 := resP (eP s q pk)
def r2 := resC (eC s q ck)
end

end Cert.Attn.Ref

end
-- ==== Proof.RefRead.lean ====
/-
  The reference's host operations after its widening leave the three results in their buffers.
-/
module

public import proofs.«01_k».proof.Proof.RefDefs
public import proofs.«01_k».proof.Proof.Gen.ReferenceIdeal.Frame
public import Idealize.ShloMosaic.Lib.StableHlo.RunRead

@[expose] public section

set_option maxRecDepth 16384

noncomputable section

namespace Cert.Attn.Ref

open Idealize.ShloMosaic Idealize.ShloMosaic.TcCoe Idealize.SL.Sem
open Cert.ReferenceIdeal Cert.ReferenceIdeal.Gen

variable (V : Valuation τ sig (Elt Ideal))

/-- The contents the host operations start from, typed. -/
abbrev vs : FVec Ideal S_ .f32 := V (Proc.devRef .tc main_v1)
abbrev vq : FVec Ideal S24x1024x28x4x32 .bf16 := V (Proc.devRef .tc main_v3)
abbrev v2 : FVec Ideal S4x28672x128 .bf16 := V (Proc.devRef .tc main_arg2)
abbrev v3 : FVec Ideal S4x128x28672 .bf16 := V (Proc.devRef .tc main_arg3)
abbrev v4 : FVec Ideal S4x24576x128 .bf16 := V (Proc.devRef .tc main_arg4)
abbrev v5 : FVec Ideal S4x128x24576 .bf16 := V (Proc.devRef .tc main_arg5)

abbrev A1 : Valuation τ sig (Elt Ideal) := StableHlo.after hostOps1 V
abbrev A2 : Valuation τ sig (Elt Ideal) := StableHlo.after hostOps1_1 (A1 V)
abbrev A3 : Valuation τ sig (Elt Ideal) := StableHlo.after hostOps1_2 (A2 V)

theorem a1_v25 : (A1 V (Proc.devRef .tc main_v25) : FVec Ideal S24x1024x4x7 .f32) = eP (vs V) (vq V) (v2 V) := by
  unfold A1; after_reads_simp; rfl
theorem a1_v22 : (A1 V (Proc.devRef .tc main_v22) : FVec Ideal S24x1024x4x7x128 .f32) = oP (vs V) (vq V) (v2 V) (v3 V) := by
  unfold A1; after_reads_simp; rfl
theorem a1_v34 : (A1 V (Proc.devRef .tc main_v34) : Vec Ideal S1024x1x1x1024 .i1) = past := by
  unfold A1; after_reads_simp; rfl
theorem a1_cst3 : (A1 V (Proc.devRef .tc main_cst_3) : FVec Ideal S_ .f32) = (constant S_ .f32 0xFF800000#32 : FVec Ideal S_ .f32) := by
  unfold A1; after_reads_simp
theorem a1_v36 : (A1 V (Proc.devRef .tc main_v36) : FVec Ideal S24x1024x4x7x1024 .f32) = scoreC (vs V) (qq (vq V)) (kk (v4 V)) := by
  unfold A1; after_reads_simp; rfl
theorem a1_v6 : (A1 V (Proc.devRef .tc main_v6) : FVec Ideal S4x128x24x1024 .bf16) = vv (v5 V) := by
  unfold A1; after_reads_simp; rfl

theorem a2_v37 (W : Valuation τ sig (Elt Ideal)) (h : (W (Proc.devRef .tc main_v34) : Vec Ideal S1024x1x1x1024 .i1) = past)
    (h' : (W (Proc.devRef .tc main_cst_3) : FVec Ideal S_ .f32) = (constant S_ .f32 0xFF800000#32 : FVec Ideal S_ .f32)) :
    (StableHlo.after hostOps1_1 W (Proc.devRef .tc main_v37) : FVec Ideal S24x1024x4x7x1024 .f32) = masked (W (Proc.devRef .tc main_v36)) := by
  unfold masked
  rw [← h, ← h']
  after_reads_simp; rfl
theorem a2_keep (W : Valuation τ sig (Elt Ideal)) (b : Ref sig .tc) (h : b ∉ hostOps1_1_W) : StableHlo.after hostOps1_1 W (Proc.devRef .tc b) = W (Proc.devRef .tc b) :=
  StableHlo.after_of_writes_sub (r := b) hostOps1_1 _ hostOps1_1_writes h

theorem a3_v52 (W : Valuation τ sig (Elt Ideal)) : (StableHlo.after hostOps1_2 W (Proc.devRef .tc main_v52) : FVec Ideal S24x1024x4x7 .f32)
    = lg (mxC (W (Proc.devRef .tc main_v37))) (smC (wtC (W (Proc.devRef .tc main_v37)) (mxC (W (Proc.devRef .tc main_v37))))) := by
  after_reads_simp; rfl
theorem a3_v86 (W : Valuation τ sig (Elt Ideal)) : (StableHlo.after hostOps1_2 W (Proc.devRef .tc main_v86) : FVec Ideal S24x4x7x1024 .f32)
    = resC (lg (mxC (W (Proc.devRef .tc main_v37))) (smC (wtC (W (Proc.devRef .tc main_v37)) (mxC (W (Proc.devRef .tc main_v37)))))) := by
  after_reads_simp; rfl
theorem a3_v78 (W : Valuation τ sig (Elt Ideal)) : (StableHlo.after hostOps1_2 W (Proc.devRef .tc main_v78) : FVec Ideal S24x4x7x1024 .f32) = resP (W (Proc.devRef .tc main_v25)) := by
  after_reads_simp; rfl
theorem a3_v75 (W : Valuation τ sig (Elt Ideal)) : (StableHlo.after hostOps1_2 W (Proc.devRef .tc main_v75) : FVec Ideal S24x1024x3584 .bf16)
    = flat (mix (W (Proc.devRef .tc main_v25)) (lg (mxC (W (Proc.devRef .tc main_v37))) (smC (wtC (W (Proc.devRef .tc main_v37)) (mxC (W (Proc.devRef .tc main_v37))))))
        (W (Proc.devRef .tc main_v22)) (quo (prC (W (Proc.devRef .tc main_v6)) (wtC (W (Proc.devRef .tc main_v37)) (mxC (W (Proc.devRef .tc main_v37)))))
          (smC (wtC (W (Proc.devRef .tc main_v37)) (mxC (W (Proc.devRef .tc main_v37))))))) := by
  after_reads_simp; rfl

theorem A2_v37 : (A2 V (Proc.devRef .tc main_v37) : FVec Ideal S24x1024x4x7x1024 .f32) = xC (vs V) (vq V) (v4 V) := by
  refine (a2_v37 _ (a1_v34 V) (a1_cst3 V)).trans ?_
  rw [a1_v36]; rfl
theorem A2_v25 : (A2 V (Proc.devRef .tc main_v25) : FVec Ideal S24x1024x4x7 .f32) = eP (vs V) (vq V) (v2 V) := (a2_keep _ _ (by decide +kernel)).trans (a1_v25 V)
theorem A2_v22 : (A2 V (Proc.devRef .tc main_v22) : FVec Ideal S24x1024x4x7x128 .f32) = oP (vs V) (vq V) (v2 V) (v3 V) := (a2_keep _ _ (by decide +kernel)).trans (a1_v22 V)
theorem A2_v6 : (A2 V (Proc.devRef .tc main_v6) : FVec Ideal S4x128x24x1024 .bf16) = vv (v5 V) := (a2_keep _ _ (by decide +kernel)).trans (a1_v6 V)

/-- The three results. -/
theorem read0 : (StableHlo.after (List.flatten [hostOps1, hostOps1_1, hostOps1_2]) V (Proc.devRef .tc main_v75) : FVec Ideal S24x1024x3584 .bf16)
    = r0 (vs V) (vq V) (v2 V) (v3 V) (v4 V) (v5 V) := by
  rw [List.flatten_cons, List.flatten_cons, List.flatten_cons, List.flatten_nil, List.append_nil, StableHlo.after_append, StableHlo.after_append]
  refine (a3_v75 (A2 V)).trans ?_
  rw [A2_v37, A2_v25, A2_v22, A2_v6]; rfl
theorem read1 : (StableHlo.after (List.flatten [hostOps1, hostOps1_1, hostOps1_2]) V (Proc.devRef .tc main_v78) : FVec Ideal S24x4x7x1024 .f32)
    = r1 (vs V) (vq V) (v2 V) := by
  rw [List.flatten_cons, List.flatten_cons, List.flatten_cons, List.flatten_nil, List.append_nil, StableHlo.after_append, StableHlo.after_append]
  refine (a3_v78 (A2 V)).trans ?_
  rw [A2_v25]; rfl
theorem read2 : (StableHlo.after (List.flatten [hostOps1, hostOps1_1, hostOps1_2]) V (Proc.devRef .tc main_v86) : FVec Ideal S24x4x7x1024 .f32)
    = r2 (vs V) (vq V) (v4 V) := by
  rw [List.flatten_cons, List.flatten_cons, List.flatten_cons, List.flatten_nil, List.append_nil, StableHlo.after_append, StableHlo.after_append]
  refine (a3_v86 (A2 V)).trans ?_
  rw [A2_v37]; rfl

end Cert.Attn.Ref

end
-- ==== Proof.RefAt.lean ====
/-
  Each step of the reference at an index over the extended reals.
-/
module

public import proofs.«01_k».proof.Proof.RefDefs
public import proofs.«01_k».proof.Proof.MathE

@[expose] public section

set_option maxRecDepth 16384

noncomputable section

namespace Cert.Attn.Ref

open Idealize.ShloMosaic Idealize.SL.Sem
open Cert.ReferenceIdeal Cert.ReferenceIdeal.Gen

theorem neg_inf : Ideal.ofBits .f32 0xFF800000#32 = ⊥ := by simp [Ideal.ofBits, Ideal.ieee]
theorem fold_sup {n : ℕ} (f : Fin n → EReal) : Finset.fold max (Ideal.ofBits .f32 0xFF800000#32) f Finset.univ = Finset.univ.sup f := by
  rw [neg_inf]; rfl

theorem ofNat_toInt (n : ℕ) (h : n < 1024) : (BitVec.ofNat 32 n).toInt = (n : ℤ) := by
  rw [BitVec.toInt_eq_toNat_of_lt (by rw [BitVec.toNat_ofNat]; omega), BitVec.toNat_ofNat, Nat.mod_eq_of_lt (by omega)]

theorem one_root_at : one_root = fun _ => (((Real.sqrt 128)⁻¹ : ℝ) : EReal) := by
  funext i
  have h1 : Ideal.ofBits .f32 0x3F800000#32 = ((1 : ℝ) : EReal) := by
    simp [Ideal.ofBits, Ideal.ieee]; rw [← EReal.coe_mul, ← EReal.coe_one, EReal.coe_eq_coe_iff]; norm_num
  have h2 : Ideal.ofBits .f32 0x43000000#32 = ((128 : ℝ) : EReal) := by
    simp [Ideal.ofBits, Ideal.ieee]; rw [← EReal.coe_mul, EReal.coe_eq_coe_iff]; norm_num
  show Ideal.div (Ideal.ofBits .f32 0x3F800000#32) (Ideal.sqrt (Ideal.ofBits .f32 0x43000000#32)) = _
  rw [h1, h2, Ideal.sqrt_coe, if_neg (by norm_num), Ideal.div_coe (by positivity), one_div, EReal.coe_one, one_mul]

variable (b : Fin 24) (t : Fin 1024) (k : Fin 4) (g : Fin 7) (f : Fin 128)

theorem col_at (x : FVec Ideal S24x1024x4x7 .f32) : col x (ix5 b t k g 0) = x (ix4 b t k g) := by
  pointwise [col]
theorem rep_at (x : FVec Ideal S24x1024x4x7 .f32) : rep x (ix5 b t k g f) = x (ix4 b t k g) := by
  pointwise [rep, col]
theorem qq_at (q : FVec Ideal S24x1024x28x4x32 .bf16) : qq q (ix5 b t k g f) = q (ix5 b t ⟨k.val * 7 + g.val, by omega⟩ ⟨f.val / 32, by omega⟩ ⟨f.val % 32, by omega⟩) := by
  pointwise [qq]
theorem kk_at (x : FVec Ideal S4x24576x128 .bf16) : kk x (ix4 k b t f) = x (ix3 k ⟨b.val * 1024 + t.val, by omega⟩ f) := by
  pointwise [kk]
theorem vv_at (x : FVec Ideal S4x128x24576 .bf16) : vv x (ix4 k f b t) = x (ix3 k f ⟨b.val * 1024 + t.val, by omega⟩) := by
  pointwise [vv]

theorem scoreP_at (s : EReal) (q : FVec Ideal S24x1024x4x7x128 .bf16) (x : FVec Ideal S4x28672x128 .bf16) (p : Fin 28672) :
    (scoreP (fun _ => s) q x (ix5 b t k g p) : EReal) = (∑ d : Fin 128, x (ix3 k p d) * q (ix5 b t k g d)) * s := by
  pointwise [scoreP]
theorem mxP_at (x : FVec Ideal S24x1024x4x7x28672 .f32) : (mxP x (ix4 b t k g) : EReal) = Finset.univ.sup (fun p : Fin 28672 => x (ix5 b t k g p)) := by
  pointwise [mxP]
  exact fold_sup _
theorem wtP_at (x : FVec Ideal S24x1024x4x7x28672 .f32) (m : FVec Ideal S24x1024x4x7 .f32) (p : Fin 28672) :
    (wtP x m (ix5 b t k g p) : EReal) = Ideal.exp (x (ix5 b t k g p) - m (ix4 b t k g)) := by
  pointwise [wtP, col]
theorem smP_at (x : FVec Ideal S24x1024x4x7x28672 .f32) : (smP x (ix4 b t k g) : EReal) = ∑ p : Fin 28672, x (ix5 b t k g p) := by
  pointwise [smP]
theorem prP_at (v : FVec Ideal S4x128x28672 .bf16) (x : FVec Ideal S24x1024x4x7x28672 .f32) :
    (prP v x (ix5 b t k g f) : EReal) = ∑ p : Fin 28672, v (ix3 k f p) * x (ix5 b t k g p) := by
  pointwise [prP]
theorem quo_at (o : FVec Ideal S24x1024x4x7x128 .f32) (l : FVec Ideal S24x1024x4x7 .f32) :
    (quo o l (ix5 b t k g f) : EReal) = Ideal.div (o (ix5 b t k g f)) (l (ix4 b t k g)) := by
  pointwise [quo, rep, col]
theorem lg_at (m l : FVec Ideal S24x1024x4x7 .f32) : (lg m l (ix4 b t k g) : EReal) = m (ix4 b t k g) + Ideal.log (l (ix4 b t k g)) := by
  pointwise [lg, col]

theorem scoreC_at (s : EReal) (q : FVec Ideal S24x1024x4x7x128 .bf16) (x : FVec Ideal S4x24x1024x128 .bf16) (j : Fin 1024) :
    (scoreC (fun _ => s) q x (ix5 b t k g j) : EReal) = (∑ d : Fin 128, x (ix4 k b j d) * q (ix5 b t k g d)) * s := by
  pointwise [scoreC]
theorem masked_at (x : FVec Ideal S24x1024x4x7x1024 .f32) (j : Fin 1024) :
    (masked x (ix5 b t k g j) : EReal) = if t.val < j.val then ⊥ else x (ix5 b t k g j) := by
  pointwise [masked, past]
  have hj := j.isLt; have ht := t.isLt
  rw [neg_inf, WordCmp.cmpi_sgt_eq, ofNat_toInt _ (by omega), ofNat_toInt _ (by omega)]
  by_cases h : t.val < j.val
  · rw [if_pos h]; simp [Scalar.select, h]
  · rw [if_neg h]; simp [Scalar.select, h]
theorem mxC_at (x : FVec Ideal S24x1024x4x7x1024 .f32) : (mxC x (ix4 b t k g) : EReal) = Finset.univ.sup (fun p : Fin 1024 => x (ix5 b t k g p)) := by
  pointwise [mxC]
  exact fold_sup _
theorem wtC_at (x : FVec Ideal S24x1024x4x7x1024 .f32) (m : FVec Ideal S24x1024x4x7 .f32) (p : Fin 1024) :
    (wtC x m (ix5 b t k g p) : EReal) = Ideal.exp (x (ix5 b t k g p) - m (ix4 b t k g)) := by
  pointwise [wtC, col]
theorem smC_at (x : FVec Ideal S24x1024x4x7x1024 .f32) : (smC x (ix4 b t k g) : EReal) = ∑ p : Fin 1024, x (ix5 b t k g p) := by
  pointwise [smC]
theorem prC_at (v : FVec Ideal S4x128x24x1024 .bf16) (x : FVec Ideal S24x1024x4x7x1024 .f32) :
    (prC v x (ix5 b t k g f) : EReal) = ∑ p : Fin 1024, v (ix4 k f b p) * x (ix5 b t k g p) := by
  pointwise [prC]

theorem lae_at (x y : FVec Ideal S24x1024x4x7 .f32) : (lae x y (ix4 b t k g) : EReal) =
    max (x (ix4 b t k g)) (y (ix4 b t k g)) + Ideal.log1p (Ideal.exp (-(max (x (ix4 b t k g) - y (ix4 b t k g)) (-(x (ix4 b t k g) - y (ix4 b t k g)))))) := by
  pointwise [lae]
  rw [if_neg (by simp)]; rfl
theorem mix_at (x y : FVec Ideal S24x1024x4x7 .f32) (o p : FVec Ideal S24x1024x4x7x128 .f32) : (mix x y o p (ix5 b t k g f) : EReal) =
    Ideal.exp (x (ix4 b t k g) - lae x y (ix4 b t k g)) * o (ix5 b t k g f) + Ideal.exp (y (ix4 b t k g) - lae x y (ix4 b t k g)) * p (ix5 b t k g f) := by
  pointwise [mix, rep, col]
theorem flat_at (x : FVec Ideal S24x1024x4x7x128 .f32) (n : Fin 3584) : (flat x (ix3 b t n) : EReal) =
    x (ix5 b t ⟨n.val / 896, by omega⟩ ⟨n.val % 896 / 128, by omega⟩ ⟨n.val % 128, by omega⟩) := by
  pointwise [flat]
  refine congrArg x ?_
  have : n.val / 128 % 7 = n.val % 896 / 128 := by omega
  simp only [this]
theorem resP_at (x : FVec Ideal S24x1024x4x7 .f32) : (resP x (ix4 b k g t) : EReal) = x (ix4 b t k g) - Ideal.ofBits .f32 0x41243805#32 := by
  pointwise [resP, rows]
theorem resC_at (x : FVec Ideal S24x1024x4x7 .f32) : (resC x (ix4 b k g t) : EReal) = x (ix4 b t k g) - Ideal.log (((t.val + 1 : ℕ) : ℝ) : EReal) := by
  pointwise [resC, rows, logs]
  have ht := t.isLt
  have e : (FloatOps.sitofp (F := Ideal) .f32 (BitVec.ofNat 32 t.val) : EReal) = ((t.val : ℝ) : EReal) := by
    show ((((BitVec.ofNat 32 t.val).toInt : ℝ)) : EReal) = _
    rw [ofNat_toInt _ (by omega)]; simp
  rw [e, ← EReal.coe_one, ← EReal.coe_add, Nat.cast_add, Nat.cast_one, add_comm (1 : ℝ)]

end Cert.Attn.Ref

end
-- ==== Proof.RefWide.lean ====
/-
  The reference's region widens the queries: each feature is its code times its scale.
-/
module

public import proofs.«01_k».proof.Proof.RefAt
public import proofs.«01_k».proof.Proof.Gen.ReferenceIdeal.Frame
public import Idealize.ShloMosaic.Lib.StableHlo.RunRead
public import Idealize.ShloMosaic.Lib.StableHlo.ReadAt
public import Idealize.ShloMosaic.Lib.Pipeline.ValueKit

@[expose] public section

set_option maxRecDepth 16384

noncomputable section

namespace Cert.Attn.Ref

open Idealize.ShloMosaic Idealize.ShloMosaic.TcCoe Idealize.SL.Sem
open Cert.ReferenceIdeal Cert.ReferenceIdeal.Gen

/-- The widened queries. -/
def wide (C : FVec Ideal S24x1024x28x128 .fp8e4m3) (E : Vec Ideal S24x1024x28x4 .i8) : FVec Ideal S24x1024x28x4x32 .bf16 :=
  k0_pay1 E (shapeCast S24x1024x28x4x32 C shapeCasts_S24x1024x28x128_S24x1024x28x4x32)

theorem pay_at (E : Vec Ideal S24x1024x28x4 .i8) (X : FVec Ideal S24x1024x28x4x32 .fp8e4m3) (b : Fin 24) (t : Fin 1024) (h : Fin 28) (x : Fin 4) (e : Fin 32) :
    (k0_pay1 (F := Ideal) E X (ix5 b t h x e) : EReal) = X (ix5 b t h x e) * Ideal.ofBits .f32 (IntOp.shli .vector ((E (ix4 b t h x) : BitVec 8).setWidth 32) 23#32) := by
  pointwise [k0_pay1]

theorem split_at (C : FVec Ideal S24x1024x28x128 .fp8e4m3) (b : Fin 24) (t : Fin 1024) (h : Fin 28) (x : Fin 4) (e : Fin 32) :
    (shapeCast S24x1024x28x4x32 C shapeCasts_S24x1024x28x128_S24x1024x28x4x32 (ix5 b t h x e) : EReal) = C (ix4 b t h ⟨x.val * 32 + e.val, by omega⟩) := by
  pointwise

variable (m : (ℓ : Loc nD τ sig) → Buf (Elt Ideal) ℓ)

/-- The scale and the codes as the region finds them. -/
theorem V_scale (c : Dev nD) : (V m c main_v1 : FVec Ideal S_ .f32) = one_root := by
  entry_read; rfl
theorem V_codes (c : Dev nD) : (V m c main_v2 : FVec Ideal S24x1024x28x4x32 .fp8e4m3) = shapeCast S24x1024x28x4x32 (m ((c : Thread nD τ).loc main_arg0) : FVec Ideal S24x1024x28x128 .fp8e4m3) shapeCasts_S24x1024x28x128_S24x1024x28x4x32 := by
  entry_read; rfl

theorem out_whole (a : Vec Ideal S24x1024x28x4x32 .fp8e4m3) (b : Vec Ideal S24x1024x28x4 .i8) : out0_2 a b = k0_pay1 b a := by
  unfold out0_2 r0_0 r0_1
  refine (View.canon_cons_unit_lit _ _ _ (by decide)).trans ?_
  exact congrArg₂ _ (View.ld_unit_lit _ _ (by decide)) (View.ld_unit_lit _ _ (by decide))

theorem idx : ∀ t : Fin cfg0.N, win0_0.index t = ![0, 0, 0, 0, 0] ∧ win0_1.index t = ![0, 0, 0, 0] ∧ win0_2.index t = ![0, 0, 0, 0, 0] := by
  decide +kernel

theorem blk0 (c : Dev nD) (t : Fin cfg0.N) : (iblk m c 0 t : Vec Ideal S24x1024x28x4x32 .fp8e4m3) = V m c main_v2 := by
  funext y
  blk_ext [iblk, idx t]
theorem blk1 (c : Dev nD) (t : Fin cfg0.N) : (iblk m c 1 t : Vec Ideal S24x1024x28x4 .i8) = m ((c : Thread nD τ).loc main_arg1) := by
  rw [← V_main_arg1 m c]
  funext y
  blk_ext [iblk, idx t]

theorem final2 (c : Dev nD) : (dats m 0 c).arrAt 2 (cfgs 0).N = wide (m ((c : Thread nD τ).loc main_arg0)) (m ((c : Thread nD τ).loc main_arg1)) := by
  refine (dats m 0 c).arrAt_eq_of_covers 2 _ (by decide +kernel) fun t _ y => ?_
  blk_simp
  rw [after0_2]
  refine (congrFun (out_whole _ _) y).trans ?_
  refine (congrFun (congrArg₂ (k0_pay1 (F := Ideal)) (blk1 m c t) ((blk0 m c t).trans (V_codes m c))) y).trans ?_
  unfold wide
  blk_ext [idx t]

end Cert.Attn.Ref

end
-- ==== Proof.RefSpec.lean ====
/-
  The reference's three results over the extended reals are the attention, query by query.
-/
module

public import proofs.«01_k».proof.Proof.RefWide
public import proofs.«01_k».proof.Proof.Spec

@[expose] public section

set_option maxRecDepth 16384

noncomputable section

namespace Cert.Attn.Ref

open Idealize.ShloMosaic Idealize.SL.Sem
open Cert.ReferenceIdeal Cert.ReferenceIdeal.Gen

section softmax
variable (b : Fin 24) (t : Fin 1024) (k : Fin 4) (g : Fin 7) (f : Fin 128) {cl : ℝ} (hcl : 0 < cl)
include hcl

section prompt
variable {x : FVec Ideal S24x1024x4x7x28672 .f32} {a : Fin 28672 → EReal} (hx : ∀ p, x (ix5 b t k g p) = a p * (cl : EReal))
include hx
theorem maxP : (mxP x (ix4 b t k g) : EReal) = Finset.univ.sup a * (cl : EReal) := by
  rw [mxP_at, ← Math.sup_scale hcl]
  exact congrArg _ (funext hx)
theorem weightP (p : Fin 28672) : (wtP x (mxP x) (ix5 b t k g p) : EReal) = Math.wt cl (Finset.univ.sup a) (a p) := by
  rw [wtP_at, maxP b t k g hcl hx, hx p]; rfl
theorem sumP : (smP (wtP x (mxP x)) (ix4 b t k g) : EReal) = Math.sm cl (Finset.univ.sup a) a := by
  rw [smP_at]; exact Finset.sum_congr rfl fun p _ => weightP b t k g hcl hx p
theorem lseP : (lg (mxP x) (smP (wtP x (mxP x))) (ix4 b t k g) : EReal) = Math.LSE cl a := by
  rw [lg_at, maxP b t k g hcl hx, sumP b t k g hcl hx]; rfl
theorem outP {v : FVec Ideal S4x128x28672 .bf16} {u : Fin 28672 → EReal} (hv : ∀ p, v (ix3 k f p) = u p) :
    (quo (prP v (wtP x (mxP x))) (smP (wtP x (mxP x))) (ix5 b t k g f) : EReal) = Math.OUT cl a u := by
  rw [quo_at, sumP b t k g hcl hx, prP_at]
  refine congrArg (fun z => Ideal.div z (Math.sm cl (Finset.univ.sup a) a)) ?_
  exact Finset.sum_congr rfl fun p _ => congrArg₂ (· * ·) (hv p) (weightP b t k g hcl hx p)
end prompt

section completion
variable {x : FVec Ideal S24x1024x4x7x1024 .f32} {a : Fin 1024 → EReal} (hx : ∀ p, x (ix5 b t k g p) = a p * (cl : EReal))
include hx
theorem maxC : (mxC x (ix4 b t k g) : EReal) = Finset.univ.sup a * (cl : EReal) := by
  rw [mxC_at, ← Math.sup_scale hcl]
  exact congrArg _ (funext hx)
theorem weightC (p : Fin 1024) : (wtC x (mxC x) (ix5 b t k g p) : EReal) = Math.wt cl (Finset.univ.sup a) (a p) := by
  rw [wtC_at, maxC b t k g hcl hx, hx p]; rfl
theorem sumC : (smC (wtC x (mxC x)) (ix4 b t k g) : EReal) = Math.sm cl (Finset.univ.sup a) a := by
  rw [smC_at]; exact Finset.sum_congr rfl fun p _ => weightC b t k g hcl hx p
theorem lseC : (lg (mxC x) (smC (wtC x (mxC x))) (ix4 b t k g) : EReal) = Math.LSE cl a := by
  rw [lg_at, maxC b t k g hcl hx, sumC b t k g hcl hx]; rfl
theorem outC {v : FVec Ideal S4x128x24x1024 .bf16} {u : Fin 1024 → EReal} (hv : ∀ p, v (ix4 k f b p) = u p) :
    (quo (prC v (wtC x (mxC x))) (smC (wtC x (mxC x))) (ix5 b t k g f) : EReal) = Math.OUT cl a u := by
  rw [quo_at, sumC b t k g hcl hx, prC_at]
  refine congrArg (fun z => Ideal.div z (Math.sm cl (Finset.univ.sup a) a)) ?_
  exact Finset.sum_congr rfl fun p _ => congrArg₂ (· * ·) (hv p) (weightC b t k g hcl hx p)
end completion
end softmax

variable (C : FVec Ideal S24x1024x28x128 .fp8e4m3) (E : Vec Ideal S24x1024x28x4 .i8) (pk : FVec Ideal S4x28672x128 .bf16) (pv : FVec Ideal S4x128x28672 .bf16)
  (ck : FVec Ideal S4x24576x128 .bf16) (cv : FVec Ideal S4x128x24576 .bf16) {cl : ℝ} (hcl : 0 < cl)
  (b : Fin 24) (t : Fin 1024) (k : Fin 4) (g : Fin 7) (f : Fin 128)

theorem query_at (d : Fin 128) : (qq (wide C E) (ix5 b t k g d) : EReal) = Spec.qv C E b t k g d := by
  rw [qq_at, wide, pay_at, split_at]
  refine congrArg₂ (· * ·) (congrArg C ?_) rfl
  have : d.val / 32 * 32 + d.val % 32 = d.val := by omega
  simp only [this]

theorem xP_at (p : Fin 28672) : (xP (fun _ => (cl : EReal)) (wide C E) pk (ix5 b t k g p) : EReal) = Spec.aP C E pk b t k g p * (cl : EReal) := by
  rw [xP, scoreP_at]
  exact congrArg (· * (cl : EReal)) (Finset.sum_congr rfl fun d _ => congrArg (_ * ·) (query_at C E b t k g d))

include hcl in
theorem xC_at (j : Fin 1024) : (xC (fun _ => (cl : EReal)) (wide C E) ck (ix5 b t k g j) : EReal) = Spec.aC C E ck b t k g j * (cl : EReal) := by
  rw [xC, masked_at, scoreC_at]
  unfold Spec.aC
  by_cases h : t.val < j.val
  · rw [if_pos h, if_pos h, EReal.bot_mul_coe_of_pos hcl]
  · rw [if_neg h, if_neg h]
    exact congrArg (· * (cl : EReal)) (Finset.sum_congr rfl fun d _ => congrArg₂ (· * ·) (kk_at b j k d ck) (query_at C E b t k g d))

include hcl

theorem eP_at : (eP (fun _ => (cl : EReal)) (wide C E) pk (ix4 b t k g) : EReal) = Math.LSE cl (Spec.aP C E pk b t k g) :=
  lseP b t k g hcl (xP_at C E pk b t k g)
theorem eC_at : (eC (fun _ => (cl : EReal)) (wide C E) ck (ix4 b t k g) : EReal) = Math.LSE cl (Spec.aC C E ck b t k g) :=
  lseC b t k g hcl (xC_at C E ck hcl b t k g)
theorem oP_at : (oP (fun _ => (cl : EReal)) (wide C E) pk pv (ix5 b t k g f) : EReal) = Math.OUT cl (Spec.aP C E pk b t k g) (Spec.uP pv k f) :=
  outP b t k g f hcl (xP_at C E pk b t k g) (fun _ => rfl)
theorem oC_at : (oC (fun _ => (cl : EReal)) (wide C E) ck cv (ix5 b t k g f) : EReal) = Math.OUT cl (Spec.aC C E ck b t k g) (Spec.uC cv b k f) :=
  outC b t k g f hcl (xC_at C E ck hcl b t k g) (fun j => vv_at b j k f cv)

theorem mixed : (mix (eP (fun _ => (cl : EReal)) (wide C E) pk) (eC (fun _ => (cl : EReal)) (wide C E) ck) (oP (fun _ => (cl : EReal)) (wide C E) pk pv)
    (oC (fun _ => (cl : EReal)) (wide C E) ck cv) (ix5 b t k g f) : EReal) = Spec.out C E pk pv ck cv cl b t k g f := by
  rw [mix_at, lae_at, eP_at C E pk hcl, eC_at C E ck hcl, oP_at C E pk pv hcl, oC_at C E ck cv hcl]; rfl

theorem same0 : r0 (fun _ => (cl : EReal)) (wide C E) pk pv ck cv = Spec.OUT C E pk pv ck cv cl := by
  funext i
  obtain ⟨b, t, n, rfl⟩ : ∃ (b : Fin 24) (t : Fin 1024) (n : Fin 3584), i = ix3 b t n := ⟨i 0, i 1, i 2, (ix3_eta i).symm⟩
  rw [r0, flat_at, mixed C E pk pv ck cv hcl]; rfl
theorem same1 : r1 (fun _ => (cl : EReal)) (wide C E) pk = Spec.LP C E pk cl := by
  funext i
  obtain ⟨b, k, g, t, rfl⟩ : ∃ (b : Fin 24) (k : Fin 4) (g : Fin 7) (t : Fin 1024), i = ix4 b k g t := ⟨i 0, i 1, i 2, i 3, (ix4_eta i).symm⟩
  rw [r1, resP_at, eP_at C E pk hcl]; rfl
theorem same2 : r2 (fun _ => (cl : EReal)) (wide C E) ck = Spec.LC C E ck cl := by
  funext i
  obtain ⟨b, k, g, t, rfl⟩ : ∃ (b : Fin 24) (k : Fin 4) (g : Fin 7) (t : Fin 1024), i = ix4 b k g t := ⟨i 0, i 1, i 2, i 3, (ix4_eta i).symm⟩
  rw [r2, resC_at, eC_at C E ck hcl]; rfl

end Cert.Attn.Ref

end
-- ==== Proof.RefRun.lean ====
/-
  The reference's run leaves the attention in its three results and its arguments unchanged.
-/
module

public import proofs.«01_k».proof.Proof.RefRead
public import proofs.«01_k».proof.Proof.RefSpec

@[expose] public section

set_option maxRecDepth 16384

noncomputable section

namespace Cert.Attn.Ref

open Idealize.ShloMosaic Idealize.ShloMosaic.TcCoe Idealize.SL.Sem
open Cert.ReferenceIdeal Cert.ReferenceIdeal.Gen

variable (m : (ℓ : Loc nD τ sig) → Buf (Elt Ideal) ℓ) (ρ : Dev nD → PrngReg)

/-- The scale over the extended reals. -/
abbrev cl : ℝ := (Real.sqrt 128)⁻¹
theorem cl_pos : 0 < cl := by unfold cl; positivity

/-- The argument arrays, typed. -/
abbrev B0 (c : Dev nD) : FVec Ideal S24x1024x28x128 .fp8e4m3 := m ((c : Thread nD τ).loc main_arg0)
abbrev B1 (c : Dev nD) : Vec Ideal S24x1024x28x4 .i8 := m ((c : Thread nD τ).loc main_arg1)
abbrev B2 (c : Dev nD) : FVec Ideal S4x28672x128 .bf16 := m ((c : Thread nD τ).loc main_arg2)
abbrev B3 (c : Dev nD) : FVec Ideal S4x128x28672 .bf16 := m ((c : Thread nD τ).loc main_arg3)
abbrev B4 (c : Dev nD) : FVec Ideal S4x24576x128 .bf16 := m ((c : Thread nD τ).loc main_arg4)
abbrev B5 (c : Dev nD) : FVec Ideal S4x128x24576 .bf16 := m ((c : Thread nD τ).loc main_arg5)

/-- The contents after the region, before the host operations that follow it. -/
abbrev after_region (c : Dev nD) : Valuation τ sig (Elt Ideal) := Pipeline.withArrays spec0 c (V0 m c) (fun w => (dats m 0 c).arrAt w (cfgs 0).N)

theorem W_s (c : Dev nD) : vs (after_region m c) = fun _ => (cl : EReal) :=
  (Pipeline.withArrays_of_ne spec0 c (V0 m c) _ main_v1 (by exact (by decide : ∀ w, Pipeline.arrRef spec0 w ≠ main_v1))).trans ((V_scale m c).trans one_root_at)
theorem W_q (c : Dev nD) : vq (after_region m c) = wide (B0 m c) (B1 m c) :=
  (Pipeline.withArrays_arr spec0 (by intro a b h; revert h; revert a b; decide) c (V0 m c) _ 2).trans (final2 m c)
theorem W_2 (c : Dev nD) : v2 (after_region m c) = B2 m c :=
  (Pipeline.withArrays_of_ne spec0 c (V0 m c) _ main_arg2 (by exact (by decide : ∀ w, Pipeline.arrRef spec0 w ≠ main_arg2))).trans (V_main_arg2 m c)
theorem W_3 (c : Dev nD) : v3 (after_region m c) = B3 m c :=
  (Pipeline.withArrays_of_ne spec0 c (V0 m c) _ main_arg3 (by exact (by decide : ∀ w, Pipeline.arrRef spec0 w ≠ main_arg3))).trans (V_main_arg3 m c)
theorem W_4 (c : Dev nD) : v4 (after_region m c) = B4 m c :=
  (Pipeline.withArrays_of_ne spec0 c (V0 m c) _ main_arg4 (by exact (by decide : ∀ w, Pipeline.arrRef spec0 w ≠ main_arg4))).trans (V_main_arg4 m c)
theorem W_5 (c : Dev nD) : v5 (after_region m c) = B5 m c :=
  (Pipeline.withArrays_of_ne spec0 c (V0 m c) _ main_arg5 (by exact (by decide : ∀ w, Pipeline.arrRef spec0 w ≠ main_arg5))).trans (V_main_arg5 m c)

theorem end0 (c : Dev nD) : Pipeline.afterTail₀ cfgs (dats m) 0 (V0 m) [hostOps1, hostOps1_1, hostOps1_2] c main_v75
    = Spec.OUT (B0 m c) (B1 m c) (B2 m c) (B3 m c) (B4 m c) (B5 m c) cl := by
  unfold Pipeline.afterTail₀
  refine (read0 (after_region m c)).trans ?_
  rw [W_s, W_q, W_2, W_3, W_4, W_5]
  exact same0 _ _ _ _ _ _ cl_pos
theorem end1 (c : Dev nD) : Pipeline.afterTail₀ cfgs (dats m) 0 (V0 m) [hostOps1, hostOps1_1, hostOps1_2] c main_v78
    = Spec.LP (B0 m c) (B1 m c) (B2 m c) cl := by
  unfold Pipeline.afterTail₀
  refine (read1 (after_region m c)).trans ?_
  rw [W_s, W_q, W_2]
  exact same1 _ _ _ cl_pos
theorem end2 (c : Dev nD) : Pipeline.afterTail₀ cfgs (dats m) 0 (V0 m) [hostOps1, hostOps1_1, hostOps1_2] c main_v86
    = Spec.LC (B0 m c) (B1 m c) (B4 m c) cl := by
  unfold Pipeline.afterTail₀
  refine (read2 (after_region m c)).trans ?_
  rw [W_s, W_q, W_4]
  exact same2 _ _ _ cl_pos

theorem run : θ_run defs (onTc (τ := τ) (main (F := Ideal))) ⟨m, fun _ => 0, ρ⟩ (fun r => ∀ c : Dev nD,
      r.2.mem ((c.tc : Thread nD τ).loc main_v75) = Spec.OUT (B0 m c) (B1 m c) (B2 m c) (B3 m c) (B4 m c) (B5 m c) cl
      ∧ r.2.mem ((c.tc : Thread nD τ).loc main_v78) = Spec.LP (B0 m c) (B1 m c) (B2 m c) cl
      ∧ r.2.mem ((c.tc : Thread nD τ).loc main_v86) = Spec.LC (B0 m c) (B1 m c) (B4 m c) cl
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨((h.1 c).2 main_v75 (Pipeline.mem_restRefs_of main_v75 (by decide) (by decide))).trans (end0 m c),
    ((h.1 c).2 main_v78 (Pipeline.mem_restRefs_of main_v78 (by decide) (by decide))).trans (end1 m c),
    ((h.1 c).2 main_v86 (Pipeline.mem_restRefs_of main_v86 (by decide) (by decide))).trans (end2 m c), h.2 c⟩)
    (θ_run_and (run_main m ρ) (Cert.ReferenceIdeal.Gen.unchanged m ρ))

end Cert.Attn.Ref

end
-- ==== Proof.Algebraic.lean ====
/-
  Over the extended reals the kernel and the reference compute the same three results.
-/
module

public import proofs.«01_k».proof.Defs
public import proofs.«01_k».proof.Proof.Final
public import proofs.«01_k».proof.Proof.RefRun

@[expose] public section

set_option maxRecDepth 16384

noncomputable section

namespace Cert.Attn

open Idealize.ShloMosaic Idealize.ShloMosaic.TcCoe Idealize.SL.Sem

section kernel
open Cert.KernelIdeal Cert.KernelIdeal.Gen KernelIdeal

variable (m : (ℓ : Loc nD τ sig) → Buf (Elt Ideal) ℓ) (ρ : Dev nD → PrngReg)

/-- The kernel's run leaves the attention in its three results and its arguments unchanged. -/
theorem kernel_run : θ_run defs (onTc (τ := τ) (main (F := Ideal))) ⟨m, fun _ => 0, ρ⟩ (fun r => ∀ c : Dev nD,
      r.2.mem ((c.tc : Thread nD τ).loc main_v3_0) = Spec.OUT (A0 m c) (A1 m c) (A2 m c) (A3 m c) (A4 m c) (A5 m c) cl
      ∧ r.2.mem ((c.tc : Thread nD τ).loc main_v3_1) = Spec.LP (A0 m c) (A1 m c) (A2 m c) cl
      ∧ r.2.mem ((c.tc : Thread nD τ).loc main_v3_2) = Spec.LC (A0 m c) (A1 m c) (A4 m c) cl
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨((h.1 c).1 6).trans (final6 m c), ((h.1 c).1 7).trans (final7 m c), ((h.1 c).1 8).trans (final8 m c), h.2 c⟩)
    (θ_run_and (KernelIdeal.run_main m ρ) (KernelIdeal.unchanged m ρ))
end kernel

section same
open Cert.KernelIdeal
variable {C C' : FVec Ideal S24x1024x28x128 .fp8e4m3} {E E' : Vec Ideal S24x1024x28x4 .i8} {pk pk' : FVec Ideal S4x28672x128 .bf16} {pv pv' : FVec Ideal S4x128x28672 .bf16}
  {ck ck' : FVec Ideal S4x24576x128 .bf16} {cv cv' : FVec Ideal S4x128x24576 .bf16} {x x' : ℝ} (h0 : C = C') (h1 : E = E') (h2 : pk = pk') (h3 : pv = pv') (h4 : ck = ck')
  (h5 : cv = cv') (h : x = x')
include h0 h1 h4 h in
theorem lc_same : Spec.LC C E ck x = Spec.LC C' E' ck' x' := by subst h0 h1 h4 h; rfl
include h0 h1 h2 h in
theorem lp_same : Spec.LP C E pk x = Spec.LP C' E' pk' x' := by subst h0 h1 h2 h; rfl
include h0 h1 h2 h3 h4 h5 h in
theorem out_same : Spec.OUT C E pk pv ck cv x = Spec.OUT C' E' pk' pv' ck' cv' x' := by subst h0 h1 h2 h3 h4 h5 h; rfl
end same

theorem algebraic : Cert.algebraic_KernelIdeal_ReferenceIdeal (hKernelIdeal := Cert.KernelIdeal.Gen.facts) (hReferenceIdeal := Cert.ReferenceIdeal.Gen.facts) := by
  intro m g m' g' _ hargs
  refine ⟨fun c => Spec.OUT (KernelIdeal.A0 m c) (KernelIdeal.A1 m c) (KernelIdeal.A2 m c) (KernelIdeal.A3 m c) (KernelIdeal.A4 m c) (KernelIdeal.A5 m c) KernelIdeal.cl,
    fun c => Spec.LP (KernelIdeal.A0 m c) (KernelIdeal.A1 m c) (KernelIdeal.A2 m c) KernelIdeal.cl,
    fun c => Spec.LC (KernelIdeal.A0 m c) (KernelIdeal.A1 m c) (KernelIdeal.A4 m c) KernelIdeal.cl, kernel_run m g, ?_⟩
  refine (θ_run Cert.ReferenceIdeal.defs _ _).mono (fun r h c => ?_) (Ref.run m' g')
  obtain ⟨h0, h1, h2, h3, h4, h5⟩ := hargs c
  obtain ⟨e0, e1, e2, rest⟩ := h c
  have k0 : Ref.B0 m' c = KernelIdeal.A0 m c := h0
  have k1 : Ref.B1 m' c = KernelIdeal.A1 m c := h1
  have k2 : Ref.B2 m' c = KernelIdeal.A2 m c := h2
  have k3 : Ref.B3 m' c = KernelIdeal.A3 m c := h3
  have k4 : Ref.B4 m' c = KernelIdeal.A4 m c := h4
  have k5 : Ref.B5 m' c = KernelIdeal.A5 m c := h5
  have kc : Ref.cl = KernelIdeal.cl := rfl
  exact ⟨e0.trans (out_same k0 k1 k2 k3 k4 k5 kc), e1.trans (lp_same k0 k1 k2 kc), e2.trans (lc_same k0 k1 k4 kc), rest⟩

end Cert.Attn

end
-- ==== Proof.lean ====
/-
  The certificate: each claim of `Cert.Claim` from the module that proves it.
-/
module

public import proofs.«01_k».proof.Defs
public import proofs.«01_k».proof.Proof.RunKernel
public import proofs.«01_k».proof.Proof.RunKernelIdeal
public import proofs.«01_k».proof.Proof.Preserves
public import proofs.«01_k».proof.Proof.Gen.ReferenceIdeal.Frame
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  fun m g _ => Cert.Attn.Kernel.frame m g, fun m g _ => Cert.Attn.KernelIdeal.frame m g, fun m g _ => Cert.ReferenceIdeal.Gen.frame m g,
  Cert.Attn.preserves, Cert.Attn.algebraic⟩

end Cert.Proof

end
